-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_RefInProjIdeal (m : (ℓ : Loc Cert.RefInProjIdeal.nD Cert.RefInProjIdeal.τ Cert.RefInProjIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_RefOutProjIdeal (m : (ℓ : Loc Cert.RefOutProjIdeal.nD Cert.RefOutProjIdeal.τ Cert.RefOutProjIdeal.sig) → Buf (Elt Ideal) ℓ) : Prop :=
  True

def Pre_XaQ (m : (ℓ : Loc Cert.XaQ.nD Cert.XaQ.τ Cert.XaQ.sig) → Buf (Elt Bits) ℓ) : Prop :=
  True

def Pre_XaQIdeal (m : (ℓ : Loc Cert.XaQIdeal.nD Cert.XaQIdeal.τ Cert.XaQIdeal.sig) → Buf (Elt Ideal) ℓ) : Prop :=
  True

def Pre_RefXaQIdeal (m : (ℓ : Loc Cert.RefXaQIdeal.nD Cert.RefXaQIdeal.τ Cert.RefXaQIdeal.sig) → Buf (Elt Ideal) ℓ) : Prop :=
  True

def Pre_XaKv (m : (ℓ : Loc Cert.XaKv.nD Cert.XaKv.τ Cert.XaKv.sig) → Buf (Elt Bits) ℓ) : Prop :=
  True

def Pre_XaKvIdeal (m : (ℓ : Loc Cert.XaKvIdeal.nD Cert.XaKvIdeal.τ Cert.XaKvIdeal.sig) → Buf (Elt Ideal) ℓ) : Prop :=
  True

def Pre_RefXaKvIdeal (m : (ℓ : Loc Cert.RefXaKvIdeal.nD Cert.RefXaKvIdeal.τ Cert.RefXaKvIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite_qk [hPre_finite_qk : Cert.Pre_finite_qk.Facts] (m : (ℓ : Loc Cert.XattnIdeal.nD Cert.XattnIdeal.τ Cert.XattnIdeal.sig) → Buf (Elt Ideal) ℓ) : Prop :=
  ∀ c : Dev Cert.XattnIdeal.nD,
    (Cert.Pre_finite_qk.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1))) = (fun _ => 1#1)

def Pre_RefXattnIdeal (m : (ℓ : Loc Cert.RefXattnIdeal.nD Cert.RefXattnIdeal.τ Cert.RefXattnIdeal.sig) → Buf (Elt Ideal) ℓ) : Prop :=
  True

def Pre_RefXattnIdeal_finite_qk [hPre_finite_qk : Cert.Pre_finite_qk.Facts] (m : (ℓ : Loc Cert.RefXattnIdeal.nD Cert.RefXattnIdeal.τ Cert.RefXattnIdeal.sig) → Buf (Elt Ideal) ℓ) : Prop :=
  ∀ c : Dev Cert.RefXattnIdeal.nD,
    (Cert.Pre_finite_qk.fn (F := Ideal) (m ((c.tc : Thread Cert.RefXattnIdeal.nD Cert.RefXattnIdeal.τ).loc Cert.RefXattnIdeal.main_arg0)) (m ((c.tc : Thread Cert.RefXattnIdeal.nD Cert.RefXattnIdeal.τ).loc Cert.RefXattnIdeal.main_arg1))) = (fun _ => 1#1)

def Pre_XaO (m : (ℓ : Loc Cert.XaO.nD Cert.XaO.τ Cert.XaO.sig) → Buf (Elt Bits) ℓ) : Prop :=
  True

def Pre_XaOIdeal (m : (ℓ : Loc Cert.XaOIdeal.nD Cert.XaOIdeal.τ Cert.XaOIdeal.sig) → Buf (Elt Ideal) ℓ) : Prop :=
  True

def Pre_RefXaOIdeal (m : (ℓ : Loc Cert.RefXaOIdeal.nD Cert.RefXaOIdeal.τ Cert.RefXaOIdeal.sig) → Buf (Elt Ideal) ℓ) : Prop :=
  True

def Pre_Experts [hPre_schedule : Cert.Pre_schedule.Facts] (m : (ℓ : Loc Cert.Experts.nD Cert.Experts.τ Cert.Experts.sig) → Buf (Elt Bits) ℓ) : Prop :=
  ∀ c : Dev Cert.Experts.nD,
    (Cert.Pre_schedule.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8)) (m ((c.tc : Thread Cert.Experts.nD Cert.Experts.τ).loc Cert.Experts.main_arg9)) (m ((c.tc : Thread Cert.Experts.nD Cert.Experts.τ).loc Cert.Experts.main_arg10))) = (fun _ => 1#1)

def Pre_ExpertsIdeal [hPre_schedule : Cert.Pre_schedule.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_schedule.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10))) = (fun _ => 1#1)

def Pre_RefExpertsIdeal (m : (ℓ : Loc Cert.RefExpertsIdeal.nD Cert.RefExpertsIdeal.τ Cert.RefExpertsIdeal.sig) → Buf (Elt Ideal) ℓ) : Prop :=
  True

def Pre_RefExpertsIdeal_schedule [hPre_schedule : Cert.Pre_schedule.Facts] (m : (ℓ : Loc Cert.RefExpertsIdeal.nD Cert.RefExpertsIdeal.τ Cert.RefExpertsIdeal.sig) → Buf (Elt Ideal) ℓ) : Prop :=
  ∀ c : Dev Cert.RefExpertsIdeal.nD,
    (Cert.Pre_schedule.fn (F := Ideal) (m ((c.tc : Thread Cert.RefExpertsIdeal.nD Cert.RefExpertsIdeal.τ).loc Cert.RefExpertsIdeal.main_arg0)) (m ((c.tc : Thread Cert.RefExpertsIdeal.nD Cert.RefExpertsIdeal.τ).loc Cert.RefExpertsIdeal.main_arg1)) (m ((c.tc : Thread Cert.RefExpertsIdeal.nD Cert.RefExpertsIdeal.τ).loc Cert.RefExpertsIdeal.main_arg2)) (m ((c.tc : Thread Cert.RefExpertsIdeal.nD Cert.RefExpertsIdeal.τ).loc Cert.RefExpertsIdeal.main_arg3)) (m ((c.tc : Thread Cert.RefExpertsIdeal.nD Cert.RefExpertsIdeal.τ).loc Cert.RefExpertsIdeal.main_arg4)) (m ((c.tc : Thread Cert.RefExpertsIdeal.nD Cert.RefExpertsIdeal.τ).loc Cert.RefExpertsIdeal.main_arg5)) (m ((c.tc : Thread Cert.RefExpertsIdeal.nD Cert.RefExpertsIdeal.τ).loc Cert.RefExpertsIdeal.main_arg6)) (m ((c.tc : Thread Cert.RefExpertsIdeal.nD Cert.RefExpertsIdeal.τ).loc Cert.RefExpertsIdeal.main_arg7)) (m ((c.tc : Thread Cert.RefExpertsIdeal.nD Cert.RefExpertsIdeal.τ).loc Cert.RefExpertsIdeal.main_arg8)) (m ((c.tc : Thread Cert.RefExpertsIdeal.nD Cert.RefExpertsIdeal.τ).loc Cert.RefExpertsIdeal.main_arg9)) (m ((c.tc : Thread Cert.RefExpertsIdeal.nD Cert.RefExpertsIdeal.τ).loc Cert.RefExpertsIdeal.main_arg10))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_router [hPre_finite_router : Cert.Pre_finite_router.Facts] (m : (ℓ : Loc Cert.RouterIdeal.nD Cert.RouterIdeal.τ Cert.RouterIdeal.sig) → Buf (Elt Ideal) ℓ) : Prop :=
  ∀ c : Dev Cert.RouterIdeal.nD,
    (Cert.Pre_finite_router.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3))) = (fun _ => 1#1)

def Pre_RefRouterIdeal (m : (ℓ : Loc Cert.RefRouterIdeal.nD Cert.RefRouterIdeal.τ Cert.RefRouterIdeal.sig) → Buf (Elt Ideal) ℓ) : Prop :=
  True

def Pre_RefRouterIdeal_finite_router [hPre_finite_router : Cert.Pre_finite_router.Facts] (m : (ℓ : Loc Cert.RefRouterIdeal.nD Cert.RefRouterIdeal.τ Cert.RefRouterIdeal.sig) → Buf (Elt Ideal) ℓ) : Prop :=
  ∀ c : Dev Cert.RefRouterIdeal.nD,
    (Cert.Pre_finite_router.fn (F := Ideal) (m ((c.tc : Thread Cert.RefRouterIdeal.nD Cert.RefRouterIdeal.τ).loc Cert.RefRouterIdeal.main_arg0)) (m ((c.tc : Thread Cert.RefRouterIdeal.nD Cert.RefRouterIdeal.τ).loc Cert.RefRouterIdeal.main_arg1)) (m ((c.tc : Thread Cert.RefRouterIdeal.nD Cert.RefRouterIdeal.τ).loc Cert.RefRouterIdeal.main_arg2)) (m ((c.tc : Thread Cert.RefRouterIdeal.nD Cert.RefRouterIdeal.τ).loc Cert.RefRouterIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_RefInProjIdeal [hRefInProjIdeal : Cert.RefInProjIdeal.Facts] : Prop :=
  ∀ (m : (ℓ : Loc Cert.RefInProjIdeal.nD Cert.RefInProjIdeal.τ Cert.RefInProjIdeal.sig) → Buf (Elt Ideal) ℓ) (g : Dev Cert.RefInProjIdeal.nD → PrngReg), Pre_RefInProjIdeal m →
    θ_run (Cert.RefInProjIdeal.defs (F := Ideal)) (onTc (τ := Cert.RefInProjIdeal.τ) (Cert.RefInProjIdeal.main (F := Ideal))) ⟨m, fun _ => 0, g⟩ (fun r => (∀ c : Dev Cert.RefInProjIdeal.nD,
      r.2.mem ((c.tc : Thread Cert.RefInProjIdeal.nD Cert.RefInProjIdeal.τ).loc Cert.RefInProjIdeal.main_arg0) = m ((c.tc : Thread Cert.RefInProjIdeal.nD Cert.RefInProjIdeal.τ).loc Cert.RefInProjIdeal.main_arg0)
      ∧ r.2.mem ((c.tc : Thread Cert.RefInProjIdeal.nD Cert.RefInProjIdeal.τ).loc Cert.RefInProjIdeal.main_arg1) = m ((c.tc : Thread Cert.RefInProjIdeal.nD Cert.RefInProjIdeal.τ).loc Cert.RefInProjIdeal.main_arg1)
      ∧ r.2.mem ((c.tc : Thread Cert.RefInProjIdeal.nD Cert.RefInProjIdeal.τ).loc Cert.RefInProjIdeal.main_arg2) = m ((c.tc : Thread Cert.RefInProjIdeal.nD Cert.RefInProjIdeal.τ).loc Cert.RefInProjIdeal.main_arg2)
      ∧ r.2.mem ((c.tc : Thread Cert.RefInProjIdeal.nD Cert.RefInProjIdeal.τ).loc Cert.RefInProjIdeal.main_arg3) = m ((c.tc : Thread Cert.RefInProjIdeal.nD Cert.RefInProjIdeal.τ).loc Cert.RefInProjIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_RefOutProjIdeal [hRefOutProjIdeal : Cert.RefOutProjIdeal.Facts] : Prop :=
  ∀ (m : (ℓ : Loc Cert.RefOutProjIdeal.nD Cert.RefOutProjIdeal.τ Cert.RefOutProjIdeal.sig) → Buf (Elt Ideal) ℓ) (g : Dev Cert.RefOutProjIdeal.nD → PrngReg), Pre_RefOutProjIdeal m →
    θ_run (Cert.RefOutProjIdeal.defs (F := Ideal)) (onTc (τ := Cert.RefOutProjIdeal.τ) (Cert.RefOutProjIdeal.main (F := Ideal))) ⟨m, fun _ => 0, g⟩ (fun r => (∀ c : Dev Cert.RefOutProjIdeal.nD,
      r.2.mem ((c.tc : Thread Cert.RefOutProjIdeal.nD Cert.RefOutProjIdeal.τ).loc Cert.RefOutProjIdeal.main_arg0) = m ((c.tc : Thread Cert.RefOutProjIdeal.nD Cert.RefOutProjIdeal.τ).loc Cert.RefOutProjIdeal.main_arg0)
      ∧ r.2.mem ((c.tc : Thread Cert.RefOutProjIdeal.nD Cert.RefOutProjIdeal.τ).loc Cert.RefOutProjIdeal.main_arg1) = m ((c.tc : Thread Cert.RefOutProjIdeal.nD Cert.RefOutProjIdeal.τ).loc Cert.RefOutProjIdeal.main_arg1)
      ∧ r.2.mem ((c.tc : Thread Cert.RefOutProjIdeal.nD Cert.RefOutProjIdeal.τ).loc Cert.RefOutProjIdeal.main_arg2) = m ((c.tc : Thread Cert.RefOutProjIdeal.nD Cert.RefOutProjIdeal.τ).loc Cert.RefOutProjIdeal.main_arg2)
      ∧ r.2.mem ((c.tc : Thread Cert.RefOutProjIdeal.nD Cert.RefOutProjIdeal.τ).loc Cert.RefOutProjIdeal.main_arg3) = m ((c.tc : Thread Cert.RefOutProjIdeal.nD Cert.RefOutProjIdeal.τ).loc Cert.RefOutProjIdeal.main_arg3))
      ∧ r.2.sem = fun _ => 0)

def quiescent_XaQ [hXaQ : Cert.XaQ.Facts] : Prop :=
  ∀ (m : (ℓ : Loc Cert.XaQ.nD Cert.XaQ.τ Cert.XaQ.sig) → Buf (Elt Bits) ℓ) (g : Dev Cert.XaQ.nD → PrngReg), Pre_XaQ m →
    θ_run (Cert.XaQ.defs (F := Bits)) (onTc (τ := Cert.XaQ.τ) (Cert.XaQ.main (F := Bits))) ⟨m, fun _ => 0, g⟩ (fun r => (∀ c : Dev Cert.XaQ.nD,
      r.2.mem ((c.tc : Thread Cert.XaQ.nD Cert.XaQ.τ).loc Cert.XaQ.main_arg0) = m ((c.tc : Thread Cert.XaQ.nD Cert.XaQ.τ).loc Cert.XaQ.main_arg0)
      ∧ r.2.mem ((c.tc : Thread Cert.XaQ.nD Cert.XaQ.τ).loc Cert.XaQ.main_arg1) = m ((c.tc : Thread Cert.XaQ.nD Cert.XaQ.τ).loc Cert.XaQ.main_arg1)
      ∧ r.2.mem ((c.tc : Thread Cert.XaQ.nD Cert.XaQ.τ).loc Cert.XaQ.main_arg2) = m ((c.tc : Thread Cert.XaQ.nD Cert.XaQ.τ).loc Cert.XaQ.main_arg2))
      ∧ r.2.sem = fun _ => 0)

def quiescent_XaQIdeal [hXaQIdeal : Cert.XaQIdeal.Facts] : Prop :=
  ∀ (m : (ℓ : Loc Cert.XaQIdeal.nD Cert.XaQIdeal.τ Cert.XaQIdeal.sig) → Buf (Elt Ideal) ℓ) (g : Dev Cert.XaQIdeal.nD → PrngReg), Pre_XaQIdeal m →
    θ_run (Cert.XaQIdeal.defs (F := Ideal)) (onTc (τ := Cert.XaQIdeal.τ) (Cert.XaQIdeal.main (F := Ideal))) ⟨m, fun _ => 0, g⟩ (fun r => (∀ c : Dev Cert.XaQIdeal.nD,
      r.2.mem ((c.tc : Thread Cert.XaQIdeal.nD Cert.XaQIdeal.τ).loc Cert.XaQIdeal.main_arg0) = m ((c.tc : Thread Cert.XaQIdeal.nD Cert.XaQIdeal.τ).loc Cert.XaQIdeal.main_arg0)
      ∧ r.2.mem ((c.tc : Thread Cert.XaQIdeal.nD Cert.XaQIdeal.τ).loc Cert.XaQIdeal.main_arg1) = m ((c.tc : Thread Cert.XaQIdeal.nD Cert.XaQIdeal.τ).loc Cert.XaQIdeal.main_arg1)
      ∧ r.2.mem ((c.tc : Thread Cert.XaQIdeal.nD Cert.XaQIdeal.τ).loc Cert.XaQIdeal.main_arg2) = m ((c.tc : Thread Cert.XaQIdeal.nD Cert.XaQIdeal.τ).loc Cert.XaQIdeal.main_arg2))
      ∧ r.2.sem = fun _ => 0)

def quiescent_RefXaQIdeal [hRefXaQIdeal : Cert.RefXaQIdeal.Facts] : Prop :=
  ∀ (m : (ℓ : Loc Cert.RefXaQIdeal.nD Cert.RefXaQIdeal.τ Cert.RefXaQIdeal.sig) → Buf (Elt Ideal) ℓ) (g : Dev Cert.RefXaQIdeal.nD → PrngReg), Pre_RefXaQIdeal m →
    θ_run (Cert.RefXaQIdeal.defs (F := Ideal)) (onTc (τ := Cert.RefXaQIdeal.τ) (Cert.RefXaQIdeal.main (F := Ideal))) ⟨m, fun _ => 0, g⟩ (fun r => (∀ c : Dev Cert.RefXaQIdeal.nD,
      r.2.mem ((c.tc : Thread Cert.RefXaQIdeal.nD Cert.RefXaQIdeal.τ).loc Cert.RefXaQIdeal.main_arg0) = m ((c.tc : Thread Cert.RefXaQIdeal.nD Cert.RefXaQIdeal.τ).loc Cert.RefXaQIdeal.main_arg0)
      ∧ r.2.mem ((c.tc : Thread Cert.RefXaQIdeal.nD Cert.RefXaQIdeal.τ).loc Cert.RefXaQIdeal.main_arg1) = m ((c.tc : Thread Cert.RefXaQIdeal.nD Cert.RefXaQIdeal.τ).loc Cert.RefXaQIdeal.main_arg1)
      ∧ r.2.mem ((c.tc : Thread Cert.RefXaQIdeal.nD Cert.RefXaQIdeal.τ).loc Cert.RefXaQIdeal.main_arg2) = m ((c.tc : Thread Cert.RefXaQIdeal.nD Cert.RefXaQIdeal.τ).loc Cert.RefXaQIdeal.main_arg2))
      ∧ r.2.sem = fun _ => 0)

def quiescent_XaKv [hXaKv : Cert.XaKv.Facts] : Prop :=
  ∀ (m : (ℓ : Loc Cert.XaKv.nD Cert.XaKv.τ Cert.XaKv.sig) → Buf (Elt Bits) ℓ) (g : Dev Cert.XaKv.nD → PrngReg), Pre_XaKv m →
    θ_run (Cert.XaKv.defs (F := Bits)) (onTc (τ := Cert.XaKv.τ) (Cert.XaKv.main (F := Bits))) ⟨m, fun _ => 0, g⟩ (fun r => (∀ c : Dev Cert.XaKv.nD,
      r.2.mem ((c.tc : Thread Cert.XaKv.nD Cert.XaKv.τ).loc Cert.XaKv.main_arg0) = m ((c.tc : Thread Cert.XaKv.nD Cert.XaKv.τ).loc Cert.XaKv.main_arg0)
      ∧ r.2.mem ((c.tc : Thread Cert.XaKv.nD Cert.XaKv.τ).loc Cert.XaKv.main_arg1) = m ((c.tc : Thread Cert.XaKv.nD Cert.XaKv.τ).loc Cert.XaKv.main_arg1)
      ∧ r.2.mem ((c.tc : Thread Cert.XaKv.nD Cert.XaKv.τ).loc Cert.XaKv.main_arg2) = m ((c.tc : Thread Cert.XaKv.nD Cert.XaKv.τ).loc Cert.XaKv.main_arg2))
      ∧ r.2.sem = fun _ => 0)

def quiescent_XaKvIdeal [hXaKvIdeal : Cert.XaKvIdeal.Facts] : Prop :=
  ∀ (m : (ℓ : Loc Cert.XaKvIdeal.nD Cert.XaKvIdeal.τ Cert.XaKvIdeal.sig) → Buf (Elt Ideal) ℓ) (g : Dev Cert.XaKvIdeal.nD → PrngReg), Pre_XaKvIdeal m →
    θ_run (Cert.XaKvIdeal.defs (F := Ideal)) (onTc (τ := Cert.XaKvIdeal.τ) (Cert.XaKvIdeal.main (F := Ideal))) ⟨m, fun _ => 0, g⟩ (fun r => (∀ c : Dev Cert.XaKvIdeal.nD,
      r.2.mem ((c.tc : Thread Cert.XaKvIdeal.nD Cert.XaKvIdeal.τ).loc Cert.XaKvIdeal.main_arg0) = m ((c.tc : Thread Cert.XaKvIdeal.nD Cert.XaKvIdeal.τ).loc Cert.XaKvIdeal.main_arg0)
      ∧ r.2.mem ((c.tc : Thread Cert.XaKvIdeal.nD Cert.XaKvIdeal.τ).loc Cert.XaKvIdeal.main_arg1) = m ((c.tc : Thread Cert.XaKvIdeal.nD Cert.XaKvIdeal.τ).loc Cert.XaKvIdeal.main_arg1)
      ∧ r.2.mem ((c.tc : Thread Cert.XaKvIdeal.nD Cert.XaKvIdeal.τ).loc Cert.XaKvIdeal.main_arg2) = m ((c.tc : Thread Cert.XaKvIdeal.nD Cert.XaKvIdeal.τ).loc Cert.XaKvIdeal.main_arg2))
      ∧ r.2.sem = fun _ => 0)

def quiescent_RefXaKvIdeal [hRefXaKvIdeal : Cert.RefXaKvIdeal.Facts] : Prop :=
  ∀ (m : (ℓ : Loc Cert.RefXaKvIdeal.nD Cert.RefXaKvIdeal.τ Cert.RefXaKvIdeal.sig) → Buf (Elt Ideal) ℓ) (g : Dev Cert.RefXaKvIdeal.nD → PrngReg), Pre_RefXaKvIdeal m →
    θ_run (Cert.RefXaKvIdeal.defs (F := Ideal)) (onTc (τ := Cert.RefXaKvIdeal.τ) (Cert.RefXaKvIdeal.main (F := Ideal))) ⟨m, fun _ => 0, g⟩ (fun r => (∀ c : Dev Cert.RefXaKvIdeal.nD,
      r.2.mem ((c.tc : Thread Cert.RefXaKvIdeal.nD Cert.RefXaKvIdeal.τ).loc Cert.RefXaKvIdeal.main_arg0) = m ((c.tc : Thread Cert.RefXaKvIdeal.nD Cert.RefXaKvIdeal.τ).loc Cert.RefXaKvIdeal.main_arg0)
      ∧ r.2.mem ((c.tc : Thread Cert.RefXaKvIdeal.nD Cert.RefXaKvIdeal.τ).loc Cert.RefXaKvIdeal.main_arg1) = m ((c.tc : Thread Cert.RefXaKvIdeal.nD Cert.RefXaKvIdeal.τ).loc Cert.RefXaKvIdeal.main_arg1)
      ∧ r.2.mem ((c.tc : Thread Cert.RefXaKvIdeal.nD Cert.RefXaKvIdeal.τ).loc Cert.RefXaKvIdeal.main_arg2) = m ((c.tc : Thread Cert.RefXaKvIdeal.nD Cert.RefXaKvIdeal.τ).loc Cert.RefXaKvIdeal.main_arg2))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1))
      ∧ r.2.sem = fun _ => 0)

def quiescent_XattnIdeal_pre_finite_qk [hXattnIdeal : Cert.XattnIdeal.Facts] [hPre_finite_qk : Cert.Pre_finite_qk.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite_qk m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1))
      ∧ r.2.sem = fun _ => 0)

def quiescent_RefXattnIdeal [hRefXattnIdeal : Cert.RefXattnIdeal.Facts] : Prop :=
  ∀ (m : (ℓ : Loc Cert.RefXattnIdeal.nD Cert.RefXattnIdeal.τ Cert.RefXattnIdeal.sig) → Buf (Elt Ideal) ℓ) (g : Dev Cert.RefXattnIdeal.nD → PrngReg), Pre_RefXattnIdeal m →
    θ_run (Cert.RefXattnIdeal.defs (F := Ideal)) (onTc (τ := Cert.RefXattnIdeal.τ) (Cert.RefXattnIdeal.main (F := Ideal))) ⟨m, fun _ => 0, g⟩ (fun r => (∀ c : Dev Cert.RefXattnIdeal.nD,
      r.2.mem ((c.tc : Thread Cert.RefXattnIdeal.nD Cert.RefXattnIdeal.τ).loc Cert.RefXattnIdeal.main_arg0) = m ((c.tc : Thread Cert.RefXattnIdeal.nD Cert.RefXattnIdeal.τ).loc Cert.RefXattnIdeal.main_arg0)
      ∧ r.2.mem ((c.tc : Thread Cert.RefXattnIdeal.nD Cert.RefXattnIdeal.τ).loc Cert.RefXattnIdeal.main_arg1) = m ((c.tc : Thread Cert.RefXattnIdeal.nD Cert.RefXattnIdeal.τ).loc Cert.RefXattnIdeal.main_arg1))
      ∧ r.2.sem = fun _ => 0)

def quiescent_RefXattnIdeal_pre_finite_qk [hRefXattnIdeal : Cert.RefXattnIdeal.Facts] [hPre_finite_qk : Cert.Pre_finite_qk.Facts] : Prop :=
  ∀ (m : (ℓ : Loc Cert.RefXattnIdeal.nD Cert.RefXattnIdeal.τ Cert.RefXattnIdeal.sig) → Buf (Elt Ideal) ℓ) (g : Dev Cert.RefXattnIdeal.nD → PrngReg), Pre_RefXattnIdeal_finite_qk m →
    θ_run (Cert.RefXattnIdeal.defs (F := Ideal)) (onTc (τ := Cert.RefXattnIdeal.τ) (Cert.RefXattnIdeal.main (F := Ideal))) ⟨m, fun _ => 0, g⟩ (fun r => (∀ c : Dev Cert.RefXattnIdeal.nD,
      r.2.mem ((c.tc : Thread Cert.RefXattnIdeal.nD Cert.RefXattnIdeal.τ).loc Cert.RefXattnIdeal.main_arg0) = m ((c.tc : Thread Cert.RefXattnIdeal.nD Cert.RefXattnIdeal.τ).loc Cert.RefXattnIdeal.main_arg0)
      ∧ r.2.mem ((c.tc : Thread Cert.RefXattnIdeal.nD Cert.RefXattnIdeal.τ).loc Cert.RefXattnIdeal.main_arg1) = m ((c.tc : Thread Cert.RefXattnIdeal.nD Cert.RefXattnIdeal.τ).loc Cert.RefXattnIdeal.main_arg1))
      ∧ r.2.sem = fun _ => 0)

def quiescent_XaO [hXaO : Cert.XaO.Facts] : Prop :=
  ∀ (m : (ℓ : Loc Cert.XaO.nD Cert.XaO.τ Cert.XaO.sig) → Buf (Elt Bits) ℓ) (g : Dev Cert.XaO.nD → PrngReg), Pre_XaO m →
    θ_run (Cert.XaO.defs (F := Bits)) (onTc (τ := Cert.XaO.τ) (Cert.XaO.main (F := Bits))) ⟨m, fun _ => 0, g⟩ (fun r => (∀ c : Dev Cert.XaO.nD,
      r.2.mem ((c.tc : Thread Cert.XaO.nD Cert.XaO.τ).loc Cert.XaO.main_arg0) = m ((c.tc : Thread Cert.XaO.nD Cert.XaO.τ).loc Cert.XaO.main_arg0)
      ∧ r.2.mem ((c.tc : Thread Cert.XaO.nD Cert.XaO.τ).loc Cert.XaO.main_arg1) = m ((c.tc : Thread Cert.XaO.nD Cert.XaO.τ).loc Cert.XaO.main_arg1)
      ∧ r.2.mem ((c.tc : Thread Cert.XaO.nD Cert.XaO.τ).loc Cert.XaO.main_arg2) = m ((c.tc : Thread Cert.XaO.nD Cert.XaO.τ).loc Cert.XaO.main_arg2))
      ∧ r.2.sem = fun _ => 0)

def quiescent_XaOIdeal [hXaOIdeal : Cert.XaOIdeal.Facts] : Prop :=
  ∀ (m : (ℓ : Loc Cert.XaOIdeal.nD Cert.XaOIdeal.τ Cert.XaOIdeal.sig) → Buf (Elt Ideal) ℓ) (g : Dev Cert.XaOIdeal.nD → PrngReg), Pre_XaOIdeal m →
    θ_run (Cert.XaOIdeal.defs (F := Ideal)) (onTc (τ := Cert.XaOIdeal.τ) (Cert.XaOIdeal.main (F := Ideal))) ⟨m, fun _ => 0, g⟩ (fun r => (∀ c : Dev Cert.XaOIdeal.nD,
      r.2.mem ((c.tc : Thread Cert.XaOIdeal.nD Cert.XaOIdeal.τ).loc Cert.XaOIdeal.main_arg0) = m ((c.tc : Thread Cert.XaOIdeal.nD Cert.XaOIdeal.τ).loc Cert.XaOIdeal.main_arg0)
      ∧ r.2.mem ((c.tc : Thread Cert.XaOIdeal.nD Cert.XaOIdeal.τ).loc Cert.XaOIdeal.main_arg1) = m ((c.tc : Thread Cert.XaOIdeal.nD Cert.XaOIdeal.τ).loc Cert.XaOIdeal.main_arg1)
      ∧ r.2.mem ((c.tc : Thread Cert.XaOIdeal.nD Cert.XaOIdeal.τ).loc Cert.XaOIdeal.main_arg2) = m ((c.tc : Thread Cert.XaOIdeal.nD Cert.XaOIdeal.τ).loc Cert.XaOIdeal.main_arg2))
      ∧ r.2.sem = fun _ => 0)

def quiescent_RefXaOIdeal [hRefXaOIdeal : Cert.RefXaOIdeal.Facts] : Prop :=
  ∀ (m : (ℓ : Loc Cert.RefXaOIdeal.nD Cert.RefXaOIdeal.τ Cert.RefXaOIdeal.sig) → Buf (Elt Ideal) ℓ) (g : Dev Cert.RefXaOIdeal.nD → PrngReg), Pre_RefXaOIdeal m →
    θ_run (Cert.RefXaOIdeal.defs (F := Ideal)) (onTc (τ := Cert.RefXaOIdeal.τ) (Cert.RefXaOIdeal.main (F := Ideal))) ⟨m, fun _ => 0, g⟩ (fun r => (∀ c : Dev Cert.RefXaOIdeal.nD,
      r.2.mem ((c.tc : Thread Cert.RefXaOIdeal.nD Cert.RefXaOIdeal.τ).loc Cert.RefXaOIdeal.main_arg0) = m ((c.tc : Thread Cert.RefXaOIdeal.nD Cert.RefXaOIdeal.τ).loc Cert.RefXaOIdeal.main_arg0)
      ∧ r.2.mem ((c.tc : Thread Cert.RefXaOIdeal.nD Cert.RefXaOIdeal.τ).loc Cert.RefXaOIdeal.main_arg1) = m ((c.tc : Thread Cert.RefXaOIdeal.nD Cert.RefXaOIdeal.τ).loc Cert.RefXaOIdeal.main_arg1)
      ∧ r.2.mem ((c.tc : Thread Cert.RefXaOIdeal.nD Cert.RefXaOIdeal.τ).loc Cert.RefXaOIdeal.main_arg2) = m ((c.tc : Thread Cert.RefXaOIdeal.nD Cert.RefXaOIdeal.τ).loc Cert.RefXaOIdeal.main_arg2))
      ∧ r.2.sem = fun _ => 0)

def quiescent_Experts [hExperts : Cert.Experts.Facts] [hPre_schedule : Cert.Pre_schedule.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8)
      ∧ r.2.mem ((c.tc : Thread Cert.Experts.nD Cert.Experts.τ).loc Cert.Experts.main_arg9) = m ((c.tc : Thread Cert.Experts.nD Cert.Experts.τ).loc Cert.Experts.main_arg9)
      ∧ r.2.mem ((c.tc : Thread Cert.Experts.nD Cert.Experts.τ).loc Cert.Experts.main_arg10) = m ((c.tc : Thread Cert.Experts.nD Cert.Experts.τ).loc Cert.Experts.main_arg10))
      ∧ r.2.sem = fun _ => 0)

def quiescent_ExpertsIdeal [hExpertsIdeal : Cert.ExpertsIdeal.Facts] [hPre_schedule : Cert.Pre_schedule.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9)
      ∧ r.2.mem ((c.tc : Thread Cert.ExpertsIdeal.nD Cert.ExpertsIdeal.τ).loc Cert.ExpertsIdeal.main_arg10) = m ((c.tc : Thread Cert.ExpertsIdeal.nD Cert.ExpertsIdeal.τ).loc Cert.ExpertsIdeal.main_arg10))
      ∧ r.2.sem = fun _ => 0)

def quiescent_RefExpertsIdeal [hRefExpertsIdeal : Cert.RefExpertsIdeal.Facts] : Prop :=
  ∀ (m : (ℓ : Loc Cert.RefExpertsIdeal.nD Cert.RefExpertsIdeal.τ Cert.RefExpertsIdeal.sig) → Buf (Elt Ideal) ℓ) (g : Dev Cert.RefExpertsIdeal.nD → PrngReg), Pre_RefExpertsIdeal m →
    θ_run (Cert.RefExpertsIdeal.defs (F := Ideal)) (onTc (τ := Cert.RefExpertsIdeal.τ) (Cert.RefExpertsIdeal.main (F := Ideal))) ⟨m, fun _ => 0, g⟩ (fun r => (∀ c : Dev Cert.RefExpertsIdeal.nD,
      r.2.mem ((c.tc : Thread Cert.RefExpertsIdeal.nD Cert.RefExpertsIdeal.τ).loc Cert.RefExpertsIdeal.main_arg0) = m ((c.tc : Thread Cert.RefExpertsIdeal.nD Cert.RefExpertsIdeal.τ).loc Cert.RefExpertsIdeal.main_arg0)
      ∧ r.2.mem ((c.tc : Thread Cert.RefExpertsIdeal.nD Cert.RefExpertsIdeal.τ).loc Cert.RefExpertsIdeal.main_arg1) = m ((c.tc : Thread Cert.RefExpertsIdeal.nD Cert.RefExpertsIdeal.τ).loc Cert.RefExpertsIdeal.main_arg1)
      ∧ r.2.mem ((c.tc : Thread Cert.RefExpertsIdeal.nD Cert.RefExpertsIdeal.τ).loc Cert.RefExpertsIdeal.main_arg2) = m ((c.tc : Thread Cert.RefExpertsIdeal.nD Cert.RefExpertsIdeal.τ).loc Cert.RefExpertsIdeal.main_arg2)
      ∧ r.2.mem ((c.tc : Thread Cert.RefExpertsIdeal.nD Cert.RefExpertsIdeal.τ).loc Cert.RefExpertsIdeal.main_arg3) = m ((c.tc : Thread Cert.RefExpertsIdeal.nD Cert.RefExpertsIdeal.τ).loc Cert.RefExpertsIdeal.main_arg3)
      ∧ r.2.mem ((c.tc : Thread Cert.RefExpertsIdeal.nD Cert.RefExpertsIdeal.τ).loc Cert.RefExpertsIdeal.main_arg4) = m ((c.tc : Thread Cert.RefExpertsIdeal.nD Cert.RefExpertsIdeal.τ).loc Cert.RefExpertsIdeal.main_arg4)
      ∧ r.2.mem ((c.tc : Thread Cert.RefExpertsIdeal.nD Cert.RefExpertsIdeal.τ).loc Cert.RefExpertsIdeal.main_arg5) = m ((c.tc : Thread Cert.RefExpertsIdeal.nD Cert.RefExpertsIdeal.τ).loc Cert.RefExpertsIdeal.main_arg5)
      ∧ r.2.mem ((c.tc : Thread Cert.RefExpertsIdeal.nD Cert.RefExpertsIdeal.τ).loc Cert.RefExpertsIdeal.main_arg6) = m ((c.tc : Thread Cert.RefExpertsIdeal.nD Cert.RefExpertsIdeal.τ).loc Cert.RefExpertsIdeal.main_arg6)
      ∧ r.2.mem ((c.tc : Thread Cert.RefExpertsIdeal.nD Cert.RefExpertsIdeal.τ).loc Cert.RefExpertsIdeal.main_arg7) = m ((c.tc : Thread Cert.RefExpertsIdeal.nD Cert.RefExpertsIdeal.τ).loc Cert.RefExpertsIdeal.main_arg7)
      ∧ r.2.mem ((c.tc : Thread Cert.RefExpertsIdeal.nD Cert.RefExpertsIdeal.τ).loc Cert.RefExpertsIdeal.main_arg8) = m ((c.tc : Thread Cert.RefExpertsIdeal.nD Cert.RefExpertsIdeal.τ).loc Cert.RefExpertsIdeal.main_arg8)
      ∧ r.2.mem ((c.tc : Thread Cert.RefExpertsIdeal.nD Cert.RefExpertsIdeal.τ).loc Cert.RefExpertsIdeal.main_arg9) = m ((c.tc : Thread Cert.RefExpertsIdeal.nD Cert.RefExpertsIdeal.τ).loc Cert.RefExpertsIdeal.main_arg9)
      ∧ r.2.mem ((c.tc : Thread Cert.RefExpertsIdeal.nD Cert.RefExpertsIdeal.τ).loc Cert.RefExpertsIdeal.main_arg10) = m ((c.tc : Thread Cert.RefExpertsIdeal.nD Cert.RefExpertsIdeal.τ).loc Cert.RefExpertsIdeal.main_arg10))
      ∧ r.2.sem = fun _ => 0)

def quiescent_RefExpertsIdeal_pre_schedule [hRefExpertsIdeal : Cert.RefExpertsIdeal.Facts] [hPre_schedule : Cert.Pre_schedule.Facts] : Prop :=
  ∀ (m : (ℓ : Loc Cert.RefExpertsIdeal.nD Cert.RefExpertsIdeal.τ Cert.RefExpertsIdeal.sig) → Buf (Elt Ideal) ℓ) (g : Dev Cert.RefExpertsIdeal.nD → PrngReg), Pre_RefExpertsIdeal_schedule m →
    θ_run (Cert.RefExpertsIdeal.defs (F := Ideal)) (onTc (τ := Cert.RefExpertsIdeal.τ) (Cert.RefExpertsIdeal.main (F := Ideal))) ⟨m, fun _ => 0, g⟩ (fun r => (∀ c : Dev Cert.RefExpertsIdeal.nD,
      r.2.mem ((c.tc : Thread Cert.RefExpertsIdeal.nD Cert.RefExpertsIdeal.τ).loc Cert.RefExpertsIdeal.main_arg0) = m ((c.tc : Thread Cert.RefExpertsIdeal.nD Cert.RefExpertsIdeal.τ).loc Cert.RefExpertsIdeal.main_arg0)
      ∧ r.2.mem ((c.tc : Thread Cert.RefExpertsIdeal.nD Cert.RefExpertsIdeal.τ).loc Cert.RefExpertsIdeal.main_arg1) = m ((c.tc : Thread Cert.RefExpertsIdeal.nD Cert.RefExpertsIdeal.τ).loc Cert.RefExpertsIdeal.main_arg1)
      ∧ r.2.mem ((c.tc : Thread Cert.RefExpertsIdeal.nD Cert.RefExpertsIdeal.τ).loc Cert.RefExpertsIdeal.main_arg2) = m ((c.tc : Thread Cert.RefExpertsIdeal.nD Cert.RefExpertsIdeal.τ).loc Cert.RefExpertsIdeal.main_arg2)
      ∧ r.2.mem ((c.tc : Thread Cert.RefExpertsIdeal.nD Cert.RefExpertsIdeal.τ).loc Cert.RefExpertsIdeal.main_arg3) = m ((c.tc : Thread Cert.RefExpertsIdeal.nD Cert.RefExpertsIdeal.τ).loc Cert.RefExpertsIdeal.main_arg3)
      ∧ r.2.mem ((c.tc : Thread Cert.RefExpertsIdeal.nD Cert.RefExpertsIdeal.τ).loc Cert.RefExpertsIdeal.main_arg4) = m ((c.tc : Thread Cert.RefExpertsIdeal.nD Cert.RefExpertsIdeal.τ).loc Cert.RefExpertsIdeal.main_arg4)
      ∧ r.2.mem ((c.tc : Thread Cert.RefExpertsIdeal.nD Cert.RefExpertsIdeal.τ).loc Cert.RefExpertsIdeal.main_arg5) = m ((c.tc : Thread Cert.RefExpertsIdeal.nD Cert.RefExpertsIdeal.τ).loc Cert.RefExpertsIdeal.main_arg5)
      ∧ r.2.mem ((c.tc : Thread Cert.RefExpertsIdeal.nD Cert.RefExpertsIdeal.τ).loc Cert.RefExpertsIdeal.main_arg6) = m ((c.tc : Thread Cert.RefExpertsIdeal.nD Cert.RefExpertsIdeal.τ).loc Cert.RefExpertsIdeal.main_arg6)
      ∧ r.2.mem ((c.tc : Thread Cert.RefExpertsIdeal.nD Cert.RefExpertsIdeal.τ).loc Cert.RefExpertsIdeal.main_arg7) = m ((c.tc : Thread Cert.RefExpertsIdeal.nD Cert.RefExpertsIdeal.τ).loc Cert.RefExpertsIdeal.main_arg7)
      ∧ r.2.mem ((c.tc : Thread Cert.RefExpertsIdeal.nD Cert.RefExpertsIdeal.τ).loc Cert.RefExpertsIdeal.main_arg8) = m ((c.tc : Thread Cert.RefExpertsIdeal.nD Cert.RefExpertsIdeal.τ).loc Cert.RefExpertsIdeal.main_arg8)
      ∧ r.2.mem ((c.tc : Thread Cert.RefExpertsIdeal.nD Cert.RefExpertsIdeal.τ).loc Cert.RefExpertsIdeal.main_arg9) = m ((c.tc : Thread Cert.RefExpertsIdeal.nD Cert.RefExpertsIdeal.τ).loc Cert.RefExpertsIdeal.main_arg9)
      ∧ r.2.mem ((c.tc : Thread Cert.RefExpertsIdeal.nD Cert.RefExpertsIdeal.τ).loc Cert.RefExpertsIdeal.main_arg10) = m ((c.tc : Thread Cert.RefExpertsIdeal.nD Cert.RefExpertsIdeal.τ).loc Cert.RefExpertsIdeal.main_arg10))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def quiescent_RouterIdeal_pre_finite_router [hRouterIdeal : Cert.RouterIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_router m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def quiescent_RefRouterIdeal [hRefRouterIdeal : Cert.RefRouterIdeal.Facts] : Prop :=
  ∀ (m : (ℓ : Loc Cert.RefRouterIdeal.nD Cert.RefRouterIdeal.τ Cert.RefRouterIdeal.sig) → Buf (Elt Ideal) ℓ) (g : Dev Cert.RefRouterIdeal.nD → PrngReg), Pre_RefRouterIdeal m →
    θ_run (Cert.RefRouterIdeal.defs (F := Ideal)) (onTc (τ := Cert.RefRouterIdeal.τ) (Cert.RefRouterIdeal.main (F := Ideal))) ⟨m, fun _ => 0, g⟩ (fun r => (∀ c : Dev Cert.RefRouterIdeal.nD,
      r.2.mem ((c.tc : Thread Cert.RefRouterIdeal.nD Cert.RefRouterIdeal.τ).loc Cert.RefRouterIdeal.main_arg0) = m ((c.tc : Thread Cert.RefRouterIdeal.nD Cert.RefRouterIdeal.τ).loc Cert.RefRouterIdeal.main_arg0)
      ∧ r.2.mem ((c.tc : Thread Cert.RefRouterIdeal.nD Cert.RefRouterIdeal.τ).loc Cert.RefRouterIdeal.main_arg1) = m ((c.tc : Thread Cert.RefRouterIdeal.nD Cert.RefRouterIdeal.τ).loc Cert.RefRouterIdeal.main_arg1)
      ∧ r.2.mem ((c.tc : Thread Cert.RefRouterIdeal.nD Cert.RefRouterIdeal.τ).loc Cert.RefRouterIdeal.main_arg2) = m ((c.tc : Thread Cert.RefRouterIdeal.nD Cert.RefRouterIdeal.τ).loc Cert.RefRouterIdeal.main_arg2)
      ∧ r.2.mem ((c.tc : Thread Cert.RefRouterIdeal.nD Cert.RefRouterIdeal.τ).loc Cert.RefRouterIdeal.main_arg3) = m ((c.tc : Thread Cert.RefRouterIdeal.nD Cert.RefRouterIdeal.τ).loc Cert.RefRouterIdeal.main_arg3))
      ∧ r.2.sem = fun _ => 0)

def quiescent_RefRouterIdeal_pre_finite_router [hRefRouterIdeal : Cert.RefRouterIdeal.Facts] [hPre_finite_router : Cert.Pre_finite_router.Facts] : Prop :=
  ∀ (m : (ℓ : Loc Cert.RefRouterIdeal.nD Cert.RefRouterIdeal.τ Cert.RefRouterIdeal.sig) → Buf (Elt Ideal) ℓ) (g : Dev Cert.RefRouterIdeal.nD → PrngReg), Pre_RefRouterIdeal_finite_router m →
    θ_run (Cert.RefRouterIdeal.defs (F := Ideal)) (onTc (τ := Cert.RefRouterIdeal.τ) (Cert.RefRouterIdeal.main (F := Ideal))) ⟨m, fun _ => 0, g⟩ (fun r => (∀ c : Dev Cert.RefRouterIdeal.nD,
      r.2.mem ((c.tc : Thread Cert.RefRouterIdeal.nD Cert.RefRouterIdeal.τ).loc Cert.RefRouterIdeal.main_arg0) = m ((c.tc : Thread Cert.RefRouterIdeal.nD Cert.RefRouterIdeal.τ).loc Cert.RefRouterIdeal.main_arg0)
      ∧ r.2.mem ((c.tc : Thread Cert.RefRouterIdeal.nD Cert.RefRouterIdeal.τ).loc Cert.RefRouterIdeal.main_arg1) = m ((c.tc : Thread Cert.RefRouterIdeal.nD Cert.RefRouterIdeal.τ).loc Cert.RefRouterIdeal.main_arg1)
      ∧ r.2.mem ((c.tc : Thread Cert.RefRouterIdeal.nD Cert.RefRouterIdeal.τ).loc Cert.RefRouterIdeal.main_arg2) = m ((c.tc : Thread Cert.RefRouterIdeal.nD Cert.RefRouterIdeal.τ).loc Cert.RefRouterIdeal.main_arg2)
      ∧ r.2.mem ((c.tc : Thread Cert.RefRouterIdeal.nD Cert.RefRouterIdeal.τ).loc Cert.RefRouterIdeal.main_arg3) = m ((c.tc : Thread Cert.RefRouterIdeal.nD Cert.RefRouterIdeal.τ).loc Cert.RefRouterIdeal.main_arg3))
      ∧ r.2.sem = fun _ => 0)

def preserves_Kernel_KernelIdeal : Prop :=
  IdealRules.named_const.Statement Cert.KernelIdeal.κ "s" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_RefInProjIdeal [hInProjIdeal : Cert.InProjIdeal.Facts] [hRefInProjIdeal : Cert.RefInProjIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.RefInProjIdeal.nD Cert.RefInProjIdeal.τ Cert.RefInProjIdeal.sig) → Buf (Elt Ideal) ℓ) (g' : Dev Cert.RefInProjIdeal.nD → PrngReg), Pre_InProjIdeal m →
    (∀ c : Dev Cert.InProjIdeal.nD,
      m' ((c.tc : Thread Cert.RefInProjIdeal.nD Cert.RefInProjIdeal.τ).loc Cert.RefInProjIdeal.main_arg0) = m ((c.tc : Thread Cert.InProjIdeal.nD Cert.InProjIdeal.τ).loc Cert.InProjIdeal.main_arg0)
      ∧ m' ((c.tc : Thread Cert.RefInProjIdeal.nD Cert.RefInProjIdeal.τ).loc Cert.RefInProjIdeal.main_arg1) = m ((c.tc : Thread Cert.InProjIdeal.nD Cert.InProjIdeal.τ).loc Cert.InProjIdeal.main_arg1)
      ∧ m' ((c.tc : Thread Cert.RefInProjIdeal.nD Cert.RefInProjIdeal.τ).loc Cert.RefInProjIdeal.main_arg2) = m ((c.tc : Thread Cert.InProjIdeal.nD Cert.InProjIdeal.τ).loc Cert.InProjIdeal.main_arg2)
      ∧ m' ((c.tc : Thread Cert.RefInProjIdeal.nD Cert.RefInProjIdeal.τ).loc Cert.RefInProjIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.RefInProjIdeal.defs (F := Ideal)) (onTc (τ := Cert.RefInProjIdeal.τ) (Cert.RefInProjIdeal.main (F := Ideal))) ⟨m', fun _ => 0, g'⟩ (fun r => ∀ c : Dev Cert.RefInProjIdeal.nD,
          r.2.mem ((c.tc : Thread Cert.RefInProjIdeal.nD Cert.RefInProjIdeal.τ).loc Cert.RefInProjIdeal.main_v14) = v0 c
          ∧ r.2.mem ((c.tc : Thread Cert.RefInProjIdeal.nD Cert.RefInProjIdeal.τ).loc Cert.RefInProjIdeal.main_v16) = v1 c
          ∧ r.2.mem ((c.tc : Thread Cert.RefInProjIdeal.nD Cert.RefInProjIdeal.τ).loc Cert.RefInProjIdeal.main_arg0) = m' ((c.tc : Thread Cert.RefInProjIdeal.nD Cert.RefInProjIdeal.τ).loc Cert.RefInProjIdeal.main_arg0)
          ∧ r.2.mem ((c.tc : Thread Cert.RefInProjIdeal.nD Cert.RefInProjIdeal.τ).loc Cert.RefInProjIdeal.main_arg1) = m' ((c.tc : Thread Cert.RefInProjIdeal.nD Cert.RefInProjIdeal.τ).loc Cert.RefInProjIdeal.main_arg1)
          ∧ r.2.mem ((c.tc : Thread Cert.RefInProjIdeal.nD Cert.RefInProjIdeal.τ).loc Cert.RefInProjIdeal.main_arg2) = m' ((c.tc : Thread Cert.RefInProjIdeal.nD Cert.RefInProjIdeal.τ).loc Cert.RefInProjIdeal.main_arg2)
          ∧ r.2.mem ((c.tc : Thread Cert.RefInProjIdeal.nD Cert.RefInProjIdeal.τ).loc Cert.RefInProjIdeal.main_arg3) = m' ((c.tc : Thread Cert.RefInProjIdeal.nD Cert.RefInProjIdeal.τ).loc Cert.RefInProjIdeal.main_arg3))

def preserves_OutProj_OutProjIdeal : Prop :=
  True

def algebraic_OutProjIdeal_RefOutProjIdeal [hOutProjIdeal : Cert.OutProjIdeal.Facts] [hRefOutProjIdeal : Cert.RefOutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.RefOutProjIdeal.nD Cert.RefOutProjIdeal.τ Cert.RefOutProjIdeal.sig) → Buf (Elt Ideal) ℓ) (g' : Dev Cert.RefOutProjIdeal.nD → PrngReg), Pre_OutProjIdeal m →
    (∀ c : Dev Cert.OutProjIdeal.nD,
      m' ((c.tc : Thread Cert.RefOutProjIdeal.nD Cert.RefOutProjIdeal.τ).loc Cert.RefOutProjIdeal.main_arg0) = m ((c.tc : Thread Cert.OutProjIdeal.nD Cert.OutProjIdeal.τ).loc Cert.OutProjIdeal.main_arg0)
      ∧ m' ((c.tc : Thread Cert.RefOutProjIdeal.nD Cert.RefOutProjIdeal.τ).loc Cert.RefOutProjIdeal.main_arg1) = m ((c.tc : Thread Cert.OutProjIdeal.nD Cert.OutProjIdeal.τ).loc Cert.OutProjIdeal.main_arg1)
      ∧ m' ((c.tc : Thread Cert.RefOutProjIdeal.nD Cert.RefOutProjIdeal.τ).loc Cert.RefOutProjIdeal.main_arg2) = m ((c.tc : Thread Cert.OutProjIdeal.nD Cert.OutProjIdeal.τ).loc Cert.OutProjIdeal.main_arg2)
      ∧ m' ((c.tc : Thread Cert.RefOutProjIdeal.nD Cert.RefOutProjIdeal.τ).loc Cert.RefOutProjIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.RefOutProjIdeal.defs (F := Ideal)) (onTc (τ := Cert.RefOutProjIdeal.τ) (Cert.RefOutProjIdeal.main (F := Ideal))) ⟨m', fun _ => 0, g'⟩ (fun r => ∀ c : Dev Cert.RefOutProjIdeal.nD,
          r.2.mem ((c.tc : Thread Cert.RefOutProjIdeal.nD Cert.RefOutProjIdeal.τ).loc Cert.RefOutProjIdeal.main_v5) = v0 c
          ∧ r.2.mem ((c.tc : Thread Cert.RefOutProjIdeal.nD Cert.RefOutProjIdeal.τ).loc Cert.RefOutProjIdeal.main_arg0) = m' ((c.tc : Thread Cert.RefOutProjIdeal.nD Cert.RefOutProjIdeal.τ).loc Cert.RefOutProjIdeal.main_arg0)
          ∧ r.2.mem ((c.tc : Thread Cert.RefOutProjIdeal.nD Cert.RefOutProjIdeal.τ).loc Cert.RefOutProjIdeal.main_arg1) = m' ((c.tc : Thread Cert.RefOutProjIdeal.nD Cert.RefOutProjIdeal.τ).loc Cert.RefOutProjIdeal.main_arg1)
          ∧ r.2.mem ((c.tc : Thread Cert.RefOutProjIdeal.nD Cert.RefOutProjIdeal.τ).loc Cert.RefOutProjIdeal.main_arg2) = m' ((c.tc : Thread Cert.RefOutProjIdeal.nD Cert.RefOutProjIdeal.τ).loc Cert.RefOutProjIdeal.main_arg2)
          ∧ r.2.mem ((c.tc : Thread Cert.RefOutProjIdeal.nD Cert.RefOutProjIdeal.τ).loc Cert.RefOutProjIdeal.main_arg3) = m' ((c.tc : Thread Cert.RefOutProjIdeal.nD Cert.RefOutProjIdeal.τ).loc Cert.RefOutProjIdeal.main_arg3))

def preserves_XaQ_XaQIdeal : Prop :=
  True

def algebraic_XaQIdeal_RefXaQIdeal [hXaQIdeal : Cert.XaQIdeal.Facts] [hRefXaQIdeal : Cert.RefXaQIdeal.Facts] : Prop :=
  ∀ (m : (ℓ : Loc Cert.XaQIdeal.nD Cert.XaQIdeal.τ Cert.XaQIdeal.sig) → Buf (Elt Ideal) ℓ) (g : Dev Cert.XaQIdeal.nD → PrngReg)
    (m' : (ℓ : Loc Cert.RefXaQIdeal.nD Cert.RefXaQIdeal.τ Cert.RefXaQIdeal.sig) → Buf (Elt Ideal) ℓ) (g' : Dev Cert.RefXaQIdeal.nD → PrngReg), Pre_XaQIdeal m →
    (∀ c : Dev Cert.XaQIdeal.nD,
      m' ((c.tc : Thread Cert.RefXaQIdeal.nD Cert.RefXaQIdeal.τ).loc Cert.RefXaQIdeal.main_arg0) = m ((c.tc : Thread Cert.XaQIdeal.nD Cert.XaQIdeal.τ).loc Cert.XaQIdeal.main_arg0)
      ∧ m' ((c.tc : Thread Cert.RefXaQIdeal.nD Cert.RefXaQIdeal.τ).loc Cert.RefXaQIdeal.main_arg1) = m ((c.tc : Thread Cert.XaQIdeal.nD Cert.XaQIdeal.τ).loc Cert.XaQIdeal.main_arg1)
      ∧ m' ((c.tc : Thread Cert.RefXaQIdeal.nD Cert.RefXaQIdeal.τ).loc Cert.RefXaQIdeal.main_arg2) = m ((c.tc : Thread Cert.XaQIdeal.nD Cert.XaQIdeal.τ).loc Cert.XaQIdeal.main_arg2)) →
    ∃ (v0 : (c : Dev Cert.XaQIdeal.nD) → Buf (Elt Ideal) ((c.tc : Thread Cert.XaQIdeal.nD Cert.XaQIdeal.τ).loc Cert.XaQIdeal.main_v0)),
      θ_run (Cert.XaQIdeal.defs (F := Ideal)) (onTc (τ := Cert.XaQIdeal.τ) (Cert.XaQIdeal.main (F := Ideal))) ⟨m, fun _ => 0, g⟩ (fun r => ∀ c : Dev Cert.XaQIdeal.nD,
          r.2.mem ((c.tc : Thread Cert.XaQIdeal.nD Cert.XaQIdeal.τ).loc Cert.XaQIdeal.main_v0) = v0 c
          ∧ r.2.mem ((c.tc : Thread Cert.XaQIdeal.nD Cert.XaQIdeal.τ).loc Cert.XaQIdeal.main_arg0) = m ((c.tc : Thread Cert.XaQIdeal.nD Cert.XaQIdeal.τ).loc Cert.XaQIdeal.main_arg0)
          ∧ r.2.mem ((c.tc : Thread Cert.XaQIdeal.nD Cert.XaQIdeal.τ).loc Cert.XaQIdeal.main_arg1) = m ((c.tc : Thread Cert.XaQIdeal.nD Cert.XaQIdeal.τ).loc Cert.XaQIdeal.main_arg1)
          ∧ r.2.mem ((c.tc : Thread Cert.XaQIdeal.nD Cert.XaQIdeal.τ).loc Cert.XaQIdeal.main_arg2) = m ((c.tc : Thread Cert.XaQIdeal.nD Cert.XaQIdeal.τ).loc Cert.XaQIdeal.main_arg2))
      ∧ θ_run (Cert.RefXaQIdeal.defs (F := Ideal)) (onTc (τ := Cert.RefXaQIdeal.τ) (Cert.RefXaQIdeal.main (F := Ideal))) ⟨m', fun _ => 0, g'⟩ (fun r => ∀ c : Dev Cert.RefXaQIdeal.nD,
          r.2.mem ((c.tc : Thread Cert.RefXaQIdeal.nD Cert.RefXaQIdeal.τ).loc Cert.RefXaQIdeal.main_v14) = v0 c
          ∧ r.2.mem ((c.tc : Thread Cert.RefXaQIdeal.nD Cert.RefXaQIdeal.τ).loc Cert.RefXaQIdeal.main_arg0) = m' ((c.tc : Thread Cert.RefXaQIdeal.nD Cert.RefXaQIdeal.τ).loc Cert.RefXaQIdeal.main_arg0)
          ∧ r.2.mem ((c.tc : Thread Cert.RefXaQIdeal.nD Cert.RefXaQIdeal.τ).loc Cert.RefXaQIdeal.main_arg1) = m' ((c.tc : Thread Cert.RefXaQIdeal.nD Cert.RefXaQIdeal.τ).loc Cert.RefXaQIdeal.main_arg1)
          ∧ r.2.mem ((c.tc : Thread Cert.RefXaQIdeal.nD Cert.RefXaQIdeal.τ).loc Cert.RefXaQIdeal.main_arg2) = m' ((c.tc : Thread Cert.RefXaQIdeal.nD Cert.RefXaQIdeal.τ).loc Cert.RefXaQIdeal.main_arg2))

def preserves_XaKv_XaKvIdeal : Prop :=
  True

def algebraic_XaKvIdeal_RefXaKvIdeal [hXaKvIdeal : Cert.XaKvIdeal.Facts] [hRefXaKvIdeal : Cert.RefXaKvIdeal.Facts] : Prop :=
  ∀ (m : (ℓ : Loc Cert.XaKvIdeal.nD Cert.XaKvIdeal.τ Cert.XaKvIdeal.sig) → Buf (Elt Ideal) ℓ) (g : Dev Cert.XaKvIdeal.nD → PrngReg)
    (m' : (ℓ : Loc Cert.RefXaKvIdeal.nD Cert.RefXaKvIdeal.τ Cert.RefXaKvIdeal.sig) → Buf (Elt Ideal) ℓ) (g' : Dev Cert.RefXaKvIdeal.nD → PrngReg), Pre_XaKvIdeal m →
    (∀ c : Dev Cert.XaKvIdeal.nD,
      m' ((c.tc : Thread Cert.RefXaKvIdeal.nD Cert.RefXaKvIdeal.τ).loc Cert.RefXaKvIdeal.main_arg0) = m ((c.tc : Thread Cert.XaKvIdeal.nD Cert.XaKvIdeal.τ).loc Cert.XaKvIdeal.main_arg0)
      ∧ m' ((c.tc : Thread Cert.RefXaKvIdeal.nD Cert.RefXaKvIdeal.τ).loc Cert.RefXaKvIdeal.main_arg1) = m ((c.tc : Thread Cert.XaKvIdeal.nD Cert.XaKvIdeal.τ).loc Cert.XaKvIdeal.main_arg1)
      ∧ m' ((c.tc : Thread Cert.RefXaKvIdeal.nD Cert.RefXaKvIdeal.τ).loc Cert.RefXaKvIdeal.main_arg2) = m ((c.tc : Thread Cert.XaKvIdeal.nD Cert.XaKvIdeal.τ).loc Cert.XaKvIdeal.main_arg2)) →
    ∃ (v0 : (c : Dev Cert.XaKvIdeal.nD) → Buf (Elt Ideal) ((c.tc : Thread Cert.XaKvIdeal.nD Cert.XaKvIdeal.τ).loc Cert.XaKvIdeal.main_v0)),
      θ_run (Cert.XaKvIdeal.defs (F := Ideal)) (onTc (τ := Cert.XaKvIdeal.τ) (Cert.XaKvIdeal.main (F := Ideal))) ⟨m, fun _ => 0, g⟩ (fun r => ∀ c : Dev Cert.XaKvIdeal.nD,
          r.2.mem ((c.tc : Thread Cert.XaKvIdeal.nD Cert.XaKvIdeal.τ).loc Cert.XaKvIdeal.main_v0) = v0 c
          ∧ r.2.mem ((c.tc : Thread Cert.XaKvIdeal.nD Cert.XaKvIdeal.τ).loc Cert.XaKvIdeal.main_arg0) = m ((c.tc : Thread Cert.XaKvIdeal.nD Cert.XaKvIdeal.τ).loc Cert.XaKvIdeal.main_arg0)
          ∧ r.2.mem ((c.tc : Thread Cert.XaKvIdeal.nD Cert.XaKvIdeal.τ).loc Cert.XaKvIdeal.main_arg1) = m ((c.tc : Thread Cert.XaKvIdeal.nD Cert.XaKvIdeal.τ).loc Cert.XaKvIdeal.main_arg1)
          ∧ r.2.mem ((c.tc : Thread Cert.XaKvIdeal.nD Cert.XaKvIdeal.τ).loc Cert.XaKvIdeal.main_arg2) = m ((c.tc : Thread Cert.XaKvIdeal.nD Cert.XaKvIdeal.τ).loc Cert.XaKvIdeal.main_arg2))
      ∧ θ_run (Cert.RefXaKvIdeal.defs (F := Ideal)) (onTc (τ := Cert.RefXaKvIdeal.τ) (Cert.RefXaKvIdeal.main (F := Ideal))) ⟨m', fun _ => 0, g'⟩ (fun r => ∀ c : Dev Cert.RefXaKvIdeal.nD,
          r.2.mem ((c.tc : Thread Cert.RefXaKvIdeal.nD Cert.RefXaKvIdeal.τ).loc Cert.RefXaKvIdeal.main_v14) = v0 c
          ∧ r.2.mem ((c.tc : Thread Cert.RefXaKvIdeal.nD Cert.RefXaKvIdeal.τ).loc Cert.RefXaKvIdeal.main_arg0) = m' ((c.tc : Thread Cert.RefXaKvIdeal.nD Cert.RefXaKvIdeal.τ).loc Cert.RefXaKvIdeal.main_arg0)
          ∧ r.2.mem ((c.tc : Thread Cert.RefXaKvIdeal.nD Cert.RefXaKvIdeal.τ).loc Cert.RefXaKvIdeal.main_arg1) = m' ((c.tc : Thread Cert.RefXaKvIdeal.nD Cert.RefXaKvIdeal.τ).loc Cert.RefXaKvIdeal.main_arg1)
          ∧ r.2.mem ((c.tc : Thread Cert.RefXaKvIdeal.nD Cert.RefXaKvIdeal.τ).loc Cert.RefXaKvIdeal.main_arg2) = m' ((c.tc : Thread Cert.RefXaKvIdeal.nD Cert.RefXaKvIdeal.τ).loc Cert.RefXaKvIdeal.main_arg2))

def preserves_Xattn_XattnIdeal : Prop :=
  IdealRules.named_const.Statement Cert.XattnIdeal.κ "xs" .f32 0x3D3504F3#32 (((Real.sqrt 512)⁻¹ : ℝ) : EReal)

def algebraic_XattnIdeal_RefXattnIdeal_pre_finite_qk [hXattnIdeal : Cert.XattnIdeal.Facts] [hRefXattnIdeal : Cert.RefXattnIdeal.Facts] [hPre_finite_qk : Cert.Pre_finite_qk.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.RefXattnIdeal.nD Cert.RefXattnIdeal.τ Cert.RefXattnIdeal.sig) → Buf (Elt Ideal) ℓ) (g' : Dev Cert.RefXattnIdeal.nD → PrngReg), Pre_XattnIdeal_finite_qk m →
    (∀ c : Dev Cert.XattnIdeal.nD,
      m' ((c.tc : Thread Cert.RefXattnIdeal.nD Cert.RefXattnIdeal.τ).loc Cert.RefXattnIdeal.main_arg0) = m ((c.tc : Thread Cert.XattnIdeal.nD Cert.XattnIdeal.τ).loc Cert.XattnIdeal.main_arg0)
      ∧ m' ((c.tc : Thread Cert.RefXattnIdeal.nD Cert.RefXattnIdeal.τ).loc Cert.RefXattnIdeal.main_arg1) = m ((c.tc : Thread Cert.XattnIdeal.nD Cert.XattnIdeal.τ).loc Cert.XattnIdeal.main_arg1)) →
    ∃ (v0 : (c : Dev Cert.XattnIdeal.nD) → Buf (Elt Ideal) ((c.tc : Thread Cert.XattnIdeal.nD Cert.XattnIdeal.τ).loc Cert.XattnIdeal.main_v0)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v0) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1))
      ∧ θ_run (Cert.RefXattnIdeal.defs (F := Ideal)) (onTc (τ := Cert.RefXattnIdeal.τ) (Cert.RefXattnIdeal.main (F := Ideal))) ⟨m', fun _ => 0, g'⟩ (fun r => ∀ c : Dev Cert.RefXattnIdeal.nD,
          r.2.mem ((c.tc : Thread Cert.RefXattnIdeal.nD Cert.RefXattnIdeal.τ).loc Cert.RefXattnIdeal.main_v26) = v0 c
          ∧ r.2.mem ((c.tc : Thread Cert.RefXattnIdeal.nD Cert.RefXattnIdeal.τ).loc Cert.RefXattnIdeal.main_arg0) = m' ((c.tc : Thread Cert.RefXattnIdeal.nD Cert.RefXattnIdeal.τ).loc Cert.RefXattnIdeal.main_arg0)
          ∧ r.2.mem ((c.tc : Thread Cert.RefXattnIdeal.nD Cert.RefXattnIdeal.τ).loc Cert.RefXattnIdeal.main_arg1) = m' ((c.tc : Thread Cert.RefXattnIdeal.nD Cert.RefXattnIdeal.τ).loc Cert.RefXattnIdeal.main_arg1))

def preserves_XaO_XaOIdeal : Prop :=
  True

def algebraic_XaOIdeal_RefXaOIdeal [hXaOIdeal : Cert.XaOIdeal.Facts] [hRefXaOIdeal : Cert.RefXaOIdeal.Facts] : Prop :=
  ∀ (m : (ℓ : Loc Cert.XaOIdeal.nD Cert.XaOIdeal.τ Cert.XaOIdeal.sig) → Buf (Elt Ideal) ℓ) (g : Dev Cert.XaOIdeal.nD → PrngReg)
    (m' : (ℓ : Loc Cert.RefXaOIdeal.nD Cert.RefXaOIdeal.τ Cert.RefXaOIdeal.sig) → Buf (Elt Ideal) ℓ) (g' : Dev Cert.RefXaOIdeal.nD → PrngReg), Pre_XaOIdeal m →
    (∀ c : Dev Cert.XaOIdeal.nD,
      m' ((c.tc : Thread Cert.RefXaOIdeal.nD Cert.RefXaOIdeal.τ).loc Cert.RefXaOIdeal.main_arg0) = m ((c.tc : Thread Cert.XaOIdeal.nD Cert.XaOIdeal.τ).loc Cert.XaOIdeal.main_arg0)
      ∧ m' ((c.tc : Thread Cert.RefXaOIdeal.nD Cert.RefXaOIdeal.τ).loc Cert.RefXaOIdeal.main_arg1) = m ((c.tc : Thread Cert.XaOIdeal.nD Cert.XaOIdeal.τ).loc Cert.XaOIdeal.main_arg1)
      ∧ m' ((c.tc : Thread Cert.RefXaOIdeal.nD Cert.RefXaOIdeal.τ).loc Cert.RefXaOIdeal.main_arg2) = m ((c.tc : Thread Cert.XaOIdeal.nD Cert.XaOIdeal.τ).loc Cert.XaOIdeal.main_arg2)) →
    ∃ (v0 : (c : Dev Cert.XaOIdeal.nD) → Buf (Elt Ideal) ((c.tc : Thread Cert.XaOIdeal.nD Cert.XaOIdeal.τ).loc Cert.XaOIdeal.main_v0)),
      θ_run (Cert.XaOIdeal.defs (F := Ideal)) (onTc (τ := Cert.XaOIdeal.τ) (Cert.XaOIdeal.main (F := Ideal))) ⟨m, fun _ => 0, g⟩ (fun r => ∀ c : Dev Cert.XaOIdeal.nD,
          r.2.mem ((c.tc : Thread Cert.XaOIdeal.nD Cert.XaOIdeal.τ).loc Cert.XaOIdeal.main_v0) = v0 c
          ∧ r.2.mem ((c.tc : Thread Cert.XaOIdeal.nD Cert.XaOIdeal.τ).loc Cert.XaOIdeal.main_arg0) = m ((c.tc : Thread Cert.XaOIdeal.nD Cert.XaOIdeal.τ).loc Cert.XaOIdeal.main_arg0)
          ∧ r.2.mem ((c.tc : Thread Cert.XaOIdeal.nD Cert.XaOIdeal.τ).loc Cert.XaOIdeal.main_arg1) = m ((c.tc : Thread Cert.XaOIdeal.nD Cert.XaOIdeal.τ).loc Cert.XaOIdeal.main_arg1)
          ∧ r.2.mem ((c.tc : Thread Cert.XaOIdeal.nD Cert.XaOIdeal.τ).loc Cert.XaOIdeal.main_arg2) = m ((c.tc : Thread Cert.XaOIdeal.nD Cert.XaOIdeal.τ).loc Cert.XaOIdeal.main_arg2))
      ∧ θ_run (Cert.RefXaOIdeal.defs (F := Ideal)) (onTc (τ := Cert.RefXaOIdeal.τ) (Cert.RefXaOIdeal.main (F := Ideal))) ⟨m', fun _ => 0, g'⟩ (fun r => ∀ c : Dev Cert.RefXaOIdeal.nD,
          r.2.mem ((c.tc : Thread Cert.RefXaOIdeal.nD Cert.RefXaOIdeal.τ).loc Cert.RefXaOIdeal.main_v3) = v0 c
          ∧ r.2.mem ((c.tc : Thread Cert.RefXaOIdeal.nD Cert.RefXaOIdeal.τ).loc Cert.RefXaOIdeal.main_arg0) = m' ((c.tc : Thread Cert.RefXaOIdeal.nD Cert.RefXaOIdeal.τ).loc Cert.RefXaOIdeal.main_arg0)
          ∧ r.2.mem ((c.tc : Thread Cert.RefXaOIdeal.nD Cert.RefXaOIdeal.τ).loc Cert.RefXaOIdeal.main_arg1) = m' ((c.tc : Thread Cert.RefXaOIdeal.nD Cert.RefXaOIdeal.τ).loc Cert.RefXaOIdeal.main_arg1)
          ∧ r.2.mem ((c.tc : Thread Cert.RefXaOIdeal.nD Cert.RefXaOIdeal.τ).loc Cert.RefXaOIdeal.main_arg2) = m' ((c.tc : Thread Cert.RefXaOIdeal.nD Cert.RefXaOIdeal.τ).loc Cert.RefXaOIdeal.main_arg2))

def preserves_Experts_ExpertsIdeal : Prop :=
  True

def algebraic_ExpertsIdeal_RefExpertsIdeal [hExpertsIdeal : Cert.ExpertsIdeal.Facts] [hRefExpertsIdeal : Cert.RefExpertsIdeal.Facts] [hPre_schedule : Cert.Pre_schedule.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.RefExpertsIdeal.nD Cert.RefExpertsIdeal.τ Cert.RefExpertsIdeal.sig) → Buf (Elt Ideal) ℓ) (g' : Dev Cert.RefExpertsIdeal.nD → PrngReg), Pre_ExpertsIdeal m →
    (∀ c : Dev Cert.ExpertsIdeal.nD,
      m' ((c.tc : Thread Cert.RefExpertsIdeal.nD Cert.RefExpertsIdeal.τ).loc Cert.RefExpertsIdeal.main_arg0) = m ((c.tc : Thread Cert.ExpertsIdeal.nD Cert.ExpertsIdeal.τ).loc Cert.ExpertsIdeal.main_arg0)
      ∧ m' ((c.tc : Thread Cert.RefExpertsIdeal.nD Cert.RefExpertsIdeal.τ).loc Cert.RefExpertsIdeal.main_arg1) = m ((c.tc : Thread Cert.ExpertsIdeal.nD Cert.ExpertsIdeal.τ).loc Cert.ExpertsIdeal.main_arg1)
      ∧ m' ((c.tc : Thread Cert.RefExpertsIdeal.nD Cert.RefExpertsIdeal.τ).loc Cert.RefExpertsIdeal.main_arg2) = m ((c.tc : Thread Cert.ExpertsIdeal.nD Cert.ExpertsIdeal.τ).loc Cert.ExpertsIdeal.main_arg2)
      ∧ m' ((c.tc : Thread Cert.RefExpertsIdeal.nD Cert.RefExpertsIdeal.τ).loc Cert.RefExpertsIdeal.main_arg3) = m ((c.tc : Thread Cert.ExpertsIdeal.nD Cert.ExpertsIdeal.τ).loc Cert.ExpertsIdeal.main_arg3)
      ∧ m' ((c.tc : Thread Cert.RefExpertsIdeal.nD Cert.RefExpertsIdeal.τ).loc Cert.RefExpertsIdeal.main_arg4) = m ((c.tc : Thread Cert.ExpertsIdeal.nD Cert.ExpertsIdeal.τ).loc Cert.ExpertsIdeal.main_arg4)
      ∧ m' ((c.tc : Thread Cert.RefExpertsIdeal.nD Cert.RefExpertsIdeal.τ).loc Cert.RefExpertsIdeal.main_arg5) = m ((c.tc : Thread Cert.ExpertsIdeal.nD Cert.ExpertsIdeal.τ).loc Cert.ExpertsIdeal.main_arg5)
      ∧ m' ((c.tc : Thread Cert.RefExpertsIdeal.nD Cert.RefExpertsIdeal.τ).loc Cert.RefExpertsIdeal.main_arg6) = m ((c.tc : Thread Cert.ExpertsIdeal.nD Cert.ExpertsIdeal.τ).loc Cert.ExpertsIdeal.main_arg6)
      ∧ m' ((c.tc : Thread Cert.RefExpertsIdeal.nD Cert.RefExpertsIdeal.τ).loc Cert.RefExpertsIdeal.main_arg7) = m ((c.tc : Thread Cert.ExpertsIdeal.nD Cert.ExpertsIdeal.τ).loc Cert.ExpertsIdeal.main_arg7)
      ∧ m' ((c.tc : Thread Cert.RefExpertsIdeal.nD Cert.RefExpertsIdeal.τ).loc Cert.RefExpertsIdeal.main_arg8) = m ((c.tc : Thread Cert.ExpertsIdeal.nD Cert.ExpertsIdeal.τ).loc Cert.ExpertsIdeal.main_arg8)
      ∧ m' ((c.tc : Thread Cert.RefExpertsIdeal.nD Cert.RefExpertsIdeal.τ).loc Cert.RefExpertsIdeal.main_arg9) = m ((c.tc : Thread Cert.ExpertsIdeal.nD Cert.ExpertsIdeal.τ).loc Cert.ExpertsIdeal.main_arg9)
      ∧ m' ((c.tc : Thread Cert.RefExpertsIdeal.nD Cert.RefExpertsIdeal.τ).loc Cert.RefExpertsIdeal.main_arg10) = m ((c.tc : Thread Cert.ExpertsIdeal.nD Cert.ExpertsIdeal.τ).loc Cert.ExpertsIdeal.main_arg10)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
          ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9)
          ∧ r.2.mem ((c.tc : Thread Cert.ExpertsIdeal.nD Cert.ExpertsIdeal.τ).loc Cert.ExpertsIdeal.main_arg10) = m ((c.tc : Thread Cert.ExpertsIdeal.nD Cert.ExpertsIdeal.τ).loc Cert.ExpertsIdeal.main_arg10))
      ∧ θ_run (Cert.RefExpertsIdeal.defs (F := Ideal)) (onTc (τ := Cert.RefExpertsIdeal.τ) (Cert.RefExpertsIdeal.main (F := Ideal))) ⟨m', fun _ => 0, g'⟩ (fun r => ∀ c : Dev Cert.RefExpertsIdeal.nD,
          r.2.mem ((c.tc : Thread Cert.RefExpertsIdeal.nD Cert.RefExpertsIdeal.τ).loc Cert.RefExpertsIdeal.main_v60) = v0 c
          ∧ r.2.mem ((c.tc : Thread Cert.RefExpertsIdeal.nD Cert.RefExpertsIdeal.τ).loc Cert.RefExpertsIdeal.main_arg0) = m' ((c.tc : Thread Cert.RefExpertsIdeal.nD Cert.RefExpertsIdeal.τ).loc Cert.RefExpertsIdeal.main_arg0)
          ∧ r.2.mem ((c.tc : Thread Cert.RefExpertsIdeal.nD Cert.RefExpertsIdeal.τ).loc Cert.RefExpertsIdeal.main_arg1) = m' ((c.tc : Thread Cert.RefExpertsIdeal.nD Cert.RefExpertsIdeal.τ).loc Cert.RefExpertsIdeal.main_arg1)
          ∧ r.2.mem ((c.tc : Thread Cert.RefExpertsIdeal.nD Cert.RefExpertsIdeal.τ).loc Cert.RefExpertsIdeal.main_arg2) = m' ((c.tc : Thread Cert.RefExpertsIdeal.nD Cert.RefExpertsIdeal.τ).loc Cert.RefExpertsIdeal.main_arg2)
          ∧ r.2.mem ((c.tc : Thread Cert.RefExpertsIdeal.nD Cert.RefExpertsIdeal.τ).loc Cert.RefExpertsIdeal.main_arg3) = m' ((c.tc : Thread Cert.RefExpertsIdeal.nD Cert.RefExpertsIdeal.τ).loc Cert.RefExpertsIdeal.main_arg3)
          ∧ r.2.mem ((c.tc : Thread Cert.RefExpertsIdeal.nD Cert.RefExpertsIdeal.τ).loc Cert.RefExpertsIdeal.main_arg4) = m' ((c.tc : Thread Cert.RefExpertsIdeal.nD Cert.RefExpertsIdeal.τ).loc Cert.RefExpertsIdeal.main_arg4)
          ∧ r.2.mem ((c.tc : Thread Cert.RefExpertsIdeal.nD Cert.RefExpertsIdeal.τ).loc Cert.RefExpertsIdeal.main_arg5) = m' ((c.tc : Thread Cert.RefExpertsIdeal.nD Cert.RefExpertsIdeal.τ).loc Cert.RefExpertsIdeal.main_arg5)
          ∧ r.2.mem ((c.tc : Thread Cert.RefExpertsIdeal.nD Cert.RefExpertsIdeal.τ).loc Cert.RefExpertsIdeal.main_arg6) = m' ((c.tc : Thread Cert.RefExpertsIdeal.nD Cert.RefExpertsIdeal.τ).loc Cert.RefExpertsIdeal.main_arg6)
          ∧ r.2.mem ((c.tc : Thread Cert.RefExpertsIdeal.nD Cert.RefExpertsIdeal.τ).loc Cert.RefExpertsIdeal.main_arg7) = m' ((c.tc : Thread Cert.RefExpertsIdeal.nD Cert.RefExpertsIdeal.τ).loc Cert.RefExpertsIdeal.main_arg7)
          ∧ r.2.mem ((c.tc : Thread Cert.RefExpertsIdeal.nD Cert.RefExpertsIdeal.τ).loc Cert.RefExpertsIdeal.main_arg8) = m' ((c.tc : Thread Cert.RefExpertsIdeal.nD Cert.RefExpertsIdeal.τ).loc Cert.RefExpertsIdeal.main_arg8)
          ∧ r.2.mem ((c.tc : Thread Cert.RefExpertsIdeal.nD Cert.RefExpertsIdeal.τ).loc Cert.RefExpertsIdeal.main_arg9) = m' ((c.tc : Thread Cert.RefExpertsIdeal.nD Cert.RefExpertsIdeal.τ).loc Cert.RefExpertsIdeal.main_arg9)
          ∧ r.2.mem ((c.tc : Thread Cert.RefExpertsIdeal.nD Cert.RefExpertsIdeal.τ).loc Cert.RefExpertsIdeal.main_arg10) = m' ((c.tc : Thread Cert.RefExpertsIdeal.nD Cert.RefExpertsIdeal.τ).loc Cert.RefExpertsIdeal.main_arg10))

def preserves_Router_RouterIdeal : Prop :=
  True

def algebraic_RouterIdeal_RefRouterIdeal_pre_finite_router [hRouterIdeal : Cert.RouterIdeal.Facts] [hRefRouterIdeal : Cert.RefRouterIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RefRouterIdeal.nD Cert.RefRouterIdeal.τ Cert.RefRouterIdeal.sig) → Buf (Elt Ideal) ℓ) (g' : Dev Cert.RefRouterIdeal.nD → PrngReg), Pre_RouterIdeal_finite_router m →
    (∀ c : Dev Cert.RouterIdeal.nD,
      m' ((c.tc : Thread Cert.RefRouterIdeal.nD Cert.RefRouterIdeal.τ).loc Cert.RefRouterIdeal.main_arg0) = m ((c.tc : Thread Cert.RouterIdeal.nD Cert.RouterIdeal.τ).loc Cert.RouterIdeal.main_arg0)
      ∧ m' ((c.tc : Thread Cert.RefRouterIdeal.nD Cert.RefRouterIdeal.τ).loc Cert.RefRouterIdeal.main_arg1) = m ((c.tc : Thread Cert.RouterIdeal.nD Cert.RouterIdeal.τ).loc Cert.RouterIdeal.main_arg1)
      ∧ m' ((c.tc : Thread Cert.RefRouterIdeal.nD Cert.RefRouterIdeal.τ).loc Cert.RefRouterIdeal.main_arg2) = m ((c.tc : Thread Cert.RouterIdeal.nD Cert.RouterIdeal.τ).loc Cert.RouterIdeal.main_arg2)
      ∧ m' ((c.tc : Thread Cert.RefRouterIdeal.nD Cert.RefRouterIdeal.τ).loc Cert.RefRouterIdeal.main_arg3) = m ((c.tc : Thread Cert.RouterIdeal.nD Cert.RouterIdeal.τ).loc Cert.RouterIdeal.main_arg3)) →
    ∃ (v0 : (c : Dev Cert.RouterIdeal.nD) → Buf (Elt Ideal) ((c.tc : Thread Cert.RouterIdeal.nD Cert.RouterIdeal.τ).loc Cert.RouterIdeal.main_v0_0)) (v1 : (c : Dev Cert.RouterIdeal.nD) → Buf (Elt Ideal) ((c.tc : Thread Cert.RouterIdeal.nD Cert.RouterIdeal.τ).loc Cert.RouterIdeal.main_v0_1)) (v2 : (c : Dev Cert.RouterIdeal.nD) → Buf (Elt Ideal) ((c.tc : Thread Cert.RouterIdeal.nD Cert.RouterIdeal.τ).loc Cert.RouterIdeal.main_v0_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v0_0) = v0 c
          ∧ r.2.mem ((c.tc : Thread Cert.RouterIdeal.nD Cert.RouterIdeal.τ).loc Cert.RouterIdeal.main_v0_1) = v1 c
          ∧ r.2.mem ((c.tc : Thread Cert.RouterIdeal.nD Cert.RouterIdeal.τ).loc Cert.RouterIdeal.main_v0_2) = v2 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ θ_run (Cert.RefRouterIdeal.defs (F := Ideal)) (onTc (τ := Cert.RefRouterIdeal.τ) (Cert.RefRouterIdeal.main (F := Ideal))) ⟨m', fun _ => 0, g'⟩ (fun r => ∀ c : Dev Cert.RefRouterIdeal.nD,
          r.2.mem ((c.tc : Thread Cert.RefRouterIdeal.nD Cert.RefRouterIdeal.τ).loc Cert.RefRouterIdeal.main_v39) = v0 c
          ∧ r.2.mem ((c.tc : Thread Cert.RefRouterIdeal.nD Cert.RefRouterIdeal.τ).loc Cert.RefRouterIdeal.main_v40) = v1 c
          ∧ r.2.mem ((c.tc : Thread Cert.RefRouterIdeal.nD Cert.RefRouterIdeal.τ).loc Cert.RefRouterIdeal.main_v44) = v2 c
          ∧ r.2.mem ((c.tc : Thread Cert.RefRouterIdeal.nD Cert.RefRouterIdeal.τ).loc Cert.RefRouterIdeal.main_arg0) = m' ((c.tc : Thread Cert.RefRouterIdeal.nD Cert.RefRouterIdeal.τ).loc Cert.RefRouterIdeal.main_arg0)
          ∧ r.2.mem ((c.tc : Thread Cert.RefRouterIdeal.nD Cert.RefRouterIdeal.τ).loc Cert.RefRouterIdeal.main_arg1) = m' ((c.tc : Thread Cert.RefRouterIdeal.nD Cert.RefRouterIdeal.τ).loc Cert.RefRouterIdeal.main_arg1)
          ∧ r.2.mem ((c.tc : Thread Cert.RefRouterIdeal.nD Cert.RefRouterIdeal.τ).loc Cert.RefRouterIdeal.main_arg2) = m' ((c.tc : Thread Cert.RefRouterIdeal.nD Cert.RefRouterIdeal.τ).loc Cert.RefRouterIdeal.main_arg2)
          ∧ r.2.mem ((c.tc : Thread Cert.RefRouterIdeal.nD Cert.RefRouterIdeal.τ).loc Cert.RefRouterIdeal.main_arg3) = m' ((c.tc : Thread Cert.RefRouterIdeal.nD Cert.RefRouterIdeal.τ).loc Cert.RefRouterIdeal.main_arg3))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hRefInProjIdeal : Cert.RefInProjIdeal.Facts) (hOutProj : Cert.OutProj.Facts) (hOutProjIdeal : Cert.OutProjIdeal.Facts) (hRefOutProjIdeal : Cert.RefOutProjIdeal.Facts) (hXaQ : Cert.XaQ.Facts) (hXaQIdeal : Cert.XaQIdeal.Facts) (hRefXaQIdeal : Cert.RefXaQIdeal.Facts) (hXaKv : Cert.XaKv.Facts) (hXaKvIdeal : Cert.XaKvIdeal.Facts) (hRefXaKvIdeal : Cert.RefXaKvIdeal.Facts) (hXattn : Cert.Xattn.Facts) (hXattnIdeal : Cert.XattnIdeal.Facts) (hRefXattnIdeal : Cert.RefXattnIdeal.Facts) (hXaO : Cert.XaO.Facts) (hXaOIdeal : Cert.XaOIdeal.Facts) (hRefXaOIdeal : Cert.RefXaOIdeal.Facts) (hExperts : Cert.Experts.Facts) (hExpertsIdeal : Cert.ExpertsIdeal.Facts) (hRefExpertsIdeal : Cert.RefExpertsIdeal.Facts) (hRouter : Cert.Router.Facts) (hRouterIdeal : Cert.RouterIdeal.Facts) (hRefRouterIdeal : Cert.RefRouterIdeal.Facts) (hPre_finite_scores : Cert.Pre_finite_scores.Facts) (hPre_finite_qk : Cert.Pre_finite_qk.Facts) (hPre_schedule : Cert.Pre_schedule.Facts) (hPre_finite_router : Cert.Pre_finite_router.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InProj (hInProj := hInProj)
    ∧ quiescent_InProjIdeal (hInProjIdeal := hInProjIdeal)
    ∧ quiescent_RefInProjIdeal (hRefInProjIdeal := hRefInProjIdeal)
    ∧ quiescent_OutProj (hOutProj := hOutProj)
    ∧ quiescent_OutProjIdeal (hOutProjIdeal := hOutProjIdeal)
    ∧ quiescent_RefOutProjIdeal (hRefOutProjIdeal := hRefOutProjIdeal)
    ∧ quiescent_XaQ (hXaQ := hXaQ)
    ∧ quiescent_XaQIdeal (hXaQIdeal := hXaQIdeal)
    ∧ quiescent_RefXaQIdeal (hRefXaQIdeal := hRefXaQIdeal)
    ∧ quiescent_XaKv (hXaKv := hXaKv)
    ∧ quiescent_XaKvIdeal (hXaKvIdeal := hXaKvIdeal)
    ∧ quiescent_RefXaKvIdeal (hRefXaKvIdeal := hRefXaKvIdeal)
    ∧ quiescent_Xattn (hXattn := hXattn)
    ∧ quiescent_XattnIdeal (hXattnIdeal := hXattnIdeal)
    ∧ quiescent_XattnIdeal_pre_finite_qk (hXattnIdeal := hXattnIdeal) (hPre_finite_qk := hPre_finite_qk)
    ∧ quiescent_RefXattnIdeal (hRefXattnIdeal := hRefXattnIdeal)
    ∧ quiescent_RefXattnIdeal_pre_finite_qk (hRefXattnIdeal := hRefXattnIdeal) (hPre_finite_qk := hPre_finite_qk)
    ∧ quiescent_XaO (hXaO := hXaO)
    ∧ quiescent_XaOIdeal (hXaOIdeal := hXaOIdeal)
    ∧ quiescent_RefXaOIdeal (hRefXaOIdeal := hRefXaOIdeal)
    ∧ quiescent_Experts (hExperts := hExperts) (hPre_schedule := hPre_schedule)
    ∧ quiescent_ExpertsIdeal (hExpertsIdeal := hExpertsIdeal) (hPre_schedule := hPre_schedule)
    ∧ quiescent_RefExpertsIdeal (hRefExpertsIdeal := hRefExpertsIdeal)
    ∧ quiescent_RefExpertsIdeal_pre_schedule (hRefExpertsIdeal := hRefExpertsIdeal) (hPre_schedule := hPre_schedule)
    ∧ quiescent_Router (hRouter := hRouter)
    ∧ quiescent_RouterIdeal (hRouterIdeal := hRouterIdeal)
    ∧ quiescent_RouterIdeal_pre_finite_router (hRouterIdeal := hRouterIdeal) (hPre_finite_router := hPre_finite_router)
    ∧ quiescent_RefRouterIdeal (hRefRouterIdeal := hRefRouterIdeal)
    ∧ quiescent_RefRouterIdeal_pre_finite_router (hRefRouterIdeal := hRefRouterIdeal) (hPre_finite_router := hPre_finite_router)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InProj_InProjIdeal
    ∧ algebraic_InProjIdeal_RefInProjIdeal (hInProjIdeal := hInProjIdeal) (hRefInProjIdeal := hRefInProjIdeal)
    ∧ preserves_OutProj_OutProjIdeal
    ∧ algebraic_OutProjIdeal_RefOutProjIdeal (hOutProjIdeal := hOutProjIdeal) (hRefOutProjIdeal := hRefOutProjIdeal)
    ∧ preserves_XaQ_XaQIdeal
    ∧ algebraic_XaQIdeal_RefXaQIdeal (hXaQIdeal := hXaQIdeal) (hRefXaQIdeal := hRefXaQIdeal)
    ∧ preserves_XaKv_XaKvIdeal
    ∧ algebraic_XaKvIdeal_RefXaKvIdeal (hXaKvIdeal := hXaKvIdeal) (hRefXaKvIdeal := hRefXaKvIdeal)
    ∧ preserves_Xattn_XattnIdeal
    ∧ algebraic_XattnIdeal_RefXattnIdeal_pre_finite_qk (hXattnIdeal := hXattnIdeal) (hRefXattnIdeal := hRefXattnIdeal) (hPre_finite_qk := hPre_finite_qk)
    ∧ preserves_XaO_XaOIdeal
    ∧ algebraic_XaOIdeal_RefXaOIdeal (hXaOIdeal := hXaOIdeal) (hRefXaOIdeal := hRefXaOIdeal)
    ∧ preserves_Experts_ExpertsIdeal
    ∧ algebraic_ExpertsIdeal_RefExpertsIdeal (hExpertsIdeal := hExpertsIdeal) (hRefExpertsIdeal := hRefExpertsIdeal) (hPre_schedule := hPre_schedule)
    ∧ preserves_Router_RouterIdeal
    ∧ algebraic_RouterIdeal_RefRouterIdeal_pre_finite_router (hRouterIdeal := hRouterIdeal) (hRefRouterIdeal := hRefRouterIdeal) (hPre_finite_router := hPre_finite_router)
-- ==== Pre_finite_qk.lean ====
abbrev S16384x2048 : Shape := ⟨2, ![16384, 2048]⟩
abbrev S2048x4096 : Shape := ⟨2, ![2048, 4096]⟩
abbrev S_ : Shape := ⟨0, ![]⟩
abbrev S2048x2048 : Shape := ⟨2, ![2048, 2048]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  slices_S2048x4096_S2048x2048_0_0 : S2048x4096.Slices ![0, 0] S2048x2048
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S16384x2048 .bf16) (main_arg1 : FVec F S2048x4096 .bf16) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S2048x2048 .bf16 := (extractStridedSlice S2048x2048 ![0, 0] · slices_S2048x4096_S2048x2048_0_0) main_arg1
  let main_v6 : FVec F S2048x2048 .f32 := (extf .f32 · bitsLt_bf16_f32) main_v5
  let main_v7 : FVec F S2048x2048 .f32 := Host.absf main_v6
  let main_cst_0 : FVec F S_ .f32 := constant S_ .f32 0x7F800000#32
  let main_v8 : FVec F S2048x2048 .f32 := broadcastInDim S2048x2048 ![] bcast_S_S2048x2048 main_cst_0
  let main_v9 : IVec S2048x2048 1 := cmpf .olt main_v7 main_v8
  let main_c_1 : IVec S_ 1 := constantI S_ 1 1#1
  let main_v10 : IVec S_ 1 := (fun x v => Host.reduce IntOp.andi x v reducesTo_S2048x2048_S_d0_1 h_S_) main_v9 main_c_1
  let main_v11 : IVec S_ 1 := andi main_v4 main_v10
  main_v11
-- ==== Pre_finite_router.lean ====
abbrev S16384x2048 : Shape := ⟨2, ![16384, 2048]⟩
abbrev S1x2048 : Shape := ⟨2, ![1, 2048]⟩
abbrev S2048x128 : Shape := ⟨2, ![2048, 128]⟩
abbrev S1x128 : Shape := ⟨2, ![1, 128]⟩
abbrev S_ : Shape := ⟨0, ![]⟩
abbrev S2048x32 : Shape := ⟨2, ![2048, 32]⟩
abbrev S1x32 : Shape := ⟨2, ![1, 32]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  slices_S2048x128_S2048x32_0_0 : S2048x128.Slices ![0, 0] S2048x32
  bcast_S_S2048x32 : S_.BroadcastsInDim S2048x32 (![] : Fin 0 → Fin S2048x32.rank)
  reducesTo_S2048x32_S_d0_1 : S2048x32.ReducesTo [0, 1] S_
  slices_S1x128_S1x32_0_0 : S1x128.Slices ![0, 0] S1x32
  bcast_S_S1x32 : S_.BroadcastsInDim S1x32 (![] : Fin 0 → Fin S1x32.rank)
  reducesTo_S1x32_S_d0_1 : S1x32.ReducesTo [0, 1] S_

variable [Facts]

def fn_part1 {F : FTy → Type} [FloatOps F] (main_v14 : IVec S_ 1) (main_v16 : FVec F S1x32 .f32) (main_cst_4 : FVec F S_ .f32) : IVec S_ 1 :=
  let main_v17 : FVec F S1x32 .f32 := broadcastInDim S1x32 ![] bcast_S_S1x32 main_cst_4
  let main_v18 : IVec S1x32 1 := cmpf .olt main_v16 main_v17
  let main_c_5 : IVec S_ 1 := constantI S_ 1 1#1
  let main_v19 : IVec S_ 1 := (fun x v => Host.reduce IntOp.andi x v reducesTo_S1x32_S_d0_1 h_S_) main_v18 main_c_5
  let main_v20 : IVec S_ 1 := andi main_v14 main_v19
  main_v20

def fn {F : FTy → Type} [FloatOps F] (main_arg0 : FVec F S16384x2048 .f32) (main_arg1 : FVec F S1x2048 .f32) (main_arg2 : FVec F S2048x128 .f32) (main_arg3 : FVec F S1x128 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S2048x32 .f32 := (extractStridedSlice S2048x32 ![0, 0] · slices_S2048x128_S2048x32_0_0) main_arg2
  let main_v10 : FVec F S2048x32 .f32 := Host.absf main_v9
  let main_cst_2 : FVec F S_ .f32 := constant S_ .f32 0x7F800000#32
  let main_v11 : FVec F S2048x32 .f32 := broadcastInDim S2048x32 ![] bcast_S_S2048x32 main_cst_2
  let main_v12 : IVec S2048x32 1 := cmpf .olt main_v10 main_v11
  let main_c_3 : IVec S_ 1 := constantI S_ 1 1#1
  let main_v13 : IVec S_ 1 := (fun x v => Host.reduce IntOp.andi x v reducesTo_S2048x32_S_d0_1 h_S_) main_v12 main_c_3
  let main_v14 : IVec S_ 1 := andi main_v8 main_v13
  let main_v15 : FVec F S1x32 .f32 := (extractStridedSlice S1x32 ![0, 0] · slices_S1x128_S1x32_0_0) main_arg3
  let main_v16 : FVec F S1x32 .f32 := Host.absf main_v15
  let main_cst_4 : FVec F S_ .f32 := constant S_ .f32 0x7F800000#32
  fn_part1 (F := F) main_v14 main_v16 main_cst_4
-- ==== Pre_finite_scores.lean ====
abbrev S16384x12288 : Shape := ⟨2, ![16384, 12288]⟩
abbrev S16384x128 : Shape := ⟨2, ![16384, 128]⟩
abbrev S8x128x2048 : Shape := ⟨3, ![8, 128, 2048]⟩
abbrev S16384x4096 : Shape := ⟨2, ![16384, 4096]⟩
abbrev S_ : Shape := ⟨0, ![]⟩
abbrev S16384x16 : Shape := ⟨2, ![16384, 16]⟩
abbrev S8x16x2048 : Shape := ⟨3, ![8, 16, 2048]⟩

class Facts : Prop where
  slices_S16384x12288_S16384x4096_0_6144 : S16384x12288.Slices ![0, 6144] S16384x4096
  bitsLt_bf16_f32 : FTy.bits .bf16 < FTy.bits .f32
  bcast_S_S16384x4096 : S_.BroadcastsInDim S16384x4096 (![] : Fin 0 → Fin S16384x4096.rank)
  reducesTo_S16384x4096_S_d0_1 : S16384x4096.ReducesTo [0, 1] S_
  h_S_ : 0 < S_.numel
  slices_S16384x128_S16384x16_0_32 : S16384x128.Slices ![0, 32] S16384x16
  bcast_S_S16384x16 : S_.BroadcastsInDim S16384x16 (![] : Fin 0 → Fin S16384x16.rank)
  reducesTo_S16384x16_S_d0_1 : S16384x16.ReducesTo [0, 1] S_
  slices_S8x128x2048_S8x16x2048_0_32_0 : S8x128x2048.Slices ![0, 32, 0] S8x16x2048
  bcast_S_S8x16x2048 : S_.BroadcastsInDim S8x16x2048 (![] : Fin 0 → Fin S8x16x2048.rank)
  reducesTo_S8x16x2048_S_d0_1_2 : S8x16x2048.ReducesTo [0, 1, 2] S_

variable [Facts]

def fn {F : FTy → Type} [FloatOps F] (main_arg0 : FVec F S16384x12288 .bf16) (main_arg1 : FVec F S16384x128 .f32) (main_arg2 : FVec F S8x128x2048 .f32) : IVec S_ 1 :=
  let main_v0 : FVec F S16384x4096 .bf16 := (extractStridedSlice S16384x4096 ![0, 6144] · slices_S16384x12288_S16384x4096_0_6144) main_arg0
  let main_v1 : FVec F S16384x4096 .f32 := (extf .f32 · bitsLt_bf16_f32) main_v0
  let main_v2 : FVec F S16384x4096 .f32 := Host.absf main_v1
  let main_cst : FVec F S_ .f32 := constant S_ .f32 0x7F800000#32
  let main_v3 : FVec F S16384x4096 .f32 := broadcastInDim S16384x4096 ![] bcast_S_S16384x4096 main_cst
  let main_v4 : IVec S16384x4096 1 := cmpf .olt main_v2 main_v3
  let main_c : IVec S_ 1 := constantI S_ 1 1#1
  let main_v5 : IVec S_ 1 := (fun x v => Host.reduce IntOp.andi x v reducesTo_S16384x4096_S_d0_1 h_S_) main_v4 main_c
  let main_v6 : FVec F S16384x16 .f32 := (extractStridedSlice S16384x16 ![0, 32] · slices_S16384x128_S16384x16_0_32) main_arg1
  let main_v7 : FVec F S16384x16 .f32 := Host.absf main_v6
  let main_cst_0 : FVec F S_ .f32 := constant S_ .f32 0x7F800000#32
  let main_v8 : FVec F S16384x16 .f32 := broadcastInDim S16384x16 ![] bcast_S_S16384x16 main_cst_0
  let main_v9 : IVec S16384x16 1 := cmpf .olt main_v7 main_v8
  let main_c_1 : IVec S_ 1 := constantI S_ 1 1#1
  let main_v10 : IVec S_ 1 := (fun x v => Host.reduce IntOp.andi x v reducesTo_S16384x16_S_d0_1 h_S_) main_v9 main_c_1
  let main_v11 : IVec S_ 1 := andi main_v5 main_v10
  let main_v12 : FVec F S8x16x2048 .f32 := (extractStridedSlice S8x16x2048 ![0, 32, 0] · slices_S8x128x2048_S8x16x2048_0_32_0) main_arg2
  let main_v13 : FVec F S8x16x2048 .f32 := Host.absf main_v12
  let main_cst_2 : FVec F S_ .f32 := constant S_ .f32 0x7F800000#32
  let main_v14 : FVec F S8x16x2048 .f32 := broadcastInDim S8x16x2048 ![] bcast_S_S8x16x2048 main_cst_2
  let main_v15 : IVec S8x16x2048 1 := cmpf .olt main_v13 main_v14
  let main_c_3 : IVec S_ 1 := constantI S_ 1 1#1
  let main_v16 : IVec S_ 1 := (fun x v => Host.reduce IntOp.andi x v reducesTo_S8x16x2048_S_d0_1_2 h_S_) main_v15 main_c_3
  let main_v17 : IVec S_ 1 := andi main_v11 main_v16
  main_v17
-- ==== Pre_schedule.lean ====
abbrev S384 : Shape := ⟨1, ![384]⟩
abbrev S160 : Shape := ⟨1, ![160]⟩
abbrev S1 : Shape := ⟨1, ![1]⟩
abbrev S81920x2048 : Shape := ⟨2, ![81920, 2048]⟩
abbrev S32x2048x4096 : Shape := ⟨3, ![32, 2048, 4096]⟩
abbrev S32x1x4096 : Shape := ⟨3, ![32, 1, 4096]⟩
abbrev S32x2048x2048 : Shape := ⟨3, ![32, 2048, 2048]⟩
abbrev S32x1x2048 : Shape := ⟨3, ![32, 1, 2048]⟩
abbrev S383 : Shape := ⟨1, ![383]⟩
abbrev S_ : Shape := ⟨0, ![]⟩
abbrev S384x1 : Shape := ⟨2, ![384, 1]⟩
abbrev S1x160 : Shape := ⟨2, ![1, 160]⟩
abbrev S384x160 : Shape := ⟨2, ![384, 160]⟩

class Facts : Prop where
  slices_S384_S383_0 : S384.Slices ![0] S383
  slices_S384_S383_1 : S384.Slices ![1] S383
  bcast_S_S383 : S_.BroadcastsInDim S383 (![] : Fin 0 → Fin S383.rank)
  bcast_S_S384 : S_.BroadcastsInDim S384 (![] : Fin 0 → Fin S384.rank)
  reducesTo_S384_S_d0 : S384.ReducesTo [0] S_
  h_S_ : 0 < S_.numel
  bcast_S_S160 : S_.BroadcastsInDim S160 (![] : Fin 0 → Fin S160.rank)
  reducesTo_S160_S_d0 : S160.ReducesTo [0] S_
  slices_S384_S1_0 : S384.Slices ![0] S1
  bcast_S_S1 : S_.BroadcastsInDim S1 (![] : Fin 0 → Fin S1.rank)
  reducesTo_S1_S_d0 : S1.ReducesTo [0] S_
  slices_S384_S1_383 : S384.Slices ![383] S1
  reducesTo_S383_S_d0 : S383.ReducesTo [0] S_
  bcast_S1_S384_0 : S1.BroadcastsInDim S384 (![0] : Fin 1 → Fin S384.rank)
  bcast_S384_S384x1_0 : S384.BroadcastsInDim S384x1 (![0] : Fin 1 → Fin S384x1.rank)
  bcast_S160_S1x160_1 : S160.BroadcastsInDim S1x160 (![1] : Fin 1 → Fin S1x160.rank)
  bcast_S384x1_S384x160_0_1 : S384x1.BroadcastsInDim S384x160 (![0, 1] : Fin 2 → Fin S384x160.rank)
  bcast_S1x160_S384x160_0_1 : S1x160.BroadcastsInDim S384x160 (![0, 1] : Fin 2 → Fin S384x160.rank)
  bcast_S_S384x1 : S_.BroadcastsInDim S384x1 (![] : Fin 0 → Fin S384x1.rank)
  reducesTo_S384x160_S_d0_1 : S384x160.ReducesTo [0, 1] S_

variable [Facts]

def fn_where {F : FTy → Type} [FloatOps F] (arg0 : IVec S383 1) (arg1 : IVec S383 32) (arg2 : IVec S383 32) : IVec S383 32 :=
  let v0 : IVec S383 32 := select arg0 arg1 arg2
  v0

def fn_where_0 {F : FTy → Type} [FloatOps F] (arg0 : IVec S383 1) (arg1 : IVec S383 1) (arg2 : IVec S383 1) : IVec S383 1 :=
  let v0 : IVec S383 1 := select arg0 arg1 arg2
  v0

def fn_where_1 {F : FTy → Type} [FloatOps F] (arg0 : IVec S383 1) (arg1 : IVec S383 1) (arg2 : IVec S_ 1) : IVec S383 1 :=
  let v0 : IVec S383 1 := broadcastInDim S383 ![] bcast_S_S383 arg2
  let v1 : IVec S383 1 := select arg0 arg1 v0
  v1

def fn_part6 {F : FTy → Type} [FloatOps F] (main_arg0 : IVec S384 32) (main_arg1 : IVec S384 32) (main_arg2 : IVec S384 32) (main_arg4 : IVec S160 32) (main_v105 : IVec S_ 1) : IVec S_ 1 :=
  let main_v106 : IVec S384x1 32 := broadcastInDim S384x1 ![0] bcast_S384_S384x1_0 main_arg0
  let main_v107 : IVec S160 32 := iotaInDim S160 32 0
  let main_v108 : IVec S1x160 32 := broadcastInDim S1x160 ![1] bcast_S160_S1x160_1 main_v107
  let main_v109 : IVec S384x160 32 := broadcastInDim S384x160 ![0, 1] bcast_S384x1_S384x160_0_1 main_v106
  let main_v110 : IVec S384x160 32 := broadcastInDim S384x160 ![0, 1] bcast_S1x160_S384x160_0_1 main_v108
  let main_v111 : IVec S384x160 1 := cmpi .ne main_v109 main_v110
  let main_v112 : IVec S384x1 32 := broadcastInDim S384x1 ![0] bcast_S384_S384x1_0 main_arg1
  let main_c_37 : IVec S_ 32 := constantI S_ 32 8#32
  let main_v113 : IVec S384x1 32 := broadcastInDim S384x1 ![] bcast_S_S384x1 main_c_37
  let main_v114 : IVec S384x1 1 := cmpi .sgt main_v112 main_v113
  let main_v115 : IVec S384x160 1 := broadcastInDim S384x160 ![0, 1] bcast_S384x1_S384x160_0_1 main_v114
  let main_v116 : IVec S384x160 1 := ori main_v111 main_v115
  let main_v117 : IVec S384x1 32 := broadcastInDim S384x1 ![0] bcast_S384_S384x1_0 main_arg2
  let main_v118 : IVec S1x160 32 := broadcastInDim S1x160 ![1] bcast_S160_S1x160_1 main_arg4
  let main_v119 : IVec S384x160 32 := broadcastInDim S384x160 ![0, 1] bcast_S384x1_S384x160_0_1 main_v117
  let main_v120 : IVec S384x160 32 := broadcastInDim S384x160 ![0, 1] bcast_S1x160_S384x160_0_1 main_v118
  let main_v121 : IVec S384x160 1 := cmpi .eq main_v119 main_v120
  let main_v122 : IVec S384x160 1 := ori main_v116 main_v121
  let main_c_38 : IVec S_ 1 := constantI S_ 1 1#1
  let main_v123 : IVec S_ 1 := (fun x v => Host.reduce IntOp.andi x v reducesTo_S384x160_S_d0_1 h_S_) main_v122 main_c_38
  let main_v124 : IVec S_ 1 := andi main_v105 main_v123
  main_v124

def fn_part5 {F : FTy → Type} [FloatOps F] (main_arg0 : IVec S384 32) (main_arg1 : IVec S384 32) (main_arg2 : IVec S384 32) (main_arg4 : IVec S160 32) (main_arg5 : IVec S1 32) (main_v0 : IVec S383 32) (main_v81 : IVec S_ 1) (main_v86 : IVec S383 1) (main_v87 : IVec S383 32) : IVec S_ 1 :=
  let main_v88 : IVec S383 32 := (extractStridedSlice S383 ![0] · slices_S384_S383_0) main_arg2
  let main_v89 : IVec S383 1 := cmpi .eq main_v87 main_v88
  let main_c_31 : IVec S_ 32 := constantI S_ 32 8#32
  let main_v90 : IVec S383 32 := broadcastInDim S383 ![] bcast_S_S383 main_c_31
  let main_v91 : IVec S383 1 := cmpi .sle main_v0 main_v90
  let main_v92 : IVec S383 1 := andi main_v89 main_v91
  let main_c_32 : IVec S_ 1 := constantI S_ 1 1#1
  let main_v93 : IVec S383 1 := fn_where_1 (F := F) main_v86 main_v92 main_c_32
  let main_c_33 : IVec S_ 1 := constantI S_ 1 1#1
  let main_v94 : IVec S_ 1 := (fun x v => Host.reduce IntOp.andi x v reducesTo_S383_S_d0 h_S_) main_v93 main_c_33
  let main_v95 : IVec S_ 1 := andi main_v81 main_v94
  let main_c_34 : IVec S_ 32 := constantI S_ 32 10#32
  let main_v96 : IVec S384 32 := broadcastInDim S384 ![] bcast_S_S384 main_c_34
  let main_v97 : IVec S384 1 := cmpi .eq main_arg1 main_v96
  let main_c_35 : IVec S_ 32 := constantI S_ 32 8#32
  let main_v98 : IVec S384 32 := broadcastInDim S384 ![] bcast_S_S384 main_c_35
  let main_v99 : IVec S384 1 := cmpi .sle main_arg1 main_v98
  let main_v100 : IVec S384 32 := broadcastInDim S384 ![0] bcast_S1_S384_0 main_arg5
  let main_v101 : IVec S384 1 := cmpi .slt main_arg0 main_v100
  let main_v102 : IVec S384 1 := cmpi .eq main_v99 main_v101
  let main_v103 : IVec S384 1 := ori main_v97 main_v102
  let main_c_36 : IVec S_ 1 := constantI S_ 1 1#1
  let main_v104 : IVec S_ 1 := (fun x v => Host.reduce IntOp.andi x v reducesTo_S384_S_d0 h_S_) main_v103 main_c_36
  let main_v105 : IVec S_ 1 := andi main_v95 main_v104
  fn_part6 (F := F) main_arg0 main_arg1 main_arg2 main_arg4 main_v105

def fn_part4 {F : FTy → Type} [FloatOps F] (main_arg0 : IVec S384 32) (main_arg1 : IVec S384 32) (main_arg2 : IVec S384 32) (main_arg4 : IVec S160 32) (main_arg5 : IVec S1 32) (main_v0 : IVec S383 32) (main_v1 : IVec S383 32) (main_v6 : IVec S383 1) (main_v56 : IVec S_ 1) (main_v57 : IVec S383 32) (main_v65 : IVec S383 1) (main_v68 : IVec S383 32) (main_v69 : IVec S383 32) : IVec S_ 1 :=
  let main_v70 : IVec S383 32 := fn_where (F := F) main_v65 main_v68 main_v69
  let main_v71 : IVec S383 1 := cmpi .eq main_v57 main_v70
  let main_c_25 : IVec S_ 1 := constantI S_ 1 1#1
  let main_v72 : IVec S_ 1 := (fun x v => Host.reduce IntOp.andi x v reducesTo_S383_S_d0 h_S_) main_v71 main_c_25
  let main_v73 : IVec S_ 1 := andi main_v56 main_v72
  let main_c_26 : IVec S_ 32 := constantI S_ 32 7#32
  let main_v74 : IVec S383 32 := broadcastInDim S383 ![] bcast_S_S383 main_c_26
  let main_v75 : IVec S383 1 := cmpi .slt main_v0 main_v74
  let main_c_27 : IVec S_ 32 := constantI S_ 32 1#32
  let main_v76 : IVec S383 32 := broadcastInDim S383 ![] bcast_S_S383 main_c_27
  let main_v77 : IVec S383 32 := addi main_v0 main_v76
  let main_v78 : IVec S383 1 := cmpi .eq main_v1 main_v77
  let main_v79 : IVec S383 1 := fn_where_0 (F := F) main_v75 main_v78 main_v6
  let main_c_28 : IVec S_ 1 := constantI S_ 1 1#1
  let main_v80 : IVec S_ 1 := (fun x v => Host.reduce IntOp.andi x v reducesTo_S383_S_d0 h_S_) main_v79 main_c_28
  let main_v81 : IVec S_ 1 := andi main_v73 main_v80
  let main_c_29 : IVec S_ 32 := constantI S_ 32 1#32
  let main_v82 : IVec S383 32 := broadcastInDim S383 ![] bcast_S_S383 main_c_29
  let main_v83 : IVec S383 1 := cmpi .sge main_v1 main_v82
  let main_c_30 : IVec S_ 32 := constantI S_ 32 8#32
  let main_v84 : IVec S383 32 := broadcastInDim S383 ![] bcast_S_S383 main_c_30
  let main_v85 : IVec S383 1 := cmpi .sle main_v1 main_v84
  let main_v86 : IVec S383 1 := andi main_v83 main_v85
  let main_v87 : IVec S383 32 := (extractStridedSlice S383 ![1] · slices_S384_S383_1) main_arg2
  fn_part5 (F := F) main_arg0 main_arg1 main_arg2 main_arg4 main_arg5 main_v0 main_v81 main_v86 main_v87

def fn_part3 {F : FTy → Type} [FloatOps F] (main_arg0 : IVec S384 32) (main_arg1 : IVec S384 32) (main_arg2 : IVec S384 32) (main_arg4 : IVec S160 32) (main_arg5 : IVec S1 32) (main_v0 : IVec S383 32) (main_v1 : IVec S383 32) (main_v6 : IVec S383 1) (main_v47 : IVec S_ 1) (main_v50 : IVec S1 1) (main_v51 : IVec S1 32) : IVec S_ 1 :=
  let main_c_19 : IVec S_ 32 := constantI S_ 32 159#32
  let main_v52 : IVec S1 32 := broadcastInDim S1 ![] bcast_S_S1 main_c_19
  let main_v53 : IVec S1 1 := cmpi .eq main_v51 main_v52
  let main_v54 : IVec S1 1 := andi main_v50 main_v53
  let main_c_20 : IVec S_ 1 := constantI S_ 1 1#1
  let main_v55 : IVec S_ 1 := (fun x v => Host.reduce IntOp.andi x v reducesTo_S1_S_d0 h_S_) main_v54 main_c_20
  let main_v56 : IVec S_ 1 := andi main_v47 main_v55
  let main_v57 : IVec S383 32 := (extractStridedSlice S383 ![1] · slices_S384_S383_1) main_arg0
  let main_c_21 : IVec S_ 32 := constantI S_ 32 0#32
  let main_v58 : IVec S383 32 := broadcastInDim S383 ![] bcast_S_S383 main_c_21
  let main_v59 : IVec S383 1 := cmpi .eq main_v1 main_v58
  let main_c_22 : IVec S_ 32 := constantI S_ 32 8#32
  let main_v60 : IVec S383 32 := broadcastInDim S383 ![] bcast_S_S383 main_c_22
  let main_v61 : IVec S383 1 := cmpi .eq main_v1 main_v60
  let main_v62 : IVec S383 1 := ori main_v59 main_v61
  let main_c_23 : IVec S_ 32 := constantI S_ 32 9#32
  let main_v63 : IVec S383 32 := broadcastInDim S383 ![] bcast_S_S383 main_c_23
  let main_v64 : IVec S383 1 := cmpi .eq main_v1 main_v63
  let main_v65 : IVec S383 1 := ori main_v62 main_v64
  let main_v66 : IVec S383 32 := (extractStridedSlice S383 ![0] · slices_S384_S383_0) main_arg0
  let main_c_24 : IVec S_ 32 := constantI S_ 32 1#32
  let main_v67 : IVec S383 32 := broadcastInDim S383 ![] bcast_S_S383 main_c_24
  let main_v68 : IVec S383 32 := addi main_v66 main_v67
  let main_v69 : IVec S383 32 := (extractStridedSlice S383 ![0] · slices_S384_S383_0) main_arg0
  fn_part4 (F := F) main_arg0 main_arg1 main_arg2 main_arg4 main_arg5 main_v0 main_v1 main_v6 main_v56 main_v57 main_v65 main_v68 main_v69

def fn_part2 {F : FTy → Type} [FloatOps F] (main_arg0 : IVec S384 32) (main_arg1 : IVec S384 32) (main_arg2 : IVec S384 32) (main_arg4 : IVec S160 32) (main_arg5 : IVec S1 32) (main_v0 : IVec S383 32) (main_v1 : IVec S383 32) (main_v6 : IVec S383 1) (main_v31 : IVec S_ 1) (main_v33 : IVec S160 1) : IVec S_ 1 :=
  let main_c_13 : IVec S_ 32 := constantI S_ 32 32#32
  let main_v34 : IVec S160 32 := broadcastInDim S160 ![] bcast_S_S160 main_c_13
  let main_v35 : IVec S160 1 := cmpi .slt main_arg4 main_v34
  let main_v36 : IVec S160 1 := andi main_v33 main_v35
  let main_c_14 : IVec S_ 1 := constantI S_ 1 1#1
  let main_v37 : IVec S_ 1 := (fun x v => Host.reduce IntOp.andi x v reducesTo_S160_S_d0 h_S_) main_v36 main_c_14
  let main_v38 : IVec S_ 1 := andi main_v31 main_v37
  let main_v39 : IVec S1 32 := (extractStridedSlice S1 ![0] · slices_S384_S1_0) main_arg1
  let main_c_15 : IVec S_ 32 := constantI S_ 32 0#32
  let main_v40 : IVec S1 32 := broadcastInDim S1 ![] bcast_S_S1 main_c_15
  let main_v41 : IVec S1 1 := cmpi .eq main_v39 main_v40
  let main_v42 : IVec S1 32 := (extractStridedSlice S1 ![0] · slices_S384_S1_0) main_arg0
  let main_c_16 : IVec S_ 32 := constantI S_ 32 0#32
  let main_v43 : IVec S1 32 := broadcastInDim S1 ![] bcast_S_S1 main_c_16
  let main_v44 : IVec S1 1 := cmpi .eq main_v42 main_v43
  let main_v45 : IVec S1 1 := andi main_v41 main_v44
  let main_c_17 : IVec S_ 1 := constantI S_ 1 1#1
  let main_v46 : IVec S_ 1 := (fun x v => Host.reduce IntOp.andi x v reducesTo_S1_S_d0 h_S_) main_v45 main_c_17
  let main_v47 : IVec S_ 1 := andi main_v38 main_v46
  let main_v48 : IVec S1 32 := (extractStridedSlice S1 ![383] · slices_S384_S1_383) main_arg1
  let main_c_18 : IVec S_ 32 := constantI S_ 32 7#32
  let main_v49 : IVec S1 32 := broadcastInDim S1 ![] bcast_S_S1 main_c_18
  let main_v50 : IVec S1 1 := cmpi .sge main_v48 main_v49
  let main_v51 : IVec S1 32 := (extractStridedSlice S1 ![383] · slices_S384_S1_383) main_arg0
  fn_part3 (F := F) main_arg0 main_arg1 main_arg2 main_arg4 main_arg5 main_v0 main_v1 main_v6 main_v47 main_v50 main_v51

def fn_part1 {F : FTy → Type} [FloatOps F] (main_arg0 : IVec S384 32) (main_arg1 : IVec S384 32) (main_arg2 : IVec S384 32) (main_arg3 : IVec S384 32) (main_arg4 : IVec S160 32) (main_arg5 : IVec S1 32) (main_v0 : IVec S383 32) (main_v1 : IVec S383 32) (main_v6 : IVec S383 1) (main_v12 : IVec S_ 1) (main_v14 : IVec S384 1) (main_v16 : IVec S384 1) : IVec S_ 1 :=
  let main_v17 : IVec S384 1 := andi main_v14 main_v16
  let main_c_6 : IVec S_ 1 := constantI S_ 1 1#1
  let main_v18 : IVec S_ 1 := (fun x v => Host.reduce IntOp.andi x v reducesTo_S384_S_d0 h_S_) main_v17 main_c_6
  let main_v19 : IVec S_ 1 := andi main_v12 main_v18
  let main_c_7 : IVec S_ 32 := constantI S_ 32 0#32
  let main_v20 : IVec S384 32 := broadcastInDim S384 ![] bcast_S_S384 main_c_7
  let main_v21 : IVec S384 1 := cmpi .sge main_arg2 main_v20
  let main_c_8 : IVec S_ 32 := constantI S_ 32 32#32
  let main_v22 : IVec S384 32 := broadcastInDim S384 ![] bcast_S_S384 main_c_8
  let main_v23 : IVec S384 1 := cmpi .slt main_arg2 main_v22
  let main_v24 : IVec S384 1 := andi main_v21 main_v23
  let main_c_9 : IVec S_ 1 := constantI S_ 1 1#1
  let main_v25 : IVec S_ 1 := (fun x v => Host.reduce IntOp.andi x v reducesTo_S384_S_d0 h_S_) main_v24 main_c_9
  let main_v26 : IVec S_ 1 := andi main_v19 main_v25
  let main_c_10 : IVec S_ 32 := constantI S_ 32 7#32
  let main_v27 : IVec S384 32 := broadcastInDim S384 ![] bcast_S_S384 main_c_10
  let main_v28 : IVec S384 32 := minsi main_arg1 main_v27
  let main_v29 : IVec S384 1 := cmpi .eq main_arg3 main_v28
  let main_c_11 : IVec S_ 1 := constantI S_ 1 1#1
  let main_v30 : IVec S_ 1 := (fun x v => Host.reduce IntOp.andi x v reducesTo_S384_S_d0 h_S_) main_v29 main_c_11
  let main_v31 : IVec S_ 1 := andi main_v26 main_v30
  let main_c_12 : IVec S_ 32 := constantI S_ 32 0#32
  let main_v32 : IVec S160 32 := broadcastInDim S160 ![] bcast_S_S160 main_c_12
  let main_v33 : IVec S160 1 := cmpi .sge main_arg4 main_v32
  fn_part2 (F := F) main_arg0 main_arg1 main_arg2 main_arg4 main_arg5 main_v0 main_v1 main_v6 main_v31 main_v33

def fn {F : FTy → Type} [FloatOps F] (main_arg0 : IVec S384 32) (main_arg1 : IVec S384 32) (main_arg2 : IVec S384 32) (main_arg3 : IVec S384 32) (main_arg4 : IVec S160 32) (main_arg5 : IVec S1 32) (main_arg6 : FVec F S81920x2048 .bf16) (main_arg7 : FVec F S32x2048x4096 .f32) (main_arg8 : FVec F S32x1x4096 .f32) (main_arg9 : FVec F S32x2048x2048 .f32) (main_arg10 : FVec F S32x1x2048 .f32) : IVec S_ 1 :=
  let main_v0 : IVec S383 32 := (extractStridedSlice S383 ![0] · slices_S384_S383_0) main_arg1
  let main_v1 : IVec S383 32 := (extractStridedSlice S383 ![1] · slices_S384_S383_1) main_arg1
  let main_c : IVec S_ 32 := constantI S_ 32 0#32
  let main_v2 : IVec S383 32 := broadcastInDim S383 ![] bcast_S_S383 main_c
  let main_v3 : IVec S383 1 := cmpi .eq main_v1 main_v2
  let main_c_0 : IVec S_ 32 := constantI S_ 32 8#32
  let main_v4 : IVec S383 32 := broadcastInDim S383 ![] bcast_S_S383 main_c_0
  let main_v5 : IVec S383 1 := cmpi .sge main_v1 main_v4
  let main_v6 : IVec S383 1 := ori main_v3 main_v5
  let main_c_1 : IVec S_ 32 := constantI S_ 32 0#32
  let main_v7 : IVec S384 32 := broadcastInDim S384 ![] bcast_S_S384 main_c_1
  let main_v8 : IVec S384 1 := cmpi .sge main_arg1 main_v7
  let main_c_2 : IVec S_ 32 := constantI S_ 32 10#32
  let main_v9 : IVec S384 32 := broadcastInDim S384 ![] bcast_S_S384 main_c_2
  let main_v10 : IVec S384 1 := cmpi .sle main_arg1 main_v9
  let main_v11 : IVec S384 1 := andi main_v8 main_v10
  let main_c_3 : IVec S_ 1 := constantI S_ 1 1#1
  let main_v12 : IVec S_ 1 := (fun x v => Host.reduce IntOp.andi x v reducesTo_S384_S_d0 h_S_) main_v11 main_c_3
  let main_c_4 : IVec S_ 32 := constantI S_ 32 0#32
  let main_v13 : IVec S384 32 := broadcastInDim S384 ![] bcast_S_S384 main_c_4
  let main_v14 : IVec S384 1 := cmpi .sge main_arg0 main_v13
  let main_c_5 : IVec S_ 32 := constantI S_ 32 160#32
  let main_v15 : IVec S384 32 := broadcastInDim S384 ![] bcast_S_S384 main_c_5
  let main_v16 : IVec S384 1 := cmpi .slt main_arg0 main_v15
  fn_part1 (F := F) main_arg0 main_arg1 main_arg2 main_arg3 main_arg4 main_arg5 main_v0 main_v1 main_v6 main_v12 main_v14 main_v16
-- ==== Kernel.lean ====
abbrev S16384x12288 : Shape := ⟨2, ![16384, 12288]⟩
abbrev S16384x128 : Shape := ⟨2, ![16384, 128]⟩
abbrev S8x128x2048 : Shape := ⟨3, ![8, 128, 2048]⟩
abbrev S16384x2048 : Shape := ⟨2, ![16384, 2048]⟩
abbrev S2048x128 : Shape := ⟨2, ![2048, 128]⟩
abbrev S1x128x2048 : Shape := ⟨3, ![1, 128, 2048]⟩
abbrev S8x256x256 : Shape := ⟨3, ![8, 256, 256]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x1x256 : Shape := ⟨3, ![1, 1, 256]⟩
abbrev S1x256 : Shape := ⟨2, ![1, 256]⟩
abbrev S1x256x256 : Shape := ⟨3, ![1, 256, 256]⟩

abbrev nBuf : Space → Nat
  | .hbm => 4
  | .vmem => 17
  | .smem => 0
  | _ => 0

abbrev bufTy : (tb : Table) → Fin (tcTables nBuf tb) → BufTy
  | .hbm, ⟨0, _⟩ => ⟨S16384x12288, .bf16⟩
  | .hbm, ⟨1, _⟩ => ⟨S16384x128, .f32⟩
  | .hbm, ⟨2, _⟩ => ⟨S8x128x2048, .f32⟩
  | .hbm, ⟨3, _⟩ => ⟨S16384x2048, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S1x128x2048, .f32⟩
  | .local _ .vmem, ⟨9, _⟩ => ⟨S1x128x2048, .f32⟩
  | .local _ .vmem, ⟨10, _⟩ => ⟨S2048x128, .bf16⟩
  | .local _ .vmem, ⟨11, _⟩ => ⟨S2048x128, .bf16⟩
  | .local _ .vmem, ⟨12, _⟩ => ⟨S8x256x256, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_off1 (i : grid0.Coords) : Fin 3 → Nat :=
  let c0_11 : Index := 0#32
  let c32_i32_10 : BitVec 32 := 32#32
  let arg1 : BitVec 32 := BitVec.ofNat 32 (i 1).val
  let v26 : BitVec 32 := Scalar.addi c32_i32_10 arg1
  let v27 : Index := Scalar.indexCast v26
  let c0_12 : Index := 0#32
  ![0, v27.toNat, 0]
def k0_off2 (i : grid0.Coords) : Fin 3 → Nat :=
  let c0_89 : Index := 0#32
  let c32_i32_88 : BitVec 32 := 32#32
  let arg1 : BitVec 32 := BitVec.ofNat 32 (i 1).val
  let v150 : BitVec 32 := Scalar.addi c32_i32_88 arg1
  let v151 : Index := Scalar.indexCast v150
  let c256_90 : Index := 256#32
  ![0, v151.toNat, 256]
def k0_off3 (i : grid0.Coords) : Fin 3 → Nat :=
  let c0_197 : Index := 0#32
  let c32_i32_196 : BitVec 32 := 32#32
  let arg1 : BitVec 32 := BitVec.ofNat 32 (i 1).val
  let v323 : BitVec 32 := Scalar.addi c32_i32_196 arg1
  let v324 : Index := Scalar.indexCast v323
  let c512_198 : Index := 512#32
  ![0, v324.toNat, 512]
def k0_off4 (i : grid0.Coords) : Fin 3 → Nat :=
  let c0_336 : Index := 0#32
  let c32_i32_335 : BitVec 32 := 32#32
  let arg1 : BitVec 32 := BitVec.ofNat 32 (i 1).val
  let v545 : BitVec 32 := Scalar.addi c32_i32_335 arg1
  let v546 : Index := Scalar.indexCast v545
  let c768_337 : Index := 768#32
  ![0, v546.toNat, 768]
def k0_off5 (i : grid0.Coords) : Fin 3 → Nat :=
  let c0_506 : Index := 0#32
  let c32_i32_505 : BitVec 32 := 32#32
  let arg1 : BitVec 32 := BitVec.ofNat 32 (i 1).val
  let v816 : BitVec 32 := Scalar.addi c32_i32_505 arg1
  let v817 : Index := Scalar.indexCast v816
  let c1024_507 : Index := 1024#32
  ![0, v817.toNat, 1024]
def k0_off6 (i : grid0.Coords) : Fin 3 → Nat :=
  let c0_707 : Index := 0#32
  let c32_i32_706 : BitVec 32 := 32#32
  let arg1 : BitVec 32 := BitVec.ofNat 32 (i 1).val
  let v1136 : BitVec 32 := Scalar.addi c32_i32_706 arg1
  let v1137 : Index := Scalar.indexCast v1136
  let c1280_708 : Index := 1280#32
  ![0, v1137.toNat, 1280]
def k0_off7 (i : grid0.Coords) : Fin 3 → Nat :=
  let c0_939 : Index := 0#32
  let c32_i32_938 : BitVec 32 := 32#32
  let arg1 : BitVec 32 := BitVec.ofNat 32 (i 1).val
  let v1505 : BitVec 32 := Scalar.addi c32_i32_938 arg1
  let v1506 : Index := Scalar.indexCast v1505
  let c1536_940 : Index := 1536#32
  ![0, v1506.toNat, 1536]
def k0_off8 (i : grid0.Coords) : Fin 3 → Nat :=
  let c0_1202 : Index := 0#32
  let c32_i32_1201 : BitVec 32 := 32#32
  let arg1 : BitVec 32 := BitVec.ofNat 32 (i 1).val
  let v1923 : BitVec 32 := Scalar.addi c32_i32_1201 arg1
  let v1924 : Index := Scalar.indexCast v1923
  let c1792_1203 : Index := 1792#32
  ![0, v1924.toNat, 1792]
def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | "s" => some (((Real.sqrt 128)⁻¹ : ℝ) : EReal)
  | _ => none
-- ==== ReferenceIdeal.lean ====
abbrev S16384x12288 : Shape := ⟨2, ![16384, 12288]⟩
abbrev S16384x128 : Shape := ⟨2, ![16384, 128]⟩
abbrev S8x128x2048 : Shape := ⟨3, ![8, 128, 2048]⟩
abbrev S8x2048x12288 : Shape := ⟨3, ![8, 2048, 12288]⟩
abbrev S8x2048x2048 : Shape := ⟨3, ![8, 2048, 2048]⟩
abbrev S8x2048x16x128 : Shape := ⟨4, ![8, 2048, 16, 128]⟩
abbrev S8x2048x128 : Shape := ⟨3, ![8, 2048, 128]⟩
abbrev S8x2048x16 : Shape := ⟨3, ![8, 2048, 16]⟩
abbrev S8x16x2048 : Shape := ⟨3, ![8, 16, 2048]⟩
abbrev S8x16x2048x128 : Shape := ⟨4, ![8, 16, 2048, 128]⟩
abbrev S8x16x2048x2048 : Shape := ⟨4, ![8, 16, 2048, 2048]⟩
abbrev S_ : Shape := ⟨0, ![]⟩
abbrev S8x16x2048x1 : Shape := ⟨4, ![8, 16, 2048, 1]⟩
abbrev S8x16x1x2048 : Shape := ⟨4, ![8, 16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16384x2048 : Shape := ⟨2, ![16384, 2048]⟩

abbrev nBuf : Space → Nat
  | .hbm => 59
  | .vmem => 0
  | .smem => 0
  | _ => 0

abbrev bufTy : (tb : Table) → Fin (tcTables nBuf tb) → BufTy
  | .hbm, ⟨0, _⟩ => ⟨S16384x12288, .bf16⟩
  | .hbm, ⟨1, _⟩ => ⟨S16384x128, .f32⟩
  | .hbm, ⟨2, _⟩ => ⟨S8x128x2048, .f32⟩
  | .hbm, ⟨3, _⟩ => ⟨S16384x12288, .f32⟩
  | .hbm, ⟨4, _⟩ => ⟨S8x2048x12288, .f32⟩
  | .hbm, ⟨5, _⟩ => ⟨S8x2048x2048, .f32⟩
  | .hbm, ⟨6, _⟩ => ⟨S8x2048x16x128, .f32⟩
  | .hbm, ⟨7, _⟩ => ⟨S8x2048x2048, .f32⟩
  | .hbm, ⟨8, _⟩ => ⟨S8x2048x16x128, .f32⟩
  | .hbm, ⟨9, _⟩ => ⟨S8x2048x2048, .f32⟩
  | .hbm, ⟨10, _⟩ => ⟨S8x2048x16x128, .f32⟩
  | .hbm, ⟨11, _⟩ => ⟨S8x2048x128, .f32⟩
  | .hbm, ⟨12, _⟩ => ⟨S8x2048x16, .f32⟩
  | .hbm, ⟨13, _⟩ => ⟨S8x16x2048, .f32⟩
  | .hbm, ⟨14, _⟩ => ⟨S8x16x2048, .f32⟩
  | .hbm, ⟨15, _⟩ => ⟨S8x16x2048x128, .f32⟩
  | .hbm, ⟨16, _⟩ => ⟨S8x16x2048x128, .f32⟩
  | .hbm, ⟨17, _⟩ => ⟨S8x16x2048x128, .f32⟩
  | .hbm, ⟨18, _⟩ => ⟨S8x16x2048x2048, .f32⟩
  | .hbm, ⟨19, _⟩ => ⟨S_, .f32⟩
  | .hbm, ⟨20, _⟩ => ⟨S_, .f32⟩
  | .hbm, ⟨21, _⟩ => ⟨S8x16x2048x2048, .f32⟩
  | .hbm, ⟨22, _⟩ => ⟨S8x16x2048x2048, .f32⟩
  | .hbm, ⟨23, _⟩ => ⟨S8x16x2048x1, .f32⟩
  | .hbm, ⟨24, _⟩ => ⟨S8x16x1x2048, .f32⟩
  | .hbm, ⟨25, _⟩ => ⟨S8x16x2048x2048, .f32⟩
  | .hbm, ⟨26, _⟩ => ⟨S8x16x2048x2048, .f32⟩
  | .hbm, ⟨27, _⟩ => ⟨S8x16x2048x2048, .f32⟩
  | .hbm, ⟨28, _⟩ => ⟨S8x16x2048x2048, .f32⟩
  | .hbm, ⟨29, _⟩ => ⟨S2048, .i32⟩
  | .hbm, ⟨30, _⟩ => ⟨S1x2048, .i32⟩
  | .hbm, ⟨31, _⟩ => ⟨S2048, .i32⟩
  | .hbm, ⟨32, _⟩ => ⟨S2048x1, .i32⟩
  | .hbm, ⟨33, _⟩ => ⟨S2048x2048, .i32⟩
  | .hbm, ⟨34, _⟩ => ⟨S2048x2048, .i32⟩
  | .hbm, ⟨35, _⟩ => ⟨S2048x2048, .i1⟩
  | .hbm, ⟨36, _⟩ => ⟨S_, .f32⟩
  | .hbm, ⟨37, _⟩ => ⟨S_, .f32⟩
  | .hbm, ⟨38, _⟩ => ⟨S8x16x2048x2048, .i1⟩
  | .hbm, ⟨39, _⟩ => ⟨S8x16x2048x2048, .f32⟩
  | .hbm, ⟨40, _⟩ => ⟨S8x16x2048x2048, .f32⟩
  | .hbm, ⟨41, _⟩ => ⟨S_, .f32⟩
  | .hbm, ⟨42, _⟩ => ⟨S8x16x2048, .f32⟩
  | .hbm, ⟨43, _⟩ => ⟨S_, .f32⟩
  | .hbm, ⟨44, _⟩ => ⟨S8x16x2048, .f32⟩
  | .hbm, ⟨45, _⟩ => ⟨S8x16x2048, .f32⟩
  | .hbm, ⟨46, _⟩ => ⟨S8x16x2048x1, .f32⟩
  | .hbm, ⟨47, _⟩ => ⟨S8x16x2048x2048, .f32⟩
  | .hbm, ⟨48, _⟩ => ⟨S8x16x2048x2048, .f32⟩
  | .hbm, ⟨49, _⟩ => ⟨S8x16x2048x2048, .f32⟩
  | .hbm, ⟨50, _⟩ => ⟨S_, .f32⟩
  | .hbm, ⟨51, _⟩ => ⟨S8x16x2048, .f32⟩
  | .hbm, ⟨52, _⟩ => ⟨S8x16x2048x1, .f32⟩
  | .hbm, ⟨53, _⟩ => ⟨S8x16x2048x2048, .f32⟩
  | .hbm, ⟨54, _⟩ => ⟨S8x16x2048x2048, .f32⟩
  | .hbm, ⟨55, _⟩ => ⟨S8x16x2048x128, .f32⟩
  | .hbm, ⟨56, _⟩ => ⟨S8x2048x16x128, .f32⟩
  | .hbm, ⟨57, _⟩ => ⟨S16384x2048, .f32⟩
  | .hbm, ⟨58, _⟩ => ⟨S16384x2048, .bf16⟩
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_cst_0 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== InProj.lean ====
abbrev S16384x2048 : Shape := ⟨2, ![16384, 2048]⟩
abbrev S1x2048 : Shape := ⟨2, ![1, 2048]⟩
abbrev S2048x12288 : Shape := ⟨2, ![2048, 12288]⟩
abbrev S2048x128 : Shape := ⟨2, ![2048, 128]⟩
abbrev S16384x12288 : Shape := ⟨2, ![16384, 12288]⟩
abbrev S16384x128 : Shape := ⟨2, ![16384, 128]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x12288, .bf16⟩
  | .hbm, ⟨3, _⟩ => ⟨S2048x128, .bf16⟩
  | .hbm, ⟨4, _⟩ => ⟨S16384x12288, .bf16⟩
  | .hbm, ⟨5, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefInProjIdeal.lean ====
abbrev S16384x2048 : Shape := ⟨2, ![16384, 2048]⟩
abbrev S1x2048 : Shape := ⟨2, ![1, 2048]⟩
abbrev S2048x12288 : Shape := ⟨2, ![2048, 12288]⟩
abbrev S2048x128 : Shape := ⟨2, ![2048, 128]⟩
abbrev S_ : Shape := ⟨0, ![]⟩
abbrev S16384 : Shape := ⟨1, ![16384]⟩
abbrev S16384x1 : Shape := ⟨2, ![16384, 1]⟩
abbrev S16384x12288 : Shape := ⟨2, ![16384, 12288]⟩
abbrev S16384x128 : Shape := ⟨2, ![16384, 128]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x12288, .bf16⟩
  | .hbm, ⟨3, _⟩ => ⟨S2048x128, .bf16⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S2048x12288, .f32⟩
  | .hbm, ⟨20, _⟩ => ⟨S16384x12288, .f32⟩
  | .hbm, ⟨21, _⟩ => ⟨S16384x12288, .bf16⟩
  | .hbm, ⟨22, _⟩ => ⟨S2048x128, .f32⟩
  | .hbm, ⟨23, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== OutProj.lean ====
abbrev S16384x2048 : Shape := ⟨2, ![16384, 2048]⟩
abbrev S4096x2048 : Shape := ⟨2, ![4096, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x2048, .bf16⟩
  | .hbm, ⟨3, _⟩ => ⟨S16384x2048, .f32⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefOutProjIdeal.lean ====
abbrev S16384x2048 : Shape := ⟨2, ![16384, 2048]⟩
abbrev S4096x2048 : Shape := ⟨2, ![4096, 2048]⟩
abbrev S16384x4096 : Shape := ⟨2, ![16384, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x2048, .bf16⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S16384x4096, .f32⟩
  | .hbm, ⟨7, _⟩ => ⟨S4096x2048, .f32⟩
  | .hbm, ⟨8, _⟩ => ⟨S16384x2048, .f32⟩
  | .hbm, ⟨9, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== XaQ.lean ====
abbrev S16384x2048 : Shape := ⟨2, ![16384, 2048]⟩
abbrev S1x2048 : Shape := ⟨2, ![1, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x2048, .bf16⟩
  | .hbm, ⟨3, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefXaQIdeal.lean ====
abbrev S16384x2048 : Shape := ⟨2, ![16384, 2048]⟩
abbrev S1x2048 : Shape := ⟨2, ![1, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x2048, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S2048x2048, .f32⟩
  | .hbm, ⟨19, _⟩ => ⟨S16384x2048, .f32⟩
  | .hbm, ⟨20, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== XaKv.lean ====
abbrev S2048x2048 : Shape := ⟨2, ![2048, 2048]⟩
abbrev S1x2048 : Shape := ⟨2, ![1, 2048]⟩
abbrev S2048x4096 : Shape := ⟨2, ![2048, 4096]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x4096, .bf16⟩
  | .hbm, ⟨3, _⟩ => ⟨S2048x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefXaKvIdeal.lean ====
abbrev S2048x2048 : Shape := ⟨2, ![2048, 2048]⟩
abbrev S1x2048 : Shape := ⟨2, ![1, 2048]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x4096, .bf16⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x4096, .f32⟩
  | .hbm, ⟨19, _⟩ => ⟨S2048x4096, .f32⟩
  | .hbm, ⟨20, _⟩ => ⟨S2048x4096, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Xattn.lean ====
abbrev S16384x2048 : Shape := ⟨2, ![16384, 2048]⟩
abbrev S2048x4096 : Shape := ⟨2, ![2048, 4096]⟩
abbrev S512x2048 : Shape := ⟨2, ![512, 2048]⟩
abbrev S256x4096 : Shape := ⟨2, ![256, 4096]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .bf16⟩
  | .hbm, ⟨2, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S256x4096, .bf16⟩
  | .local _ .vmem, ⟨3, _⟩ => ⟨S256x4096, .bf16⟩
  | .local _ .vmem, ⟨4, _⟩ => ⟨S512x2048, .bf16⟩
  | .local _ .vmem, ⟨5, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XattnIdeal.lean ====
variable {F : FTy → Type} [FloatOps F] [Named F]
def κ : String → Option EReal := fun
  | "xs" => some (((Real.sqrt 512)⁻¹ : ℝ) : EReal)
  | _ => none
-- ==== RefXattnIdeal.lean ====
abbrev S16384x2048 : Shape := ⟨2, ![16384, 2048]⟩
abbrev S2048x4096 : Shape := ⟨2, ![2048, 4096]⟩
abbrev S8x2048x4x512 : Shape := ⟨4, ![8, 2048, 4, 512]⟩
abbrev S8x256x4096 : Shape := ⟨3, ![8, 256, 4096]⟩
abbrev S8x256x2048 : Shape := ⟨3, ![8, 256, 2048]⟩
abbrev S8x256x4x512 : Shape := ⟨4, ![8, 256, 4, 512]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x512x2048 : Shape := ⟨4, ![8, 4, 512, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .bf16⟩
  | .hbm, ⟨2, _⟩ => ⟨S16384x2048, .f32⟩
  | .hbm, ⟨3, _⟩ => ⟨S8x2048x4x512, .f32⟩
  | .hbm, ⟨4, _⟩ => ⟨S2048x4096, .f32⟩
  | .hbm, ⟨5, _⟩ => ⟨S8x256x4096, .f32⟩
  | .hbm, ⟨6, _⟩ => ⟨S8x256x2048, .f32⟩
  | .hbm, ⟨7, _⟩ => ⟨S8x256x4x512, .f32⟩
  | .hbm, ⟨8, _⟩ => ⟨S8x256x2048, .f32⟩
  | .hbm, ⟨9, _⟩ => ⟨S8x256x4x512, .f32⟩
  | .hbm, ⟨10, _⟩ => ⟨S8x4x2048x256, .f32⟩
  | .hbm, ⟨11, _⟩ => ⟨S_, .f32⟩
  | .hbm, ⟨12, _⟩ => ⟨S_, .f32⟩
  | .hbm, ⟨13, _⟩ => ⟨S8x4x2048x256, .f32⟩
  | .hbm, ⟨14, _⟩ => ⟨S8x4x2048x256, .f32⟩
  | .hbm, ⟨15, _⟩ => ⟨S_, .f32⟩
  | .hbm, ⟨16, _⟩ => ⟨S8x4x2048, .f32⟩
  | .hbm, ⟨17, _⟩ => ⟨S_, .f32⟩
  | .hbm, ⟨18, _⟩ => ⟨S8x4x2048, .f32⟩
  | .hbm, ⟨19, _⟩ => ⟨S8x4x2048, .f32⟩
  | .hbm, ⟨20, _⟩ => ⟨S8x4x2048x1, .f32⟩
  | .hbm, ⟨21, _⟩ => ⟨S8x4x2048x256, .f32⟩
  | .hbm, ⟨22, _⟩ => ⟨S8x4x2048x256, .f32⟩
  | .hbm, ⟨23, _⟩ => ⟨S8x4x2048x256, .f32⟩
  | .hbm, ⟨24, _⟩ => ⟨S_, .f32⟩
  | .hbm, ⟨25, _⟩ => ⟨S8x4x2048, .f32⟩
  | .hbm, ⟨26, _⟩ => ⟨S8x4x2048x1, .f32⟩
  | .hbm, ⟨27, _⟩ => ⟨S8x4x2048x256, .f32⟩
  | .hbm, ⟨28, _⟩ => ⟨S8x4x2048x256, .f32⟩
  | .hbm, ⟨29, _⟩ => ⟨S8x4x512x2048, .f32⟩
  | .hbm, ⟨30, _⟩ => ⟨S8x2048x4x512, .f32⟩
  | .hbm, ⟨31, _⟩ => ⟨S16384x2048, .f32⟩
  | .hbm, ⟨32, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== XaO.lean ====
abbrev S16384x2048 : Shape := ⟨2, ![16384, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefXaOIdeal.lean ====
abbrev S16384x2048 : Shape := ⟨2, ![16384, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S16384x2048, .f32⟩
  | .hbm, ⟨4, _⟩ => ⟨S2048x2048, .f32⟩
  | .hbm, ⟨5, _⟩ => ⟨S16384x2048, .f32⟩
  | .hbm, ⟨6, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Experts.lean ====
abbrev S384 : Shape := ⟨1, ![384]⟩
abbrev S160 : Shape := ⟨1, ![160]⟩
abbrev S1 : Shape := ⟨1, ![1]⟩
abbrev S81920x2048 : Shape := ⟨2, ![81920, 2048]⟩
abbrev S32x2048x4096 : Shape := ⟨3, ![32, 2048, 4096]⟩
abbrev S32x1x4096 : Shape := ⟨3, ![32, 1, 4096]⟩
abbrev S32x2048x2048 : Shape := ⟨3, ![32, 2048, 2048]⟩
abbrev S32x1x2048 : Shape := ⟨3, ![32, 1, 2048]⟩
abbrev S512x2048 : Shape := ⟨2, ![512, 2048]⟩
abbrev S1x2048x256 : Shape := ⟨3, ![1, 2048, 256]⟩
abbrev S1x1x4096 : Shape := ⟨3, ![1, 1, 4096]⟩
abbrev S1x256x2048 : Shape := ⟨3, ![1, 256, 2048]⟩
abbrev S1x1x2048 : Shape := ⟨3, ![1, 1, 2048]⟩
abbrev S8x2048x256 : Shape := ⟨3, ![8, 2048, 256]⟩
abbrev S8x256x2048 : Shape := ⟨3, ![8, 256, 2048]⟩
abbrev S2048x256 : Shape := ⟨2, ![2048, 256]⟩
abbrev S256x2048 : Shape := ⟨2, ![256, 2048]⟩
abbrev S1x2048 : Shape := ⟨2, ![1, 2048]⟩
abbrev S512x256 : Shape := ⟨2, ![512, 256]⟩
abbrev S1x1x256 : Shape := ⟨3, ![1, 1, 256]⟩
abbrev S1x256 : Shape := ⟨2, ![1, 256]⟩
abbrev S2048x2048 : Shape := ⟨2, ![2048, 2048]⟩

abbrev nBuf : Space → Nat
  | .hbm => 8
  | .vmem => 19
  | .smem => 4
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S81920x2048, .bf16⟩
  | .hbm, ⟨3, _⟩ => ⟨S32x2048x4096, .f32⟩
  | .hbm, ⟨4, _⟩ => ⟨S32x1x4096, .f32⟩
  | .hbm, ⟨5, _⟩ => ⟨S32x2048x2048, .f32⟩
  | .hbm, ⟨6, _⟩ => ⟨S32x1x2048, .f32⟩
  | .hbm, ⟨7, _⟩ => ⟨S81920x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x1x4096, .f32⟩
  | .local _ .vmem, ⟨7, _⟩ => ⟨S1x1x4096, .f32⟩
  | .local _ .vmem, ⟨8, _⟩ => ⟨S1x256x2048, .f32⟩
  | .local _ .vmem, ⟨9, _⟩ => ⟨S1x256x2048, .f32⟩
  | .local _ .vmem, ⟨10, _⟩ => ⟨S1x1x2048, .f32⟩
  | .local _ .vmem, ⟨11, _⟩ => ⟨S1x1x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | .local _ .vmem, ⟨16, _⟩ => ⟨S8x2048x256, .bf16⟩
  | .local _ .vmem, ⟨17, _⟩ => ⟨S8x2048x256, .bf16⟩
  | .local _ .vmem, ⟨18, _⟩ => ⟨S8x256x2048, .bf16⟩
  | .local _ .smem, ⟨0, _⟩ => ⟨S384, .i32⟩
  | .local _ .smem, ⟨1, _⟩ => ⟨S384, .i32⟩
  | .local _ .smem, ⟨2, _⟩ => ⟨S384, .i32⟩
  | .local _ .smem, ⟨3, _⟩ => ⟨S384, .i32⟩
  | _, _ => ⟨S160, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_arg9 : Ref sig .tc := ⟨.hbm, 5, rfl⟩
abbrev main_arg10 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![384], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 3 → Nat :=
  let v14 : Index := Scalar.indexCast v1
  let c0_5 : Index := 0#32
  let c0_6 : Index := 0#32
  ![v14.toNat, 0, 0]
def k0_cond1 (v1 : BitVec 32) : BitVec 1 :=
  let c8_i32 : BitVec 32 := 8#32
  let v2 : BitVec 1 := Scalar.cmpi .slt v1 c8_i32
  let v3 : BitVec 32 := Scalar.extui v2
  let c0_i32 : BitVec 32 := 0#32
  let v4 : BitVec 1 := Scalar.cmpi .ne v3 c0_i32
  v4

def k0_off3 (v1 : BitVec 32) : Fin 3 → Nat :=
  let v28 : Index := Scalar.indexCast v1
  let c0_15 : Index := 0#32
  let c0_16 : Index := 0#32
  ![v28.toNat, 0, 0]
def k0_mult1 (v1 : BitVec 32) : BitVec 32 :=
  let c256_i32 : BitVec 32 := 256#32
  let v36 : BitVec 32 := Scalar.muli v1 c256_i32
  v36
def k0_off4 (v1 : BitVec 32) : Fin 3 → Nat :=
  let c0_23 : Index := 0#32
  let c0_24 : Index := 0#32
  let c256_i32 : BitVec 32 := 256#32
  let v36 : BitVec 32 := Scalar.muli v1 c256_i32
  let v37 : BitVec 32 := v36
  let v42 : Index := Scalar.indexCast v37
  ![0, 0, v42.toNat]
def k0_off5 (v1 : BitVec 32) : Fin 3 → Nat :=
  let c0_28 : Index := 0#32
  let c0_29 : Index := 0#32
  let c2048_i32 : BitVec 32 := 2048#32
  let c256_i32 : BitVec 32 := 256#32
  let v36 : BitVec 32 := Scalar.muli v1 c256_i32
  let v37 : BitVec 32 := v36
  let v51 : BitVec 32 := Scalar.addi c2048_i32 v37
  let v52 : Index := Scalar.indexCast v51
  ![0, 0, v52.toNat]

def k0_chk1 (v1 : BitVec 32) : Prop :=
  (∀ (k0_h1 : k0_cond1 v1 = 1#1), ∀ a, (k0_off2 v1) a + S1x2048x256.size a ≤ S8x2048x256.size a) ∧
  (∀ (k0_h1 : k0_cond1 v1 = 1#1), ∀ (hinb : ∀ a, (k0_off2 v1) a + S1x2048x256.size a ≤ S8x2048x256.size a), (Rect.unit (s := S8x2048x256) (k0_off2 v1) S1x2048x256.size hinb).PackedRows (EltTy.packing .bf16)) ∧
  (∀ (k0_h1 : k0_cond1 v1 = 1#1), ∀ a, (k0_off3 v1) a + S1x256x2048.size a ≤ S8x256x2048.size a) ∧
  (∀ (k0_h1 : k0_cond1 v1 = 1#1), ∀ (hinb : ∀ a, (k0_off3 v1) a + S1x256x2048.size a ≤ S8x256x2048.size a), (Rect.unit (s := S8x256x2048) (k0_off3 v1) S1x256x2048.size hinb).PackedRows (EltTy.packing .bf16)) ∧
  (∀ (k0_h1 : k0_cond1 v1 = 1#1), 256 ∣ (k0_mult1 v1).toNat) ∧
  (∀ (k0_h1 : k0_cond1 v1 = 1#1), ∀ a, (k0_off4 v1) a + S1x1x256.size a ≤ S1x1x4096.size a) ∧
  (∀ (k0_h1 : k0_cond1 v1 = 1#1), ∀ a, (k0_off5 v1) a + S1x1x256.size a ≤ S1x1x4096.size a)
theorem k0_off2_inb : ∀ (v1 : BitVec 32) (k0_hw1 : k0_chk1 v1), ∀ (k0_h1 : k0_cond1 v1 = 1#1), ∀ a, (k0_off2 v1) a + S1x2048x256.size a ≤ S8x2048x256.size a := fun v1 k0_hw1 k0_h1 => k0_hw1.1 k0_h1
theorem k0_off2_packedbf16 : ∀ (v1 : BitVec 32) (k0_hw1 : k0_chk1 v1), ∀ (k0_h1 : k0_cond1 v1 = 1#1), (Rect.unit (s := S8x2048x256) (k0_off2 v1) S1x2048x256.size (k0_off2_inb v1 k0_hw1 k0_h1)).PackedRows (EltTy.packing .bf16) := fun v1 k0_hw1 k0_h1 => k0_hw1.2.1 k0_h1 (k0_off2_inb v1 k0_hw1 k0_h1)
theorem k0_off3_inb : ∀ (v1 : BitVec 32) (k0_hw1 : k0_chk1 v1), ∀ (k0_h1 : k0_cond1 v1 = 1#1), ∀ a, (k0_off3 v1) a + S1x256x2048.size a ≤ S8x256x2048.size a := fun v1 k0_hw1 k0_h1 => k0_hw1.2.2.1 k0_h1
theorem k0_off3_packedbf16 : ∀ (v1 : BitVec 32) (k0_hw1 : k0_chk1 v1), ∀ (k0_h1 : k0_cond1 v1 = 1#1), (Rect.unit (s := S8x256x2048) (k0_off3 v1) S1x256x2048.size (k0_off3_inb v1 k0_hw1 k0_h1)).PackedRows (EltTy.packing .bf16) := fun v1 k0_hw1 k0_h1 => k0_hw1.2.2.2.1 k0_h1 (k0_off3_inb v1 k0_hw1 k0_h1)
theorem k0_mult1_dvd : ∀ (v1 : BitVec 32) (k0_hw1 : k0_chk1 v1), ∀ (k0_h1 : k0_cond1 v1 = 1#1), 256 ∣ (k0_mult1 v1).toNat := fun v1 k0_hw1 k0_h1 => k0_hw1.2.2.2.2.1 k0_h1
theorem k0_off4_inb : ∀ (v1 : BitVec 32) (k0_hw1 : k0_chk1 v1), ∀ (k0_h1 : k0_cond1 v1 = 1#1), ∀ a, (k0_off4 v1) a + S1x1x256.size a ≤ S1x1x4096.size a := fun v1 k0_hw1 k0_h1 => k0_hw1.2.2.2.2.2.1 k0_h1
theorem k0_off5_inb : ∀ (v1 : BitVec 32) (k0_hw1 : k0_chk1 v1), ∀ (k0_h1 : k0_cond1 v1 = 1#1), ∀ a, (k0_off5 v1) a + S1x1x256.size a ≤ S1x1x4096.size a := fun v1 k0_hw1 k0_h1 => k0_hw1.2.2.2.2.2.2 k0_h1

def k0_cond3 (v1 : BitVec 32) : BitVec 1 :=
  let c7_i32 : BitVec 32 := 7#32
  let v80 : BitVec 1 := Scalar.cmpi .eq v1 c7_i32
  let v81 : BitVec 32 := Scalar.extui v80
  let c0_i32_42 : BitVec 32 := 0#32
  let v82 : BitVec 1 := Scalar.cmpi .ne v81 c0_i32_42
  v82

def k0_cond4 (v1 : BitVec 32) : BitVec 1 :=
  let c8_i32_0 : BitVec 32 := 8#32
  let v5 : BitVec 1 := Scalar.cmpi .eq v1 c8_i32_0
  let v6 : BitVec 32 := Scalar.extui v5
  let c0_i32_1 : BitVec 32 := 0#32
  let v7 : BitVec 1 := Scalar.cmpi .ne v6 c0_i32_1
  v7

def k0_cond5 (v1 : BitVec 32) : BitVec 1 :=
  let c9_i32 : BitVec 32 := 9#32
  let v8 : BitVec 1 := Scalar.cmpi .eq v1 c9_i32
  let v9 : BitVec 32 := Scalar.extui v8
  let c0_i32_2 : BitVec 32 := 0#32
  let v10 : BitVec 1 := Scalar.cmpi .ne v9 c0_i32_2
  v10

def cc0_transform_0 (k0_off1_inb : ∀ i : grid0.Coords, ∀ a, (k0_off1 i) a + S1.size a ≤ S384.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S384) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S384) ![v0.toNat] S1.size (k0_off1_inb i)) numel1_S1
  let v2 : Index := Scalar.indexCast arg0
  let v3 : BitVec 32 := pf.at 3 (Rect.unit (s := S384) ![v2.toNat] S1.size (k0_off1_inb i)) numel1_S1
  let c0_i32 : BitVec 32 := 0#32
  let c0_i32_0 : BitVec 32 := 0#32
  ![v1.toNat, c0_i32.toNat, v3.toNat]

def cc0_transform_2 (k0_off1_inb : ∀ i : grid0.Coords, ∀ a, (k0_off1 i) a + S1.size a ≤ S384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S384) ![v0.toNat] S1.size (k0_off1_inb i)) numel1_S1
  let v2 : Index := Scalar.indexCast arg0
  let v3 : BitVec 32 := pf.at 3 (Rect.unit (s := S384) ![v2.toNat] S1.size (k0_off1_inb i)) numel1_S1
  let c8_i32 : BitVec 32 := 8#32
  let v4 : BitVec 32 := Scalar.addi c8_i32 v3
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S384) ![v0.toNat] S1.size (k0_off1_inb i)) numel1_S1
  let v2 : Index := Scalar.indexCast arg0
  let v3 : BitVec 32 := pf.at 3 (Rect.unit (s := S384) ![v2.toNat] S1.size (k0_off1_inb i)) numel1_S1
  let c0_i32 : BitVec 32 := 0#32
  let c0_i32_0 : BitVec 32 := 0#32
  ![v1.toNat, v3.toNat, c0_i32.toNat]

def cc0_transform_5 (k0_off1_inb : ∀ i : grid0.Coords, ∀ a, (k0_off1 i) a + S1.size a ≤ S384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S384.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S384) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefExpertsIdeal.lean ====
abbrev S384 : Shape := ⟨1, ![384]⟩
abbrev S160 : Shape := ⟨1, ![160]⟩
abbrev S1 : Shape := ⟨1, ![1]⟩
abbrev S81920x2048 : Shape := ⟨2, ![81920, 2048]⟩
abbrev S32x2048x4096 : Shape := ⟨3, ![32, 2048, 4096]⟩
abbrev S32x1x4096 : Shape := ⟨3, ![32, 1, 4096]⟩
abbrev S32x2048x2048 : Shape := ⟨3, ![32, 2048, 2048]⟩
abbrev S32x1x2048 : Shape := ⟨3, ![32, 1, 2048]⟩
abbrev S160x512x2048 : Shape := ⟨3, ![160, 512, 2048]⟩
abbrev S_ : Shape := ⟨0, ![]⟩
abbrev S160x1 : Shape := ⟨2, ![160, 1]⟩
abbrev S160x2048x4096 : Shape := ⟨3, ![160, 2048, 4096]⟩
abbrev S160x512x4096 : Shape := ⟨3, ![160, 512, 4096]⟩
abbrev S160x1x4096 : Shape := ⟨3, ![160, 1, 4096]⟩
abbrev S160x2048x2048 : Shape := ⟨3, ![160, 2048, 2048]⟩
abbrev S160x1x2048 : Shape := ⟨3, ![160, 1, 2048]⟩
abbrev S160x1x1 : Shape := ⟨3, ![160, 1, 1]⟩
abbrev S1x1x1 : Shape := ⟨3, ![1, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S384, .i32⟩
  | .hbm, ⟨1, _⟩ => ⟨S384, .i32⟩
  | .hbm, ⟨2, _⟩ => ⟨S384, .i32⟩
  | .hbm, ⟨3, _⟩ => ⟨S384, .i32⟩
  | .hbm, ⟨4, _⟩ => ⟨S160, .i32⟩
  | .hbm, ⟨5, _⟩ => ⟨S1, .i32⟩
  | .hbm, ⟨6, _⟩ => ⟨S81920x2048, .bf16⟩
  | .hbm, ⟨7, _⟩ => ⟨S32x2048x4096, .f32⟩
  | .hbm, ⟨8, _⟩ => ⟨S32x1x4096, .f32⟩
  | .hbm, ⟨9, _⟩ => ⟨S32x2048x2048, .f32⟩
  | .hbm, ⟨10, _⟩ => ⟨S32x1x2048, .f32⟩
  | .hbm, ⟨11, _⟩ => ⟨S81920x2048, .f32⟩
  | .hbm, ⟨12, _⟩ => ⟨S160x512x2048, .f32⟩
  | .hbm, ⟨13, _⟩ => ⟨S_, .i32⟩
  | .hbm, ⟨14, _⟩ => ⟨S160, .i32⟩
  | .hbm, ⟨15, _⟩ => ⟨S160, .i1⟩
  | .hbm, ⟨16, _⟩ => ⟨S_, .i32⟩
  | .hbm, ⟨17, _⟩ => ⟨S160, .i32⟩
  | .hbm, ⟨18, _⟩ => ⟨S160, .i32⟩
  | .hbm, ⟨19, _⟩ => ⟨S160, .i32⟩
  | .hbm, ⟨20, _⟩ => ⟨S160x1, .i32⟩
  | .hbm, ⟨21, _⟩ => ⟨S160x2048x4096, .f32⟩
  | .hbm, ⟨22, _⟩ => ⟨S160x512x4096, .f32⟩
  | .hbm, ⟨23, _⟩ => ⟨S_, .i32⟩
  | .hbm, ⟨24, _⟩ => ⟨S160, .i32⟩
  | .hbm, ⟨25, _⟩ => ⟨S160, .i1⟩
  | .hbm, ⟨26, _⟩ => ⟨S_, .i32⟩
  | .hbm, ⟨27, _⟩ => ⟨S160, .i32⟩
  | .hbm, ⟨28, _⟩ => ⟨S160, .i32⟩
  | .hbm, ⟨29, _⟩ => ⟨S160, .i32⟩
  | .hbm, ⟨30, _⟩ => ⟨S160x1, .i32⟩
  | .hbm, ⟨31, _⟩ => ⟨S160x1x4096, .f32⟩
  | .hbm, ⟨32, _⟩ => ⟨S160x512x4096, .f32⟩
  | .hbm, ⟨33, _⟩ => ⟨S160x512x4096, .f32⟩
  | .hbm, ⟨34, _⟩ => ⟨S160x512x2048, .f32⟩
  | .hbm, ⟨35, _⟩ => ⟨S160x512x2048, .f32⟩
  | .hbm, ⟨36, _⟩ => ⟨S_, .f32⟩
  | .hbm, ⟨37, _⟩ => ⟨S160x512x2048, .f32⟩
  | .hbm, ⟨38, _⟩ => ⟨S160x512x2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S160x512x2048, .f32⟩
  | .hbm, ⟨43, _⟩ => ⟨S160x512x2048, .f32⟩
  | .hbm, ⟨44, _⟩ => ⟨S_, .f32⟩
  | .hbm, ⟨45, _⟩ => ⟨S160x512x2048, .f32⟩
  | .hbm, ⟨46, _⟩ => ⟨S160x512x2048, .f32⟩
  | .hbm, ⟨47, _⟩ => ⟨S_, .f32⟩
  | .hbm, ⟨48, _⟩ => ⟨S160x512x2048, .f32⟩
  | .hbm, ⟨49, _⟩ => ⟨S160x512x2048, .f32⟩
  | .hbm, ⟨50, _⟩ => ⟨S160x512x2048, .f32⟩
  | .hbm, ⟨51, _⟩ => ⟨S160x512x2048, .f32⟩
  | .hbm, ⟨52, _⟩ => ⟨S_, .f32⟩
  | .hbm, ⟨53, _⟩ => ⟨S160x512x2048, .f32⟩
  | .hbm, ⟨54, _⟩ => ⟨S160x512x2048, .f32⟩
  | .hbm, ⟨55, _⟩ => ⟨S_, .f32⟩
  | .hbm, ⟨56, _⟩ => ⟨S160x512x2048, .f32⟩
  | .hbm, ⟨57, _⟩ => ⟨S160x512x2048, .f32⟩
  | .hbm, ⟨58, _⟩ => ⟨S160x512x2048, .f32⟩
  | .hbm, ⟨59, _⟩ => ⟨S_, .f32⟩
  | .hbm, ⟨60, _⟩ => ⟨S160x512x2048, .f32⟩
  | .hbm, ⟨61, _⟩ => ⟨S160x512x2048, .f32⟩
  | .hbm, ⟨62, _⟩ => ⟨S160x512x2048, .f32⟩
  | .hbm, ⟨63, _⟩ => ⟨S_, .i32⟩
  | .hbm, ⟨64, _⟩ => ⟨S160, .i32⟩
  | .hbm, ⟨65, _⟩ => ⟨S160, .i1⟩
  | .hbm, ⟨66, _⟩ => ⟨S_, .i32⟩
  | .hbm, ⟨67, _⟩ => ⟨S160, .i32⟩
  | .hbm, ⟨68, _⟩ => ⟨S160, .i32⟩
  | .hbm, ⟨69, _⟩ => ⟨S160, .i32⟩
  | .hbm, ⟨70, _⟩ => ⟨S160x1, .i32⟩
  | .hbm, ⟨71, _⟩ => ⟨S160x2048x2048, .f32⟩
  | .hbm, ⟨72, _⟩ => ⟨S160x512x2048, .f32⟩
  | .hbm, ⟨73, _⟩ => ⟨S_, .i32⟩
  | .hbm, ⟨74, _⟩ => ⟨S160, .i32⟩
  | .hbm, ⟨75, _⟩ => ⟨S160, .i1⟩
  | .hbm, ⟨76, _⟩ => ⟨S_, .i32⟩
  | .hbm, ⟨77, _⟩ => ⟨S160, .i32⟩
  | .hbm, ⟨78, _⟩ => ⟨S160, .i32⟩
  | .hbm, ⟨79, _⟩ => ⟨S160, .i32⟩
  | .hbm, ⟨80, _⟩ => ⟨S160x1, .i32⟩
  | .hbm, ⟨81, _⟩ => ⟨S160x1x2048, .f32⟩
  | .hbm, ⟨82, _⟩ => ⟨S160x512x2048, .f32⟩
  | .hbm, ⟨83, _⟩ => ⟨S160x512x2048, .f32⟩
  | .hbm, ⟨84, _⟩ => ⟨S160, .i32⟩
  | .hbm, ⟨85, _⟩ => ⟨S160x1x1, .i32⟩
  | .hbm, ⟨86, _⟩ => ⟨S1x1x1, .i32⟩
  | .hbm, ⟨87, _⟩ => ⟨S160x1x1, .i32⟩
  | .hbm, ⟨88, _⟩ => ⟨S160x1x1, .i1⟩
  | .hbm, ⟨89, _⟩ => ⟨S_, .f32⟩
  | .hbm, ⟨90, _⟩ => ⟨S_, .f32⟩
  | .hbm, ⟨91, _⟩ => ⟨S160x512x2048, .i1⟩
  | .hbm, ⟨92, _⟩ => ⟨S160x512x2048, .f32⟩
  | .hbm, ⟨93, _⟩ => ⟨S160x512x2048, .f32⟩
  | .hbm, ⟨94, _⟩ => ⟨S81920x2048, .f32⟩
  | .hbm, ⟨95, _⟩ => ⟨S81920x2048, .bf16⟩
  | _, _ => ⟨S384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_9 : Ref sig .tc := ⟨.hbm, 63, rfl⟩
abbrev main_v36 : Ref sig .tc := ⟨.hbm, 64, rfl⟩
abbrev main_v37 : Ref sig .tc := ⟨.hbm, 65, rfl⟩
abbrev main_c_10 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_11 : Ref sig .tc := ⟨.hbm, 73, rfl⟩
abbrev main_v44 : Ref sig .tc := ⟨.hbm, 74, rfl⟩
abbrev main_v45 : Ref sig .tc := ⟨.hbm, 75, rfl⟩
abbrev main_c_12 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_13 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩

abbrev nD : Nat := 1
abbrev τ : Topo := Topo.v7x

variable {F : FTy → Type} [FloatOps F]
-- ==== Router.lean ====
abbrev S16384x2048 : Shape := ⟨2, ![16384, 2048]⟩
abbrev S1x2048 : Shape := ⟨2, ![1, 2048]⟩
abbrev S2048x128 : Shape := ⟨2, ![2048, 128]⟩
abbrev S1x128 : Shape := ⟨2, ![1, 128]⟩
abbrev S16384x128 : Shape := ⟨2, ![16384, 128]⟩
abbrev S8x128 : Shape := ⟨2, ![8, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 7
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x128, .f32⟩
  | .hbm, ⟨3, _⟩ => ⟨S1x128, .f32⟩
  | .hbm, ⟨4, _⟩ => ⟨S16384x128, .i32⟩
  | .hbm, ⟨5, _⟩ => ⟨S16384x128, .f32⟩
  | .hbm, ⟨6, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .f32⟩
  | .local _ .vmem, ⟨4, _⟩ => ⟨S1x128, .f32⟩
  | .local _ .vmem, ⟨5, _⟩ => ⟨S512x128, .i32⟩
  | .local _ .vmem, ⟨6, _⟩ => ⟨S512x128, .i32⟩
  | .local _ .vmem, ⟨7, _⟩ => ⟨S512x128, .f32⟩
  | .local _ .vmem, ⟨8, _⟩ => ⟨S512x128, .f32⟩
  | .local _ .vmem, ⟨9, _⟩ => ⟨S8x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefRouterIdeal.lean ====
abbrev S16384x2048 : Shape := ⟨2, ![16384, 2048]⟩
abbrev S1x2048 : Shape := ⟨2, ![1, 2048]⟩
abbrev S2048x128 : Shape := ⟨2, ![2048, 128]⟩
abbrev S1x128 : Shape := ⟨2, ![1, 128]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x32 : Shape := ⟨2, ![2048, 32]⟩
abbrev S16384x32 : Shape := ⟨2, ![16384, 32]⟩
abbrev S1x32 : Shape := ⟨2, ![1, 32]⟩
abbrev S32 : Shape := ⟨1, ![32]⟩
abbrev S16384x4 : Shape := ⟨2, ![16384, 4]⟩
abbrev S16384x4x1 : Shape := ⟨3, ![16384, 4, 1]⟩
abbrev S128 : Shape := ⟨1, ![128]⟩
abbrev S1x1x128 : Shape := ⟨3, ![1, 1, 128]⟩
abbrev S16384x4x128 : Shape := ⟨3, ![16384, 4, 128]⟩
abbrev S16384x128 : Shape := ⟨2, ![16384, 128]⟩
abbrev S8x128 : Shape := ⟨2, ![8, 128]⟩

abbrev nBuf : Space → Nat
  | .hbm => 63
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x128, .f32⟩
  | .hbm, ⟨3, _⟩ => ⟨S1x128, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S2048x32, .f32⟩
  | .hbm, ⟨22, _⟩ => ⟨S16384x32, .f32⟩
  | .hbm, ⟨23, _⟩ => ⟨S1x32, .f32⟩
  | .hbm, ⟨24, _⟩ => ⟨S32, .f32⟩
  | .hbm, ⟨25, _⟩ => ⟨S1x32, .f32⟩
  | .hbm, ⟨26, _⟩ => ⟨S16384x32, .f32⟩
  | .hbm, ⟨27, _⟩ => ⟨S16384x32, .f32⟩
  | .hbm, ⟨28, _⟩ => ⟨S16384x4, .f32⟩
  | .hbm, ⟨29, _⟩ => ⟨S16384x4, .i32⟩
  | .hbm, ⟨30, _⟩ => ⟨S_, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384x1, .f32⟩
  | .hbm, ⟨36, _⟩ => ⟨S16384x4, .f32⟩
  | .hbm, ⟨37, _⟩ => ⟨S16384x4, .f32⟩
  | .hbm, ⟨38, _⟩ => ⟨S16384x4, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x4, .f32⟩
  | .hbm, ⟨43, _⟩ => ⟨S16384x4, .f32⟩
  | .hbm, ⟨44, _⟩ => ⟨S16384x4x1, .i32⟩
  | .hbm, ⟨45, _⟩ => ⟨S128, .i32⟩
  | .hbm, ⟨46, _⟩ => ⟨S1x1x128, .i32⟩
  | .hbm, ⟨47, _⟩ => ⟨S16384x4x128, .i32⟩
  | .hbm, ⟨48, _⟩ => ⟨S16384x4x128, .i32⟩
  | .hbm, ⟨49, _⟩ => ⟨S16384x4x128, .i1⟩
  | .hbm, ⟨50, _⟩ => ⟨S16384x4x128, .f32⟩
  | .hbm, ⟨51, _⟩ => ⟨S_, .i32⟩
  | .hbm, ⟨52, _⟩ => ⟨S_, .i32⟩
  | .hbm, ⟨53, _⟩ => ⟨S16384x128, .i32⟩
  | .hbm, ⟨54, _⟩ => ⟨S_, .i32⟩
  | .hbm, ⟨55, _⟩ => ⟨S_, .f32⟩
  | .hbm, ⟨56, _⟩ => ⟨S16384x128, .f32⟩
  | .hbm, ⟨57, _⟩ => ⟨S_, .f32⟩
  | .hbm, ⟨58, _⟩ => ⟨S16384x128, .f32⟩
  | .hbm, ⟨59, _⟩ => ⟨S_, .f32⟩
  | .hbm, ⟨60, _⟩ => ⟨S128, .f32⟩
  | .hbm, ⟨61, _⟩ => ⟨S1x128, .f32⟩
  | .hbm, ⟨62, _⟩ => ⟨S8x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_values : Ref sig .tc := ⟨.hbm, 28, rfl⟩
abbrev main_indices : Ref sig .tc := ⟨.hbm, 29, rfl⟩
abbrev main_cst_2 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c : Ref sig .tc := ⟨.hbm, 51, rfl⟩
abbrev main_call0_v0 : Ref sig .tc := ⟨.hbm, 52, rfl⟩
abbrev main_v39 : Ref sig .tc := ⟨.hbm, 53, rfl⟩
abbrev main_c_5 : Ref sig .tc := ⟨.hbm, 54, rfl⟩
abbrev main_call1_v0 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Proof.FoxBlock.lean ====
/- ONE ROW BLOCK OF THE FORGETTING ATTENTION, as operations on vectors. A row block is 256 queries of one head; it meets the key
   tiles 0 … qi, 256 keys each, the last of them (the diagonal tile) masked. The definitions follow what the kernel does with one
   tile; the number of tiles is a list's length. -/
module

public import proofs.«01_k».proof.Proof.Gen.KernelIdeal.Frame

@[expose] public section

set_option maxRecDepth 16384

noncomputable section

open Idealize.ShloMosaic Idealize.ShloMosaic.TcCoe

namespace Cert.KernelIdeal.Fox

open Cert.KernelIdeal Cert.KernelIdeal.Gen

variable {F : FTy → Type} [FloatOps F] [Named F]

/-- One key tile: its keys, its row of the key side's cumulative log gates, its values. -/
structure Tile (F : FTy → Type) where
  /-- the keys -/
  k : Vec F S256x128 .bf16
  /-- the cumulative log gates of the keys -/
  f : Vec F S1x1x256 .f32
  /-- the values -/
  v : Vec F S256x128 .bf16

/-- Two halves of 128 lanes side by side. -/
def beside (a b : FVec F S256x128 .f32) : FVec F S256x256 .f32 :=
  concatenate S256x256 1 [⟨S256x128, a⟩, ⟨S256x128, b⟩] concatenates_S256x128_S256x128_S256x256_d1

/-- The operation that `beside` names. -/
theorem beside_eq (a b : FVec F S256x128 .f32) (h) :
    concatenate S256x256 1 [⟨S256x128, a⟩, ⟨S256x128, b⟩] h = beside a b := rfl

/-- The queries times the scale. -/
def scaled (q : Vec F S256x128 .bf16) : FVec F S256x128 .bf16 :=
  truncf .bf16 (mulf (extf .f32 q bitsLt_bf16_f32) (broadcast S256x128 (Named.named κ "s" 0x3DB504F3#32))) bitsLt_bf16_f32

/-- The query side's cumulative log gate of head `i 1`, in every lane: the lane `32 + head` picked out by a masked sum. -/
def gate (i : grid0.Coords) (fc : Vec F S256x128 .f32) : FVec F S256x128 .f32 :=
  shapeCast S256x128 (broadcastTo S256x128 (shapeCast S256x1 (shapeCast S256x1
    (multiReduction .add [1] S256
      (select (cmpi .eq (iota .tc S256x128 32 [1] iota_S256x128_d1_w32) (broadcast S256x128 (Scalar.addi 32#32 (BitVec.ofNat 32 (i 1).val))))
        fc (broadcast S256x128 (Scalar.ofBits .f32 0x00000000#32)))
      0x00000000#32 reduces_S256x128_S256 (.inl rfl) rfl)
    shapeCasts_S256_S256x1) shapeCasts_S256x1_S256x1) broadcasts_S256x1_S256x128) shapeCasts_S256x128_S256x128

/-- The scores of the block against one tile: products, plus the query side's gate, minus the key side's. -/
def score (q : FVec F S256x128 .bf16) (g : FVec F S256x128 .f32) (t : Tile F) : FVec F S256x256 .f32 :=
  subf
    (beside
      (addf (extractStridedSlice S256x128 ![0, 0]
        (matmul dot_S256x128_S256x128_S256x256_1_1_0_0_n_n none q t.k (constant S256x256 .f32 0x00000000#32)) slices_S256x256_o0_0_S256x128) g)
      (addf (extractStridedSlice S256x128 ![0, 128]
        (matmul dot_S256x128_S256x128_S256x256_1_1_0_0_n_n none q t.k (constant S256x256 .f32 0x00000000#32)) slices_S256x256_o0_128_S256x128) g))
    (broadcastTo S256x256 (shapeCast S1x256 t.f shapeCasts_S1x1x256_S1x256) broadcasts_S1x256_S256x256)

/-- The scores against the diagonal tile: keys after the query hold the mask's value. -/
def scoreDiag (q : FVec F S256x128 .bf16) (g : FVec F S256x128 .f32) (t : Tile F) : FVec F S256x256 .f32 :=
  select (cmpi .sle (iota .tc S256x256 32 [1] iota_S256x256_d1_w32) (iota .tc S256x256 32 [0] iota_S256x256_d0_w32)) (score q g t)
    (broadcast S256x256 (Named.named κ "mask" 0xF149F2CA#32))

/-- The running maximum before any tile. -/
def maxInit : FVec F S256x128 .f32 :=
  shapeCast S256x128 (broadcast S256x128 (Named.named κ "mask" 0xF149F2CA#32)) shapeCasts_S256x128_S256x128

/-- The running maximum (one per lane) with one tile's scores taken in. -/
def maxStep (M : FVec F S256x128 .f32) (s : FVec F S256x256 .f32) : FVec F S256x128 .f32 :=
  shapeCast S256x128 (maximumf (maximumf M (extractStridedSlice S256x128 ![0, 0] s slices_S256x256_o0_0_S256x128))
    (extractStridedSlice S256x128 ![0, 128] s slices_S256x256_o0_128_S256x128)) shapeCasts_S256x128_S256x128

/-- The maximum of each row, in every lane. -/
def maxRow (M : FVec F S256x128 .f32) : FVec F S256x128 .f32 :=
  shapeCast S256x128 (broadcastTo S256x128 (shapeCast S256x1 (shapeCast S256x1
    (multiReduction .maximumf [1] S256 M 0xFF800000#32 reduces_S256x128_S256 (.inl rfl) rfl)
    shapeCasts_S256_S256x1) shapeCasts_S256x1_S256x1) broadcasts_S256x1_S256x128) shapeCasts_S256x128_S256x128

/-- A tile's scores as they come back from the buffer that keeps them. -/
def kept (s : FVec F S256x256 .f32) : FVec F S256x256 .f32 :=
  shapeCast S256x256 (shapeCast S1x256x256 s shapeCasts_S256x256_S1x256x256) shapeCasts_S1x256x256_S256x256

/-- The exponentials of the first 128 keys of a tile. -/
def prob0 (M : FVec F S256x128 .f32) (s : FVec F S256x256 .f32) : FVec F S256x128 .f32 :=
  exp (subf (extractStridedSlice S256x128 ![0, 0] (kept s) slices_S256x256_o0_0_S256x128) M)

/-- The exponentials of the last 128 keys of a tile. -/
def prob1 (M : FVec F S256x128 .f32) (s : FVec F S256x256 .f32) : FVec F S256x128 .f32 :=
  exp (subf (extractStridedSlice S256x128 ![0, 128] (kept s) slices_S256x256_o0_128_S256x128) M)

/-- Zeros, where the two running sums start. -/
def zeros : FVec F S256x128 .f32 :=
  shapeCast S256x128 (broadcast S256x128 (Scalar.ofBits .f32 0x00000000#32)) shapeCasts_S256x128_S256x128

/-- The running sum of exponentials (one per lane) with one tile taken in. -/
def sumStep (M L : FVec F S256x128 .f32) (s : FVec F S256x256 .f32) : FVec F S256x128 .f32 :=
  shapeCast S256x128 (addf L (addf (prob0 M s) (prob1 M s))) shapeCasts_S256x128_S256x128

/-- The running weighted sum of values with one tile taken in. -/
def accStep (M A : FVec F S256x128 .f32) (s : FVec F S256x256 .f32) (v : Vec F S256x128 .bf16) : FVec F S256x128 .f32 :=
  shapeCast S256x128 (addf A (matmul dot_S256x256_S256x128_S256x128_1_0_0_1_n_n none
    (truncf .bf16 (beside (prob0 M s) (prob1 M s)) bitsLt_bf16_f32)
    v (constant S256x128 .f32 0x00000000#32))) shapeCasts_S256x128_S256x128

/-- The weighted sum over the sum of the weights. -/
def quotient (L A : FVec F S256x128 .f32) : FVec F S256x128 .bf16 :=
  truncf .bf16 (mulf A (broadcastTo S256x128 (divf (broadcast S256x1 (Scalar.ofBits .f32 0x3F800000#32))
    (shapeCast S256x1 (multiReduction .add [1] S256 L 0x00000000#32 reduces_S256x128_S256 (.inl rfl) rfl) shapeCasts_S256_S256x1))
    broadcasts_S256x1_S256x128)) bitsLt_bf16_f32

/-- The row block's scores with the values they weigh: the tiles before the diagonal one, then the diagonal one. -/
def scored (q : FVec F S256x128 .bf16) (g : FVec F S256x128 .f32) (ts : List (Tile F)) (d : Tile F) :
    List (FVec F S256x256 .f32 × Vec F S256x128 .bf16) :=
  ts.map (fun t => (score q g t, t.v)) ++ [(scoreDiag q g d, d.v)]

/-- The row maximum over all the tiles. -/
def maxOf (ss : List (FVec F S256x256 .f32 × Vec F S256x128 .bf16)) : FVec F S256x128 .f32 :=
  maxRow (ss.foldl (fun M s => maxStep M s.1) maxInit)

/-- What a row block computes from its scores and values. -/
def attend (ss : List (FVec F S256x256 .f32 × Vec F S256x128 .bf16)) : FVec F S256x128 .bf16 :=
  quotient (ss.foldl (fun L s => sumStep (maxOf ss) L s.1) zeros) (ss.foldl (fun A s => accStep (maxOf ss) A s.1 s.2) zeros)

/-- The row block: queries `q`, query gates `fc`, the tiles before the diagonal one and the diagonal one. -/
def block (i : grid0.Coords) (q : Vec F S256x128 .bf16) (fc : Vec F S256x128 .f32) (ts : List (Tile F)) (d : Tile F) : FVec F S256x128 .bf16 :=
  attend (scored (scaled q) (gate i fc) ts d)

end Cert.KernelIdeal.Fox

end
-- ==== Proof.FoxPieces.lean ====
/- WHAT ONE GRID POINT OF THE FORGETTING ATTENTION STORES: eight row blocks, each the function of FoxBlock.lean of the rows of the
   point's query, key, value and gate blocks. -/
module

public import proofs.«01_k».proof.Proof.FoxBlock
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Tactic

namespace Cert.KernelIdeal.Fox

open Cert.KernelIdeal Cert.KernelIdeal.Gen

variable {F : FTy → Type} [FloatOps F] [Named F]

/-- Rows `256 n … 256 n + 255` of a block. -/
def rows {e : EltTy} (x : Vec F S2048x128 e) (n : Fin 8) : Vec F S256x128 e :=
  View.ld x (Rect.unit (s := S2048x128) ![256 * n.val, 0] S256x128.size (by
    intro a; fin_cases a
    · show 256 * n.val + 256 ≤ 2048; omega
    · show 0 + 128 ≤ 128; omega))

/-- The key side's cumulative log gates of head `i 1` for the keys `256 n … 256 n + 255`. -/
def keyGate (i : grid0.Coords) (x : Vec F S1x128x2048 .f32) (n : Fin 8) : Vec F S1x1x256 .f32 :=
  View.ld x (Rect.unit (s := S1x128x2048) ![0, (Scalar.indexCast (Scalar.addi 32#32 (BitVec.ofNat 32 (i 1).val))).toNat, 256 * n.val] S1x1x256.size
    (by have h := k0_off1_inb i; intro a; have h := h a; fin_cases a
        · exact h
        · exact h
        · show 256 * n.val + 256 ≤ 2048; omega))

/-- The tile `n` of a point. -/
def tile (i : grid0.Coords) (x1 x2 : Vec F S2048x128 .bf16) (x4 : Vec F S1x128x2048 .f32) (n : Fin 8) : Tile F :=
  ⟨rows x1 n, keyGate i x4 n, rows x2 n⟩

/-- The row block `n` of a point: the tiles before `n`, then tile `n` as the diagonal one. -/
def rowBlock (i : grid0.Coords) (x0 x1 x2 : Vec F S2048x128 .bf16) (x3 : Vec F S2048x128 .f32) (x4 : Vec F S1x128x2048 .f32) (js : List (Fin 8)) (n : Fin 8) :
    FVec F S256x128 .bf16 :=
  block i (rows x0 n) (rows x3 n) (js.map (tile i x1 x2 x4)) (tile i x1 x2 x4 n)

variable (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x128x2048 .f32) (harg6 : arg6.IsWhole) (arg7 : Memref sig .tc .vmem S2048x128 .bf16) (harg7 : arg7.IsWhole) (arg8 : Memref sig .tc .vmem S8x256x256 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole)
    (x0 : Vec F S2048x128 .bf16) (x1 : Vec F S2048x128 .bf16) (x2 : Vec F S2048x128 .bf16) (x3 : Vec F S2048x128 .f32) (x4 : Vec F S1x128x2048 .f32)

open kernelRun0_A.sl

-- the lists of a scratch's stores open where a load reads them
set_option allowUnsafeReducibility true in
attribute [local reducible]
    HS0_1 HS0_3 HS0_6 HS0_7 HS0_8 HS0_10 HS0_11 HS0_12 HS0_15 HS0_16 HS0_17 HS0_18 HS0_19 HS0_21 HS0_22 HS0_23 HS0_24 HS0_25 HS0_26 HS0_28 HS0_29
    HS0_30 HS0_31 HS0_32 HS0_33 HS0_34 HS0_36 HS1_1 HS1_2 HS1_3 HS1_4 HS1_5 HS1_6 HS1_7 HS1_8 HS2_1 HS2_2 HS2_3 HS2_4 HS2_5 HS2_6 HS2_7 HS2_8 HS2_9
    HS2_10 HS2_11 HS2_12 HS2_13 HS2_14 HS2_15 HS2_16 HS2_17 HS2_18 HS2_19 HS2_20 HS2_21 HS2_22 HS2_23 HS2_24 HS2_25 HS2_26 HS2_27 HS2_28 HS2_29 HS2_30
    HS2_31 HS2_32 HS2_33 HS2_34 HS2_35 HS2_36 HS2_37 HS2_38 HS2_39 HS2_40 HS2_41 HS2_42 HS2_43 HS2_44 HS2_45 HS2_46 HS2_47 HS2_48 HS2_49 HS2_50 HS2_51
    HS2_52 HS3_1 HS3_2 HS3_3 HS3_4 HS3_5 HS3_6 HS3_7 HS3_8 HS3_9 HS3_10 HS3_11 HS3_12 HS3_13 HS3_14 HS3_15 HS3_16 HS3_17 HS3_18 HS3_19 HS3_20 HS3_21
    HS3_22 HS3_23 HS3_24 HS3_25 HS3_26 HS3_27 HS3_28 HS3_29 HS3_30 HS3_31 HS3_32 HS3_33 HS3_34 HS3_35 HS3_36 HS3_37 HS3_38 HS3_39 HS3_40 HS3_41 HS3_42
    HS3_43 HS3_44 HS4_1 HS4_2 HS4_3 HS4_4 HS4_5 HS4_6 HS4_7 HS4_8 HS4_9 HS4_10 HS4_11 HS4_12 HS4_13 HS4_14 HS4_15 HS4_16 HS4_17 HS4_18 HS4_19 HS4_20
    HS4_21 HS4_22 HS4_23 HS4_24 HS4_25 HS4_26 HS4_27 HS4_28 HS4_29 HS4_30 HS4_31 HS4_32 HS4_33 HS4_34 HS4_35 HS4_36 HS4_37 HS4_38 HS4_39 HS4_40 HS4_41
    HS4_42 HS4_43 HS4_44

set_option maxHeartbeats 8000000 in
/-- The eight stores of a point, last first: every load of a scratch reads the store before it, and what is left is the row blocks. -/
theorem pieces : (kernelRun0_A c i arg2 harg2 arg3 harg3 arg4 harg4 arg5 harg5 arg6 harg6 arg7 harg7 arg8 harg8 arg9 harg9 arg10 harg10 arg11 harg11 arg12 harg12 x0 x1 x2 x3 x4).1
    = [⟨Rect.unit (s := S2048x128) ![1792, 0] S256x128.size inb_S2048x128_S256x128_1792_0, rowBlock i x0 x1 x2 x3 x4 [0, 1, 2, 3, 4, 5, 6] 7⟩,
       ⟨Rect.unit (s := S2048x128) ![1536, 0] S256x128.size inb_S2048x128_S256x128_1536_0, rowBlock i x0 x1 x2 x3 x4 [0, 1, 2, 3, 4, 5] 6⟩,
       ⟨Rect.unit (s := S2048x128) ![1280, 0] S256x128.size inb_S2048x128_S256x128_1280_0, rowBlock i x0 x1 x2 x3 x4 [0, 1, 2, 3, 4] 5⟩,
       ⟨Rect.unit (s := S2048x128) ![1024, 0] S256x128.size inb_S2048x128_S256x128_1024_0, rowBlock i x0 x1 x2 x3 x4 [0, 1, 2, 3] 4⟩,
       ⟨Rect.unit (s := S2048x128) ![768, 0] S256x128.size inb_S2048x128_S256x128_768_0, rowBlock i x0 x1 x2 x3 x4 [0, 1, 2] 3⟩,
       ⟨Rect.unit (s := S2048x128) ![512, 0] S256x128.size inb_S2048x128_S256x128_512_0, rowBlock i x0 x1 x2 x3 x4 [0, 1] 2⟩,
       ⟨Rect.unit (s := S2048x128) ![256, 0] S256x128.size inb_S2048x128_S256x128_256_0, rowBlock i x0 x1 x2 x3 x4 [0] 1⟩,
       ⟨Rect.unit (s := S2048x128) ![0, 0] S256x128.size inb_S2048x128_S256x128_0_0, rowBlock i x0 x1 x2 x3 x4 [] 0⟩] := by
  unfold kernelRun0_A
  simp (disch := decide) only [↓ beside_eq, ↓ View.readCov_skip, ↓ View.readCov_cons_toLoadRect, View.readAt_eq_ld, Memref.IsWhole.read_unread,
    cst_50, cst_58, cst_108, cst_171, r, r_1, r_2, r_3, r_4, r_5, r_6, r_7, r_8, r_9, r_10, r_11, r_12, r_13, r_14, r_15, r_16, r_17, r_18, r_19,
    r_20, r_21, r_22, r_23, r_24, r_25, r_26, r_27, r_28, v, v0, v32, v47, v53, v69, v70, v71, v72, v73, v74, v75, v76, v77, v78, v79, v80, v83, v84,
    v85, v86, v88, v89, v92, v93, v94, v95, v96, v97, v98, v99, v100, v101, v131, v144, v171, v176, v177, v178, v179, v180, v181, v184, v185, v188,
    v193, v194, v195, v196, v197, v198, v199, v200, v201, v202, v203, v204, v207, v208, v209, v210, v212, v213, v216, v218, v219, v220, v221, v222,
    v223, v224, v225, v226, v227, v228, v231, v232, v233, v234, v236, v237, v240, v244, v278, v279, v280, v281, v282, v283, v284, v285, v286, v289,
    v290, v291, v292, v293, v294, v297, v301, v303, v305, v306, v307, v308, v309, v310, v311, v317, v329, v344, v349, v350, v351, v352, v353, v354,
    v357, v366, v367, v368, v369, v370, v371, v372, v373, v374, v375, v376, v377, v380, v381, v382, v383, v385, v386, v389, v391, v392, v393, v394,
    v395, v396, v397, v398, v399, v400, v401, v404, v405, v406, v407, v409, v410, v413, v415, v416, v417, v418, v419, v420, v421, v422, v423, v424,
    v425, v428, v429, v430, v431, v433, v434, v437, v438, v439, v440, v441, v443, v444, v445, v446, v476, v486, v487, v488, v489, v490, v491, v494,
    v500, v501, v502, v503, v504, v505, v506, v508, v511, v512, v513, v514, v515, v516, v519, v523, v525, v527, v528, v529, v530, v531, v532, v533,
    v536, v537, v538, v539, v540, v541, v544, v548, v550, v552, v553, v554, v555, v556, v566, v572, v588, v589, v590, v591, v592, v593, v594, v595,
    v596, v597, v598, v599, v602, v603, v604, v605, v607, v608, v611, v612, v613, v614, v615, v616, v617, v618, v619, v620, v621, v622, v623, v626,
    v627, v628, v629, v631, v632, v635, v637, v638, v639, v640, v641, v642, v643, v644, v645, v646, v647, v650, v651, v652, v653, v655, v656, v659,
    v661, v662, v663, v664, v665, v666, v667, v668, v669, v670, v671, v674, v675, v676, v677, v679, v680, v683, v684, v685, v686, v687, v689, v690,
    v691, v692, v722, v729, v732, v733, v734, v735, v736, v737, v740, v746, v747, v748, v749, v750, v751, v752, v754, v757, v758, v759, v760, v761,
    v762, v765, v771, v773, v774, v775, v776, v777, v779, v782, v783, v784, v785, v786, v787, v790, v796, v810, v836, v837, v838, v839, v842, v843,
    v844, v845, v846, v847, v850, v859, v860, v861, v862, v863, v864, v865, v866, v867, v868, v869, v870, v873, v874, v875, v876, v878, v879, v882,
    v884, v885, v886, v887, v888, v889, v890, v891, v892, v893, v894, v897, v898, v899, v900, v902, v903, v906, v908, v909, v910, v911, v912, v913,
    v914, v915, v916, v917, v918, v921, v922, v923, v924, v926, v927, v930, v932, v933, v934, v935, v936, v937, v938, v939, v940, v941, v942, v945,
    v946, v947, v948, v950, v951, v954, v956, v957, v958, v959, v960, v961, v962, v963, v964, v965, v966, v969, v970, v971, v972, v979, v982, v1017,
    v1030, v1041, v1042, v1043, v1044, v1045, v1046, v1047, v1048, v1049, v1052, v1053, v1054, v1055, v1056, v1057, v1060, v1066, v1068, v1069, v1070,
    v1071, v1072, v1074, v1077, v1078, v1079, v1080, v1081, v1082, v1085, v1091, v1093, v1094, v1095, v1096, v1097, v1098, v1099, v1102, v1103, v1104,
    v1105, v1106, v1107, v1110, v1114, v1116, v1118, v1119, v1120, v1121, v1122, v1123, v1124, v1127, v1128, v1129, v1130, v1131, v1132, v1135, v1139,
    v1141, v1143, v1144, v1145, v1146, v1147, v1148, v1149, v1157, v1163, v1179, v1180, v1181, v1182, v1183, v1184, v1185, v1186, v1187, v1188, v1189,
    v1190, v1193, v1194, v1195, v1196, v1198, v1199, v1202, v1203, v1204, v1205, v1206, v1207, v1208, v1209, v1210, v1211, v1212, v1213, v1214, v1217,
    v1218, v1219, v1220, v1222, v1223, v1226, v1228, v1229, v1230, v1231, v1232, v1233, v1234, v1235, v1236, v1237, v1238, v1241, v1242, v1243, v1244,
    v1246, v1247, v1250, v1252, v1253, v1254, v1255, v1256, v1257, v1258, v1259, v1260, v1261, v1262, v1265, v1266, v1267, v1268, v1270, v1271, v1274,
    v1276, v1277, v1278, v1279, v1280, v1281, v1282, v1283, v1284, v1285, v1286, v1289, v1290, v1291, v1292, v1294, v1295, v1298, v1300, v1301, v1302,
    v1303, v1304, v1305, v1306, v1307, v1308, v1309, v1310, v1313, v1314, v1315, v1316, v1318, v1319, v1323, v1326, v1358, v1360, v1361, v1362, v1363,
    v1364, v1365, v1366, v1367, v1368, v1371, v1372, v1373, v1374, v1375, v1376, v1379, v1385, v1387, v1388, v1389, v1390, v1391, v1393, v1396, v1397,
    v1398, v1399, v1400, v1401, v1404, v1410, v1412, v1413, v1414, v1415, v1416, v1418, v1421, v1422, v1423, v1424, v1425, v1426, v1429, v1435, v1437,
    v1438, v1439, v1440, v1441, v1443, v1446, v1447, v1448, v1449, v1450, v1451, v1454, v1460, v1462, v1463, v1464, v1465, v1466, v1468, v1471, v1472,
    v1473, v1474, v1475, v1476, v1479, v1485, v1487, v1488, v1489, v1490, v1491, v1493, v1496, v1499, v1511, v1526, v1532, v1533, v1534, v1535, v1536,
    v1539, v1548, v1549, v1550, v1551, v1552, v1553, v1554, v1555, v1556, v1557, v1558, v1559, v1562, v1563, v1564, v1565, v1567, v1568, v1571, v1573,
    v1574, v1575, v1576, v1577, v1578, v1579, v1580, v1581, v1582, v1583, v1586, v1587, v1588, v1589, v1591, v1592, v1595, v1597, v1598, v1599, v1600,
    v1601, v1602, v1603, v1604, v1605, v1606, v1607, v1610, v1611, v1612, v1613, v1615, v1616, v1619, v1621, v1622, v1623, v1624, v1625, v1626, v1627,
    v1628, v1629, v1630, v1631, v1634, v1635, v1636, v1637, v1639, v1640, v1643, v1645, v1646, v1647, v1648, v1649, v1650, v1651, v1652, v1653, v1654,
    v1655, v1658, v1659, v1660, v1661, v1663, v1664, v1667, v1669, v1670, v1671, v1672, v1673, v1674, v1675, v1676, v1677, v1678, v1679, v1682, v1683,
    v1684, v1685, v1687, v1688, v1691, v1693, v1694, v1695, v1696, v1697, v1698, v1699, v1700, v1701, v1702, v1703, v1709, v1716, v1719, v1754, v1767,
    v1778, v1779, v1780, v1781, v1782, v1783, v1784, v1786, v1789, v1790, v1791, v1792, v1793, v1794, v1797, v1803, v1805, v1806, v1807, v1808, v1809,
    v1811, v1814, v1815, v1816, v1817, v1818, v1819, v1822, v1828, v1830, v1831, v1832, v1833, v1834, v1836, v1839, v1840, v1841, v1842, v1843, v1844,
    v1847, v1853, v1855, v1856, v1857, v1858, v1859, v1861, v1864, v1865, v1866, v1867, v1868, v1869, v1872, v1878, v1880, v1881, v1882, v1883, v1884,
    v1886, v1889, v1890, v1891, v1892, v1893, v1894, v1897, v1901, v1903, v1905, v1906, v1907, v1908, v1909, v1910, v1911, v1914, v1915, v1917, v1944,
    v1951, v1952, v1953, v1954, v1957, v1966, v1967, v1968, v1969, v1970, v1971, v1972, v1973, v1974, v1975, v1976, v1977, v1980, v1981, v1982, v1983,
    v1985, v1986, v1989, v1991, v1992, v1993, v1994, v1995, v1996, v1997, v1998, v1999, v2000, v2001, v2004, v2005, v2006, v2007, v2009, v2010, v2013,
    v2015, v2016, v2017, v2018, v2019, v2020, v2021, v2022, v2023, v2024, v2025, v2028, v2029, v2030, v2031, v2033, v2034, v2037, v2039, v2040, v2041,
    v2042, v2043, v2044, v2045, v2046, v2047, v2048, v2049, v2052, v2053, v2054, v2055, v2057, v2058, v2061, v2063, v2064, v2065, v2066, v2067, v2068,
    v2069, v2070, v2071, v2072, v2073, v2076, v2077, v2078, v2079, v2081, v2082, v2085, v2087, v2095, v2103, v2110, v2111, v2119, v2127, v2135, v2143,
    v2151, v2158, v2161, v_1,
    k0_pay1, k0_pay2, k0_pay3, k0_pay4, k0_pay5, k0_pay6, k0_pay7, k0_pay8, k0_pay9, k0_pay10, k0_pay11, k0_pay12, k0_pay13, k0_pay14, k0_pay15,
    k0_pay22, k0_pay23, k0_pay24, k0_pay25, k0_pay26, k0_pay27, k0_pay28, k0_pay29, k0_pay30, k0_pay46, k0_pay47, k0_pay48, k0_pay49, k0_pay50,
    k0_pay55, k0_pay56, k0_pay57, k0_pay58, k0_pay59, k0_pay81, k0_pay82, k0_pay83, k0_pay84, k0_pay95, k0_pay96, k0_pay97, k0_pay98, k0_pay99,
    k0_pay100, k0_pay123, k0_pay124, k0_pay125, k0_pay126, k0_pay127, k0_pay140, k0_pay141, k0_pay142, k0_pay143, k0_pay144, k0_pay145, k0_pay178,
    k0_pay179, k0_pay180, k0_pay181, k0_pay182, k0_pay183, k0_pay184, k0_pay185, k0_pay186, k0_pay200, k0_pay201, k0_pay202, k0_pay203, k0_pay204,
    k0_pay205, k0_pay237, k0_pay238, k0_pay239, k0_pay240, k0_pay241, k0_pay266, k0_pay267, k0_pay268, k0_pay269, k0_pay309, k0_pay310, k0_pay311,
    k0_pay312, k0_pay313, k0_pay314, k0_pay315, k0_pay316, k0_pay317, k0_pay318, k0_pay344, k0_pay345, k0_pay346, k0_pay347, k0_pay379, k0_pay380,
    k0_pay381, k0_pay382, k0_pay383, k0_pay384, k0_pay385, k0_pay386, k0_pay387, k0_pay388, k0_pay389, k0_pay390, k0_pay391, k0_pay392, k0_pay393,
    k0_pay394,
    rowBlock, block, attend, scored, maxOf, quotient, accStep, sumStep, zeros, prob0, prob1, kept, maxRow, maxStep, maxInit, scoreDiag, score, gate,
    scaled, tile, List.map_cons, List.map_nil, List.nil_append, List.cons_append, List.foldl_cons, List.foldl_nil]
  rfl

end Cert.KernelIdeal.Fox

end
-- ==== Proof.FoxSum.lean ====
/- SUMS AND MAXIMA OF EXTENDED REALS, as the two attentions need them. -/
module

public import Idealize.ShloMosaic.Lib.Pipeline.ValueKit

@[expose] public section

noncomputable section

open Idealize.ShloMosaic

namespace Cert.FoxSum

/-- A factor that is nonnegative and not `⊤` goes inside a sum. -/
theorem sum_mul_real {ι : Type} (s : Finset ι) (f : ι → EReal) (c : EReal) (h0 : 0 ≤ c) (ht : c ≠ ⊤) :
    (∑ x ∈ s, f x) * c = ∑ x ∈ s, f x * c := by
  classical
  induction s using Finset.induction_on with
  | empty => simp
  | insert a s ha ih => rw [Finset.sum_insert ha, Finset.sum_insert ha, EReal.right_distrib_of_nonneg_of_ne_top h0 ht, ih]

/-- The reciprocal of a nonnegative extended real is nonnegative and not `⊤`. -/
theorem inv_ne_top (l : EReal) : l⁻¹ ≠ ⊤ := by
  induction l with
  | bot => simp
  | top => simp
  | coe x => rw [← EReal.coe_inv]; exact EReal.coe_ne_top _

/-- The weighted sum over the sum of the weights, divided before or after. -/
theorem mean_eq {ι : Type} (s : Finset ι) (p v : ι → EReal) (l : EReal) (h0 : 0 ≤ l) :
    (∑ x ∈ s, p x * v x) * l⁻¹ = ∑ x ∈ s, p x * l⁻¹ * v x := by
  rw [sum_mul_real s _ _ (EReal.inv_nonneg_of_nonneg h0) (inv_ne_top l)]
  exact Finset.sum_congr rfl fun x _ => by rw [mul_right_comm]

/-- Eight tiles of 256 keys are the 2048 keys. -/
theorem sum_tiles (f : Fin 2048 → EReal) :
    ∑ k : Fin 2048, f k = ∑ j : Fin 8, ∑ x : Fin 256, f ⟨256 * j.val + x.val, by omega⟩ := by
  rw [← Finset.sum_product', Finset.univ_product_univ]
  refine (Fintype.sum_equiv (finProdFinEquiv (m := 8) (n := 256)) _ f fun a => ?_).symm
  exact congrArg f (Fin.ext (Nat.add_comm _ _))

/-- Two halves of 128 lanes are the 256 keys of a tile. -/
theorem sum_halves (f : Fin 256 → EReal) :
    ∑ k : Fin 256, f k = (∑ x : Fin 128, f ⟨x.val, by omega⟩) + ∑ x : Fin 128, f ⟨128 + x.val, by omega⟩ :=
  Fin.sum_univ_add (a := 128) (b := 128) f

/-- A sum over a list of tiles and one more is the sum over all tiles, where the others contribute nothing. -/
theorem sum_list (js : List (Fin 8)) (n : Fin 8) (hd : js.Nodup) (hm : ∀ j, j ∈ js ↔ j < n) (g : Fin 8 → EReal) (h0 : ∀ j, n < j → g j = 0) :
    (js.map g).sum + g n = ∑ j, g j := by
  classical
  have hn : n ∉ js := fun h => lt_irrefl n ((hm n).mp h)
  rw [← List.sum_toFinset g hd, add_comm, ← Finset.sum_insert (by simpa using hn)]
  refine Finset.sum_subset (Finset.subset_univ _) fun j _ hj => h0 j ?_
  have h1 : j ≠ n := fun e => hj (by simp [e])
  have h2 : ¬j < n := fun e => hj (by simp [(hm j).mpr e])
  exact lt_of_le_of_ne (not_lt.mp h2) h1.symm

/-- Extended reals with the same upper bounds are equal. -/
theorem eq_of_bounds {a b : EReal} (h : ∀ x, a ≤ x ↔ b ≤ x) : a = b := le_antisymm ((h b).mpr le_rfl) ((h a).mp le_rfl)

/-- The maximum of a family, from `⊥`. -/
theorem fold_le {ι : Type} (s : Finset ι) (f : ι → EReal) (x : EReal) : Finset.fold max ⊥ f s ≤ x ↔ ∀ k ∈ s, f k ≤ x := by
  rw [Finset.fold_max_le]; simp

/-- A left fold of additions, from any start. -/
theorem foldl_add {α : Type} (ss : List α) (g : α → EReal) (a : EReal) : ss.foldl (fun A s => A + g s) a = a + (ss.map g).sum := by
  induction ss generalizing a with
  | nil => simp
  | cons s ss ih => simp [ih, add_assoc]

/-- An exponential is nonnegative. -/
theorem exp_nonneg (x : EReal) : 0 ≤ Ideal.exp x := by
  induction x with
  | bot => exact le_rfl
  | top => exact le_top
  | coe r => exact EReal.coe_nonneg.mpr (Real.exp_pos r).le

/-- An exponential is positive, except of `⊥`. -/
theorem exp_pos {x : EReal} (h : x ≠ ⊥) : 0 < Ideal.exp x := by
  induction x with
  | bot => exact absurd rfl h
  | top => exact EReal.zero_lt_top
  | coe r => exact EReal.coe_pos.mpr (Real.exp_pos r)

/-- Dividing by what is not zero is multiplying by the reciprocal. -/
theorem div_of_ne {x y : EReal} (h : y ≠ 0) : Ideal.div x y = x * y⁻¹ := by
  rw [Ideal.div, if_neg h]

/-- The exponentials of scores less their maximum do not sum to zero: one score is not `⊥` and none is `⊤`. -/
theorem sum_exp_ne {ι : Type} [Fintype ι] (T : ι → EReal) (k0 : ι) (h0 : T k0 ≠ ⊥) (ht : ∀ k, T k ≠ ⊤) :
    ∑ k, Ideal.exp (T k - Finset.fold max ⊥ T Finset.univ) ≠ 0 := by
  have hμ : Finset.fold max ⊥ T Finset.univ ≠ ⊤ :=
    ne_of_lt ((Finset.fold_max_lt ⊤).mpr ⟨bot_lt_top, fun k _ => lt_top_iff_ne_top.mpr (ht k)⟩)
  generalize Finset.fold max ⊥ T Finset.univ = μ at hμ ⊢
  refine ne_of_gt (lt_of_lt_of_le (exp_pos ?_) (Finset.single_le_sum (f := fun k => Ideal.exp (T k - μ)) (fun k _ => exp_nonneg _) (Finset.mem_univ k0)))
  rw [sub_eq_add_neg]
  exact EReal.add_ne_bot_iff.mpr ⟨h0, by rwa [Ne, EReal.neg_eq_bot_iff]⟩

/-- The softmax's weighted sum, divided once at the end or at every weight: the same where one score is not `⊥` and none is `⊤`. -/
theorem softmax_eq {ι : Type} [Fintype ι] (T V : ι → EReal) (k0 : ι) (h0 : T k0 ≠ ⊥) (ht : ∀ k, T k ≠ ⊤) :
    (∑ k, Ideal.exp (T k - Finset.fold max ⊥ T Finset.univ) * V k) * Ideal.div 1 (∑ k, Ideal.exp (T k - Finset.fold max ⊥ T Finset.univ))
      = ∑ k, Ideal.div (Ideal.exp (T k - max ⊥ (Finset.fold max ⊥ T Finset.univ))) (∑ y, Ideal.exp (T y - max ⊥ (Finset.fold max ⊥ T Finset.univ))) * V k := by
  rw [max_eq_right bot_le]
  simp only [div_of_ne (sum_exp_ne T k0 h0 ht), one_mul]
  exact mean_eq _ _ _ _ (Finset.sum_nonneg fun k _ => exp_nonneg _)

/-- The same sum with every weight times the reciprocal of their sum, the values before or after the weights. -/
theorem softmax_comm {ι : Type} [Fintype ι] (T V : ι → EReal) (k0 : ι) (h0 : T k0 ≠ ⊥) (ht : ∀ k, T k ≠ ⊤) :
    ∑ k, Ideal.exp (T k - Finset.fold max ⊥ T Finset.univ) * Ideal.div 1 (∑ y, Ideal.exp (T y - Finset.fold max ⊥ T Finset.univ)) * V k
      = ∑ k, V k * Ideal.div (Ideal.exp (T k - max ⊥ (Finset.fold max ⊥ T Finset.univ))) (∑ y, Ideal.exp (T y - max ⊥ (Finset.fold max ⊥ T Finset.univ))) := by
  rw [max_eq_right bot_le]
  simp only [div_of_ne (sum_exp_ne T k0 h0 ht), one_mul]
  exact Finset.sum_congr rfl fun k _ => mul_comm _ _

/-- The word of 128. -/
theorem w128 : Ideal.ofBits .f32 1124073472#32 = ((128 : ℝ) : EReal) := by
  simp [Ideal.ofBits, Ideal.ieee, -EReal.coe_mul]; norm_num

/-- A score of finite queries, keys and gates: scaled before or divided after, the gates added one at a time or as a difference. -/
theorem score_eq (q k : Fin 128 → ℝ) (a b : ℝ) :
    ((∑ x, (q x : EReal) * (((Real.sqrt 128)⁻¹ : ℝ) : EReal) * (k x : EReal)) + (a : EReal)) - (b : EReal)
      = (((∑ x, q x * k x) * (Real.sqrt 128)⁻¹ + (a - b) : ℝ) : EReal) := by
  have e : ∑ x, (q x : EReal) * (((Real.sqrt 128)⁻¹ : ℝ) : EReal) * (k x : EReal) = ((∑ x, q x * (Real.sqrt 128)⁻¹ * k x : ℝ) : EReal) := by
    push_cast; rfl
  rw [e, ← EReal.coe_add, ← EReal.coe_sub, Finset.sum_mul]
  congr 1
  rw [add_sub_assoc]
  congr 1
  exact Finset.sum_congr rfl fun x _ => mul_right_comm _ _ _

/-- The reference's score of finite queries, keys and gates. -/
theorem score_ref_eq (q k : Fin 128 → ℝ) (a b : ℝ) :
    Ideal.div (∑ x, (q x : EReal) * (k x : EReal)) (Ideal.sqrt (Ideal.ofBits .f32 1124073472#32)) + ((a : EReal) - (b : EReal))
      = (((∑ x, q x * k x) * (Real.sqrt 128)⁻¹ + (a - b) : ℝ) : EReal) := by
  have e : ∑ x, (q x : EReal) * (k x : EReal) = ((∑ x, q x * k x : ℝ) : EReal) := by push_cast; rfl
  have s : Ideal.sqrt (Ideal.ofBits .f32 1124073472#32) = ((Real.sqrt 128 : ℝ) : EReal) := by
    rw [w128]
    show (if (128 : ℝ) < 0 then ⊥ else ((Real.sqrt 128 : ℝ) : EReal)) = _
    exact if_neg (by norm_num)
  have n : ((Real.sqrt 128 : ℝ) : EReal) ≠ 0 := by
    rw [Ne, EReal.coe_eq_zero]; exact Real.sqrt_ne_zero'.mpr (by norm_num)
  rw [s, div_of_ne n, e, ← EReal.coe_inv, ← EReal.coe_mul, ← EReal.coe_sub, ← EReal.coe_add]

end Cert.FoxSum

end
-- ==== Proof.FoxRow.lean ====
/- ONE ROW BLOCK OF THE FORGETTING ATTENTION, element by element over the extended reals: the tiles' scores are the masked scores of
   all 2048 keys where a key after the query counts `⊥`, and the block computes their softmax's weighted sum of the values. -/
module

public import proofs.«01_k».proof.Proof.FoxPieces
public import proofs.«01_k».proof.Proof.FoxSum

@[expose] public section

set_option maxRecDepth 16384

noncomputable section

open Idealize.ShloMosaic Idealize.ShloMosaic.TcCoe Idealize.SL.Sem Idealize.ShloMosaic.Tactic

namespace Cert.KernelIdeal.Fox

open Cert.KernelIdeal Cert.KernelIdeal.Gen Cert.FoxSum

/-- The word of minus infinity. -/
theorem bot_f32 : Ideal.ofBits .f32 4286578688#32 = ⊥ := by
  simp [Ideal.ofBits, Ideal.ieee]

/-- One element of `scaled`. -/
theorem scaled_apply (q : Vec Ideal S256x128 .bf16) (r : Fin 256) (e : Fin 128) :
    scaled q (ix2 r e) = q (ix2 r e) * (((Real.sqrt 128)⁻¹ : ℝ) : EReal) := by
  pointwise [scaled]
  rfl

/-- One element of `maxInit`. -/
theorem maxInit_apply (r : Fin 256) (j : Fin 128) : maxInit (F := Ideal) (ix2 r j) = ⊥ := by
  pointwise [maxInit]
  rfl

/-- One element of `zeros`. -/
theorem zeros_apply (r : Fin 256) (j : Fin 128) : zeros (F := Ideal) (ix2 r j) = 0 := by
  pointwise [zeros]

/-- One element of `maxStep`. -/
theorem maxStep_apply (M : FVec Ideal S256x128 .f32) (s : FVec Ideal S256x256 .f32) (r : Fin 256) (j : Fin 128) :
    maxStep M s (ix2 r j) = max (max (M (ix2 r j)) (s (ix2 r ⟨j.val, by omega⟩))) (s (ix2 r ⟨128 + j.val, by omega⟩)) := by
  pointwise [maxStep]

/-- One element of `maxRow`. -/
theorem maxRow_apply (M : FVec Ideal S256x128 .f32) (r : Fin 256) (j : Fin 128) :
    maxRow M (ix2 r j) = Finset.fold max ⊥ (fun x : Fin 128 => M (ix2 r x)) Finset.univ := by
  rw [← bot_f32]
  pointwise [maxRow]

/-- One element of `sumStep`. -/
theorem sumStep_apply (M L : FVec Ideal S256x128 .f32) (s : FVec Ideal S256x256 .f32) (r : Fin 256) (j : Fin 128) :
    sumStep M L s (ix2 r j) = L (ix2 r j) + (Ideal.exp (s (ix2 r ⟨j.val, by omega⟩) - M (ix2 r j)) + Ideal.exp (s (ix2 r ⟨128 + j.val, by omega⟩) - M (ix2 r j))) := by
  pointwise [sumStep, prob0, prob1, kept]

/-- One element of `accStep`. -/
theorem accStep_apply (M A : FVec Ideal S256x128 .f32) (s : FVec Ideal S256x256 .f32) (v : Vec Ideal S256x128 .bf16) (r : Fin 256) (j : Fin 128) :
    accStep M A s v (ix2 r j) = A (ix2 r j) + ((∑ x : Fin 128, Ideal.exp (s (ix2 r ⟨x.val, by omega⟩) - M (ix2 r x)) * v (ix2 ⟨x.val, by omega⟩ j))
      + ∑ x : Fin 128, Ideal.exp (s (ix2 r ⟨128 + x.val, by omega⟩) - M (ix2 r x)) * v (ix2 ⟨128 + x.val, by omega⟩ j)) := by
  pointwise [accStep, prob0, prob1, kept, beside]

/-- One element of `quotient`. -/
theorem quotient_apply (L A : FVec Ideal S256x128 .f32) (r : Fin 256) (j : Fin 128) :
    quotient L A (ix2 r j) = A (ix2 r j) * Ideal.div 1 (∑ x : Fin 128, L (ix2 r x)) := by
  pointwise [quotient]

/-- One element of `gate`. -/
theorem gate_apply (i : grid0.Coords) (fc : Vec Ideal S256x128 .f32) (r : Fin 256) (j : Fin 128) :
    gate i fc (ix2 r j) = ∑ x : Fin 128, Scalar.select (IntOp.cmpi .eq (BitVec.ofNat 32 x.val) (Scalar.addi 32#32 (BitVec.ofNat 32 (i 1).val))) (fc (ix2 r x)) 0 := by
  pointwise [gate]

/-- One element of `score`. -/
theorem score_apply (q : FVec Ideal S256x128 .bf16) (g : FVec Ideal S256x128 .f32) (t : Tile Ideal) (r j : Fin 256) :
    score q g t (ix2 r j) = (if h : j.val < 128 then (∑ x : Fin 128, q (ix2 r x) * t.k (ix2 j x)) + g (ix2 r ⟨j.val, h⟩)
      else (∑ x : Fin 128, q (ix2 r x) * t.k (ix2 ⟨128 + (j.val - 128), by omega⟩ x)) + g (ix2 r ⟨j.val - 128, by omega⟩)) - t.f (ix3 0 0 j) := by
  pointwise [score, beside]

/-- One element of `scoreDiag`. -/
theorem scoreDiag_apply (q : FVec Ideal S256x128 .bf16) (g : FVec Ideal S256x128 .f32) (t : Tile Ideal) (r j : Fin 256) :
    scoreDiag q g t (ix2 r j) = Scalar.select (IntOp.cmpi .sle (BitVec.ofNat 32 j.val) (BitVec.ofNat 32 r.val)) (score q g t (ix2 r j)) ⊥ := by
  pointwise [scoreDiag]
  rfl

/-- The running maximum of a list of tiles lies below `x` when every score of the two lanes does. -/
theorem foldl_max_le (ss : List (FVec Ideal S256x256 .f32 × Vec Ideal S256x128 .bf16)) (M : FVec Ideal S256x128 .f32) (r : Fin 256) (j : Fin 128) (x : EReal) :
    ss.foldl (fun M s => maxStep M s.1) M (ix2 r j) ≤ x
      ↔ M (ix2 r j) ≤ x ∧ ∀ s ∈ ss, s.1 (ix2 r ⟨j.val, by omega⟩) ≤ x ∧ s.1 (ix2 r ⟨128 + j.val, by omega⟩) ≤ x := by
  induction ss generalizing M with
  | nil => simp
  | cons s ss ih =>
    rw [List.foldl_cons, ih, maxStep_apply, max_le_iff, max_le_iff, List.forall_mem_cons]
    tauto

/-- The row maximum lies below `x` when every score of the row does. -/
theorem maxOf_le (ss : List (FVec Ideal S256x256 .f32 × Vec Ideal S256x128 .bf16)) (r : Fin 256) (j : Fin 128) (x : EReal) :
    maxOf ss (ix2 r j) ≤ x ↔ ∀ s ∈ ss, ∀ k : Fin 256, s.1 (ix2 r k) ≤ x := by
  rw [maxOf, maxRow_apply, fold_le]
  constructor
  · intro h s hs k
    by_cases hk : k.val < 128
    · exact (((foldl_max_le ss _ r ⟨k.val, hk⟩ x).mp (h ⟨k.val, hk⟩ (Finset.mem_univ _))).2 s hs).1
    · have h2 := (((foldl_max_le ss _ r ⟨k.val - 128, by omega⟩ x).mp (h ⟨k.val - 128, by omega⟩ (Finset.mem_univ _))).2 s hs).2
      have e : (⟨128 + (k.val - 128), by omega⟩ : Fin 256) = k := Fin.ext (by show 128 + (k.val - 128) = k.val; omega)
      rwa [e] at h2
  · intro h y _
    exact (foldl_max_le ss _ r y x).mpr ⟨by rw [maxInit_apply]; exact bot_le, fun s hs => ⟨h s hs _, h s hs _⟩⟩

/-- The running sum of exponentials of a list of tiles. -/
theorem foldl_sum (ss : List (FVec Ideal S256x256 .f32 × Vec Ideal S256x128 .bf16)) (M L : FVec Ideal S256x128 .f32) (r : Fin 256) (j : Fin 128) :
    ss.foldl (fun L s => sumStep M L s.1) L (ix2 r j) = L (ix2 r j)
      + (ss.map fun s => Ideal.exp (s.1 (ix2 r ⟨j.val, by omega⟩) - M (ix2 r j)) + Ideal.exp (s.1 (ix2 r ⟨128 + j.val, by omega⟩) - M (ix2 r j))).sum := by
  induction ss generalizing L with
  | nil => simp
  | cons s ss ih => rw [List.foldl_cons, ih, sumStep_apply, List.map_cons, List.sum_cons, add_assoc]

/-- The running weighted sum of a list of tiles, the row's maximum the same in every lane. -/
theorem foldl_acc (ss : List (FVec Ideal S256x256 .f32 × Vec Ideal S256x128 .bf16)) (M A : FVec Ideal S256x128 .f32) (r : Fin 256) (j : Fin 128) (μ : EReal)
    (hM : ∀ x : Fin 128, M (ix2 r x) = μ) :
    ss.foldl (fun A s => accStep M A s.1 s.2) A (ix2 r j) = A (ix2 r j)
      + (ss.map fun s => ∑ k : Fin 256, Ideal.exp (s.1 (ix2 r k) - μ) * s.2 (ix2 k j)).sum := by
  induction ss generalizing A with
  | nil => simp
  | cons s ss ih =>
    rw [List.foldl_cons, ih, accStep_apply, List.map_cons, List.sum_cons, add_assoc, sum_halves]
    simp only [hM]

/-- The sum over the lanes of a list's sums is the list's sum of sums over the lanes. -/
theorem sum_list_comm {α : Type} (ss : List α) (g : α → Fin 128 → EReal) : ∑ x : Fin 128, (ss.map fun s => g s x).sum = (ss.map fun s => ∑ x : Fin 128, g s x).sum := by
  induction ss with
  | nil => simp
  | cons s ss ih => simp only [List.map_cons, List.sum_cons, Finset.sum_add_distrib, ih]

/-- A row block over a list of tiles: the weighted sum of the values times the reciprocal of the sum of the weights. -/
theorem attend_apply (ss : List (FVec Ideal S256x256 .f32 × Vec Ideal S256x128 .bf16)) (r : Fin 256) (j : Fin 128) (μ : EReal)
    (hμ : ∀ x, μ ≤ x ↔ ∀ s ∈ ss, ∀ k : Fin 256, s.1 (ix2 r k) ≤ x) :
    attend ss (ix2 r j) = (ss.map fun s => ∑ k : Fin 256, Ideal.exp (s.1 (ix2 r k) - μ) * s.2 (ix2 k j)).sum
      * Ideal.div 1 (ss.map fun s => ∑ k : Fin 256, Ideal.exp (s.1 (ix2 r k) - μ)).sum := by
  have hM : ∀ x : Fin 128, maxOf ss (ix2 r x) = μ := fun x => eq_of_bounds fun y => by rw [maxOf_le, hμ]
  rw [attend, quotient_apply, foldl_acc ss _ _ r j μ hM, zeros_apply, zero_add]
  refine congrArg (fun l => _ * Ideal.div 1 l) ?_
  rw [← List.map_congr_left fun s _ => (sum_halves fun k => Ideal.exp (s.1 (ix2 r k) - μ)).symm.trans rfl]
  simp only [foldl_sum, zeros_apply, zero_add, hM, sum_list_comm, Finset.sum_add_distrib]

/-- The row block `n` computes the softmax of the row `T` of masked scores times the values: the tiles before `n` hold the scores of
    their keys, tile `n` the masked ones, and the keys of later tiles count `⊥`. -/
theorem attend_scored (q : FVec Ideal S256x128 .bf16) (g : FVec Ideal S256x128 .f32) (t : Fin 8 → Tile Ideal) (js : List (Fin 8)) (n : Fin 8)
    (hd : js.Nodup) (hm : ∀ j, j ∈ js ↔ j < n) (r : Fin 256) (j : Fin 128) (T V : Fin 2048 → EReal)
    (hb : ∀ (a : Fin 8), a < n → ∀ k : Fin 256, score q g (t a) (ix2 r k) = T ⟨256 * a.val + k.val, by omega⟩)
    (he : ∀ k : Fin 256, scoreDiag q g (t n) (ix2 r k) = T ⟨256 * n.val + k.val, by omega⟩)
    (ha : ∀ (a : Fin 8), n < a → ∀ k : Fin 256, T ⟨256 * a.val + k.val, by omega⟩ = ⊥)
    (hv : ∀ (a : Fin 8) (k : Fin 256), (t a).v (ix2 k j) = V ⟨256 * a.val + k.val, by omega⟩) :
    attend (scored q g (js.map t) (t n)) (ix2 r j)
      = (∑ k, Ideal.exp (T k - Finset.fold max ⊥ T Finset.univ) * V k) * Ideal.div 1 (∑ k, Ideal.exp (T k - Finset.fold max ⊥ T Finset.univ)) := by
  have hsplit : ∀ P : Fin 2048 → Prop, (∀ k, P k) ↔ ∀ (a : Fin 8) (k : Fin 256), P ⟨256 * a.val + k.val, by omega⟩ := fun P =>
    ⟨fun h a k => h _, fun h k => by
      have e : (⟨256 * (k.val / 256) + k.val % 256, by omega⟩ : Fin 2048) = k := Fin.ext (Nat.div_add_mod _ _)
      exact e ▸ h ⟨k.val / 256, by omega⟩ ⟨k.val % 256, by omega⟩⟩
  have hμ : ∀ x, Finset.fold max ⊥ T Finset.univ ≤ x ↔ ∀ s ∈ scored q g (js.map t) (t n), ∀ k : Fin 256, s.1 (ix2 r k) ≤ x := by
    intro x
    rw [fold_le]
    simp only [Finset.mem_univ, true_implies, scored, List.forall_mem_append, List.forall_mem_map, List.forall_mem_singleton]
    rw [hsplit fun k => T k ≤ x]
    constructor
    · exact fun h => ⟨fun a hja k => (hb a ((hm a).mp hja) k).trans_le (h a k), fun k => (he k).trans_le (h n k)⟩
    · intro h a k
      rcases lt_trichotomy a n with l | l | l
      · exact (hb a l k).symm.trans_le (h.1 a ((hm a).mpr l) k)
      · subst l; exact (he k).symm.trans_le (h.2 k)
      · rw [ha a l k]; exact bot_le
  have hsum : ∀ (W : Fin 2048 → EReal) (w : FVec Ideal S256x256 .f32 × Vec Ideal S256x128 .bf16 → Fin 256 → EReal)
      (_ : ∀ a : Fin 8, a < n → ∀ k, w (score q g (t a), (t a).v) k = W ⟨256 * a.val + k.val, by omega⟩)
      (_ : ∀ k, w (scoreDiag q g (t n), (t n).v) k = W ⟨256 * n.val + k.val, by omega⟩)
      (_ : ∀ a : Fin 8, n < a → ∀ k : Fin 256, W ⟨256 * a.val + k.val, by omega⟩ = 0),
      ((scored q g (js.map t) (t n)).map fun s => ∑ k : Fin 256, w s k).sum = ∑ k, W k := by
    intro W w h1 h2 h3
    rw [sum_tiles, ← sum_list js n hd hm (fun a => ∑ x : Fin 256, W ⟨256 * a.val + x.val, by omega⟩) fun a hna => Finset.sum_eq_zero fun k _ => h3 a hna k]
    simp only [scored, List.map_append, List.map_map, List.sum_append, List.map_cons, List.map_nil, List.sum_cons, List.sum_nil, add_zero, h2]
    congr 2
    exact List.map_congr_left fun a hja => Finset.sum_congr rfl fun k _ => h1 a ((hm a).mp hja) k
  rw [attend_apply _ r j _ hμ]
  rw [hsum (fun k => Ideal.exp (T k - Finset.fold max ⊥ T Finset.univ) * V k) (fun s k => Ideal.exp (s.1 (ix2 r k) - Finset.fold max ⊥ T Finset.univ) * s.2 (ix2 k j)),
    hsum (fun k => Ideal.exp (T k - Finset.fold max ⊥ T Finset.univ)) (fun s k => Ideal.exp (s.1 (ix2 r k) - Finset.fold max ⊥ T Finset.univ))]
  · exact fun a l k => by simp only [hb a l k]
  · exact fun k => by simp only [he k]
  · exact fun a l k => by rw [ha a l k, EReal.bot_sub]; rfl
  · exact fun a l k => by simp only [hb a l k, hv]
  · exact fun k => by simp only [he k, hv]
  · exact fun a l k => by rw [ha a l k, EReal.bot_sub]; exact zero_mul _

end Cert.KernelIdeal.Fox

end
-- ==== Proof.FoxRef.lean ====
/- WHAT THE REFERENCE OF THE FORGETTING ATTENTION COMPUTES, element by element: the masked scores over all 2048 keys, their softmax
   and the weighted sum of the values. -/
module

public import proofs.«01_k».proof.Proof.Gen.ReferenceIdeal.Run
public import Idealize.ShloMosaic.Lib.Pipeline.ValueKit

@[expose] public section

set_option maxRecDepth 65536

noncomputable section

open Idealize.ShloMosaic Idealize.ShloMosaic.TcCoe

namespace Cert.ReferenceIdeal.Fox

open Cert.ReferenceIdeal Cert.ReferenceIdeal.Gen

/-- The masked scores, for every batch, head, query and key. -/
def masked (X : FVec Ideal S16384x12288 .bf16) (Fc : FVec Ideal S16384x128 .f32) (Fr : FVec Ideal S8x128x2048 .f32) : FVec Ideal S8x16x2048x2048 .f32 :=
  select (broadcastInDim S8x16x2048x2048 ![2, 3] bcast_S2048x2048_S8x16x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))
    (addf (Host.divf (Host.dotGeneral dot_S8x16x2048x128_S8x16x2048x128_S8x16x2048x2048_3_3_2_2_01_01 none
        (transpose S8x16x2048x128 [0, 2, 1, 3] (shapeCast _ (extractStridedSlice S8x2048x2048 ![0, 0, 6144] (shapeCast _ (extf .f32 X bitsLt_bf16_f32) shapeCasts_S16384x12288_S8x2048x12288) slices_S8x2048x12288_S8x2048x2048_0_0_6144) shapeCasts_S8x2048x2048_S8x2048x16x128) transposes_S8x2048x16x128_S8x16x2048x128_0_2_1_3)
        (transpose S8x16x2048x128 [0, 2, 1, 3] (shapeCast _ (extractStridedSlice S8x2048x2048 ![0, 0, 8192] (shapeCast _ (extf .f32 X bitsLt_bf16_f32) shapeCasts_S16384x12288_S8x2048x12288) slices_S8x2048x12288_S8x2048x2048_0_0_8192) shapeCasts_S8x2048x2048_S8x2048x16x128) transposes_S8x2048x16x128_S8x16x2048x128_0_2_1_3))
      (broadcastInDim S8x16x2048x2048 ![] bcast_S_S8x16x2048x2048 (Host.sqrt (constant S_ .f32 0x43000000#32))))
      (subf (broadcastInDim S8x16x2048x2048 ![0, 1, 2, 3] bcast_S8x16x2048x1_S8x16x2048x2048_0_1_2_3 (broadcastInDim S8x16x2048x1 ![0, 1, 2] bcast_S8x16x2048_S8x16x2048x1_0_1_2 (transpose S8x16x2048 [0, 2, 1] (extractStridedSlice S8x2048x16 ![0, 0, 32] (shapeCast _ Fc shapeCasts_S16384x128_S8x2048x128) slices_S8x2048x128_S8x2048x16_0_0_32) transposes_S8x2048x16_S8x16x2048_0_2_1)))
        (broadcastInDim S8x16x2048x2048 ![0, 1, 2, 3] bcast_S8x16x1x2048_S8x16x2048x2048_0_1_2_3 (broadcastInDim S8x16x1x2048 ![0, 1, 3] bcast_S8x16x2048_S8x16x1x2048_0_1_3 (extractStridedSlice S8x16x2048 ![0, 32, 0] Fr slices_S8x128x2048_S8x16x2048_0_32_0)))))
    (broadcastInDim S8x16x2048x2048 ![] bcast_S_S8x16x2048x2048 (id (constant S_ .f32 0xFF800000#32)))

/-- The exponentials of the scores less their row maximum. -/
def weights (T : FVec Ideal S8x16x2048x2048 .f32) : FVec Ideal S8x16x2048x2048 .f32 :=
  Host.exp (subf T (broadcastInDim S8x16x2048x2048 ![0, 1, 2, 3] bcast_S8x16x2048x1_S8x16x2048x2048_0_1_2_3 (broadcastInDim S8x16x2048x1 ![0, 1, 2] bcast_S8x16x2048_S8x16x2048x1_0_1_2
    (maximumf (broadcastInDim S8x16x2048 ![] bcast_S_S8x16x2048 (constant S_ .f32 0xFF800000#32))
      (Host.reduce FloatOps.maximumf T (constant S_ .f32 0xFF800000#32) reducesTo_S8x16x2048x2048_S8x16x2048_d3 h_S_)))))

/-- The weights over their row sum, times the values. -/
def mixed (W : FVec Ideal S8x16x2048x2048 .f32) (X : FVec Ideal S16384x12288 .bf16) : FVec Ideal S16384x2048 .bf16 :=
  truncf .bf16 (shapeCast _ (transpose S8x2048x16x128 [0, 2, 1, 3] (Host.dotGeneral dot_S8x16x2048x2048_S8x16x2048x128_S8x16x2048x128_3_2_2_3_01_01 none
    (Host.divf W (broadcastInDim S8x16x2048x2048 ![0, 1, 2, 3] bcast_S8x16x2048x1_S8x16x2048x2048_0_1_2_3 (broadcastInDim S8x16x2048x1 ![0, 1, 2] bcast_S8x16x2048_S8x16x2048x1_0_1_2
      (Host.reduceAdd W (constant S_ .f32 0x00000000#32) reducesTo_S8x16x2048x2048_S8x16x2048_d3 h_S_))))
    (transpose S8x16x2048x128 [0, 2, 1, 3] (shapeCast _ (extractStridedSlice S8x2048x2048 ![0, 0, 10240] (shapeCast _ (extf .f32 X bitsLt_bf16_f32) shapeCasts_S16384x12288_S8x2048x12288) slices_S8x2048x12288_S8x2048x2048_0_0_10240) shapeCasts_S8x2048x2048_S8x2048x16x128) transposes_S8x2048x16x128_S8x16x2048x128_0_2_1_3))
    transposes_S8x16x2048x128_S8x2048x16x128_0_2_1_3) shapeCasts_S8x2048x16x128_S16384x2048) bitsLt_bf16_f32

/-- The reference as a function of its arrays. -/
def REF (X : FVec Ideal S16384x12288 .bf16) (Fc : FVec Ideal S16384x128 .f32) (Fr : FVec Ideal S8x128x2048 .f32) : FVec Ideal S16384x2048 .bf16 :=
  mixed (weights (masked X Fc Fr)) X

/-- The run's result is `REF` of the arguments. -/
theorem res_eq (m : (ℓ : Loc nD τ sig) → Buf (Elt Ideal) ℓ) (c : Dev nD) :
    Value.res_out0 m c = REF (m ((c.tc : Thread nD τ).loc main_arg0)) (m ((c.tc : Thread nD τ).loc main_arg1)) (m ((c.tc : Thread nD τ).loc main_arg2)) := rfl

theorem masked_apply (X : FVec Ideal S16384x12288 .bf16) (Fc : FVec Ideal S16384x128 .f32) (Fr : FVec Ideal S8x128x2048 .f32) (b : Fin 8) (h : Fin 16) (q k : Fin 2048) :
    masked X Fc Fr (ix4 b h q k) = Scalar.select (IntOp.cmpi CmpIPredicate.sle (BitVec.ofNat 32 k.val) (BitVec.ofNat 32 q.val))
      (Ideal.div (∑ x : Fin 128, X (ix2 ⟨b.val * 2048 + q.val, by omega⟩ ⟨6144 + (h.val * 128 + x.val), by omega⟩) * X (ix2 ⟨b.val * 2048 + k.val, by omega⟩ ⟨8192 + (h.val * 128 + x.val), by omega⟩))
          (Ideal.sqrt (Ideal.ofBits FTy.f32 1124073472#32)) +
        (Fc (ix2 ⟨b.val * 2048 + q.val, by omega⟩ ⟨32 + h.val, by omega⟩) - Fr (ix3 b ⟨32 + h.val, by omega⟩ k)))
      (Ideal.ofBits FTy.f32 4286578688#32) := by
  pointwise [masked]
  rfl

/-- A maximum over the last of four axes, of whatever lengths. -/
theorem reduce_max {m n o p : Nat} {u : Shape} (T : FVec Ideal ⟨4, ![m, n, o, p]⟩ .f32) (init : FVec Ideal u .f32)
    (h' : (⟨4, ![m, n, o, p]⟩ : Shape).ReducesTo [3] (⟨3, ![m, n, o]⟩ : Shape)) (hr : (⟨4, ![m, n, o, p]⟩ : Shape).Reduces [3] (⟨3, ![m, n, o]⟩ : Shape)) (hu : 0 < u.numel)
    (b : Fin m) (h : Fin n) (q : Fin o) :
    Host.reduce FloatOps.maximumf T init h' hu (ix3 b h q)
      = Finset.fold max (init (Shape.Idx.first hu)) (fun x : Fin p => T (ix4 b h q x)) Finset.univ := by
  rw [Host.reduce_eq_fold_single FloatOps.maximumf T init h' hr hu]
  have hf : T ∘ hr.lift (ix3 b h q) = fun x : Fin p => T (ix4 b h q x) := by
    funext x
    refine congrArg T (funext fun a => Fin.ext ?_)
    fin_cases a <;> rfl
  exact congrArg (fun f => Finset.fold max (init (Shape.Idx.first hu)) f (Finset.univ : Finset (Fin p))) hf

/-- The exponentials, given the row maxima as an array of their own. -/
theorem exps_apply (T : FVec Ideal S8x16x2048x2048 .f32) (R : FVec Ideal S8x16x2048 .f32) (b : Fin 8) (h : Fin 16) (q k : Fin 2048) :
    Host.exp (subf T (broadcastInDim S8x16x2048x2048 ![0, 1, 2, 3] bcast_S8x16x2048x1_S8x16x2048x2048_0_1_2_3 (broadcastInDim S8x16x2048x1 ![0, 1, 2] bcast_S8x16x2048_S8x16x2048x1_0_1_2
    (maximumf (broadcastInDim S8x16x2048 ![] bcast_S_S8x16x2048 (constant S_ .f32 0xFF800000#32)) R)))) (ix4 b h q k)
     = Ideal.exp (T (ix4 b h q k) - max (Ideal.ofBits FTy.f32 4286578688#32) (R (ix3 b h q))) := by
  pointwise []

theorem reduces_last : S8x16x2048x2048.Reduces [3] S8x16x2048 := by decide

theorem weights_apply (T : FVec Ideal S8x16x2048x2048 .f32) (b : Fin 8) (h : Fin 16) (q k : Fin 2048) :
    weights T (ix4 b h q k) = Ideal.exp (T (ix4 b h q k) - max (Ideal.ofBits FTy.f32 4286578688#32)
          (Finset.fold max (Ideal.ofBits FTy.f32 4286578688#32) (fun x : Fin 2048 => T (ix4 b h q x)) Finset.univ)) := by
  unfold weights
  rw [exps_apply]
  have e := reduce_max T (constant S_ .f32 0xFF800000#32) reducesTo_S8x16x2048x2048_S8x16x2048_d3 reduces_last h_S_ b h q
  exact congrArg (fun z => Ideal.exp (T (ix4 b h q k) - max (Ideal.ofBits FTy.f32 4286578688#32) z)) e

theorem mixed_apply (W : FVec Ideal S8x16x2048x2048 .f32) (X : FVec Ideal S16384x12288 .bf16) (R : Fin 16384) (C : Fin 2048) :
    mixed W X (ix2 R C) = ∑ x : Fin 2048, Ideal.div (W (ix4 ⟨R.val / 2048, by omega⟩ ⟨C.val / 128, by omega⟩ ⟨R.val % 2048, by omega⟩ x))
          (∑ y : Fin 2048, W (ix4 ⟨R.val / 2048, by omega⟩ ⟨C.val / 128, by omega⟩ ⟨R.val % 2048, by omega⟩ y)) *
        X (ix2 ⟨R.val / 2048 * 2048 + x.val, by omega⟩ ⟨10240 + C.val, by omega⟩) := by
  pointwise [mixed]

end Cert.ReferenceIdeal.Fox

end
-- ==== Proof.FoxFinite.lean ====
/- WHAT THE PRECONDITION OF THE FORGETTING ATTENTION SAYS: the queries, the keys and the gates it reads are real numbers. -/
module

public import proofs.«01_k».proof.Proof.Gen.Pre_finite_scores
public import Idealize.ShloMosaic.Lib.ReduceAll
public import Idealize.ShloMosaic.Lib.WordCmp
public import Idealize.ShloMosaic.Lib.Pipeline.ValueKit

@[expose] public section

set_option maxRecDepth 16384

noncomputable section

open Idealize.ShloMosaic Idealize.ShloMosaic.TcCoe

namespace Cert.Pre_finite_scores.Fox

open Cert.Pre_finite_scores Cert.Pre_finite_scores.Gen

/-- The word of infinity. -/
theorem top_f32 : Ideal.ofBits .f32 0x7F800000#32 = ⊤ := by
  simp [Ideal.ofBits, Ideal.ieee]

/-- Below infinity in absolute value: a real number. -/
theorem real_of_abs_lt (x : EReal) (h : FloatOps.cmpf (F := Ideal) (φ := .f32) .olt (FloatOps.hostAbsf x) (Ideal.ofBits .f32 0x7F800000#32) = 1#1) : ∃ r : ℝ, x = (r : EReal) := by
  rw [top_f32] at h
  induction x with
  | coe r => exact ⟨r, rfl⟩
  | bot => exact absurd h (by simp [FloatOps.cmpf, FloatOps.hostAbsf, Ideal.cmp])
  | top => exact absurd h (by simp [FloatOps.cmpf, FloatOps.hostAbsf, Ideal.cmp])

/-- The entries that the precondition is about are real numbers. -/
structure Finite (X : FVec Ideal S16384x12288 .bf16) (Fc : FVec Ideal S16384x128 .f32) (Fr : FVec Ideal S8x128x2048 .f32) : Prop where
  /-- the queries and the keys -/
  qk : ∀ (R : Fin 16384) (C : Fin 4096), ∃ x : ℝ, X (ix2 R ⟨6144 + C.val, by omega⟩) = (x : EReal)
  /-- the query side's gates -/
  fc : ∀ (R : Fin 16384) (h : Fin 16), ∃ x : ℝ, Fc (ix2 R ⟨32 + h.val, by omega⟩) = (x : EReal)
  /-- the key side's gates -/
  fr : ∀ (b : Fin 8) (h : Fin 16) (k : Fin 2048), ∃ x : ℝ, Fr (ix3 b ⟨32 + h.val, by omega⟩ k) = (x : EReal)

/-- The result has one index. -/
instance : Subsingleton S_.Idx := ⟨fun a b => funext fun i => i.elim0⟩

/-- The two words of a conjunction that is 1. -/
theorem and_one {a b : BitVec 1} (h : IntOp.andi a b = 1#1) : a = 1#1 ∧ b = 1#1 := by
  revert a b; decide

/-- The precondition gives them. -/
theorem finite (X : FVec Ideal S16384x12288 .bf16) (Fc : FVec Ideal S16384x128 .f32) (Fr : FVec Ideal S8x128x2048 .f32)
    (h : fn (F := Ideal) X Fc Fr = fun _ => 1#1) : Finite X Fc Fr := by
  have h1 := congrFun h (Shape.Idx.first h_S_)
  obtain ⟨h2, hr⟩ := and_one h1
  obtain ⟨hx, hc⟩ := and_one h2
  constructor
  · intro R C
    have e := real_of_abs_lt _ (Host.reduce_andi_all _ _ _ _ _ hx (ix2 R C))
    obtain ⟨x, e⟩ := e
    refine ⟨x, Eq.trans ?_ e⟩
    pointwise []
  · intro R C
    have e := real_of_abs_lt _ (Host.reduce_andi_all _ _ _ _ _ hc (ix2 R C))
    obtain ⟨x, e⟩ := e
    refine ⟨x, Eq.trans ?_ e⟩
    pointwise []
  · intro b C k
    have e := real_of_abs_lt _ (Host.reduce_andi_all _ _ _ _ _ hr (ix3 b C k))
    obtain ⟨x, e⟩ := e
    refine ⟨x, Eq.trans ?_ e⟩
    pointwise []

end Cert.Pre_finite_scores.Fox

end
-- ==== Proof.FoxValue.lean ====
/- THE FORGETTING ATTENTION, kernel against reference: with finite queries, keys and gates a row block computes the rows of the
   reference's softmax of the masked scores times the values, and the row blocks of all grid points are the whole result. -/
module

public import proofs.«01_k».proof.Proof.FoxRow
public import proofs.«01_k».proof.Proof.FoxRef
public import proofs.«01_k».proof.Proof.FoxFinite

@[expose] public section

set_option maxRecDepth 16384

noncomputable section

open Idealize.ShloMosaic Idealize.ShloMosaic.TcCoe Idealize.SL.Sem Idealize.ShloMosaic.Tactic

namespace Cert.KernelIdeal.Fox

open Cert.KernelIdeal Cert.KernelIdeal.Gen Cert.FoxSum
open Cert.ReferenceIdeal.Fox (masked weights mixed REF masked_apply weights_apply mixed_apply)
open Cert.Pre_finite_scores.Fox (Finite)

/-- The gate of head `h` is lane `32 + h`. -/
theorem gate_lane (i : grid0.Coords) (h : Fin 16) (hi : (i 1).val = h.val) (fc : Vec Ideal S256x128 .f32) (r : Fin 256) (j : Fin 128) :
    gate i fc (ix2 r j) = fc (ix2 r ⟨32 + h.val, by omega⟩) := by
  have hw : Scalar.addi 32#32 (BitVec.ofNat 32 (i 1).val) = BitVec.ofNat 32 (32 + h.val) := by
    rw [hi]; exact (BitVec.ofNat_add 32 h.val).symm
  rw [gate_apply, hw, Finset.sum_eq_single (⟨32 + h.val, by omega⟩ : Fin 128)]
  · rw [WordCmp.cmpi_eq_ofNat (by omega) (by omega), decide_eq_true rfl]; rfl
  · intro x _ hx
    rw [WordCmp.cmpi_eq_ofNat (by omega) (by omega), decide_eq_false fun e => hx (Fin.ext e)]; rfl
  · exact fun hn => absurd (Finset.mem_univ _) hn

/-- One row of a row block. -/
theorem rows_apply {e : EltTy} (x : Vec Ideal S2048x128 e) (n : Fin 8) (r : Fin 256) (j : Fin 128) :
    rows x n (ix2 r j) = x (ix2 ⟨256 * n.val + r.val, by omega⟩ j) :=
  View.ld_unit_apply_of x _ _ _ _ _ fun a => by fin_cases a <;> simp [ix2]

/-- One gate of a tile's keys. -/
theorem keyGate_apply (i : grid0.Coords) (h : Fin 16) (hi : (i 1).val = h.val) (x : Vec Ideal S1x128x2048 .f32) (n : Fin 8) (k : Fin 256) :
    keyGate i x n (ix3 0 0 k) = x (ix3 0 ⟨32 + h.val, by omega⟩ ⟨256 * n.val + k.val, by omega⟩) := by
  have hw : (Scalar.indexCast (Scalar.addi 32#32 (BitVec.ofNat 32 (i 1).val))).toNat = 32 + h.val := by
    rw [hi]; clear hi; revert h; decide
  refine View.ld_unit_apply_of x _ _ _ _ _ fun a => ?_
  fin_cases a
  · simp [ix3]
  · show 32 + h.val = (Scalar.indexCast (Scalar.addi 32#32 (BitVec.ofNat 32 (i 1).val))).toNat + 0
    rw [hw]; rfl
  · simp [ix3]

/-- A score of query `r` against key `k` of a tile. -/
theorem score_at (q : FVec Ideal S256x128 .bf16) (g : FVec Ideal S256x128 .f32) (t : Tile Ideal) (r k : Fin 256) (γ : EReal) (hg : ∀ j, g (ix2 r j) = γ) :
    score q g t (ix2 r k) = ((∑ x : Fin 128, q (ix2 r x) * t.k (ix2 k x)) + γ) - t.f (ix3 0 0 k) := by
  rw [score_apply]
  have e : ∀ hk : ¬k.val < 128, (⟨128 + (k.val - 128), by omega⟩ : Fin 256) = k := fun hk => Fin.ext (by show 128 + (k.val - 128) = k.val; omega)
  split_ifs with hk
  · rw [hg]
  · rw [hg, e hk]

variable (X : FVec Ideal S16384x12288 .bf16) (Fc : FVec Ideal S16384x128 .f32) (Fr : FVec Ideal S8x128x2048 .f32)

/-- The score without the mask, as the reference computes it. -/
def open_score (b : Fin 8) (h : Fin 16) (q k : Fin 2048) : EReal :=
  Ideal.div (∑ x : Fin 128, X (ix2 ⟨b.val * 2048 + q.val, by omega⟩ ⟨6144 + (h.val * 128 + x.val), by omega⟩) * X (ix2 ⟨b.val * 2048 + k.val, by omega⟩ ⟨8192 + (h.val * 128 + x.val), by omega⟩))
      (Ideal.sqrt (Ideal.ofBits FTy.f32 1124073472#32)) +
    (Fc (ix2 ⟨b.val * 2048 + q.val, by omega⟩ ⟨32 + h.val, by omega⟩) - Fr (ix3 b ⟨32 + h.val, by omega⟩ k))

/-- The masked score. -/
theorem masked_eq (b : Fin 8) (h : Fin 16) (q k : Fin 2048) : masked X Fc Fr (ix4 b h q k) = if k.val ≤ q.val then open_score X Fc Fr b h q k else ⊥ := by
  rw [masked_apply, bot_f32, WordCmp.cmpi_sle_ofNat (by omega) (by omega)]
  by_cases e : k.val ≤ q.val
  · rw [decide_eq_true e, if_pos e]; rfl
  · rw [decide_eq_false e, if_neg e]; rfl

variable {X Fc Fr}

/-- Of finite arrays it is a real number, and what the kernel computes. -/
theorem open_score_eq (fin : Finite X Fc Fr) (b : Fin 8) (h : Fin 16) (q k : Fin 2048) : ∃ s : ℝ, open_score X Fc Fr b h q k = (s : EReal)
    ∧ ((∑ x : Fin 128, X (ix2 ⟨b.val * 2048 + q.val, by omega⟩ ⟨6144 + (h.val * 128 + x.val), by omega⟩) * (((Real.sqrt 128)⁻¹ : ℝ) : EReal) * X (ix2 ⟨b.val * 2048 + k.val, by omega⟩ ⟨8192 + (h.val * 128 + x.val), by omega⟩))
      + Fc (ix2 ⟨b.val * 2048 + q.val, by omega⟩ ⟨32 + h.val, by omega⟩)) - Fr (ix3 b ⟨32 + h.val, by omega⟩ k) = (s : EReal) := by
  choose xq hq using fun x : Fin 128 => fin.qk ⟨b.val * 2048 + q.val, by omega⟩ ⟨h.val * 128 + x.val, by omega⟩
  choose xk hk using fun x : Fin 128 => fin.qk ⟨b.val * 2048 + k.val, by omega⟩ ⟨2048 + (h.val * 128 + x.val), by omega⟩
  obtain ⟨a, ha⟩ := fin.fc ⟨b.val * 2048 + q.val, by omega⟩ h
  obtain ⟨c, hc⟩ := fin.fr b h k
  have hk' : ∀ x : Fin 128, X (ix2 ⟨b.val * 2048 + k.val, by omega⟩ ⟨8192 + (h.val * 128 + x.val), by omega⟩) = (xk x : EReal) := fun x => by
    rw [← hk x]; exact congrArg (fun C => X (ix2 _ C)) (Fin.ext (by show 8192 + (h.val * 128 + x.val) = 6144 + (2048 + (h.val * 128 + x.val)); omega))
  refine ⟨(∑ x, xq x * xk x) * (Real.sqrt 128)⁻¹ + (a - c), ?_, ?_⟩
  · simp only [open_score, hq, hk', ha, hc]
    exact score_ref_eq xq xk a c
  · simp only [hq, hk', ha, hc]
    exact score_eq xq xk a c

/-- An element of the reference's result: the softmax of one row of masked scores, times one column of the values. -/
theorem ref_apply (b : Fin 8) (h : Fin 16) (q : Fin 2048) (j : Fin 128) :
    REF X Fc Fr (ix2 ⟨b.val * 2048 + q.val, by omega⟩ ⟨h.val * 128 + j.val, by omega⟩)
      = ∑ x : Fin 2048, Ideal.div (weights (masked X Fc Fr) (ix4 b h q x)) (∑ y : Fin 2048, weights (masked X Fc Fr) (ix4 b h q y))
        * X (ix2 ⟨b.val * 2048 + x.val, by omega⟩ ⟨10240 + (h.val * 128 + j.val), by omega⟩) := by
  have eb : (⟨(b.val * 2048 + q.val) / 2048, by omega⟩ : Fin 8) = b := Fin.ext (by show (b.val * 2048 + q.val) / 2048 = b.val; omega)
  have eq : (⟨(b.val * 2048 + q.val) % 2048, by omega⟩ : Fin 2048) = q := Fin.ext (by show (b.val * 2048 + q.val) % 2048 = q.val; omega)
  have eh : (⟨(h.val * 128 + j.val) / 128, by omega⟩ : Fin 16) = h := Fin.ext (by show (h.val * 128 + j.val) / 128 = h.val; omega)
  have ex : ∀ x : Fin 2048, (⟨(b.val * 2048 + q.val) / 2048 * 2048 + x.val, by omega⟩ : Fin 16384) = ⟨b.val * 2048 + x.val, by omega⟩ :=
    fun x => Fin.ext (by show (b.val * 2048 + q.val) / 2048 * 2048 + x.val = b.val * 2048 + x.val; omega)
  rw [REF, mixed_apply]
  simp only [eb, eq, eh, ex]

/-- A row block of a point whose input blocks are batch `b` and head `h` of the arrays computes the reference's rows. -/
theorem rowBlock_eq (fin : Finite X Fc Fr) (i : grid0.Coords) (b : Fin 8) (h : Fin 16) (hi : (i 1).val = h.val)
    (x0 x1 x2 : Vec Ideal S2048x128 .bf16) (x3 : Vec Ideal S2048x128 .f32) (x4 : Vec Ideal S1x128x2048 .f32)
    (h0 : ∀ (r : Fin 2048) (e : Fin 128), x0 (ix2 r e) = X (ix2 ⟨b.val * 2048 + r.val, by omega⟩ ⟨6144 + (h.val * 128 + e.val), by omega⟩))
    (h1 : ∀ (r : Fin 2048) (e : Fin 128), x1 (ix2 r e) = X (ix2 ⟨b.val * 2048 + r.val, by omega⟩ ⟨8192 + (h.val * 128 + e.val), by omega⟩))
    (h2 : ∀ (r : Fin 2048) (e : Fin 128), x2 (ix2 r e) = X (ix2 ⟨b.val * 2048 + r.val, by omega⟩ ⟨10240 + (h.val * 128 + e.val), by omega⟩))
    (h3 : ∀ (r : Fin 2048) (e : Fin 128), x3 (ix2 r e) = Fc (ix2 ⟨b.val * 2048 + r.val, by omega⟩ e))
    (h4 : ∀ (e : Fin 128) (k : Fin 2048), x4 (ix3 0 e k) = Fr (ix3 b e k))
    (js : List (Fin 8)) (n : Fin 8) (hd : js.Nodup) (hm : ∀ j, j ∈ js ↔ j < n) (r : Fin 256) (j : Fin 128) :
    rowBlock i x0 x1 x2 x3 x4 js n (ix2 r j)
      = REF X Fc Fr (ix2 ⟨b.val * 2048 + (256 * n.val + r.val), by omega⟩ ⟨h.val * 128 + j.val, by omega⟩) := by
  have hs : ∀ (a : Fin 8) (k : Fin 256), score (scaled (rows x0 n)) (gate i (rows x3 n)) (tile i x1 x2 x4 a) (ix2 r k)
      = open_score X Fc Fr b h ⟨256 * n.val + r.val, by omega⟩ ⟨256 * a.val + k.val, by omega⟩ := by
    intro a k
    obtain ⟨s, e1, e2⟩ := open_score_eq fin b h ⟨256 * n.val + r.val, by omega⟩ ⟨256 * a.val + k.val, by omega⟩
    rw [score_at _ _ _ r k _ fun j => gate_lane i h hi (rows x3 n) r j, e1, ← e2]
    simp only [tile, scaled_apply, rows_apply, keyGate_apply i h hi, h0, h1, h3, h4]
  rw [rowBlock, block, attend_scored _ _ (tile i x1 x2 x4) js n hd hm r j (fun k => masked X Fc Fr (ix4 b h ⟨256 * n.val + r.val, by omega⟩ k))
    (fun k => X (ix2 ⟨b.val * 2048 + k.val, by omega⟩ ⟨10240 + (h.val * 128 + j.val), by omega⟩))]
  · have hreal : ∀ k, open_score X Fc Fr b h ⟨256 * n.val + r.val, by omega⟩ k ≠ ⊤ ∧ open_score X Fc Fr b h ⟨256 * n.val + r.val, by omega⟩ k ≠ ⊥ := fun k => by
      obtain ⟨s, e1, _⟩ := open_score_eq fin b h ⟨256 * n.val + r.val, by omega⟩ k
      rw [e1]; exact ⟨EReal.coe_ne_top s, EReal.coe_ne_bot s⟩
    rw [softmax_eq _ _ (⟨256 * n.val + r.val, by omega⟩ : Fin 2048), ref_apply b h ⟨256 * n.val + r.val, by omega⟩ j]
    · simp only [weights_apply, bot_f32]
    · simp only [masked_eq, le_refl, if_true]; exact (hreal _).2
    · intro k; simp only [masked_eq]; split_ifs
      · exact (hreal _).1
      · exact bot_ne_top
  · intro a l k
    have hle : 256 * a.val + k.val ≤ 256 * n.val + r.val := by omega
    simp only [masked_eq, hle, if_true]
    exact hs a k
  · intro k
    rw [scoreDiag_apply, hs n k, WordCmp.cmpi_sle_ofNat (by omega) (by omega)]
    simp only [masked_eq]
    by_cases hle : k.val ≤ r.val
    · rw [decide_eq_true hle, if_pos (by omega)]; rfl
    · rw [decide_eq_false hle, if_neg (by omega)]; rfl
  · intro a l k
    simp only [masked_eq]
    exact if_neg (by omega)
  · intro a k
    simp only [tile, rows_apply, h2]

/-- A store of row block `n`, at an index of its own: row `256 n + r` of the block holds what the row block has at `r`. -/
theorem piece_at (off : Fin 2 → Nat) (inb) (n : Fin 8) (hoff : off = ![256 * n.val, 0]) (w : FVec Ideal S256x128 .bf16) (v : EReal) (R : Fin 2048) (j : Fin 128)
    (H : ∀ r : Fin 256, R.val = 256 * n.val + r.val → w (ix2 r j) = v) (x : S256x128.Idx) (hx : (Rect.unit (s := S2048x128) off S256x128.size inb).emb x = ix2 R j) : w x = v := by
  subst hoff
  have h0 : R.val = 256 * n.val + (x 0).val :=
    (congrArg Fin.val (congrFun hx.symm 0)).trans (Rect.idx_unit_val _ _ inb x 0)
  have h1 : j.val = 0 + (x 1).val :=
    (congrArg Fin.val (congrFun hx.symm 1)).trans (Rect.idx_unit_val _ _ inb x 1)
  have e : x = ix2 (x 0) j := by
    funext a; fin_cases a
    · rfl
    · exact Fin.ext (by show (x 1).val = j.val; omega)
  rw [e]
  exact H (x 0) h0

/-- What a point leaves at row `R`, where every row block has the value `v` there. -/
theorem out_apply (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x128x2048 .f32) (harg6 : arg6.IsWhole) (arg7 : Memref sig .tc .vmem S2048x128 .bf16) (harg7 : arg7.IsWhole) (arg8 : Memref sig .tc .vmem S8x256x256 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole)
    (x0 : Vec Ideal S2048x128 .bf16) (x1 : Vec Ideal S2048x128 .bf16) (x2 : Vec Ideal S2048x128 .bf16) (x3 : Vec Ideal S2048x128 .f32) (x4 : Vec Ideal S1x128x2048 .f32)
    (R : Fin 2048) (j : Fin 128) (v : EReal)
    (H : ∀ (js : List (Fin 8)) (n : Fin 8), js.Nodup → (∀ a, a ∈ js ↔ a < n) → ∀ r : Fin 256, R.val = 256 * n.val + r.val → rowBlock i x0 x1 x2 x3 x4 js n (ix2 r j) = v) :
    out0_A_5 c i arg2 harg2 arg3 harg3 arg4 harg4 arg5 harg5 arg6 harg6 arg7 harg7 arg8 harg8 arg9 harg9 arg10 harg10 arg11 harg11 arg12 harg12 x0 x1 x2 x3 x4 (ix2 R j) = v := by
  have hc := cover0_A_5 c i arg2 harg2 arg3 harg3 arg4 harg4 arg5 harg5 arg6 harg6 arg7 harg7 arg8 harg8 arg9 harg9 arg10 harg10 arg11 harg11 arg12 harg12 x0 x1 x2 x3 x4 (ix2 R j)
  rw [out0_A_5, View.read_writes_apply_eq_canon _ _ _ _ hc]
  refine View.canon_eq_of_allAt _ _ _ hc ?_
  rw [pieces]
  intro p hp x hx
  simp only [List.mem_cons, List.not_mem_nil, or_false] at hp
  rcases hp with rfl | rfl | rfl | rfl | rfl | rfl | rfl | rfl
  all_goals exact piece_at _ (by decide) _ (by rfl) _ v R j (H _ _ (by decide) (by decide)) x hx

variable (m : (ℓ : Loc nD τ sig) → Buf (Elt Ideal) ℓ)

/-- Where every window's block sits. -/
theorem idx : ∀ t : Fin cfg0.N, win0_0.index t = ![(grid0.coords t 0).val, 48 + (grid0.coords t 1).val] ∧ win0_1.index t = ![(grid0.coords t 0).val, 64 + (grid0.coords t 1).val]
    ∧ win0_2.index t = ![(grid0.coords t 0).val, 80 + (grid0.coords t 1).val] ∧ win0_3.index t = ![(grid0.coords t 0).val, 0]
    ∧ win0_4.index t = ![(grid0.coords t 0).val, 0, 0] ∧ win0_5.index t = ![(grid0.coords t 0).val, (grid0.coords t 1).val] :=
  (by decide +kernel : ∀ t : Fin grid0.N, _)

/-- The batch of a point. -/
abbrev batch (t : Fin cfg0.N) : Fin 8 := grid0.coords t 0

/-- The head of a point. -/
abbrev head (t : Fin cfg0.N) : Fin 16 := grid0.coords t 1

/-- The query block. -/
theorem q_block (c : Dev nD) (t : Fin cfg0.N) (r : Fin 2048) (e : Fin 128) : iblk m c 0 t (ix2 r e)
    = m ((c : Thread nD τ).loc main_arg0) (ix2 ⟨(batch t).val * 2048 + r.val, by omega⟩ ⟨6144 + ((head t).val * 128 + e.val), by omega⟩) := by
  blk_point [iblk, V, idx t]
  show (48 + (grid0.coords t 1).val) * 128 + e.val = 6144 + ((grid0.coords t 1).val * 128 + e.val)
  omega

/-- The key block. -/
theorem k_block (c : Dev nD) (t : Fin cfg0.N) (r : Fin 2048) (e : Fin 128) : iblk m c 1 t (ix2 r e)
    = m ((c : Thread nD τ).loc main_arg0) (ix2 ⟨(batch t).val * 2048 + r.val, by omega⟩ ⟨8192 + ((head t).val * 128 + e.val), by omega⟩) := by
  blk_point [iblk, V, idx t]
  show (64 + (grid0.coords t 1).val) * 128 + e.val = 8192 + ((grid0.coords t 1).val * 128 + e.val)
  omega

/-- The value block. -/
theorem v_block (c : Dev nD) (t : Fin cfg0.N) (r : Fin 2048) (e : Fin 128) : iblk m c 2 t (ix2 r e)
    = m ((c : Thread nD τ).loc main_arg0) (ix2 ⟨(batch t).val * 2048 + r.val, by omega⟩ ⟨10240 + ((head t).val * 128 + e.val), by omega⟩) := by
  blk_point [iblk, V, idx t]
  show (80 + (grid0.coords t 1).val) * 128 + e.val = 10240 + ((grid0.coords t 1).val * 128 + e.val)
  omega

/-- The query side's gate block. -/
theorem fc_block (c : Dev nD) (t : Fin cfg0.N) (r : Fin 2048) (e : Fin 128) : iblk m c 3 t (ix2 r e)
    = m ((c : Thread nD τ).loc main_arg1) (ix2 ⟨(batch t).val * 2048 + r.val, by omega⟩ e) := by
  blk_point [iblk, V, idx t]

/-- The key side's gate block. -/
theorem fr_block (c : Dev nD) (t : Fin cfg0.N) (e : Fin 128) (k : Fin 2048) : iblk m c 4 t (ix3 0 e k)
    = m ((c : Thread nD τ).loc main_arg2) (ix3 (batch t) e k) := by
  blk_point [iblk, V, idx t]
  rfl

/-- Where the result's block sits in the result. -/
theorem out_emb (t : Fin cfg0.N) (r : Fin 2048) (j : Fin 128) : ((cfg0.win 5).blk t).view.emb (ix2 r j)
    = ix2 ⟨(batch t).val * 2048 + r.val, by omega⟩ ⟨(head t).val * 128 + j.val, by omega⟩ := by
  blk_point [idx t]

/-- The result array after the run. -/
theorem final (c : Dev nD) (fin : Finite (m ((c : Thread nD τ).loc main_arg0)) (m ((c : Thread nD τ).loc main_arg1)) (m ((c : Thread nD τ).loc main_arg2))) :
    (dats m 0 c).arrAt 5 (cfgs 0).N
      = REF (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  obtain ⟨R, j, rfl⟩ : ∃ (R : Fin 2048) (j : Fin 128), y = ix2 R j := ⟨y 0, y 1, by funext a; fin_cases a <;> rfl⟩
  rw [after0_5, outsAt0, out_emb]
  refine out_apply _ _ _ _ _ _ _ _ _ _ _ _ _ _ _ _ _ _ _ _ _ _ _ _ _ _ _ _ _ R j _ fun js n hd hm r hr => ?_
  rw [rowBlock_eq fin (grid0.coords t) (batch t) (head t) rfl _ _ _ _ _ (q_block m c t) (k_block m c t) (v_block m c t) (fc_block m c t) (fr_block m c t) js n hd hm r j]
  simp only [hr]

end Cert.KernelIdeal.Fox

end
-- ==== Proof.XattnRef.lean ====
/- WHAT THE REFERENCE OF THE CROSS ATTENTION COMPUTES, element by element: the scores over the 256 memory keys, their softmax and the
   weighted sum of the memory values. -/
module

public import proofs.«01_k».proof.Proof.Gen.RefXattnIdeal.Run
public import proofs.«01_k».proof.Proof.FoxRef

@[expose] public section

set_option maxRecDepth 65536

noncomputable section

open Idealize.ShloMosaic Idealize.ShloMosaic.TcCoe

namespace Cert.RefXattnIdeal.Cross

open Cert.RefXattnIdeal Cert.RefXattnIdeal.Gen

/-- The scores, for every batch, head, query and memory key. -/
def scores (Q : FVec Ideal S16384x2048 .bf16) (KV : FVec Ideal S2048x4096 .bf16) : FVec Ideal S8x4x2048x256 .f32 :=
  Host.divf (Host.dotGeneral dot_S8x2048x4x512_S8x256x4x512_S8x4x2048x256_3_3_1_1_02_02 none (shapeCast _ (extf .f32 Q bitsLt_bf16_f32) shapeCasts_S16384x2048_S8x2048x4x512)
      (shapeCast _ (extractStridedSlice S8x256x2048 ![0, 0, 0] (shapeCast _ (extf .f32 KV bitsLt_bf16_f32) shapeCasts_S2048x4096_S8x256x4096) slices_S8x256x4096_S8x256x2048_0_0_0) shapeCasts_S8x256x2048_S8x256x4x512))
    (broadcastInDim S8x4x2048x256 ![] bcast_S_S8x4x2048x256 (Host.sqrt (constant S_ .f32 0x44000000#32)))

/-- The exponentials of the scores less their row maximum. -/
def weights (T : FVec Ideal S8x4x2048x256 .f32) : FVec Ideal S8x4x2048x256 .f32 :=
  Host.exp (subf T (broadcastInDim S8x4x2048x256 ![0, 1, 2, 3] bcast_S8x4x2048x1_S8x4x2048x256_0_1_2_3 (broadcastInDim S8x4x2048x1 ![0, 1, 2] bcast_S8x4x2048_S8x4x2048x1_0_1_2
    (maximumf (broadcastInDim S8x4x2048 ![] bcast_S_S8x4x2048 (constant S_ .f32 0xFF800000#32))
      (Host.reduce FloatOps.maximumf T (constant S_ .f32 0xFF800000#32) reducesTo_S8x4x2048x256_S8x4x2048_d3 h_S_)))))

/-- The values times the weights over their row sum. -/
def mixed (W : FVec Ideal S8x4x2048x256 .f32) (KV : FVec Ideal S2048x4096 .bf16) : FVec Ideal S16384x2048 .bf16 :=
  truncf .bf16 (shapeCast _ (transpose S8x2048x4x512 [0, 3, 1, 2] (Host.dotGeneral dot_S8x256x4x512_S8x4x2048x256_S8x4x512x2048_1_3_3_2_02_01 none
    (shapeCast _ (extractStridedSlice S8x256x2048 ![0, 0, 2048] (shapeCast _ (extf .f32 KV bitsLt_bf16_f32) shapeCasts_S2048x4096_S8x256x4096) slices_S8x256x4096_S8x256x2048_0_0_2048) shapeCasts_S8x256x2048_S8x256x4x512)
    (Host.divf W (broadcastInDim S8x4x2048x256 ![0, 1, 2, 3] bcast_S8x4x2048x1_S8x4x2048x256_0_1_2_3 (broadcastInDim S8x4x2048x1 ![0, 1, 2] bcast_S8x4x2048_S8x4x2048x1_0_1_2
      (Host.reduceAdd W (constant S_ .f32 0x00000000#32) reducesTo_S8x4x2048x256_S8x4x2048_d3 h_S_)))))
    transposes_S8x4x512x2048_S8x2048x4x512_0_3_1_2) shapeCasts_S8x2048x4x512_S16384x2048) bitsLt_bf16_f32

/-- The reference as a function of its arrays. -/
def REF (Q : FVec Ideal S16384x2048 .bf16) (KV : FVec Ideal S2048x4096 .bf16) : FVec Ideal S16384x2048 .bf16 :=
  mixed (weights (scores Q KV)) KV

theorem scores_apply (Q : FVec Ideal S16384x2048 .bf16) (KV : FVec Ideal S2048x4096 .bf16) (b : Fin 8) (h : Fin 4) (q : Fin 2048) (k : Fin 256) :
    scores Q KV (ix4 b h q k) = Ideal.div (∑ x : Fin 512, Q (ix2 ⟨b.val * 2048 + q.val, by omega⟩ ⟨h.val * 512 + x.val, by omega⟩) * KV (ix2 ⟨b.val * 256 + k.val, by omega⟩ ⟨h.val * 512 + x.val, by omega⟩))
          (Ideal.sqrt (Ideal.ofBits FTy.f32 0x44000000#32)) := by
  pointwise [scores]

/-- The exponentials, given the row maxima as an array of their own. -/
theorem exps_apply (T : FVec Ideal S8x4x2048x256 .f32) (R : FVec Ideal S8x4x2048 .f32) (b : Fin 8) (h : Fin 4) (q : Fin 2048) (k : Fin 256) :
    Host.exp (subf T (broadcastInDim S8x4x2048x256 ![0, 1, 2, 3] bcast_S8x4x2048x1_S8x4x2048x256_0_1_2_3 (broadcastInDim S8x4x2048x1 ![0, 1, 2] bcast_S8x4x2048_S8x4x2048x1_0_1_2
    (maximumf (broadcastInDim S8x4x2048 ![] bcast_S_S8x4x2048 (constant S_ .f32 0xFF800000#32)) R)))) (ix4 b h q k)
     = Ideal.exp (T (ix4 b h q k) - max (Ideal.ofBits FTy.f32 4286578688#32) (R (ix3 b h q))) := by
  pointwise []

theorem reduces_last : S8x4x2048x256.Reduces [3] S8x4x2048 := by decide

theorem weights_apply (T : FVec Ideal S8x4x2048x256 .f32) (b : Fin 8) (h : Fin 4) (q : Fin 2048) (k : Fin 256) :
    weights T (ix4 b h q k) = Ideal.exp (T (ix4 b h q k) - max (Ideal.ofBits FTy.f32 4286578688#32)
          (Finset.fold max (Ideal.ofBits FTy.f32 4286578688#32) (fun x : Fin 256 => T (ix4 b h q x)) Finset.univ)) := by
  unfold weights
  rw [exps_apply]
  have e := Cert.ReferenceIdeal.Fox.reduce_max T (constant S_ .f32 0xFF800000#32) reducesTo_S8x4x2048x256_S8x4x2048_d3 reduces_last h_S_ b h q
  exact congrArg (fun z => Ideal.exp (T (ix4 b h q k) - max (Ideal.ofBits FTy.f32 4286578688#32) z)) e

theorem mixed_apply (W : FVec Ideal S8x4x2048x256 .f32) (KV : FVec Ideal S2048x4096 .bf16) (R : Fin 16384) (C : Fin 2048) :
    mixed W KV (ix2 R C) = ∑ x : Fin 256, KV (ix2 ⟨R.val / 2048 * 256 + x.val, by omega⟩ ⟨2048 + C.val, by omega⟩)
        * Ideal.div (W (ix4 ⟨R.val / 2048, by omega⟩ ⟨C.val / 512, by omega⟩ ⟨R.val % 2048, by omega⟩ x))
          (∑ y : Fin 256, W (ix4 ⟨R.val / 2048, by omega⟩ ⟨C.val / 512, by omega⟩ ⟨R.val % 2048, by omega⟩ y)) := by
  pointwise [mixed]

end Cert.RefXattnIdeal.Cross

end
-- ==== Proof.XattnFinite.lean ====
/- WHAT THE PRECONDITION OF THE CROSS ATTENTION SAYS: the queries and the memory keys are real numbers. -/
module

public import proofs.«01_k».proof.Proof.Gen.Pre_finite_qk
public import proofs.«01_k».proof.Proof.FoxFinite

@[expose] public section

set_option maxRecDepth 16384

noncomputable section

open Idealize.ShloMosaic Idealize.ShloMosaic.TcCoe

namespace Cert.Pre_finite_qk.Cross

open Cert.Pre_finite_qk Cert.Pre_finite_qk.Gen
open Cert.Pre_finite_scores.Fox (real_of_abs_lt and_one)

/-- The entries that the precondition is about are real numbers. -/
structure Finite (Q : FVec Ideal S16384x2048 .bf16) (KV : FVec Ideal S2048x4096 .bf16) : Prop where
  /-- the queries -/
  q : ∀ (R : Fin 16384) (C : Fin 2048), ∃ x : ℝ, Q (ix2 R C) = (x : EReal)
  /-- the memory keys -/
  k : ∀ (R : Fin 2048) (C : Fin 2048), ∃ x : ℝ, KV (ix2 R ⟨C.val, by omega⟩) = (x : EReal)

/-- The result has one index. -/
instance : Subsingleton S_.Idx := ⟨fun a b => funext fun i => i.elim0⟩

/-- The precondition gives them. -/
theorem finite (Q : FVec Ideal S16384x2048 .bf16) (KV : FVec Ideal S2048x4096 .bf16)
    (h : fn (F := Ideal) Q KV = fun _ => 1#1) : Finite Q KV := by
  obtain ⟨hq, hk⟩ := and_one (congrFun h (Shape.Idx.first h_S_))
  constructor
  · intro R C
    exact real_of_abs_lt _ (Host.reduce_andi_all _ _ _ _ _ hq (ix2 R C))
  · intro R C
    obtain ⟨x, e⟩ := real_of_abs_lt _ (Host.reduce_andi_all _ _ _ _ _ hk (ix2 R C))
    refine ⟨x, Eq.trans ?_ e⟩
    pointwise []

end Cert.Pre_finite_qk.Cross

end
-- ==== Proof.XattnValue.lean ====
/- THE CROSS ATTENTION, kernel against reference: with finite queries and memory keys one head of a block is the reference's softmax of
   the scores times the memory values, and the blocks of all grid points are the whole result. -/
module

public import proofs.«01_k».proof.Proof.Gen.XattnIdeal.Frame
public import proofs.«01_k».proof.Proof.XattnRef
public import proofs.«01_k».proof.Proof.XattnFinite
public import proofs.«01_k».proof.Proof.FoxSum

@[expose] public section

set_option maxRecDepth 16384

noncomputable section

open Idealize.ShloMosaic Idealize.ShloMosaic.TcCoe Idealize.SL.Sem Idealize.ShloMosaic.Tactic

namespace Cert.XattnIdeal.Cross

open Cert.XattnIdeal Cert.XattnIdeal.Gen Cert.FoxSum
open Cert.RefXattnIdeal.Cross (scores weights mixed REF scores_apply weights_apply mixed_apply)
open Cert.Pre_finite_qk.Cross (Finite)

/-- The word of minus infinity. -/
theorem bot_f32 : Ideal.ofBits .f32 4286578688#32 = ⊥ := by
  simp [Ideal.ofBits, Ideal.ieee]

/-- The word of 512. -/
theorem w512 : Ideal.ofBits .f32 0x44000000#32 = ((512 : ℝ) : EReal) := by
  simp [Ideal.ofBits, Ideal.ieee, -EReal.coe_mul]; norm_num

/-- Dividing by the square root of 512 is multiplying by its reciprocal. -/
theorem div_root (x : EReal) : Ideal.div x (Ideal.sqrt (Ideal.ofBits .f32 0x44000000#32)) = x * (((Real.sqrt 512)⁻¹ : ℝ) : EReal) := by
  have s : Ideal.sqrt (Ideal.ofBits .f32 0x44000000#32) = ((Real.sqrt 512 : ℝ) : EReal) := by
    rw [w512]
    show (if (512 : ℝ) < 0 then ⊥ else ((Real.sqrt 512 : ℝ) : EReal)) = _
    exact if_neg (by norm_num)
  have n : ((Real.sqrt 512 : ℝ) : EReal) ≠ 0 := by
    rw [Ne, EReal.coe_eq_zero]; exact Real.sqrt_ne_zero'.mpr (by norm_num)
  rw [s, div_of_ne n, ← EReal.coe_inv]

/-- One head of a block, its scores scaled by the constant that is named. -/
def scored (q : FVec Ideal S512x512 .bf16) (k : FVec Ideal S256x512 .bf16) : FVec Ideal S512x256 .f32 :=
  mulf (matmul dot_S512x512_S256x512_S512x256_1_1_0_0_n_n none q k (constant S512x256 .f32 0x00000000#32)) (broadcast S512x256 (Named.named κ "xs" 0x3D3504F3#32))

/-- The exponentials of the scores less their row maximum. -/
def exps (s : FVec Ideal S512x256 .f32) : FVec Ideal S512x256 .f32 :=
  exp (subf s (broadcastTo S512x256 (shapeCast S512x1 (multiReduction .maximumf [1] S512 s 0xFF800000#32 reduces_S512x256_S512 (.inl rfl) rfl) shapeCasts_S512_S512x1) broadcasts_S512x1_S512x256))

/-- The exponentials over their row sum, times the values. -/
def weighted (p : FVec Ideal S512x256 .f32) (v : FVec Ideal S256x512 .bf16) : FVec Ideal S512x512 .bf16 :=
  truncf .bf16 (matmul dot_S512x256_S256x512_S512x512_1_0_0_1_n_n none
    (truncf .bf16 (mulf p (broadcastTo S512x256 (divf (broadcast S512x1 (Scalar.ofBits .f32 0x3F800000#32))
      (shapeCast S512x1 (multiReduction .add [1] S512 p 0x00000000#32 reduces_S512x256_S512 (.inl rfl) rfl) shapeCasts_S512_S512x1)) broadcasts_S512x1_S512x256)) bitsLt_bf16_f32)
    v (constant S512x512 .f32 0x00000000#32)) bitsLt_bf16_f32

/-- One head of a block. -/
theorem pay_eq (q : FVec Ideal S512x512 .bf16) (k v : FVec Ideal S256x512 .bf16) : k0_pay2 q k v = weighted (exps (scored q k)) v := rfl

/-- One scaled score. -/
theorem scored_apply (q : FVec Ideal S512x512 .bf16) (k : FVec Ideal S256x512 .bf16) (r : Fin 512) (j : Fin 256) :
    scored q k (ix2 r j) = (∑ x : Fin 512, q (ix2 r x) * k (ix2 j x)) * (((Real.sqrt 512)⁻¹ : ℝ) : EReal) := by
  pointwise [scored]
  rfl

/-- One exponential. -/
theorem exps_apply (s : FVec Ideal S512x256 .f32) (r : Fin 512) (j : Fin 256) :
    exps s (ix2 r j) = Ideal.exp (s (ix2 r j) - Finset.fold max ⊥ (fun x : Fin 256 => s (ix2 r x)) Finset.univ) := by
  rw [← bot_f32]
  pointwise [exps]

/-- One element of a head's result. -/
theorem weighted_apply (p : FVec Ideal S512x256 .f32) (v : FVec Ideal S256x512 .bf16) (r e : Fin 512) :
    weighted p v (ix2 r e) = ∑ x : Fin 256, p (ix2 r x) * Ideal.div 1 (∑ y : Fin 256, p (ix2 r y)) * v (ix2 x e) := by
  pointwise [weighted]

variable {Q : FVec Ideal S16384x2048 .bf16} {KV : FVec Ideal S2048x4096 .bf16}

/-- A scaled score is the reference's. -/
theorem score_eq (b : Fin 8) (h : Fin 4) (n : Fin 2048) (q : FVec Ideal S512x512 .bf16) (k : FVec Ideal S256x512 .bf16) (r : Fin 512)
    (hq : ∀ x : Fin 512, q (ix2 r x) = Q (ix2 ⟨b.val * 2048 + n.val, by omega⟩ ⟨h.val * 512 + x.val, by omega⟩))
    (hk : ∀ (j : Fin 256) (x : Fin 512), k (ix2 j x) = KV (ix2 ⟨b.val * 256 + j.val, by omega⟩ ⟨h.val * 512 + x.val, by omega⟩)) (j : Fin 256) :
    scored q k (ix2 r j) = scores Q KV (ix4 b h n j) := by
  rw [scored_apply, scores_apply, div_root]
  simp only [hq, hk]

/-- Of finite arrays a score is a real number. -/
theorem score_real (fin : Finite Q KV) (b : Fin 8) (h : Fin 4) (n : Fin 2048) (j : Fin 256) : ∃ s : ℝ, scores Q KV (ix4 b h n j) = (s : EReal) := by
  choose xq hq using fun x : Fin 512 => fin.q ⟨b.val * 2048 + n.val, by omega⟩ ⟨h.val * 512 + x.val, by omega⟩
  choose xk hk using fun x : Fin 512 => fin.k ⟨b.val * 256 + j.val, by omega⟩ ⟨h.val * 512 + x.val, by omega⟩
  refine ⟨(∑ x, xq x * xk x) * (Real.sqrt 512)⁻¹, ?_⟩
  rw [scores_apply, div_root]
  simp only [hq, hk]
  push_cast
  rfl

/-- An element of the reference's result: the softmax of one row of scores, times one column of the values. -/
theorem ref_apply (b : Fin 8) (h : Fin 4) (n : Fin 2048) (e : Fin 512) :
    REF Q KV (ix2 ⟨b.val * 2048 + n.val, by omega⟩ ⟨h.val * 512 + e.val, by omega⟩)
      = ∑ x : Fin 256, KV (ix2 ⟨b.val * 256 + x.val, by omega⟩ ⟨2048 + (h.val * 512 + e.val), by omega⟩)
        * Ideal.div (weights (scores Q KV) (ix4 b h n x)) (∑ y : Fin 256, weights (scores Q KV) (ix4 b h n y)) := by
  have eb : (⟨(b.val * 2048 + n.val) / 2048, by omega⟩ : Fin 8) = b := Fin.ext (by show (b.val * 2048 + n.val) / 2048 = b.val; omega)
  have en : (⟨(b.val * 2048 + n.val) % 2048, by omega⟩ : Fin 2048) = n := Fin.ext (by show (b.val * 2048 + n.val) % 2048 = n.val; omega)
  have eh : (⟨(h.val * 512 + e.val) / 512, by omega⟩ : Fin 4) = h := Fin.ext (by show (h.val * 512 + e.val) / 512 = h.val; omega)
  have ex : ∀ x : Fin 256, (⟨(b.val * 2048 + n.val) / 2048 * 256 + x.val, by omega⟩ : Fin 2048) = ⟨b.val * 256 + x.val, by omega⟩ :=
    fun x => Fin.ext (by show (b.val * 2048 + n.val) / 2048 * 256 + x.val = b.val * 256 + x.val; omega)
  rw [REF, mixed_apply]
  simp only [eb, en, eh, ex]

/-- A head of a block whose rows and columns are batch `b` and head `h` of the arrays computes the reference's rows. -/
theorem head_eq (fin : Finite Q KV) (b : Fin 8) (h : Fin 4) (n : Fin 2048) (q : FVec Ideal S512x512 .bf16) (k v : FVec Ideal S256x512 .bf16) (r e : Fin 512)
    (hq : ∀ x : Fin 512, q (ix2 r x) = Q (ix2 ⟨b.val * 2048 + n.val, by omega⟩ ⟨h.val * 512 + x.val, by omega⟩))
    (hk : ∀ (j : Fin 256) (x : Fin 512), k (ix2 j x) = KV (ix2 ⟨b.val * 256 + j.val, by omega⟩ ⟨h.val * 512 + x.val, by omega⟩))
    (hv : ∀ j : Fin 256, v (ix2 j e) = KV (ix2 ⟨b.val * 256 + j.val, by omega⟩ ⟨2048 + (h.val * 512 + e.val), by omega⟩)) :
    k0_pay2 q k v (ix2 r e) = REF Q KV (ix2 ⟨b.val * 2048 + n.val, by omega⟩ ⟨h.val * 512 + e.val, by omega⟩) := by
  rw [pay_eq, weighted_apply, ref_apply]
  simp only [exps_apply, weights_apply, bot_f32, score_eq b h n q k r hq hk, hv]
  refine softmax_comm (fun x : Fin 256 => scores Q KV (ix4 b h n x)) (fun x : Fin 256 => KV (ix2 ⟨b.val * 256 + x.val, by omega⟩ ⟨2048 + (h.val * 512 + e.val), by omega⟩)) 0 ?_ fun j => ?_
  · obtain ⟨s, hs⟩ := score_real fin b h n 0
    exact hs ▸ EReal.coe_ne_bot s
  · obtain ⟨s, hs⟩ := score_real fin b h n j
    exact hs ▸ EReal.coe_ne_top s

/-- The store of head `h` of a block: the value `v` at row `r` and column `C`, where the head has it. -/
theorem piece_at (off : Fin 2 → Nat) (inb) (h : Fin 4) (hoff : off = ![0, 512 * h.val]) (w : FVec Ideal S512x512 .bf16) (r : Fin 512) (C : Fin 2048) (v : EReal)
    (H : ∀ e : Fin 512, C.val = h.val * 512 + e.val → w (ix2 r e) = v) (x : S512x512.Idx) (hx : (Rect.unit (s := S512x2048) off S512x512.size inb).emb x = ix2 r C) : w x = v := by
  subst hoff
  have h0 : r.val = 0 + (x 0).val :=
    (congrArg Fin.val (congrFun hx.symm 0)).trans (Rect.idx_unit_val _ _ inb x 0)
  have h1 : C.val = 512 * h.val + (x 1).val :=
    (congrArg Fin.val (congrFun hx.symm 1)).trans (Rect.idx_unit_val _ _ inb x 1)
  have e : x = ix2 r (x 1) := by
    funext a; fin_cases a
    · exact Fin.ext (by show (x 0).val = r.val; omega)
    · rfl
  rw [e]
  exact H (x 1) (by rw [h1, Nat.mul_comm])

/-- A load at a column offset. -/
theorem ld_at {a n : Nat} (x : Vec Ideal ⟨2, ![a, n]⟩ .bf16) (o : Nat) (inb) (r : Fin a) (e : Fin 512) (ho : o + 512 ≤ n) :
    View.ld x (Rect.unit (s := ⟨2, ![a, n]⟩) ![0, o] (⟨2, ![a, 512]⟩ : Shape).size inb) (ix2 r e) = x (ix2 r ⟨o + e.val, by omega⟩) :=
  View.ld_unit_apply_of x _ _ _ _ _ fun i => by fin_cases i <;> simp [ix2]

/-- What a point leaves, of blocks that are batch `b`'s rows from `n0` and memory. -/
theorem out_apply (fin : Finite Q KV) (b : Fin 8) (n : Fin 2048) (x0 : FVec Ideal S512x2048 .bf16) (x1 : FVec Ideal S256x4096 .bf16) (r : Fin 512) (C : Fin 2048)
    (h0 : ∀ x : Fin 2048, x0 (ix2 r x) = Q (ix2 ⟨b.val * 2048 + n.val, by omega⟩ x))
    (h1 : ∀ (j : Fin 256) (x : Fin 4096), x1 (ix2 j x) = KV (ix2 ⟨b.val * 256 + j.val, by omega⟩ x)) :
    out0_2 (F := Ideal) x0 x1 (ix2 r C) = REF Q KV (ix2 ⟨b.val * 2048 + n.val, by omega⟩ C) := by
  have key : ∀ (h : Fin 4) (q : FVec Ideal S512x512 .bf16) (k v : FVec Ideal S256x512 .bf16),
      (∀ x : Fin 512, q (ix2 r x) = x0 (ix2 r ⟨h.val * 512 + x.val, by omega⟩)) →
      (∀ (j : Fin 256) (x : Fin 512), k (ix2 j x) = x1 (ix2 j ⟨h.val * 512 + x.val, by omega⟩)) →
      (∀ (j : Fin 256) (x : Fin 512), v (ix2 j x) = x1 (ix2 j ⟨2048 + h.val * 512 + x.val, by omega⟩)) →
      ∀ e : Fin 512, C.val = h.val * 512 + e.val → k0_pay2 q k v (ix2 r e) = REF Q KV (ix2 ⟨b.val * 2048 + n.val, by omega⟩ C) := by
    intro h q k v a1 a2 a3 e hC
    rw [head_eq fin b h n q k v r e (fun x => by rw [a1, h0]) (fun j x => by rw [a2, h1]) (fun j => by rw [a3, h1]; exact congrArg (fun c => KV (ix2 _ c)) (Fin.ext (Nat.add_assoc _ _ _)))]
    exact congrArg (fun c => REF Q KV (ix2 _ c)) (Fin.ext hC.symm)
  have hc := fun p0 p1 p2 p3 => cover0_2 (F := Ideal) p0 p1 p2 p3 (ix2 r C)
  refine View.canon_eq_of_allAt _ _ _ (hc _ _ _ _) ?_
  intro p hp x hx
  simp only [List.mem_cons, List.not_mem_nil, or_false] at hp
  rcases hp with rfl | rfl | rfl | rfl
  · exact piece_at _ (by decide) 3 (by rfl) _ r C _ (key 3 _ _ _ (fun x => ld_at x0 1536 _ r x (by decide)) (fun j x => ld_at x1 1536 _ j x (by decide)) (fun j x => ld_at x1 3584 _ j x (by decide))) x hx
  · exact piece_at _ (by decide) 2 (by rfl) _ r C _ (key 2 _ _ _ (fun x => ld_at x0 1024 _ r x (by decide)) (fun j x => ld_at x1 1024 _ j x (by decide)) (fun j x => ld_at x1 3072 _ j x (by decide))) x hx
  · exact piece_at _ (by decide) 1 (by rfl) _ r C _ (key 1 _ _ _ (fun x => ld_at x0 512 _ r x (by decide)) (fun j x => ld_at x1 512 _ j x (by decide)) (fun j x => ld_at x1 2560 _ j x (by decide))) x hx
  · exact piece_at _ (by decide) 0 (by rfl) _ r C _ (key 0 _ _ _ (fun x => ld_at x0 0 _ r x (by decide)) (fun j x => ld_at x1 0 _ j x (by decide)) (fun j x => ld_at x1 2048 _ j x (by decide))) x hx

variable (m : (ℓ : Loc nD τ sig) → Buf (Elt Ideal) ℓ)

/-- Where every window's block sits. -/
theorem idx : ∀ t : Fin cfg0.N, win0_0.index t = ![(grid0.coords t 0).val * 4 + (grid0.coords t 1).val, 0] ∧ win0_1.index t = ![(grid0.coords t 0).val, 0]
    ∧ win0_2.index t = ![(grid0.coords t 0).val * 4 + (grid0.coords t 1).val, 0] :=
  (by decide +kernel : ∀ t : Fin grid0.N, _)

/-- The batch of a point. -/
abbrev batch (t : Fin cfg0.N) : Fin 8 := grid0.coords t 0

/-- The quarter of the batch's rows of a point. -/
abbrev quarter (t : Fin cfg0.N) : Fin 4 := grid0.coords t 1

/-- The query block. -/
theorem q_block (c : Dev nD) (t : Fin cfg0.N) (r : Fin 512) (e : Fin 2048) : iblk m c 0 t (ix2 r e)
    = m ((c : Thread nD τ).loc main_arg0) (ix2 ⟨(batch t).val * 2048 + ((quarter t).val * 512 + r.val), by omega⟩ e) := by
  blk_point [iblk, V, idx t]
  show ((grid0.coords t 0).val * 4 + (grid0.coords t 1).val) * 512 + r.val = (grid0.coords t 0).val * 2048 + ((grid0.coords t 1).val * 512 + r.val)
  omega

/-- The memory block. -/
theorem kv_block (c : Dev nD) (t : Fin cfg0.N) (j : Fin 256) (e : Fin 4096) : iblk m c 1 t (ix2 j e)
    = m ((c : Thread nD τ).loc main_arg1) (ix2 ⟨(batch t).val * 256 + j.val, by omega⟩ e) := by
  blk_point [iblk, V, idx t]

/-- Where the result's block sits in the result. -/
theorem out_emb (t : Fin cfg0.N) (r : Fin 512) (e : Fin 2048) : ((cfg0.win 2).blk t).view.emb (ix2 r e)
    = ix2 ⟨(batch t).val * 2048 + ((quarter t).val * 512 + r.val), by omega⟩ e := by
  blk_point [idx t]
  show ((grid0.coords t 0).val * 4 + (grid0.coords t 1).val) * 512 + r.val = (grid0.coords t 0).val * 2048 + ((grid0.coords t 1).val * 512 + r.val)
  omega

/-- The result array after the run. -/
theorem final (c : Dev nD) (fin : Finite (m ((c : Thread nD τ).loc main_arg0)) (m ((c : Thread nD τ).loc main_arg1))) :
    (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  obtain ⟨r, e, rfl⟩ : ∃ (r : Fin 512) (e : Fin 2048), y = ix2 r e := ⟨y 0, y 1, by funext a; fin_cases a <;> rfl⟩
  rw [after0_2, out_emb]
  exact out_apply fin (batch t) ⟨(quarter t).val * 512 + r.val, by omega⟩ _ _ r e (q_block m c t r) (kv_block m c t)

end Cert.XattnIdeal.Cross

end
-- ==== Proof.InProjFrame.lean ====
/- THE MIXER'S INPUT PROJECTION, frame: the first point of a row of points normalizes 1024 rows, keeps them in the scratch and
   writes the small output; every point of the row writes its block of the main output. The small output's block is
   written back by the last point of the row, which does not touch it. -/
module

public import proofs.«01_k».proof.Proof.Gen.InProjIdeal.Frame
public import proofs.«01_k».proof.Proof.Gen.InProjIdeal.Skeleton
public import Idealize.ShloMosaic.Lib.Pipeline.TableIdle
public import Idealize.ShloMosaic.Lib.Pipeline.ValueKit.Held
public import Idealize.ShloMosaic.Lib.VecWindow
public import Idealize.ShloMosaic.Lib.Claim

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition on the point: it is the first of its row of points. -/
abbrev cond0 (i : grid0.Coords) : Prop := k0_cond1 i = 1#1

theorem hcond0 : ∀ t : Fin cfg0.N, cond0 (grid0.coords t) ↔ t.val % 12 = 0 :=
  (by decide +kernel : ∀ t : Fin grid0.N, cond0 (grid0.coords t) ↔ t.val % 12 = 0)

/-- The small output's window is idle away from the first points. -/
theorem idle5 : ∀ t : Fin cfg0.N, cfg0.idle 5 (grid0.coords t) = !decide (t.val % 12 = 0) :=
  (by decide +kernel : ∀ t : Fin grid0.N, idle0 5 (grid0.coords t) = !decide (t.val % 12 = 0))

/-- The small output's buffer is fresh at the first points only. -/
theorem fresh5 (n : ℕ) (h : n ≤ cfg0.N) : cfg0.fresh 5 n = decide (n % 12 = 0) :=
  Cfg.fresh_tab cfg0 5 (fun n => decide (n % 12 = 0)) rfl
    (by decide +kernel : ∀ t : Fin grid0.N, decide ((t.val + 1) % 12 = 0) = (win0_5.flush t || (idle0 5 (grid0.coords t) && decide (t.val % 12 = 0)))) n h

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x128 .f32 := win0_5.stage (cfg0.slots t 5)
abbrev hs5 (t : Fin cfg0.N) : (ms5 t).IsWhole := hstage0_5 ((cfg0.slots t 5).cast nbuf0_5)
/-- The scratch that carries the normalized rows. -/
abbrev scM : Memref sig .tc .vmem S1024x2048 .bf16 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- A load of a whole buffer reads what it holds. -/
theorem load {S : Shape} {e : EltTy} {M : Memref sig .tc .vmem S e} (hM : M.IsWhole) {off : Fin S.rank → ℕ} (inb : ∀ a, off a + S.size a ≤ S.size a) (x : Vec F S e) :
    M.view.readAt (Elt F) (Rect.unit off S.size inb).toLoadRect (hM.unread x) = x := by
  rw [View.readAt_full]; exact hM.read_unread x

/-- At the first point of a row of points the body stores the normalized rows, the small product and the product of the rows. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole)
    (hc0 : cond0 i) (x0 : Vec F S1024x2048 .f32) (x1 : Vec F S1x2048 .f32) (x2 : Vec F S2048x1024 .bf16) (x3 : Vec F S2048x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 (k0_pay2 x0 x1) x2) ∗ owns (c : Thread nD τ) arg7 fullShare (k0_pay3 x0 x1 x3) ∗ owns (c : Thread nD τ) arg8 fullShare (k0_pay2 x0 x1)) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro; refine (View.read_writes_full _ _ _ _ _).trans ?_
    exact congrArg₂ k0_pay4 ((View.readCov_full _ _ _ _ _).trans (congrArg₂ k0_pay2 (load harg2 _ _) (load harg3 _ _))) (load harg4 _ _)
  isplitl [H5]
  · iexists _; isplitr
    swap; · iexact H5
    ipureintro; refine (View.read_writes_full _ _ _ _ _).trans ?_
    rw [load harg2, load harg3, load harg5]
  iexists _; isplitr
  swap; · iexact HS
  ipureintro; refine (View.read_writes_full _ _ _ _ _).trans ?_
  exact congrArg₂ k0_pay2 (load harg2 _ _) (load harg3 _ _)

/-- At a later point the body stores the product of the carried rows and touches nothing else. -/
theorem run_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x2048 .bf16) (harg8 : arg8.IsWhole)
    (hc0 : ¬cond0 i) (x0 : Vec F S1024x2048 .f32) (x1 : Vec F S1x2048 .f32) (x2 : Vec F S2048x1024 .bf16) (x3 : Vec F S2048x128 .bf16) (x5 : Vec F S1024x128 .f32) (u : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare x5 ∗ owns (c : Thread nD τ) arg8 fullShare u
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 u x2) ∗ owns (c : Thread nD τ) arg7 fullShare x5 ∗ owns (c : Thread nD τ) arg8 fullShare u) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hf5; obtain rfl := harg8.eq_unread hfs
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro; refine (View.read_writes_full _ _ _ _ _).trans ?_
    exact congrArg₂ k0_pay4 (load harg8 _ _) (load harg4 _ _)
  isplitl [H5]
  · iexists _; isplitr; · ipureintro; exact harg7.read_unread _
    iexact H5
  iexists _; isplitr; · ipureintro; exact harg8.read_unread _
  iexact HS

/-- The first point of `t`'s row of points, the one that normalizes. -/
def start (t : Fin cfg0.N) : Fin cfg0.N := ⟨12 * (t.val / 12), Pipeline.run_start_lt t⟩

theorem start_first (t : Fin cfg0.N) (h : t.val % 12 = 0) : start t = t := Fin.ext (by show 12 * (t.val / 12) = t.val; omega)

theorem start_later (t : Fin cfg0.N) (h : ¬t.val % 12 = 0) (hp : t.val - 1 < cfg0.N) : start ⟨t.val - 1, hp⟩ = start t :=
  Fin.ext (by show 12 * ((t.val - 1) / 12) = 12 * (t.val / 12); omega)

/-- The normalized rows the scratch holds after point `t`. -/
def rowsAt (c : Dev nD) (t : Fin cfg0.N) : Vec F S1024x2048 .bf16 := k0_pay2 (iblk m c 0 (start t)) (iblk m c 1 (start t))

/-- What point `t` leaves for the main output. -/
def mainAt (c : Dev nD) (t : Fin cfg0.N) : Vec F S1024x1024 .bf16 := k0_pay4 (rowsAt m c t) (iblk m c 2 t)

/-- What the small output's buffer holds after point `t`. -/
def smallAt (c : Dev nD) (t : Fin cfg0.N) : Vec F S1024x128 .f32 := k0_pay3 (iblk m c 0 (start t)) (iblk m c 1 (start t)) (iblk m c 3 (start t))

theorem rowsAt_first (c : Dev nD) (t : Fin cfg0.N) (h : t.val % 12 = 0) : rowsAt m c t = k0_pay2 (iblk m c 0 t) (iblk m c 1 t) := by
  unfold rowsAt; rw [start_first t h]

theorem smallAt_first (c : Dev nD) (t : Fin cfg0.N) (h : t.val % 12 = 0) : smallAt m c t = k0_pay3 (iblk m c 0 t) (iblk m c 1 t) (iblk m c 3 t) := by
  unfold smallAt; rw [start_first t h]

theorem rowsAt_later (c : Dev nD) (t : Fin cfg0.N) (h : ¬t.val % 12 = 0) (hp : t.val - 1 < cfg0.N) : rowsAt m c ⟨t.val - 1, hp⟩ = rowsAt m c t := by
  unfold rowsAt; rw [start_later t h]

theorem smallAt_later (c : Dev nD) (t : Fin cfg0.N) (h : ¬t.val % 12 = 0) (hp : t.val - 1 < cfg0.N) : smallAt m c ⟨t.val - 1, hp⟩ = smallAt m c t := by
  unfold smallAt; rw [start_later t h]

/-- The invariant before position `n`: before the first point the scratch at anything, afterwards at the rows of the point before. -/
def PhiS (c : Dev nD) : (n : ℕ) → n ≤ cfg0.N → sProp 𝕄
  | 0, _ => Pipeline.ΦA spec0 c
  | n + 1, hn => iprop(iprop(owns (c : Thread nD τ) scM fullShare (rowsAt m c ⟨n, hn⟩)) ∗ (∃ r, prngReg c r))

theorem PhiS_pos (c : Dev nD) (n : ℕ) (h : n ≤ cfg0.N) (hz : n ≠ 0) :
    PhiS m c n h = iprop(iprop(owns (c : Thread nD τ) scM fullShare (rowsAt m c ⟨n - 1, by omega⟩)) ∗ (∃ r, prngReg c r)) := by
  cases n with
  | zero => exact absurd rfl hz
  | succ n => rfl

/-- Any invariant gives the scratch at some contents. -/
theorem PhiS_any (c : Dev nD) (n : ℕ) (h : n ≤ cfg0.N) :
    PhiS m c n h ⊢ iprop(iprop((∃ d, owns (c : Thread nD τ) scM fullShare d)) ∗ (∃ r, prngReg c r)) := by
  cases n with
  | zero => rw [← PhiA_eq]; exact Idealize.SL.BI.Entails.refl _
  | succ n =>
    rw [PhiS_pos m c _ _ (Nat.succ_ne_zero n)]
    iintro ⟨HS, Hg⟩
    isplitl [HS]
    · iexists _; iexact HS
    iexact Hg

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => mainAt m c t
    | ⟨5, _⟩ => smallAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = mainAt m c t := by dsimp only [dats]
theorem after0_5 (c : Dev nD) (t : Fin cfg0.N) : (dats m 0 c).after 5 t = smallAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- A later point finds the small output's buffer as the first point of its row left it. -/
theorem before0_5 (c : Dev nD) (t : Fin cfg0.N) (h : ¬t.val % 12 = 0) (d) : (dats m 0 c).before 5 t d = smallAt m c t := by
  have hp : t.val - 1 < cfg0.N := Nat.lt_of_le_of_lt (Nat.sub_le _ _) t.isLt
  rw [(dats m 0 c).before_out_traj 5 rfl (fun _ _ => rfl) (fun t ht hi _ => ?_) t.val t rfl d, fresh5 _ (Nat.le_of_lt t.isLt), decide_eq_false h,
    if_neg Bool.false_ne_true, after0_5, smallAt_later m c t h hp]
  have ht' : ¬t.val % 12 = 0 := fun h0 => by rw [idle5, decide_eq_true h0] at hi; exact Bool.false_ne_true hi
  rw [after0_5, after0_5, smallAt_later m c t ht']

/-- What the body must hand back of the small output's buffer. -/
def leaves5 (c : Dev nD) (t : Fin cfg0.N) : sProp 𝕄 :=
  match cfg0.idle 5 (cfg0.grid.coords t) with
  | true =>
    match (cfg0.win 5).flush t with
    | false => iprop(∃ d, owns (c : Thread nD τ) (ms5 t) fullShare ((dats m 0 c).before 5 t d))
    | true => owns (c : Thread nD τ) (ms5 t) fullShare ((dats m 0 c).after 5 t)
  | false => owns (c : Thread nD τ) (ms5 t) fullShare ((dats m 0 c).after 5 t)

/-- It is enough that the buffer holds the small output's block. -/
theorem leaves5_intro (c : Dev nD) (t : Fin cfg0.N) : owns (c : Thread nD τ) (ms5 t) fullShare (smallAt m c t) ⊢ (leaves5 m c t : sProp 𝕄) := by
  have hi := idle5 t
  unfold leaves5
  by_cases h : t.val % 12 = 0
  · rw [decide_eq_true h] at hi
    rw [show cfg0.idle 5 (cfg0.grid.coords t) = false from hi, after0_5]
  · rw [decide_eq_false h] at hi
    rw [show cfg0.idle 5 (cfg0.grid.coords t) = true from hi, after0_5]
    cases (cfg0.win 5).flush t
    · dsimp only
      simp only [before0_5 m c t h]
      iintro H
      iexists (smallAt m c t)
      iexact H
    · exact Idealize.SL.BI.Entails.refl _

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ leaves5 m c t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = iprop(iprop(owns (c : Thread nD τ) scM fullShare (rowsAt m c t)) ∗ (∃ r, prngReg c r)) from rfl, PhiS_castSucc m c t]
  by_cases h0 : t.val % 12 = 0
  · refine Idealize.SL.BI.BIBase.Entails.trans (sep_mono_left (PhiS_any m c _ _)) ?_
    iintro ⟨⟨HS, Hg⟩, Ho, ⟨%d0, H0⟩, ⟨%d1, H1⟩, ⟨%d2, H2⟩, ⟨%d3, H3⟩, ⟨%d4, H4⟩, ⟨%d5, H5⟩⟩
    iapply (run_first c (grid0.coords t) _ (hs0 t) _ (hs1 t) _ (hs2 t) _ (hs3 t) _ (hs4 t) _ (hs5 t) _ (Memref.isWhole_whole _) ((hcond0 t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    rw [mainAt, rowsAt_first m c t h0]
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves5_intro m c t)
    rw [smallAt_first m c t h0]
    iexact H5
  · have hz : t.val ≠ 0 := fun h => h0 (by rw [h])
    rw [PhiS_pos m c _ _ hz, rowsAt_later m c t h0]
    simp only [before0_5 m c t h0]
    iintro ⟨⟨HS, Hg⟩, Ho, ⟨%d0, H0⟩, ⟨%d1, H1⟩, ⟨%d2, H2⟩, ⟨%d3, H3⟩, ⟨%d4, H4⟩, ⟨%d5, H5⟩⟩
    iapply (run_later c (grid0.coords t) _ (hs0 t) _ (hs1 t) _ (hs2 t) _ (hs3 t) _ (hs4 t) _ (hs5 t) _ (Memref.isWhole_whole _) (fun h => h0 ((hcond0 t).mp h)) (iblk m c 0 t) (iblk m c 1 t) (iblk m c 2 t) (iblk m c 3 t) (smallAt m c t) (rowsAt m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves5_intro m c t)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [PhiA_eq]; exact PhiS_any m c cfg0.N (Nat.le_refl _)

set_option backward.isDefEq.respectTransparency.types false in
/-- The launch: the arrays end as the proof data say, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.InProjIdeal.Gen

end
-- ==== Proof.InProjValue.lean ====
/- THE MIXER'S INPUT PROJECTION, block against array: the first point of a row of points normalizes 1024 rows, every point of the
   row of points multiplies them; the
   first point also multiplies them by the small weights. -/
module

public import proofs.«01_k».proof.Proof.InProjFrame
public import proofs.«01_k».proof.Proof.Gen.RefInProjIdeal.Run
public import Idealize.ShloMosaic.Lib.Pipeline.ValueKit
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.InProjIdeal.Whole

open Cert.InProjIdeal Cert.InProjIdeal.Gen

variable (m : (ℓ : Loc nD τ sig) → Buf (Elt Ideal) ℓ)

/-- The reference as a function of its arrays: the rows normalized, scaled by the gain, times the weights. -/
def REF (X : FVec Ideal S16384x2048 .f32) (G : FVec Ideal S1x2048 .f32) (W : FVec Ideal S2048x12288 .bf16) : FVec Ideal S16384x12288 .bf16 :=
  truncf .bf16 (Host.dotGeneral Cert.RefInProjIdeal.dot_S16384x2048_S2048x12288_S16384x12288_1_0_0_1_n_n none (mulf (mulf X (broadcastInDim S16384x2048 ![0, 1] Cert.RefInProjIdeal.Gen.bcast_S16384x1_S16384x2048_0_1 (Host.rsqrt (addf (Host.divf (broadcastInDim Cert.RefInProjIdeal.S16384x1 ![0] Cert.RefInProjIdeal.Gen.bcast_S16384_S16384x1_0 (Host.reduceAdd (mulf X X) (constant Cert.RefInProjIdeal.S_ .f32 0x00000000#32) Cert.RefInProjIdeal.Gen.reducesTo_S16384x2048_S16384_d1 Cert.RefInProjIdeal.Gen.h_S_)) (broadcastInDim Cert.RefInProjIdeal.S16384x1 ![] Cert.RefInProjIdeal.Gen.bcast_S_S16384x1 (constant Cert.RefInProjIdeal.S_ .f32 0x45000000#32))) (broadcastInDim Cert.RefInProjIdeal.S16384x1 ![] Cert.RefInProjIdeal.Gen.bcast_S_S16384x1 (constant Cert.RefInProjIdeal.S_ .f32 0x3727C5AC#32)))))) (broadcastInDim S16384x2048 ![0, 1] Cert.RefInProjIdeal.Gen.bcast_S1x2048_S16384x2048_0_1 G)) (extf .f32 W Cert.RefInProjIdeal.Gen.bitsLt_bf16_f32)) Cert.RefInProjIdeal.Gen.bitsLt_bf16_f32

/-- The reference as a function of its arrays: the rows normalized, scaled by the gain, times the small weights. -/
def REFS (X : FVec Ideal S16384x2048 .f32) (G : FVec Ideal S1x2048 .f32) (W : FVec Ideal S2048x128 .bf16) : FVec Ideal S16384x128 .f32 :=
  Host.dotGeneral Cert.RefInProjIdeal.dot_S16384x2048_S2048x128_S16384x128_1_0_0_1_n_n none (mulf (mulf X (broadcastInDim S16384x2048 ![0, 1] Cert.RefInProjIdeal.Gen.bcast_S16384x1_S16384x2048_0_1 (Host.rsqrt (addf (Host.divf (broadcastInDim Cert.RefInProjIdeal.S16384x1 ![0] Cert.RefInProjIdeal.Gen.bcast_S16384_S16384x1_0 (Host.reduceAdd (mulf X X) (constant Cert.RefInProjIdeal.S_ .f32 0x00000000#32) Cert.RefInProjIdeal.Gen.reducesTo_S16384x2048_S16384_d1 Cert.RefInProjIdeal.Gen.h_S_)) (broadcastInDim Cert.RefInProjIdeal.S16384x1 ![] Cert.RefInProjIdeal.Gen.bcast_S_S16384x1 (constant Cert.RefInProjIdeal.S_ .f32 0x45000000#32))) (broadcastInDim Cert.RefInProjIdeal.S16384x1 ![] Cert.RefInProjIdeal.Gen.bcast_S_S16384x1 (constant Cert.RefInProjIdeal.S_ .f32 0x3727C5AC#32)))))) (broadcastInDim S16384x2048 ![0, 1] Cert.RefInProjIdeal.Gen.bcast_S1x2048_S16384x2048_0_1 G)) (extf .f32 W Cert.RefInProjIdeal.Gen.bitsLt_bf16_f32)

/-- Where every window's block sits. -/
theorem idx : ∀ t : Fin cfg0.N, win0_0.index t = ![t.val / 12, 0] ∧ win0_1.index t = ![0, 0]
    ∧ win0_2.index t = ![0, t.val % 12] ∧ win0_3.index t = ![0, 0] ∧ win0_4.index t = ![t.val / 12, t.val % 12] ∧ win0_5.index t = ![t.val / 12, 0] :=
  (by decide +kernel : ∀ t : Fin grid0.N, _)

/-- What a point stores, element by element. -/
theorem point (c : Dev nD) (t : Fin cfg0.N) (y) : k0_pay4 (k0_pay2 (iblk m c 0 (start t)) (iblk m c 1 (start t))) (iblk m c 2 t) y
    = REF (m ((c : Thread nD τ).loc main_arg0)) (m ((c : Thread nD τ).loc main_arg1)) (m ((c : Thread nD τ).loc main_arg2)) (((cfg0.win 4).blk t).view.emb y) := by
  have hs : (start t).val / 12 = t.val / 12 := by show 12 * (t.val / 12) / 12 = _; omega
  pointwise [k0_pay4, k0_pay2, k0_pay1, REF]
  blk_point [iblk, V, idx t, idx (start t), hs]

/-- The result array after the run. -/
theorem final (c : Dev nD) : (dats m 0 c).arrAt 4 (cfgs 0).N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, mainAt, rowsAt]
  exact point m c t y

/-- What the first point of a row of points computes for the small output, element by element. -/
theorem small_point (c : Dev nD) (t : Fin cfg0.N) (y) : k0_pay3 (iblk m c 0 (start t)) (iblk m c 1 (start t)) (iblk m c 3 (start t)) y
    = REFS (m ((c : Thread nD τ).loc main_arg0)) (m ((c : Thread nD τ).loc main_arg1)) (m ((c : Thread nD τ).loc main_arg3)) (((cfg0.win 5).blk t).view.emb y) := by
  have hs : (start t).val / 12 = t.val / 12 := by show 12 * (t.val / 12) / 12 = _; omega
  pointwise [k0_pay3, k0_pay1, REFS]
  blk_point [iblk, V, idx t, idx (start t), hs]

/-- The small result array after the run. -/
theorem small_final (c : Dev nD) : (dats m 0 c).arrAt 5 (cfgs 0).N
    = REFS (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after0_5, smallAt]
  exact small_point m c t y

end Cert.InProjIdeal.Whole

end
-- ==== Proof.XaOValue.lean ====
/- THE OUTPUT PROJECTION OF THE CROSS ATTENTION, block against array: each grid point stores its block of the residual plus the product. -/
module

public import proofs.«01_k».proof.Proof.Gen.XaOIdeal.Frame
public import proofs.«01_k».proof.Proof.Gen.RefXaOIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.XaOIdeal.Whole

open Cert.XaOIdeal Cert.XaOIdeal.Gen

variable (m : (ℓ : Loc nD τ sig) → Buf (Elt Ideal) ℓ)

/-- The reference as a function of its arrays. -/
abbrev REF (A : FVec Ideal S16384x2048 .bf16) (W : FVec Ideal S2048x2048 .bf16) (H : FVec Ideal S16384x2048 .f32) : FVec Ideal S16384x2048 .f32 :=
  addf H (Host.dotGeneral Cert.RefXaOIdeal.dot_S16384x2048_S2048x2048_S16384x2048_1_0_0_1_n_n none (extf .f32 A Cert.RefXaOIdeal.Gen.bitsLt_bf16_f32) (extf .f32 W Cert.RefXaOIdeal.Gen.bitsLt_bf16_f32))

/-- Where every window's block sits. -/
theorem idx : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- What a point stores, element by element. -/
theorem point (c : Dev nD) (t : Fin cfg0.N) (y) : k0_pay1 (iblk m c 2 t) (iblk m c 0 t) (iblk m c 1 t) y
    = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.XaOIdeal.Whole

end
-- ==== Proof.OutProjValue.lean ====
/- THE MIXER'S OUTPUT PROJECTION, block against array: each grid point stores the residual plus the two halves' products; the
   reference multiplies the two halves laid side by side. -/
module

public import proofs.«01_k».proof.Proof.Gen.OutProjIdeal.Frame
public import proofs.«01_k».proof.Proof.Gen.RefOutProjIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjIdeal.Whole

open Cert.OutProjIdeal Cert.OutProjIdeal.Gen

variable (m : (ℓ : Loc nD τ sig) → Buf (Elt Ideal) ℓ)

/-- The reference as a function of its arrays. -/
def REF (A B : FVec Ideal S16384x2048 .bf16) (W : FVec Ideal S4096x2048 .bf16) (H : FVec Ideal S16384x2048 .f32) : FVec Ideal S16384x2048 .f32 :=
  addf H (Host.dotGeneral Cert.RefOutProjIdeal.dot_S16384x4096_S4096x2048_S16384x2048_1_0_0_1_n_n none
    (concatenate Cert.RefOutProjIdeal.S16384x4096 1 [⟨S16384x2048, (extf .f32 A Cert.RefOutProjIdeal.Gen.bitsLt_bf16_f32)⟩, ⟨S16384x2048, (extf .f32 B Cert.RefOutProjIdeal.Gen.bitsLt_bf16_f32)⟩] Cert.RefOutProjIdeal.Gen.concatenates_S16384x2048_S16384x2048_S16384x4096_d1)
    (extf .f32 W Cert.RefOutProjIdeal.Gen.bitsLt_bf16_f32))

/-- Where every window's block sits. -/
theorem idx : ∀ t : Fin cfg0.N, win0_0.index t = ![(grid0.coords t 0).val, 0] ∧ win0_1.index t = ![(grid0.coords t 0).val, 0] ∧ win0_2.index t = ![0, (grid0.coords t 1).val]
    ∧ win0_3.index t = ![1, (grid0.coords t 1).val] ∧ win0_4.index t = ![(grid0.coords t 0).val, (grid0.coords t 1).val] ∧ win0_5.index t = ![(grid0.coords t 0).val, (grid0.coords t 1).val] :=
  (by decide +kernel : ∀ t : Fin grid0.N, _)

/-- What a point stores, element by element. -/
theorem point (c : Dev nD) (t : Fin cfg0.N) (y) : k0_pay1 (iblk m c 4 t) (iblk m c 0 t) (iblk m c 2 t) (iblk m c 1 t) (iblk m c 3 t) y
    = REF (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, REF]
  rw [add_assoc]
  blk_point [iblk, V, idx t]

/-- The result array after the run. -/
theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point m c t y

end Cert.OutProjIdeal.Whole

end
-- ==== Proof.XaQValue.lean ====
/- THE CROSS ATTENTION'S QUERY PROJECTION, block against array: the first point of a row of points normalizes 1024 rows, every point of the
   row of points multiplies them. -/
module

public import proofs.«01_k».proof.Proof.Gen.XaQIdeal.Frame
public import proofs.«01_k».proof.Proof.Gen.RefXaQIdeal.Run
public import Idealize.ShloMosaic.Lib.Pipeline.ValueKit
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.XaQIdeal.Whole

open Cert.XaQIdeal Cert.XaQIdeal.Gen

variable (m : (ℓ : Loc nD τ sig) → Buf (Elt Ideal) ℓ)

/-- The reference as a function of its arrays: the rows normalized, scaled by the gain, times the weights. -/
def REF (X : FVec Ideal S16384x2048 .f32) (G : FVec Ideal S1x2048 .f32) (W : FVec Ideal S2048x2048 .bf16) : FVec Ideal S16384x2048 .bf16 :=
  truncf .bf16 (Host.dotGeneral Cert.RefXaQIdeal.dot_S16384x2048_S2048x2048_S16384x2048_1_0_0_1_n_n none (mulf (mulf X (broadcastInDim S16384x2048 ![0, 1] Cert.RefXaQIdeal.Gen.bcast_S16384x1_S16384x2048_0_1 (Host.rsqrt (addf (Host.divf (broadcastInDim Cert.RefXaQIdeal.S16384x1 ![0] Cert.RefXaQIdeal.Gen.bcast_S16384_S16384x1_0 (Host.reduceAdd (mulf X X) (constant Cert.RefXaQIdeal.S_ .f32 0x00000000#32) Cert.RefXaQIdeal.Gen.reducesTo_S16384x2048_S16384_d1 Cert.RefXaQIdeal.Gen.h_S_)) (broadcastInDim Cert.RefXaQIdeal.S16384x1 ![] Cert.RefXaQIdeal.Gen.bcast_S_S16384x1 (constant Cert.RefXaQIdeal.S_ .f32 0x45000000#32))) (broadcastInDim Cert.RefXaQIdeal.S16384x1 ![] Cert.RefXaQIdeal.Gen.bcast_S_S16384x1 (constant Cert.RefXaQIdeal.S_ .f32 0x3727C5AC#32)))))) (broadcastInDim S16384x2048 ![0, 1] Cert.RefXaQIdeal.Gen.bcast_S1x2048_S16384x2048_0_1 G)) (extf .f32 W Cert.RefXaQIdeal.Gen.bitsLt_bf16_f32)) Cert.RefXaQIdeal.Gen.bitsLt_bf16_f32

/-- Where every window's block sits. -/
theorem idx : ∀ t : Fin cfg0.N, win0_0.index t = ![t.val / 2, 0] ∧ win0_1.index t = ![0, 0]
    ∧ win0_2.index t = ![0, t.val % 2] ∧ win0_3.index t = ![t.val / 2, t.val % 2] :=
  (by decide +kernel : ∀ t : Fin grid0.N, _)

/-- The first point of `t`'s row of points, the one that normalizes. -/
def start (t : Fin cfg0.N) : Fin cfg0.N := ⟨2 * (t.val / 2), Pipeline.run_start_lt t⟩

/-- The carried rows are the normalized rows of the first point of the row of points. -/
theorem rows_held (c : Dev nD) (t : Fin cfg0.N) (i) : (outsAt0 m c t.val t.isLt).2 i = k0_pay1 (iblk m c 0 (start t)) (iblk m c 1 (start t)) i := by
  refine Pipeline.eq_of_write_hold_apply (fun n h => (outsAt0 m c n h).2) 2 (fun t => k0_pay1 (iblk m c 0 t) (iblk m c 1 t)) (fun t h i => ?_) (fun t h i => ?_) t i
  · rw [outsAt0_A m c t h]; frame_out
  · rw [outsAt0_B m c t h]; rfl

/-- What a point leaves in its output block. -/
theorem left (c : Dev nD) (t : Fin cfg0.N) : (outsAt0 m c t.val t.isLt).1 = k0_pay2 (k0_pay1 (iblk m c 0 (start t)) (iblk m c 1 (start t))) (iblk m c 2 t) := by
  by_cases h : t.val % 2 = 0
  · have e : start t = t := Fin.ext (by show 2 * (t.val / 2) = t.val; omega)
    rw [outsAt0_A m c t h, e]; frame_out
  · have hp : t.val - 1 < cfg0.N := Nat.lt_of_le_of_lt (Nat.sub_le _ _) t.isLt
    have e : start ⟨t.val - 1, hp⟩ = start t := Fin.ext (by show 2 * ((t.val - 1) / 2) = 2 * (t.val / 2); omega)
    have hr : (outsAt0 m c (t.val - 1) hp).2 = k0_pay1 (iblk m c 0 (start t)) (iblk m c 1 (start t)) := by
      rw [← e]; exact funext (rows_held m c ⟨t.val - 1, hp⟩)
    rw [outsAt0_B m c t h, hr]; frame_out
    exact congrArg (fun z => k0_pay2 z (iblk m c 2 t)) (Memref.IsWhole.read_unread _ _)

/-- What a point stores, element by element. -/
theorem point (c : Dev nD) (t : Fin cfg0.N) (y) : k0_pay2 (k0_pay1 (iblk m c 0 (start t)) (iblk m c 1 (start t))) (iblk m c 2 t) y
    = REF (m ((c : Thread nD τ).loc main_arg0)) (m ((c : Thread nD τ).loc main_arg1)) (m ((c : Thread nD τ).loc main_arg2)) (((cfg0.win 3).blk t).view.emb y) := by
  have hs : (start t).val / 2 = t.val / 2 := by show 2 * (t.val / 2) / 2 = _; omega
  pointwise [k0_pay2, k0_pay1, REF]
  blk_point [iblk, V, idx t, idx (start t), hs]

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, left]
  exact point m c t y

end Cert.XaQIdeal.Whole

end
-- ==== Proof.XaKvValue.lean ====
/- THE CROSS ATTENTION'S KEY AND VALUE PROJECTION, block against array: the first point of a row of points normalizes 1024 rows,
   every point of the row of points multiplies them. -/
module

public import proofs.«01_k».proof.Proof.Gen.XaKvIdeal.Frame
public import proofs.«01_k».proof.Proof.Gen.RefXaKvIdeal.Run
public import Idealize.ShloMosaic.Lib.Pipeline.ValueKit
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.XaKvIdeal.Whole

open Cert.XaKvIdeal Cert.XaKvIdeal.Gen

variable (m : (ℓ : Loc nD τ sig) → Buf (Elt Ideal) ℓ)

/-- The reference as a function of its arrays: the rows normalized, scaled by the gain, times the weights. -/
def REF (X : FVec Ideal S2048x2048 .f32) (G : FVec Ideal S1x2048 .f32) (W : FVec Ideal S2048x4096 .bf16) : FVec Ideal S2048x4096 .bf16 :=
  truncf .bf16 (Host.dotGeneral Cert.RefXaKvIdeal.dot_S2048x2048_S2048x4096_S2048x4096_1_0_0_1_n_n none (mulf (mulf X (broadcastInDim S2048x2048 ![0, 1] Cert.RefXaKvIdeal.Gen.bcast_S2048x1_S2048x2048_0_1 (Host.rsqrt (addf (Host.divf (broadcastInDim Cert.RefXaKvIdeal.S2048x1 ![0] Cert.RefXaKvIdeal.Gen.bcast_S2048_S2048x1_0 (Host.reduceAdd (mulf X X) (constant Cert.RefXaKvIdeal.S_ .f32 0x00000000#32) Cert.RefXaKvIdeal.Gen.reducesTo_S2048x2048_S2048_d1 Cert.RefXaKvIdeal.Gen.h_S_)) (broadcastInDim Cert.RefXaKvIdeal.S2048x1 ![] Cert.RefXaKvIdeal.Gen.bcast_S_S2048x1 (constant Cert.RefXaKvIdeal.S_ .f32 0x45000000#32))) (broadcastInDim Cert.RefXaKvIdeal.S2048x1 ![] Cert.RefXaKvIdeal.Gen.bcast_S_S2048x1 (constant Cert.RefXaKvIdeal.S_ .f32 0x3727C5AC#32)))))) (broadcastInDim S2048x2048 ![0, 1] Cert.RefXaKvIdeal.Gen.bcast_S1x2048_S2048x2048_0_1 G)) (extf .f32 W Cert.RefXaKvIdeal.Gen.bitsLt_bf16_f32)) Cert.RefXaKvIdeal.Gen.bitsLt_bf16_f32

/-- Where every window's block sits. -/
theorem idx : ∀ t : Fin cfg0.N, win0_0.index t = ![t.val / 4, 0] ∧ win0_1.index t = ![0, 0]
    ∧ win0_2.index t = ![0, t.val % 4] ∧ win0_3.index t = ![t.val / 4, t.val % 4] :=
  (by decide +kernel : ∀ t : Fin grid0.N, _)

/-- The first point of `t`'s row of points, the one that normalizes. -/
def start (t : Fin cfg0.N) : Fin cfg0.N := ⟨4 * (t.val / 4), Pipeline.run_start_lt t⟩

/-- The carried rows are the normalized rows of the first point of the row of points. -/
theorem rows_held (c : Dev nD) (t : Fin cfg0.N) (i) : (outsAt0 m c t.val t.isLt).2 i = k0_pay1 (iblk m c 0 (start t)) (iblk m c 1 (start t)) i := by
  refine Pipeline.eq_of_write_hold_apply (fun n h => (outsAt0 m c n h).2) 4 (fun t => k0_pay1 (iblk m c 0 t) (iblk m c 1 t)) (fun t h i => ?_) (fun t h i => ?_) t i
  · rw [outsAt0_A m c t h]; frame_out
  · rw [outsAt0_B m c t h]; rfl

/-- What a point leaves in its output block. -/
theorem left (c : Dev nD) (t : Fin cfg0.N) : (outsAt0 m c t.val t.isLt).1 = k0_pay2 (k0_pay1 (iblk m c 0 (start t)) (iblk m c 1 (start t))) (iblk m c 2 t) := by
  by_cases h : t.val % 4 = 0
  · have e : start t = t := Fin.ext (by show 4 * (t.val / 4) = t.val; omega)
    rw [outsAt0_A m c t h, e]; frame_out
  · have hp : t.val - 1 < cfg0.N := Nat.lt_of_le_of_lt (Nat.sub_le _ _) t.isLt
    have e : start ⟨t.val - 1, hp⟩ = start t := Fin.ext (by show 4 * ((t.val - 1) / 4) = 4 * (t.val / 4); omega)
    have hr : (outsAt0 m c (t.val - 1) hp).2 = k0_pay1 (iblk m c 0 (start t)) (iblk m c 1 (start t)) := by
      rw [← e]; exact funext (rows_held m c ⟨t.val - 1, hp⟩)
    rw [outsAt0_B m c t h, hr]; frame_out
    exact congrArg (fun z => k0_pay2 z (iblk m c 2 t)) (Memref.IsWhole.read_unread _ _)

/-- What a point stores, element by element. -/
theorem point (c : Dev nD) (t : Fin cfg0.N) (y) : k0_pay2 (k0_pay1 (iblk m c 0 (start t)) (iblk m c 1 (start t))) (iblk m c 2 t) y
    = REF (m ((c : Thread nD τ).loc main_arg0)) (m ((c : Thread nD τ).loc main_arg1)) (m ((c : Thread nD τ).loc main_arg2)) (((cfg0.win 3).blk t).view.emb y) := by
  have hs : (start t).val / 4 = t.val / 4 := by show 4 * (t.val / 4) / 4 = _; omega
  pointwise [k0_pay2, k0_pay1, REF]
  blk_point [iblk, V, idx t, idx (start t), hs]

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, left]
  exact point m c t y

end Cert.XaKvIdeal.Whole

end
-- ==== Proof.ExpertsRun.lean ====
/- THE EXPERTS' KERNEL, one item at a time: an item streams a chunk of an expert's weights and accumulates its product, or runs the resident expert whole, or zeroes a block, or does nothing. -/
module

public import proofs.«01_k».proof.Proof.Gen.ExpertsIdeal.Skeleton
public import proofs.«01_k».proof.Proof.Gen.ExpertsIdeal.Launch
public import Idealize.ShloMosaic.Lib.Exec
public import Idealize.ShloMosaic.Lib.Pipeline.Frame
public import Idealize.ShloMosaic.Lib.Pipeline.FrameBody
public import Idealize.ShloMosaic.Lib.Pipeline.TableIdle
public import Idealize.ShloMosaic.Lib.Pipeline.ValueKit.Held
public import Idealize.ShloMosaic.Lib.VecWindow
public import Idealize.ShloMosaic.Lib.Claim

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev kindM : Memref sig .tc .smem S384 .i32 := Memref.whole main_arg1
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word of the second table at the point, as the body reads it. -/
abbrev word (c : Dev nD) (i : grid0.Coords) (xt : TbBuf (F := F) c kindM) : BitVec 32 :=
  kindM.view.readAt (Elt F) (Rect.unit (s := S384) (k0_off1 i) S1.size (k0_off1_inb i)).toLoadRect xt (Shape.Idx.first (numel1_S1.symm ▸ Nat.one_pos))

/-- The bounds of one of the eight slices of a kept weight array. -/
theorem inb2 {k : ℕ} (hk : k < 8) : ∀ a : Fin 3, (![k, 0, 0] : Fin 3 → ℕ) a + S1x2048x256.size a ≤ S8x2048x256.size a := by
  intro a; fin_cases a <;> simp [S1x2048x256, S8x2048x256] <;> omega
theorem inb3 {k : ℕ} (hk : k < 8) : ∀ a : Fin 3, (![k, 0, 0] : Fin 3 → ℕ) a + S1x256x2048.size a ≤ S8x256x2048.size a := by
  intro a; fin_cases a <;> simp [S1x256x2048, S8x256x2048] <;> omega
theorem inb4 {k : ℕ} (hk : k < 16) : ∀ a : Fin 3, (![0, 0, 256 * k] : Fin 3 → ℕ) a + S1x1x256.size a ≤ S1x1x4096.size a := by
  intro a; fin_cases a <;> simp [S1x1x256, S1x1x4096] <;> omega

/-- Slice `k` of a kept array of weights. -/
abbrev sl2 (d : Vec F S8x2048x256 .bf16) (k : ℕ) (hk : k < 8) : Vec F S1x2048x256 .bf16 := VecWindow.window d ![k, 0, 0] S1x2048x256.size (inb2 hk)
/-- A kept array with slice `k` replaced. -/
abbrev up2 (d : Vec F S8x2048x256 .bf16) (k : ℕ) (w : Vec F S1x2048x256 .bf16) : Vec F S8x2048x256 .bf16 := VecWindow.put d ![k, 0, 0] S1x2048x256.size w
abbrev up3 (d : Vec F S8x256x2048 .bf16) (k : ℕ) (w : Vec F S1x256x2048 .bf16) : Vec F S8x256x2048 .bf16 := VecWindow.put d ![k, 0, 0] S1x256x2048.size w
/-- Chunk `k` of the first bias: the first eight are the gate's, the last eight the linear part's. -/
abbrev bch (d : Vec F S1x1x4096 .f32) (k : ℕ) (hk : k < 16) : Vec F S1x1x256 .f32 := VecWindow.window d ![0, 0, 256 * k] S1x1x256.size (inb4 hk)

/-- What an item of a streaming kind leaves in the accumulator: what was there plus the product of the chunk's hidden values. -/
abbrev accStep (x : Vec F S512x2048 .bf16) (acc : Vec F S512x2048 .f32) (g u : Vec F S1x2048x256 .f32) (b1 : Vec F S1x1x4096 .f32) (w : Vec F S1x256x2048 .f32) (k : ℕ) (hk : k < 8) : Vec F S512x2048 .f32 :=
  k0_pay10 x (k0_pay9 x (k0_pay4 g)) (bch b1 k (by omega)) (k0_pay5 u) (bch b1 (8 + k) (by omega)) acc (k0_pay6 w)

/-- What the resident expert gives for a block. -/
def resident (x : Vec F S512x2048 .bf16) (b1 : Vec F S1x1x4096 .f32) (b2 : Vec F S1x1x2048 .f32) (wg wu : Vec F S8x2048x256 .bf16) (w2 : Vec F S8x256x2048 .bf16) : Vec F S512x2048 .bf16 :=
  have h (k : ℕ) (hk : k < 8) : FVec F S512x256 .bf16 := k0_pay11 x (sl2 wg k hk) (bch b1 k (by omega)) (sl2 wu k hk) (bch b1 (8 + k) (by omega))
  k0_pay2 (h 0 (by decide)) (h 1 (by decide)) (h 2 (by decide)) (h 3 (by decide)) (h 4 (by decide)) (h 5 (by decide)) (h 6 (by decide))
    (k0_pay25 x (sl2 wg 7 (by decide)) (bch b1 7 (by decide))) (k0_pay26 x (sl2 wu 7 (by decide)) (bch b1 15 (by decide))) w2 b2

/-- A load of the rectangle just stored reads what was stored. -/
theorem load_same {κ : Kind} {sp : Space} {s : Shape} {e : EltTy} (v : View sig κ sp s e) (f : v.ty.Contents (Elt F)) {off size : Fin s.rank → ℕ} (inb inb' : ∀ a, off a + size a ≤ s.size a)
    (w : (Rect.unit off size inb').shape.Idx → Elt F e) (L : List (View.Piece (Elt F) s e)) :
    v.readAt (Elt F) (Rect.unit off size inb).toLoadRect (v.writes (Elt F) f (⟨Rect.unit off size inb', w⟩ :: L)) = w := by
  rw [View.readAt_unit v _ inb rfl inb, View.read_writes_cons_put v f inb' w L rfl]
  exact VecWindow.window_put_same _ _ _ _ _

theorem acc_congr {a a' : Vec F S512x2048 .bf16} {g g' : Vec F S1x2048x256 .bf16} {b b' c c' : Vec F S1x1x256 .f32} {u u' : Vec F S1x2048x256 .bf16} {d d' : Vec F S512x2048 .f32} {w w' : Vec F S1x256x2048 .bf16}
    (h1 : a = a') (h2 : g = g') (h3 : b = b') (h4 : u = u') (h5 : c = c') (h6 : d = d') (h7 : w = w') :
    k0_pay10 a (k0_pay9 a g) b u c d w = k0_pay10 a' (k0_pay9 a' g') b' u' c' d' w' := by
  subst h1 h2 h3 h4 h5 h6 h7; rfl

theorem resident_eq {x x' : Vec F S512x2048 .bf16} (b1 : Vec F S1x1x4096 .f32) {b2 b2' : Vec F S1x1x2048 .f32} (wg wu : Vec F S8x2048x256 .bf16) {w2 w2' : Vec F S8x256x2048 .bf16} (hx : x = x') (hb : b2 = b2') (hw : w2 = w2') :
    k0_pay2 (k0_pay11 x (sl2 wg 0 (by decide)) (bch b1 0 (by decide)) (sl2 wu 0 (by decide)) (bch b1 8 (by decide)))
      (k0_pay13 x (k0_pay12 x (sl2 wg 1 (by decide))) (bch b1 1 (by decide)) (sl2 wu 1 (by decide)) (bch b1 9 (by decide)))
      (k0_pay16 (k0_pay14 x (sl2 wg 2 (by decide)) (bch b1 2 (by decide))) (k0_pay15 x (sl2 wu 2 (by decide))) (bch b1 10 (by decide)))
      (k0_pay20 (k0_pay17 x (sl2 wg 3 (by decide)) (bch b1 3 (by decide))) (k0_pay18 x (sl2 wu 3 (by decide)) (bch b1 11 (by decide))) k0_pay19)
      (k0_pay21 x (sl2 wg 4 (by decide)) (bch b1 4 (by decide)) (sl2 wu 4 (by decide)) (bch b1 12 (by decide)))
      (k0_pay22 x (sl2 wg 5 (by decide)) (bch b1 5 (by decide)) (sl2 wu 5 (by decide)) (bch b1 13 (by decide)))
      (k0_pay24 x (k0_pay23 x (sl2 wg 6 (by decide)) (bch b1 6 (by decide))) (sl2 wu 6 (by decide)) (bch b1 14 (by decide)))
      (k0_pay25 x (sl2 wg 7 (by decide)) (bch b1 7 (by decide))) (k0_pay26 x (sl2 wu 7 (by decide)) (bch b1 15 (by decide))) w2 b2
      = resident x' b1 b2' wg wu w2' := by
  subst hx hb hw; rfl

/-- An item of no kind the kernel handles: nothing is touched. -/
theorem run_idle (c : Dev nD) (i : grid0.Coords) (arg5 : Memref sig .tc .vmem S512x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x1x4096 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x2048 .bf16) (harg11 : arg11.IsWhole) (arg12 : Memref sig .tc .vmem S512x2048 .bf16) (harg12 : arg12.IsWhole) (arg13 : Memref sig .tc .vmem S512x2048 .f32) (harg13 : arg13.IsWhole) (arg14 : Memref sig .tc .vmem S8x2048x256 .bf16) (harg14 : arg14.IsWhole) (arg15 : Memref sig .tc .vmem S8x2048x256 .bf16) (harg15 : arg15.IsWhole) (arg16 : Memref sig .tc .vmem S8x256x2048 .bf16) (harg16 : arg16.IsWhole)
    (xt : TbBuf (F := F) c kindM) (hchk : k0_chk1 (word c i xt)) (h1 : ¬k0_cond1 (word c i xt) = 1#1) (h4 : ¬k0_cond4 (word c i xt) = 1#1) (h5 : ¬k0_cond5 (word c i xt) = 1#1)
    (x5 : Vec F S512x2048 .bf16) (x6 : Vec F S1x2048x256 .f32) (x7 : Vec F S1x2048x256 .f32) (x8 : Vec F S1x1x4096 .f32) (x9 : Vec F S1x256x2048 .f32) (x10 : Vec F S1x1x2048 .f32) (x11 : Vec F S512x2048 .bf16) (x12 : Vec F S512x2048 .bf16) (x13 : Vec F S512x2048 .f32) (x14 : Vec F S8x2048x256 .bf16) (x15 : Vec F S8x2048x256 .bf16) (x16 : Vec F S8x256x2048 .bf16) (E : Set ℕ) (K : PUnit → sProp 𝕄) :
    iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ tbPt c kindM xt
        ∗ (iprop(owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (x11) ∗ owns (c : Thread nD τ) arg12 fullShare (x12) ∗ owns (c : Thread nD τ) arg13 fullShare (x13) ∗ owns (c : Thread nD τ) arg14 fullShare (x14) ∗ owns (c : Thread nD τ) arg15 fullShare (x15) ∗ owns (c : Thread nD τ) arg16 fullShare (x16) ∗ tbPt c kindM xt) -∗ K ⟨⟩))
      ⊢ wp frame (wpE (defs₀ (F := F)) Variants.none c none) E (cc0_moe_experts i (Memref.whole main_arg0) (Memref.isWhole_whole _) kindM (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16 harg16) K := by
  simp only [cc0_moe_experts_eq_skeleton]; unfold cc0_moe_experts_skel
  unfold owns
  iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, HT, Hk⟩
  subst hf5 hf6 hf7 hf8 hf9 hf10 hf11 hf12 hf13 hf14 hf15 hf16
  sl_exec (disch := first | sl_exact hchk | sl_exact h1 | sl_exact h4 | sl_exact h5)
  sl_step
  iapply Hk
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H8]
  · iexists _; isplitr
    swap; · iexact H8
    ipureintro
    rfl
  isplitl [H9]
  · iexists _; isplitr
    swap; · iexact H9
    ipureintro
    rfl
  isplitl [H10]
  · iexists _; isplitr
    swap; · iexact H10
    ipureintro
    rfl
  isplitl [H11]
  · iexists _; isplitr
    swap; · iexact H11
    ipureintro
    rfl
  isplitl [H12]
  · iexists _; isplitr
    swap; · iexact H12
    ipureintro
    rfl
  isplitl [H13]
  · iexists _; isplitr
    swap; · iexact H13
    ipureintro
    rfl
  isplitl [H14]
  · iexists _; isplitr
    swap; · iexact H14
    ipureintro
    rfl
  isplitl [H15]
  · iexists _; isplitr
    swap; · iexact H15
    ipureintro
    rfl
  isplitl [H16]
  · iexists _; isplitr
    swap; · iexact H16
    ipureintro
    rfl
  iexact HT

/-- An item that zeroes its block. -/
theorem run_zero (c : Dev nD) (i : grid0.Coords) (arg5 : Memref sig .tc .vmem S512x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x1x4096 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x2048 .bf16) (harg11 : arg11.IsWhole) (arg12 : Memref sig .tc .vmem S512x2048 .bf16) (harg12 : arg12.IsWhole) (arg13 : Memref sig .tc .vmem S512x2048 .f32) (harg13 : arg13.IsWhole) (arg14 : Memref sig .tc .vmem S8x2048x256 .bf16) (harg14 : arg14.IsWhole) (arg15 : Memref sig .tc .vmem S8x2048x256 .bf16) (harg15 : arg15.IsWhole) (arg16 : Memref sig .tc .vmem S8x256x2048 .bf16) (harg16 : arg16.IsWhole)
    (xt : TbBuf (F := F) c kindM) (hchk : k0_chk1 (word c i xt)) (h1 : ¬k0_cond1 (word c i xt) = 1#1) (h4 : ¬k0_cond4 (word c i xt) = 1#1) (h5 : k0_cond5 (word c i xt) = 1#1)
    (x5 : Vec F S512x2048 .bf16) (x6 : Vec F S1x2048x256 .f32) (x7 : Vec F S1x2048x256 .f32) (x8 : Vec F S1x1x4096 .f32) (x9 : Vec F S1x256x2048 .f32) (x10 : Vec F S1x1x2048 .f32) (x11 : Vec F S512x2048 .bf16) (x12 : Vec F S512x2048 .bf16) (x13 : Vec F S512x2048 .f32) (x14 : Vec F S8x2048x256 .bf16) (x15 : Vec F S8x2048x256 .bf16) (x16 : Vec F S8x256x2048 .bf16) (E : Set ℕ) (K : PUnit → sProp 𝕄) :
    iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ tbPt c kindM xt
        ∗ (iprop(owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (k0_pay3) ∗ owns (c : Thread nD τ) arg12 fullShare (x12) ∗ owns (c : Thread nD τ) arg13 fullShare (x13) ∗ owns (c : Thread nD τ) arg14 fullShare (x14) ∗ owns (c : Thread nD τ) arg15 fullShare (x15) ∗ owns (c : Thread nD τ) arg16 fullShare (x16) ∗ tbPt c kindM xt) -∗ K ⟨⟩))
      ⊢ wp frame (wpE (defs₀ (F := F)) Variants.none c none) E (cc0_moe_experts i (Memref.whole main_arg0) (Memref.isWhole_whole _) kindM (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16 harg16) K := by
  simp only [cc0_moe_experts_eq_skeleton]; unfold cc0_moe_experts_skel
  unfold owns
  iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, HT, Hk⟩
  subst hf5 hf6 hf7 hf8 hf9 hf10 hf11 hf12 hf13 hf14 hf15 hf16
  sl_exec (disch := first | sl_exact hchk | sl_exact h1 | sl_exact h4 | sl_exact h5)
  sl_step
  iapply Hk
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H8]
  · iexists _; isplitr
    swap; · iexact H8
    ipureintro
    rfl
  isplitl [H9]
  · iexists _; isplitr
    swap; · iexact H9
    ipureintro
    rfl
  isplitl [H10]
  · iexists _; isplitr
    swap; · iexact H10
    ipureintro
    rfl
  isplitl [H11]
  · iexists _; isplitr
    swap; · iexact H11
    ipureintro
    exact View.read_writes_full _ _ _ _ _
  isplitl [H12]
  · iexists _; isplitr
    swap; · iexact H12
    ipureintro
    rfl
  isplitl [H13]
  · iexists _; isplitr
    swap; · iexact H13
    ipureintro
    rfl
  isplitl [H14]
  · iexists _; isplitr
    swap; · iexact H14
    ipureintro
    rfl
  isplitl [H15]
  · iexists _; isplitr
    swap; · iexact H15
    ipureintro
    rfl
  isplitl [H16]
  · iexists _; isplitr
    swap; · iexact H16
    ipureintro
    rfl
  iexact HT

set_option maxHeartbeats 4000000 in
/-- The first item of an expert: its block and second bias are taken up, and its first chunk added. -/
theorem run_first (c : Dev nD) (i : grid0.Coords) (arg5 : Memref sig .tc .vmem S512x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x1x4096 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x2048 .bf16) (harg11 : arg11.IsWhole) (arg12 : Memref sig .tc .vmem S512x2048 .bf16) (harg12 : arg12.IsWhole) (arg13 : Memref sig .tc .vmem S512x2048 .f32) (harg13 : arg13.IsWhole) (arg14 : Memref sig .tc .vmem S8x2048x256 .bf16) (harg14 : arg14.IsWhole) (arg15 : Memref sig .tc .vmem S8x2048x256 .bf16) (harg15 : arg15.IsWhole) (arg16 : Memref sig .tc .vmem S8x256x2048 .bf16) (harg16 : arg16.IsWhole)
    (xt : TbBuf (F := F) c kindM) (hchk : k0_chk1 (word c i xt)) (h1 : k0_cond1 (word c i xt) = 1#1) (h2 : Scalar.cmpi .ne (Scalar.extui (Scalar.cmpi .eq (word c i xt) 0#32) : BitVec 32) 0#32 = 1#1) (h3 : ¬k0_cond3 (word c i xt) = 1#1) (h4 : ¬k0_cond4 (word c i xt) = 1#1) (h5 : ¬k0_cond5 (word c i xt) = 1#1) (k : ℕ) (hk : k < 8) (o2 : k0_off2 (word c i xt) = ![k, 0, 0]) (o3 : k0_off3 (word c i xt) = ![k, 0, 0]) (o4 : k0_off4 (word c i xt) = ![0, 0, 256 * k]) (o5 : k0_off5 (word c i xt) = ![0, 0, 256 * (8 + k)])
    (x5 : Vec F S512x2048 .bf16) (x6 : Vec F S1x2048x256 .f32) (x7 : Vec F S1x2048x256 .f32) (x8 : Vec F S1x1x4096 .f32) (x9 : Vec F S1x256x2048 .f32) (x10 : Vec F S1x1x2048 .f32) (x11 : Vec F S512x2048 .bf16) (x12 : Vec F S512x2048 .bf16) (x13 : Vec F S512x2048 .f32) (x14 : Vec F S8x2048x256 .bf16) (x15 : Vec F S8x2048x256 .bf16) (x16 : Vec F S8x256x2048 .bf16) (E : Set ℕ) (K : PUnit → sProp 𝕄) :
    iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ tbPt c kindM xt
        ∗ (iprop(owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (x11) ∗ owns (c : Thread nD τ) arg12 fullShare (k0_pay7 x5) ∗ owns (c : Thread nD τ) arg13 fullShare (accStep (k0_pay7 x5) (k0_pay8 x10) x6 x7 x8 x9 k hk) ∗ owns (c : Thread nD τ) arg14 fullShare (up2 x14 k (k0_pay4 x6)) ∗ owns (c : Thread nD τ) arg15 fullShare (up2 x15 k (k0_pay5 x7)) ∗ owns (c : Thread nD τ) arg16 fullShare (up3 x16 k (k0_pay6 x9)) ∗ tbPt c kindM xt) -∗ K ⟨⟩))
      ⊢ wp frame (wpE (defs₀ (F := F)) Variants.none c none) E (cc0_moe_experts i (Memref.whole main_arg0) (Memref.isWhole_whole _) kindM (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16 harg16) K := by
  simp only [cc0_moe_experts_eq_skeleton]; unfold cc0_moe_experts_skel
  unfold owns
  iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, HT, Hk⟩
  subst hf5 hf6 hf7 hf8 hf9 hf10 hf11 hf12 hf13 hf14 hf15 hf16
  simp only [k0_part1_eq_skeleton, k0_part2_eq_skeleton]
  unfold k0_part1_skel k0_part2_skel
  sl_exec (disch := first | sl_exact hchk | sl_exact h1 | sl_exact h2 | sl_exact h3 | sl_exact h4 | sl_exact h5)
  sl_step
  iapply Hk
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H8]
  · iexists _; isplitr
    swap; · iexact H8
    ipureintro
    rfl
  isplitl [H9]
  · iexists _; isplitr
    swap; · iexact H9
    ipureintro
    rfl
  isplitl [H10]
  · iexists _; isplitr
    swap; · iexact H10
    ipureintro
    rfl
  isplitl [H11]
  · iexists _; isplitr
    swap; · iexact H11
    ipureintro
    rfl
  isplitl [H12]
  · iexists _; isplitr
    swap; · iexact H12
    ipureintro
    refine (View.read_writes_full _ _ _ _ _).trans ?_
    exact congrArg k0_pay7 (View.readAt_full _ _ _)
  isplitl [H13]
  · iexists _; isplitr
    swap; · iexact H13
    ipureintro
    refine (View.read_writes_full _ _ _ _ _).trans ?_
    refine acc_congr ?_ ((load_same _ _ _ _ _ _).trans (congrArg k0_pay4 (View.readAt_full _ _ _))) (View.readAt_unit _ _ _ o4 _) ((load_same _ _ _ _ _ _).trans (congrArg k0_pay5 (View.readAt_full _ _ _))) (View.readAt_unit _ _ _ o5 _) ?_ ((load_same _ _ _ _ _ _).trans (congrArg k0_pay6 (View.readAt_full _ _ _)))
    · dsimp only; unfold run_first.sl.v35; exact (View.readCov_full _ _ _ _ _).trans (congrArg k0_pay7 (View.readAt_full _ _ _))
    · first | exact (View.readCov_full _ _ _ _ _).trans (congrArg k0_pay8 (View.readAt_full _ _ _)) | (unfold run_first.sl.v70; exact (View.readCov_full _ _ _ _ _).trans (congrArg k0_pay8 (View.readAt_full _ _ _)))
  isplitl [H14]
  · iexists _; isplitr
    swap; · iexact H14
    ipureintro
    refine (View.read_writes_cons_put _ _ _ _ [] o2).trans ?_
    exact congrArg (VecWindow.put _ _ _) (congrArg k0_pay4 (View.readAt_full _ _ _))
  isplitl [H15]
  · iexists _; isplitr
    swap; · iexact H15
    ipureintro
    refine (View.read_writes_cons_put _ _ _ _ [] o2).trans ?_
    exact congrArg (VecWindow.put _ _ _) (congrArg k0_pay5 (View.readAt_full _ _ _))
  isplitl [H16]
  · iexists _; isplitr
    swap; · iexact H16
    ipureintro
    refine (View.read_writes_cons_put _ _ _ _ [] o3).trans ?_
    exact congrArg (VecWindow.put _ _ _) (congrArg k0_pay6 (View.readAt_full _ _ _))
  iexact HT

set_option maxHeartbeats 4000000 in
/-- A later item of an expert: its chunk is added. -/
theorem run_mid (c : Dev nD) (i : grid0.Coords) (arg5 : Memref sig .tc .vmem S512x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x1x4096 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x2048 .bf16) (harg11 : arg11.IsWhole) (arg12 : Memref sig .tc .vmem S512x2048 .bf16) (harg12 : arg12.IsWhole) (arg13 : Memref sig .tc .vmem S512x2048 .f32) (harg13 : arg13.IsWhole) (arg14 : Memref sig .tc .vmem S8x2048x256 .bf16) (harg14 : arg14.IsWhole) (arg15 : Memref sig .tc .vmem S8x2048x256 .bf16) (harg15 : arg15.IsWhole) (arg16 : Memref sig .tc .vmem S8x256x2048 .bf16) (harg16 : arg16.IsWhole)
    (xt : TbBuf (F := F) c kindM) (hchk : k0_chk1 (word c i xt)) (h1 : k0_cond1 (word c i xt) = 1#1) (h2 : ¬Scalar.cmpi .ne (Scalar.extui (Scalar.cmpi .eq (word c i xt) 0#32) : BitVec 32) 0#32 = 1#1) (h3 : ¬k0_cond3 (word c i xt) = 1#1) (h4 : ¬k0_cond4 (word c i xt) = 1#1) (h5 : ¬k0_cond5 (word c i xt) = 1#1) (k : ℕ) (hk : k < 8) (o2 : k0_off2 (word c i xt) = ![k, 0, 0]) (o3 : k0_off3 (word c i xt) = ![k, 0, 0]) (o4 : k0_off4 (word c i xt) = ![0, 0, 256 * k]) (o5 : k0_off5 (word c i xt) = ![0, 0, 256 * (8 + k)])
    (x5 : Vec F S512x2048 .bf16) (x6 : Vec F S1x2048x256 .f32) (x7 : Vec F S1x2048x256 .f32) (x8 : Vec F S1x1x4096 .f32) (x9 : Vec F S1x256x2048 .f32) (x10 : Vec F S1x1x2048 .f32) (x11 : Vec F S512x2048 .bf16) (x12 : Vec F S512x2048 .bf16) (x13 : Vec F S512x2048 .f32) (x14 : Vec F S8x2048x256 .bf16) (x15 : Vec F S8x2048x256 .bf16) (x16 : Vec F S8x256x2048 .bf16) (E : Set ℕ) (K : PUnit → sProp 𝕄) :
    iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ tbPt c kindM xt
        ∗ (iprop(owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (x11) ∗ owns (c : Thread nD τ) arg12 fullShare (x12) ∗ owns (c : Thread nD τ) arg13 fullShare (accStep (x12) (x13) x6 x7 x8 x9 k hk) ∗ owns (c : Thread nD τ) arg14 fullShare (up2 x14 k (k0_pay4 x6)) ∗ owns (c : Thread nD τ) arg15 fullShare (up2 x15 k (k0_pay5 x7)) ∗ owns (c : Thread nD τ) arg16 fullShare (up3 x16 k (k0_pay6 x9)) ∗ tbPt c kindM xt) -∗ K ⟨⟩))
      ⊢ wp frame (wpE (defs₀ (F := F)) Variants.none c none) E (cc0_moe_experts i (Memref.whole main_arg0) (Memref.isWhole_whole _) kindM (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16 harg16) K := by
  simp only [cc0_moe_experts_eq_skeleton]; unfold cc0_moe_experts_skel
  unfold owns
  iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, HT, Hk⟩
  subst hf5 hf6 hf7 hf8 hf9 hf10 hf11 hf12 hf13 hf14 hf15 hf16
  simp only [k0_part1_eq_skeleton, k0_part2_eq_skeleton]
  unfold k0_part1_skel k0_part2_skel
  sl_exec (disch := first | sl_exact hchk | sl_exact h1 | sl_exact h2 | sl_exact h3 | sl_exact h4 | sl_exact h5)
  sl_step
  iapply Hk
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H8]
  · iexists _; isplitr
    swap; · iexact H8
    ipureintro
    rfl
  isplitl [H9]
  · iexists _; isplitr
    swap; · iexact H9
    ipureintro
    rfl
  isplitl [H10]
  · iexists _; isplitr
    swap; · iexact H10
    ipureintro
    rfl
  isplitl [H11]
  · iexists _; isplitr
    swap; · iexact H11
    ipureintro
    rfl
  isplitl [H12]
  · iexists _; isplitr
    swap; · iexact H12
    ipureintro
    rfl
  isplitl [H13]
  · iexists _; isplitr
    swap; · iexact H13
    ipureintro
    refine (View.read_writes_full _ _ _ _ _).trans ?_
    refine acc_congr ?_ ((load_same _ _ _ _ _ _).trans (congrArg k0_pay4 (View.readAt_full _ _ _))) (View.readAt_unit _ _ _ o4 _) ((load_same _ _ _ _ _ _).trans (congrArg k0_pay5 (View.readAt_full _ _ _))) (View.readAt_unit _ _ _ o5 _) ?_ ((load_same _ _ _ _ _ _).trans (congrArg k0_pay6 (View.readAt_full _ _ _)))
    · dsimp only; exact View.readAt_full _ _ _
    · exact View.readAt_full _ _ _
  isplitl [H14]
  · iexists _; isplitr
    swap; · iexact H14
    ipureintro
    refine (View.read_writes_cons_put _ _ _ _ [] o2).trans ?_
    exact congrArg (VecWindow.put _ _ _) (congrArg k0_pay4 (View.readAt_full _ _ _))
  isplitl [H15]
  · iexists _; isplitr
    swap; · iexact H15
    ipureintro
    refine (View.read_writes_cons_put _ _ _ _ [] o2).trans ?_
    exact congrArg (VecWindow.put _ _ _) (congrArg k0_pay5 (View.readAt_full _ _ _))
  isplitl [H16]
  · iexists _; isplitr
    swap; · iexact H16
    ipureintro
    refine (View.read_writes_cons_put _ _ _ _ [] o3).trans ?_
    exact congrArg (VecWindow.put _ _ _) (congrArg k0_pay6 (View.readAt_full _ _ _))
  iexact HT

set_option maxHeartbeats 4000000 in
/-- The last item of an expert: its chunk is added and the block written. -/
theorem run_last (c : Dev nD) (i : grid0.Coords) (arg5 : Memref sig .tc .vmem S512x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x1x4096 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x2048 .bf16) (harg11 : arg11.IsWhole) (arg12 : Memref sig .tc .vmem S512x2048 .bf16) (harg12 : arg12.IsWhole) (arg13 : Memref sig .tc .vmem S512x2048 .f32) (harg13 : arg13.IsWhole) (arg14 : Memref sig .tc .vmem S8x2048x256 .bf16) (harg14 : arg14.IsWhole) (arg15 : Memref sig .tc .vmem S8x2048x256 .bf16) (harg15 : arg15.IsWhole) (arg16 : Memref sig .tc .vmem S8x256x2048 .bf16) (harg16 : arg16.IsWhole)
    (xt : TbBuf (F := F) c kindM) (hchk : k0_chk1 (word c i xt)) (h1 : k0_cond1 (word c i xt) = 1#1) (h2 : ¬Scalar.cmpi .ne (Scalar.extui (Scalar.cmpi .eq (word c i xt) 0#32) : BitVec 32) 0#32 = 1#1) (h3 : k0_cond3 (word c i xt) = 1#1) (h4 : ¬k0_cond4 (word c i xt) = 1#1) (h5 : ¬k0_cond5 (word c i xt) = 1#1) (k : ℕ) (hk : k < 8) (o2 : k0_off2 (word c i xt) = ![k, 0, 0]) (o3 : k0_off3 (word c i xt) = ![k, 0, 0]) (o4 : k0_off4 (word c i xt) = ![0, 0, 256 * k]) (o5 : k0_off5 (word c i xt) = ![0, 0, 256 * (8 + k)])
    (x5 : Vec F S512x2048 .bf16) (x6 : Vec F S1x2048x256 .f32) (x7 : Vec F S1x2048x256 .f32) (x8 : Vec F S1x1x4096 .f32) (x9 : Vec F S1x256x2048 .f32) (x10 : Vec F S1x1x2048 .f32) (x11 : Vec F S512x2048 .bf16) (x12 : Vec F S512x2048 .bf16) (x13 : Vec F S512x2048 .f32) (x14 : Vec F S8x2048x256 .bf16) (x15 : Vec F S8x2048x256 .bf16) (x16 : Vec F S8x256x2048 .bf16) (E : Set ℕ) (K : PUnit → sProp 𝕄) :
    iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ tbPt c kindM xt
        ∗ (iprop(owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (k0_pay1 (accStep (x12) (x13) x6 x7 x8 x9 k hk)) ∗ owns (c : Thread nD τ) arg12 fullShare (x12) ∗ owns (c : Thread nD τ) arg13 fullShare (accStep (x12) (x13) x6 x7 x8 x9 k hk) ∗ owns (c : Thread nD τ) arg14 fullShare (up2 x14 k (k0_pay4 x6)) ∗ owns (c : Thread nD τ) arg15 fullShare (up2 x15 k (k0_pay5 x7)) ∗ owns (c : Thread nD τ) arg16 fullShare (up3 x16 k (k0_pay6 x9)) ∗ tbPt c kindM xt) -∗ K ⟨⟩))
      ⊢ wp frame (wpE (defs₀ (F := F)) Variants.none c none) E (cc0_moe_experts i (Memref.whole main_arg0) (Memref.isWhole_whole _) kindM (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16 harg16) K := by
  simp only [cc0_moe_experts_eq_skeleton]; unfold cc0_moe_experts_skel
  unfold owns
  iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, HT, Hk⟩
  subst hf5 hf6 hf7 hf8 hf9 hf10 hf11 hf12 hf13 hf14 hf15 hf16
  simp only [k0_part1_eq_skeleton, k0_part2_eq_skeleton]
  unfold k0_part1_skel k0_part2_skel
  sl_exec (disch := first | sl_exact hchk | sl_exact h1 | sl_exact h2 | sl_exact h3 | sl_exact h4 | sl_exact h5)
  sl_step
  iapply Hk
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H8]
  · iexists _; isplitr
    swap; · iexact H8
    ipureintro
    rfl
  isplitl [H9]
  · iexists _; isplitr
    swap; · iexact H9
    ipureintro
    rfl
  isplitl [H10]
  · iexists _; isplitr
    swap; · iexact H10
    ipureintro
    rfl
  isplitl [H11]
  · iexists _; isplitr
    swap; · iexact H11
    ipureintro
    refine (View.read_writes_full _ _ _ _ _).trans (congrArg k0_pay1 ?_)
    refine (View.readCov_full _ _ _ _ _).trans ?_
    refine acc_congr ?_ ((load_same _ _ _ _ _ _).trans (congrArg k0_pay4 (View.readAt_full _ _ _))) (View.readAt_unit _ _ _ o4 _) ((load_same _ _ _ _ _ _).trans (congrArg k0_pay5 (View.readAt_full _ _ _))) (View.readAt_unit _ _ _ o5 _) ?_ ((load_same _ _ _ _ _ _).trans (congrArg k0_pay6 (View.readAt_full _ _ _)))
    · dsimp only; exact View.readAt_full _ _ _
    · exact View.readAt_full _ _ _
  isplitl [H12]
  · iexists _; isplitr
    swap; · iexact H12
    ipureintro
    rfl
  isplitl [H13]
  · iexists _; isplitr
    swap; · iexact H13
    ipureintro
    refine (View.read_writes_full _ _ _ _ _).trans ?_
    refine acc_congr ?_ ((load_same _ _ _ _ _ _).trans (congrArg k0_pay4 (View.readAt_full _ _ _))) (View.readAt_unit _ _ _ o4 _) ((load_same _ _ _ _ _ _).trans (congrArg k0_pay5 (View.readAt_full _ _ _))) (View.readAt_unit _ _ _ o5 _) ?_ ((load_same _ _ _ _ _ _).trans (congrArg k0_pay6 (View.readAt_full _ _ _)))
    · dsimp only; exact View.readAt_full _ _ _
    · exact View.readAt_full _ _ _
  isplitl [H14]
  · iexists _; isplitr
    swap; · iexact H14
    ipureintro
    refine (View.read_writes_cons_put _ _ _ _ [] o2).trans ?_
    exact congrArg (VecWindow.put _ _ _) (congrArg k0_pay4 (View.readAt_full _ _ _))
  isplitl [H15]
  · iexists _; isplitr
    swap; · iexact H15
    ipureintro
    refine (View.read_writes_cons_put _ _ _ _ [] o2).trans ?_
    exact congrArg (VecWindow.put _ _ _) (congrArg k0_pay5 (View.readAt_full _ _ _))
  isplitl [H16]
  · iexists _; isplitr
    swap; · iexact H16
    ipureintro
    refine (View.read_writes_cons_put _ _ _ _ [] o3).trans ?_
    exact congrArg (VecWindow.put _ _ _) (congrArg k0_pay6 (View.readAt_full _ _ _))
  iexact HT

set_option maxHeartbeats 8000000 in
/-- An item that runs the resident expert on a block. -/
theorem run_resident (c : Dev nD) (i : grid0.Coords) (arg5 : Memref sig .tc .vmem S512x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x1x4096 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x2048 .bf16) (harg11 : arg11.IsWhole) (arg12 : Memref sig .tc .vmem S512x2048 .bf16) (harg12 : arg12.IsWhole) (arg13 : Memref sig .tc .vmem S512x2048 .f32) (harg13 : arg13.IsWhole) (arg14 : Memref sig .tc .vmem S8x2048x256 .bf16) (harg14 : arg14.IsWhole) (arg15 : Memref sig .tc .vmem S8x2048x256 .bf16) (harg15 : arg15.IsWhole) (arg16 : Memref sig .tc .vmem S8x256x2048 .bf16) (harg16 : arg16.IsWhole)
    (xt : TbBuf (F := F) c kindM) (hchk : k0_chk1 (word c i xt)) (h1 : ¬k0_cond1 (word c i xt) = 1#1) (h4 : k0_cond4 (word c i xt) = 1#1) (h5 : ¬k0_cond5 (word c i xt) = 1#1)
    (x5 : Vec F S512x2048 .bf16) (x6 : Vec F S1x2048x256 .f32) (x7 : Vec F S1x2048x256 .f32) (x8 : Vec F S1x1x4096 .f32) (x9 : Vec F S1x256x2048 .f32) (x10 : Vec F S1x1x2048 .f32) (x11 : Vec F S512x2048 .bf16) (x12 : Vec F S512x2048 .bf16) (x13 : Vec F S512x2048 .f32) (x14 : Vec F S8x2048x256 .bf16) (x15 : Vec F S8x2048x256 .bf16) (x16 : Vec F S8x256x2048 .bf16) (E : Set ℕ) (K : PUnit → sProp 𝕄) :
    iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ tbPt c kindM xt
        ∗ (iprop(owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (resident x5 x8 x10 x14 x15 x16) ∗ owns (c : Thread nD τ) arg12 fullShare (x12) ∗ owns (c : Thread nD τ) arg13 fullShare (x13) ∗ owns (c : Thread nD τ) arg14 fullShare (x14) ∗ owns (c : Thread nD τ) arg15 fullShare (x15) ∗ owns (c : Thread nD τ) arg16 fullShare (x16) ∗ tbPt c kindM xt) -∗ K ⟨⟩))
      ⊢ wp frame (wpE (defs₀ (F := F)) Variants.none c none) E (cc0_moe_experts i (Memref.whole main_arg0) (Memref.isWhole_whole _) kindM (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16 harg16) K := by
  simp only [cc0_moe_experts_eq_skeleton]; unfold cc0_moe_experts_skel
  unfold owns
  iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, HT, Hk⟩
  subst hf5 hf6 hf7 hf8 hf9 hf10 hf11 hf12 hf13 hf14 hf15 hf16
  simp only [k0_part3_eq_skeleton, k0_part4_eq_skeleton, k0_part5_eq_skeleton, k0_part6_eq_skeleton, k0_part7_eq_skeleton, k0_part8_eq_skeleton]
  unfold k0_part3_skel k0_part4_skel k0_part5_skel k0_part6_skel k0_part7_skel k0_part8_skel
  sl_exec (disch := first | sl_exact hchk | sl_exact h1 | sl_exact h4 | sl_exact h5)
  sl_step
  iapply Hk
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H8]
  · iexists _; isplitr
    swap; · iexact H8
    ipureintro
    rfl
  isplitl [H9]
  · iexists _; isplitr
    swap; · iexact H9
    ipureintro
    rfl
  isplitl [H10]
  · iexists _; isplitr
    swap; · iexact H10
    ipureintro
    rfl
  isplitl [H11]
  · iexists _; isplitr
    swap; · iexact H11
    ipureintro
    refine (View.read_writes_full _ _ _ _ _).trans ?_
    exact resident_eq (View.read (Elt F) arg8.view f8) (View.read (Elt F) arg14.view f14) (View.read (Elt F) arg15.view f15) (View.readAt_full _ _ _) (View.readAt_full _ _ _) (View.readAt_full _ _ _)
  isplitl [H12]
  · iexists _; isplitr
    swap; · iexact H12
    ipureintro
    rfl
  isplitl [H13]
  · iexists _; isplitr
    swap; · iexact H13
    ipureintro
    rfl
  isplitl [H14]
  · iexists _; isplitr
    swap; · iexact H14
    ipureintro
    rfl
  isplitl [H15]
  · iexists _; isplitr
    swap; · iexact H15
    ipureintro
    rfl
  isplitl [H16]
  · iexists _; isplitr
    swap; · iexact H16
    ipureintro
    rfl
  iexact HT

end Cert.ExpertsIdeal.Gen

end
-- ==== Proof.ExpertsFrame.lean ====
/- THE EXPERTS' KERNEL, over its whole schedule: what the scratches hold before each item, what each item may write, and that the call ends with every argument unchanged. -/
module

public import proofs.«01_k».proof.Proof.ExpertsRun
public import proofs.«01_k».proof.Proof.Gen.ExpertsIdeal.Launch
public import Idealize.ShloMosaic.Lib.Exec
public import Idealize.ShloMosaic.Lib.Pipeline.Frame
public import Idealize.ShloMosaic.Lib.Pipeline.FrameBody
public import Idealize.ShloMosaic.Lib.Pipeline.TableIdle
public import Idealize.ShloMosaic.Lib.Pipeline.ValueKit.Held
public import Idealize.ShloMosaic.Lib.VecWindow
public import Idealize.ShloMosaic.Lib.Claim

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the five scratches hold. -/
structure St (F : FTy → Type) where
  x : Vec F S512x2048 .bf16
  acc : Vec F S512x2048 .f32
  wg : Vec F S8x2048x256 .bf16
  wu : Vec F S8x2048x256 .bf16
  w2 : Vec F S8x256x2048 .bf16

/-- What an item of kind `k` makes of the scratches. -/
def stepS (k : ℕ) (x5 : Vec F S512x2048 .bf16) (x6 : Vec F S1x2048x256 .f32) (x7 : Vec F S1x2048x256 .f32) (x8 : Vec F S1x1x4096 .f32) (x9 : Vec F S1x256x2048 .f32) (x10 : Vec F S1x1x2048 .f32) (s : St F) : St F :=
  if hk : k < 8 then
    if k = 0 then ⟨k0_pay7 x5, accStep (k0_pay7 x5) (k0_pay8 x10) x6 x7 x8 x9 k hk, up2 s.wg k (k0_pay4 x6), up2 s.wu k (k0_pay5 x7), up3 s.w2 k (k0_pay6 x9)⟩
    else ⟨s.x, accStep s.x s.acc x6 x7 x8 x9 k hk, up2 s.wg k (k0_pay4 x6), up2 s.wu k (k0_pay5 x7), up3 s.w2 k (k0_pay6 x9)⟩
  else s

/-- What an item of kind `k` makes of its block. -/
def stepO (k : ℕ) (x5 : Vec F S512x2048 .bf16) (x6 : Vec F S1x2048x256 .f32) (x7 : Vec F S1x2048x256 .f32) (x8 : Vec F S1x1x4096 .f32) (x9 : Vec F S1x256x2048 .f32) (x10 : Vec F S1x1x2048 .f32) (s : St F) (o : Vec F S512x2048 .bf16) : Vec F S512x2048 .bf16 :=
  if k = 7 then k0_pay1 (stepS k x5 x6 x7 x8 x9 x10 s).acc
  else if k = 8 then resident x5 x8 x10 s.wg s.wu s.w2
  else if k = 9 then k0_pay3
  else o

/-- The conditions, side conditions and offsets of an item of kind at most ten. -/
theorem conds (v : BitVec 32) (h : v.toNat ≤ 10) :
    k0_chk1 v ∧ (k0_cond1 v = 1#1 ↔ v.toNat < 8) ∧ (Scalar.cmpi .ne (Scalar.extui (Scalar.cmpi .eq v 0#32) : BitVec 32) 0#32 = 1#1 ↔ v.toNat = 0)
      ∧ (k0_cond3 v = 1#1 ↔ v.toNat = 7) ∧ (k0_cond4 v = 1#1 ↔ v.toNat = 8) ∧ (k0_cond5 v = 1#1 ↔ v.toNat = 9)
      ∧ (v.toNat < 8 → k0_off2 v = ![v.toNat, 0, 0] ∧ k0_off3 v = ![v.toNat, 0, 0] ∧ k0_off4 v = ![0, 0, 256 * v.toNat] ∧ k0_off5 v = ![0, 0, 256 * (8 + v.toNat)]) := by
  obtain ⟨k, hk, rfl⟩ : ∃ k, k ≤ 10 ∧ v = BitVec.ofNat 32 k := ⟨v.toNat, h, by simp⟩
  clear h
  have hc : k = 0 ∨ k = 1 ∨ k = 2 ∨ k = 3 ∨ k = 4 ∨ k = 5 ∨ k = 6 ∨ k = 7 ∨ k = 8 ∨ k = 9 ∨ k = 10 := by omega
  rcases hc with rfl | rfl | rfl | rfl | rfl | rfl | rfl | rfl | rfl | rfl | rfl <;> refine ⟨by decide, by decide, by decide, by decide, by decide, by decide, by decide⟩

/-- The body at an item of kind at most ten, on whatever it is handed. -/
theorem run_all (c : Dev nD) (i : grid0.Coords) (arg5 : Memref sig .tc .vmem S512x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x1x4096 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x2048 .bf16) (harg11 : arg11.IsWhole) (arg12 : Memref sig .tc .vmem S512x2048 .bf16) (harg12 : arg12.IsWhole) (arg13 : Memref sig .tc .vmem S512x2048 .f32) (harg13 : arg13.IsWhole) (arg14 : Memref sig .tc .vmem S8x2048x256 .bf16) (harg14 : arg14.IsWhole) (arg15 : Memref sig .tc .vmem S8x2048x256 .bf16) (harg15 : arg15.IsWhole) (arg16 : Memref sig .tc .vmem S8x256x2048 .bf16) (harg16 : arg16.IsWhole)
    (xt : TbBuf (F := F) c kindM) (k : ℕ) (hw : (word c i xt).toNat = k) (hk : k ≤ 10)
    (x5 : Vec F S512x2048 .bf16) (x6 : Vec F S1x2048x256 .f32) (x7 : Vec F S1x2048x256 .f32) (x8 : Vec F S1x1x4096 .f32) (x9 : Vec F S1x256x2048 .f32) (x10 : Vec F S1x1x2048 .f32) (x11 : Vec F S512x2048 .bf16) (s : St F) (E : Set ℕ) (K : PUnit → sProp 𝕄) :
    iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare s.x ∗ owns (c : Thread nD τ) arg13 fullShare s.acc ∗ owns (c : Thread nD τ) arg14 fullShare s.wg ∗ owns (c : Thread nD τ) arg15 fullShare s.wu ∗ owns (c : Thread nD τ) arg16 fullShare s.w2 ∗ tbPt c kindM xt
        ∗ (iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (stepO k x5 x6 x7 x8 x9 x10 s x11) ∗ owns (c : Thread nD τ) arg12 fullShare (stepS k x5 x6 x7 x8 x9 x10 s).x ∗ owns (c : Thread nD τ) arg13 fullShare (stepS k x5 x6 x7 x8 x9 x10 s).acc ∗ owns (c : Thread nD τ) arg14 fullShare (stepS k x5 x6 x7 x8 x9 x10 s).wg ∗ owns (c : Thread nD τ) arg15 fullShare (stepS k x5 x6 x7 x8 x9 x10 s).wu ∗ owns (c : Thread nD τ) arg16 fullShare (stepS k x5 x6 x7 x8 x9 x10 s).w2 ∗ tbPt c kindM xt) -∗ K ⟨⟩))
      ⊢ wp frame (wpE (defs₀ (F := F)) Variants.none c none) E (cc0_moe_experts i (Memref.whole main_arg0) (Memref.isWhole_whole _) kindM (Memref.isWhole_whole _) (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16 harg16) K := by
  subst hw
  obtain ⟨hc, h1, h2, h3, h4, h5, ho⟩ := conds _ hk
  by_cases a : (word c i xt).toNat < 8
  · obtain ⟨o2, o3, o4, o5⟩ := ho a
    have n4 : ¬k0_cond4 (word c i xt) = 1#1 := fun e => by have := h4.1 e; omega
    have n5 : ¬k0_cond5 (word c i xt) = 1#1 := fun e => by have := h5.1 e; omega
    by_cases z : (word c i xt).toNat = 0
    · have n3 : ¬k0_cond3 (word c i xt) = 1#1 := fun e => by have := h3.1 e; omega
      rw [show stepS (word c i xt).toNat x5 x6 x7 x8 x9 x10 s = _ from (dif_pos a).trans (if_pos z),
        show stepO (word c i xt).toNat x5 x6 x7 x8 x9 x10 s x11 = x11 from (if_neg (by omega)).trans ((if_neg (by omega)).trans (if_neg (by omega)))]
      exact run_first c i arg5 harg5 arg6 harg6 arg7 harg7 arg8 harg8 arg9 harg9 arg10 harg10 arg11 harg11 arg12 harg12 arg13 harg13 arg14 harg14 arg15 harg15 arg16 harg16 xt hc (h1.2 a) (h2.2 z) n3 n4 n5 _ a o2 o3 o4 o5 x5 x6 x7 x8 x9 x10 x11 s.x s.acc s.wg s.wu s.w2 E K
    · have n2 := fun e => z (h2.1 e)
      by_cases l : (word c i xt).toNat = 7
      · rw [show stepO (word c i xt).toNat x5 x6 x7 x8 x9 x10 s x11 = _ from if_pos l, show stepS (word c i xt).toNat x5 x6 x7 x8 x9 x10 s = _ from (dif_pos a).trans (if_neg z)]
        exact run_last c i arg5 harg5 arg6 harg6 arg7 harg7 arg8 harg8 arg9 harg9 arg10 harg10 arg11 harg11 arg12 harg12 arg13 harg13 arg14 harg14 arg15 harg15 arg16 harg16 xt hc (h1.2 a) n2 (h3.2 l) n4 n5 _ a o2 o3 o4 o5 x5 x6 x7 x8 x9 x10 x11 s.x s.acc s.wg s.wu s.w2 E K
      · have n3 : ¬k0_cond3 (word c i xt) = 1#1 := fun e => l (h3.1 e)
        rw [show stepS (word c i xt).toNat x5 x6 x7 x8 x9 x10 s = _ from (dif_pos a).trans (if_neg z),
          show stepO (word c i xt).toNat x5 x6 x7 x8 x9 x10 s x11 = x11 from (if_neg (by omega)).trans ((if_neg (by omega)).trans (if_neg (by omega)))]
        exact run_mid c i arg5 harg5 arg6 harg6 arg7 harg7 arg8 harg8 arg9 harg9 arg10 harg10 arg11 harg11 arg12 harg12 arg13 harg13 arg14 harg14 arg15 harg15 arg16 harg16 xt hc (h1.2 a) n2 n3 n4 n5 _ a o2 o3 o4 o5 x5 x6 x7 x8 x9 x10 x11 s.x s.acc s.wg s.wu s.w2 E K
  · have n1 : ¬k0_cond1 (word c i xt) = 1#1 := fun e => a (h1.1 e)
    rw [show stepS (word c i xt).toNat x5 x6 x7 x8 x9 x10 s = s from dif_neg a]
    by_cases r : (word c i xt).toNat = 8
    · have n5 : ¬k0_cond5 (word c i xt) = 1#1 := fun e => by have := h5.1 e; omega
      rw [show stepO (word c i xt).toNat x5 x6 x7 x8 x9 x10 s x11 = _ from (if_neg (by omega)).trans (if_pos r)]
      exact run_resident c i arg5 harg5 arg6 harg6 arg7 harg7 arg8 harg8 arg9 harg9 arg10 harg10 arg11 harg11 arg12 harg12 arg13 harg13 arg14 harg14 arg15 harg15 arg16 harg16 xt hc n1 (h4.2 r) n5 x5 x6 x7 x8 x9 x10 x11 s.x s.acc s.wg s.wu s.w2 E K
    · have n4 : ¬k0_cond4 (word c i xt) = 1#1 := fun e => r (h4.1 e)
      by_cases q : (word c i xt).toNat = 9
      · rw [show stepO (word c i xt).toNat x5 x6 x7 x8 x9 x10 s x11 = _ from (if_neg (by omega)).trans ((if_neg r).trans (if_pos q))]
        exact run_zero c i arg5 harg5 arg6 harg6 arg7 harg7 arg8 harg8 arg9 harg9 arg10 harg10 arg11 harg11 arg12 harg12 arg13 harg13 arg14 harg14 arg15 harg15 arg16 harg16 xt hc n1 n4 (h5.2 q) x5 x6 x7 x8 x9 x10 x11 s.x s.acc s.wg s.wu s.w2 E K
      · have n5 : ¬k0_cond5 (word c i xt) = 1#1 := fun e => q (h5.1 e)
        rw [show stepO (word c i xt).toNat x5 x6 x7 x8 x9 x10 s x11 = x11 from (if_neg (by omega)).trans ((if_neg r).trans (if_neg q))]
        exact run_idle c i arg5 harg5 arg6 harg6 arg7 harg7 arg8 harg8 arg9 harg9 arg10 harg10 arg11 harg11 arg12 harg12 arg13 harg13 arg14 harg14 arg15 harg15 arg16 harg16 xt hc n1 n4 n5 x5 x6 x7 x8 x9 x10 x11 s.x s.acc s.wg s.wu s.w2 E K

variable (m : (ℓ : Loc nD τ sig) → Buf (Elt F) ℓ) (ρ : Dev nD → PrngReg)

/-- A core's buffers when the call is reached: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents. -/
def tbl : pre0.Contents (Elt F) := fun j => V m (0 : Dev nD) (pre0.ref j)
theorem V_pre (c : Dev nD) (j : Fin 4) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT0_eq (c : Dev nD) : (Pipeline.ΦT pre0 (tbl m) c : sProp 𝕄)
    = iprop(tbPt c (Memref.whole main_arg0 : Memref sig .tc .smem S384 .i32) (tbl m 0) ∗ tbPt c kindM (tbl m 1)
      ∗ tbPt c (Memref.whole main_arg2 : Memref sig .tc .smem S384 .i32) (tbl m 2) ∗ tbPt c (Memref.whole main_arg3 : Memref sig .tc .smem S384 .i32) (tbl m 3)) := by
  unfold Pipeline.ΦT Pipeline.prefHeld
  exact bigSep_univ_eq_bigSepL [(0 : Fin 4), (1 : Fin 4), (2 : Fin 4), (3 : Fin 4)] (by decide) (by decide) _

/-- The kind of the item at a point. -/
def kindAt (c : Dev nD) (t : Fin grid0.N) : ℕ := (word c (grid0.coords t) (tbl m 1)).toNat

/-- A window's block at a point, read off its array as launched. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev b0 (hO : Ok m) (c : Dev nD) (t : Fin grid0.N) : Vec F S512x2048 .bf16 := iblk m hO c 0 t
abbrev b1 (hO : Ok m) (c : Dev nD) (t : Fin grid0.N) : Vec F S1x2048x256 .f32 := iblk m hO c 1 t
abbrev b2 (hO : Ok m) (c : Dev nD) (t : Fin grid0.N) : Vec F S1x2048x256 .f32 := iblk m hO c 2 t
abbrev b3 (hO : Ok m) (c : Dev nD) (t : Fin grid0.N) : Vec F S1x1x4096 .f32 := iblk m hO c 3 t
abbrev b4 (hO : Ok m) (c : Dev nD) (t : Fin grid0.N) : Vec F S1x256x2048 .f32 := iblk m hO c 4 t
abbrev b5 (hO : Ok m) (c : Dev nD) (t : Fin grid0.N) : Vec F S1x1x2048 .f32 := iblk m hO c 5 t

/-- What the scratches may hold before item `n`: before the first anything, then what the items made of that. -/
def Reach (hO : Ok m) (c : Dev nD) : ℕ → St F → Prop
  | 0, _ => True
  | n + 1, s => ∃ s₀, Reach hO c n s₀ ∧ ∀ h : n < grid0.N, s = stepS (kindAt m c ⟨n, h⟩) (b0 m hO c ⟨n, h⟩) (b1 m hO c ⟨n, h⟩) (b2 m hO c ⟨n, h⟩) (b3 m hO c ⟨n, h⟩) (b4 m hO c ⟨n, h⟩) (b5 m hO c ⟨n, h⟩) s₀

/-- The scratches held, at something they may hold before item `n`. -/
def PhiE (hO : Ok m) (c : Dev nD) (n : ℕ) : sProp 𝕄 :=
  iprop((∃ s : St F, ⌜Reach m hO c n s⌝ ∗ owns (c : Thread nD τ) (Memref.whole cc0_scratch0) fullShare s.x ∗ owns (c : Thread nD τ) (Memref.whole cc0_scratch1) fullShare s.acc ∗ owns (c : Thread nD τ) (Memref.whole cc0_scratch2) fullShare s.wg ∗ owns (c : Thread nD τ) (Memref.whole cc0_scratch3) fullShare s.wu ∗ owns (c : Thread nD τ) (Memref.whole cc0_scratch4) fullShare s.w2)
    ∗ (∃ r, prngReg c r) ∗ Pipeline.ΦT pre0 (tbl m) c)

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What an item leaves in each window: the inputs as found, the output what the item makes of it. -/
def afterE (hO : Ok m) (c : Dev nD) : (w : Fin (cfgM m hO).W) → Fin (cfgM m hO).N → (Y X : ((cfgM m hO).win w).block.Idx → Elt F ((cfgM m hO).win w).elt) → Prop
  | ⟨6, _⟩ => fun t Y X => ∃ s : St F, Reach m hO c t.val s ∧ X = stepO (kindAt m c t) (b0 m hO c t) (b1 m hO c t) (b2 m hO c t) (b3 m hO c t) (b4 m hO c t) (b5 m hO c t) s Y
  | _ => fun _ Y X => X = Y

def rdat (hO : Ok m) (c : Dev nD) : Pipeline.RDat τ (Elt F) Unit ℕ (UR sig nD τ) ℕ (cfgM m hO) c where
  A w := V m c (Pipeline.arrRef spec0 w)
  after := afterE m hO c
  Φ n := PhiE m hO c n.val
  q := Pipeline.shareOf spec0
  owed _ := 0

theorem finds0 (hO : Ok m) (c : Dev nD) (t : Fin (cfgM m hO).N) (Y) (h : (rdat m hO c).Finds 0 t Y) : Y = b0 m hO c t := by
  obtain ⟨d, hd⟩ := (rdat m hO c).finds_in_eq_fetched 0 rfl (fun _ _ _ => rfl) (fun _ _ _ h => h) t Y h
  exact hd.trans (by unfold Pipeline.RDat.fetched Pipeline.RDat.blockOf b0 iblk; rfl)
theorem finds1 (hO : Ok m) (c : Dev nD) (t : Fin (cfgM m hO).N) (Y) (h : (rdat m hO c).Finds 1 t Y) : Y = b1 m hO c t := by
  obtain ⟨d, hd⟩ := (rdat m hO c).finds_in_eq_fetched 1 rfl (fun _ _ _ => rfl) (fun _ _ _ h => h) t Y h
  exact hd.trans (by unfold Pipeline.RDat.fetched Pipeline.RDat.blockOf b1 iblk; rfl)
theorem finds2 (hO : Ok m) (c : Dev nD) (t : Fin (cfgM m hO).N) (Y) (h : (rdat m hO c).Finds 2 t Y) : Y = b2 m hO c t := by
  obtain ⟨d, hd⟩ := (rdat m hO c).finds_in_eq_fetched 2 rfl (fun _ _ _ => rfl) (fun _ _ _ h => h) t Y h
  exact hd.trans (by unfold Pipeline.RDat.fetched Pipeline.RDat.blockOf b2 iblk; rfl)
theorem finds3 (hO : Ok m) (c : Dev nD) (t : Fin (cfgM m hO).N) (Y) (h : (rdat m hO c).Finds 3 t Y) : Y = b3 m hO c t := by
  obtain ⟨d, hd⟩ := (rdat m hO c).finds_in_eq_fetched 3 rfl (fun _ _ _ => rfl) (fun _ _ _ h => h) t Y h
  exact hd.trans (by unfold Pipeline.RDat.fetched Pipeline.RDat.blockOf b3 iblk; rfl)
theorem finds4 (hO : Ok m) (c : Dev nD) (t : Fin (cfgM m hO).N) (Y) (h : (rdat m hO c).Finds 4 t Y) : Y = b4 m hO c t := by
  obtain ⟨d, hd⟩ := (rdat m hO c).finds_in_eq_fetched 4 rfl (fun _ _ _ => rfl) (fun _ _ _ h => h) t Y h
  exact hd.trans (by unfold Pipeline.RDat.fetched Pipeline.RDat.blockOf b4 iblk; rfl)
theorem finds5 (hO : Ok m) (c : Dev nD) (t : Fin (cfgM m hO).N) (Y) (h : (rdat m hO c).Finds 5 t Y) : Y = b5 m hO c t := by
  obtain ⟨d, hd⟩ := (rdat m hO c).finds_in_eq_fetched 5 rfl (fun _ _ _ => rfl) (fun _ _ _ h => h) t Y h
  exact hd.trans (by unfold Pipeline.RDat.fetched Pipeline.RDat.blockOf b5 iblk; rfl)

/-- The body at any point. -/
theorem sound_body (hO : Ok m) (hK : ∀ c t, kindAt m c t ≤ 10) (c : Dev nD) (t : Fin grid0.N) (Y : Vec F S512x2048 .bf16) :
    iprop(PhiE m hO c t.val ∗ (rdat m hO c).owesAt () t.castSucc ∗ owns (c : Thread nD τ) (spec0_0.stage ((cfgM m hO).slots t 0)) fullShare (b0 m hO c t) ∗ owns (c : Thread nD τ) (spec0_1.stage ((cfgM m hO).slots t 1)) fullShare (b1 m hO c t) ∗ owns (c : Thread nD τ) (spec0_2.stage ((cfgM m hO).slots t 2)) fullShare (b2 m hO c t) ∗ owns (c : Thread nD τ) (spec0_3.stage ((cfgM m hO).slots t 3)) fullShare (b3 m hO c t) ∗ owns (c : Thread nD τ) (spec0_4.stage ((cfgM m hO).slots t 4)) fullShare (b4 m hO c t) ∗ owns (c : Thread nD τ) (spec0_5.stage ((cfgM m hO).slots t 5)) fullShare (b5 m hO c t) ∗ owns (c : Thread nD τ) (spec0_6.stage ((cfgM m hO).slots t 6)) fullShare (Y))
      ⊢ wp frame (wpE (defs₀ (F := F)) Variants.none c none) Set.univ (cc0_moe_experts (grid0.coords t) (Memref.whole main_arg0) (Memref.isWhole_whole _) kindM (Memref.isWhole_whole _) (Memref.whole main_arg2) (Memref.isWhole_whole _) (Memref.whole main_arg3) (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (spec0_6.stage ((cfgM m hO).slots t 6)) (hstage0_6 (((cfgM m hO).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)) (fun _ =>
        iprop(PhiE m hO c (t.val + 1) ∗ (rdat m hO c).owesAt () t.castSucc ∗ owns (c : Thread nD τ) (spec0_0.stage ((cfgM m hO).slots t 0)) fullShare (b0 m hO c t) ∗ owns (c : Thread nD τ) (spec0_1.stage ((cfgM m hO).slots t 1)) fullShare (b1 m hO c t) ∗ owns (c : Thread nD τ) (spec0_2.stage ((cfgM m hO).slots t 2)) fullShare (b2 m hO c t) ∗ owns (c : Thread nD τ) (spec0_3.stage ((cfgM m hO).slots t 3)) fullShare (b3 m hO c t) ∗ owns (c : Thread nD τ) (spec0_4.stage ((cfgM m hO).slots t 4)) fullShare (b4 m hO c t) ∗ owns (c : Thread nD τ) (spec0_5.stage ((cfgM m hO).slots t 5)) fullShare (b5 m hO c t)
          ∗ ∃ X, ⌜∃ s : St F, Reach m hO c t.val s ∧ X = stepO (kindAt m c t) (b0 m hO c t) (b1 m hO c t) (b2 m hO c t) (b3 m hO c t) (b4 m hO c t) (b5 m hO c t) s Y⌝ ∗ owns (c : Thread nD τ) (spec0_6.stage ((cfgM m hO).slots t 6)) fullShare X)) := by
  unfold PhiE; rw [PhiT0_eq]
  iintro ⟨⟨⟨%s, %hs, S0, S1, S2, S3, S4⟩, Hp, T0, T1, T2, T3⟩, Ho, H0, H1, H2, H3, H4, H5, H6⟩
  iapply (run_all c (grid0.coords t) _ _ _ _ _ _ _ _ _ _ _ _ _ _ _ _ _ _ _ _ _ _ _ _ (tbl m 1) (kindAt m c t) rfl (hK c t) (b0 m hO c t) (b1 m hO c t) (b2 m hO c t) (b3 m hO c t) (b4 m hO c t) (b5 m hO c t) Y s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [T1]; · iexact T1
  iintro ⟨H0, H1, H2, H3, H4, H5, H6, S0, S1, S2, S3, S4, T1⟩
  isplitl [S0 S1 S2 S3 S4 Hp T0 T1 T2 T3]
  · isplitl [S0 S1 S2 S3 S4]
    · iexists (stepS (kindAt m c t) (b0 m hO c t) (b1 m hO c t) (b2 m hO c t) (b3 m hO c t) (b4 m hO c t) (b5 m hO c t) s)
      isplitr; · ipureintro; exact ⟨s, hs, fun _ => rfl⟩
      isplitl [S0]; · iexact S0
      isplitl [S1]; · iexact S1
      isplitl [S2]; · iexact S2
      isplitl [S3]; · iexact S3
      iexact S4
    isplitl [Hp]; · iexact Hp
    isplitl [T0]; · iexact T0
    isplitl [T1]; · iexact T1
    isplitl [T2]; · iexact T2
    iexact T3
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _
  isplitr; · ipureintro; exact ⟨s, hs, rfl⟩
  iexact H6

theorem defs₀_row (hO : Ok m) (t : Fin (cfgM m hO).N) :
    defs₀ (F := F) .tc (cfgM m hO).body ((cfgM m hO).bodyArgs t ((cfgM m hO).slots t)) = cc0_moe_experts (grid0.coords t) (Memref.whole main_arg0) (Memref.isWhole_whole _) kindM (Memref.isWhole_whole _) (Memref.whole main_arg2) (Memref.isWhole_whole _) (Memref.whole main_arg3) (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (spec0_6.stage ((cfgM m hO).slots t 6)) (hstage0_6 (((cfgM m hO).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) := by
  unfold defs₀; rw [Defs.onTc_tc]

theorem body_obligation (hO : Ok m) (hK : ∀ c t, kindAt m c t ≤ 10) (c : Dev nD) : (rdat m hO c).BodyObligation (defs₀ (F := F)) Variants.none () Set.univ := by
  intro t Y hY
  have e0 := finds0 m hO c t (Y 0) (hY 0)
  have e1 := finds1 m hO c t (Y 1) (hY 1)
  have e2 := finds2 m hO c t (Y 2) (hY 2)
  have e3 := finds3 m hO c t (Y 3) (hY 3)
  have e4 := finds4 m hO c t (Y 4) (hY 4)
  have e5 := finds5 m hO c t (Y 5) (hY 5)
  rw [bigSep_W0, bigSep_W0, defs₀_row m hO, e0, e1, e2, e3, e4, e5]
  refine (sound_body m hO hK c t (Y 6)).trans (wp_mono _ _ _ fun _ => ?_)
  rw [show (rdat m hO c).Φ t.succ = PhiE m hO c (t.val + 1) from rfl, show (rdat m hO c).owesAt () t.succ = (rdat m hO c).owesAt () t.castSucc from rfl]
  iintro ⟨HΦ, Ho, H0, H1, H2, H3, H4, H5, H6⟩
  isplitl [HΦ]; · iexact HΦ
  isplitl [Ho]; · iexact Ho
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  iexact H6

set_option backward.isDefEq.respectTransparency.types false in
/-- The whole run: every fair execution ends, the arrays as the items may leave them and every counter at zero. -/
theorem run_main (hO : Ok m) (hK : ∀ c t, kindAt m c t ≤ 10) : θ_run defs (onTc (τ := τ) (main (F := F))) (s₀ m ρ) (fun r => (Pipeline.RDat.FramePost ((Pipeline.pin pcfgs fun _ => adm m hO) 0) (fun c => rdat m hO c) (V m)) r ∧ r.2.sem = fun _ => 0) :=
  Pipeline.RDat.θ_run_frameP_track_shared pcfgs (fun _ => adm m hO) (0 : Fin 1) launch₀0 defs₀ Variants.none (fun c => rdat m hO c) m ρ main
    (body_obligation m hO hK) (fun _ _ _ => rfl) (fun _ _ => rfl) (V m) (hmain m Variants.none) (fun _ _ => rfl) (V_pre m)
    (fun c => by
      show iprop(Pipeline.ΦA spec0 c ∗ Pipeline.ΦT pre0 (tbl m) c) ⊢ PhiE m hO c 0
      rw [PhiA_eq]; unfold PhiE
      iintro ⟨⟨⟨⟨%d0, S0⟩, ⟨%d1, S1⟩, ⟨%d2, S2⟩, ⟨%d3, S3⟩, ⟨%d4, S4⟩⟩, Hp⟩, HT⟩
      isplitl [S0 S1 S2 S3 S4]
      · iexists (⟨d0, d1, d2, d3, d4⟩ : St F)
        isplitr; · ipureintro; exact trivial
        isplitl [S0]; · iexact S0
        isplitl [S1]; · iexact S1
        isplitl [S2]; · iexact S2
        isplitl [S3]; · iexact S3
        iexact S4
      isplitl [Hp]; · iexact Hp
      iexact HT)
    (fun c => by
      show PhiE m hO c grid0.N ⊢ Pipeline.ΦA spec0 c
      rw [PhiA_eq]; unfold PhiE
      iintro ⟨⟨%s, -, S0, S1, S2, S3, S4⟩, Hp, -⟩
      isplitr [Hp]
      · isplitl [S0]; · iexists _; iexact S0
        isplitl [S1]; · iexists _; iexact S1
        isplitl [S2]; · iexists _; iexact S2
        isplitl [S3]; · iexists _; iexact S3
        iexists _; iexact S4
      · iexact Hp)
    (Q' := _)

/-- Every argument ends unchanged and every counter at zero. -/
theorem frame (hO : Ok m) (hK : ∀ c t, kindAt m c t ≤ 10) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨(h.1 c).2 main_arg0 (by decide : main_arg0 ∈ Pipeline.restRefs sig spec0), (h.1 c).2 main_arg1 (by decide : main_arg1 ∈ Pipeline.restRefs sig spec0), (h.1 c).2 main_arg2 (by decide : main_arg2 ∈ Pipeline.restRefs sig spec0), (h.1 c).2 main_arg3 (by decide : main_arg3 ∈ Pipeline.restRefs sig spec0), (h.1 c).2 main_arg4 (by decide : main_arg4 ∈ Pipeline.restRefs sig spec0), (h.1 c).2 main_arg5 (by decide : main_arg5 ∈ Pipeline.restRefs sig spec0), Pipeline.RDat.FramePost.arr_in h.1 c 0 rfl, Pipeline.RDat.FramePost.arr_in h.1 c 1 rfl, Pipeline.RDat.FramePost.arr_in h.1 c 3 rfl, Pipeline.RDat.FramePost.arr_in h.1 c 4 rfl, Pipeline.RDat.FramePost.arr_in h.1 c 5 rfl⟩, h.2⟩) (run_main m ρ hO hK)

end Cert.ExpertsIdeal.Gen

end
-- ==== Proof.Schedule.lean ====
/- WHAT THE PRECONDITION OF THE EXPERTS SAYS: the items are a schedule of the blocks. -/
module

public import proofs.«01_k».proof.Proof.Gen.Pre_schedule
public import proofs.«01_k».proof.Proof.FoxFinite
public import Idealize.ShloMosaic.Lib.StableHlo.Predicate

@[expose] public section

set_option maxRecDepth 16384

noncomputable section

open Idealize.ShloMosaic Idealize.ShloMosaic.TcCoe

namespace Cert.Pre_schedule.Items

open Cert.Pre_schedule Cert.Pre_schedule.Gen
open Cert.Pre_finite_scores.Fox (and_one)

theorem ofBool_iff (p : Bool) : BitVec.ofBool p = 1#1 ↔ p = true := by cases p <;> decide
theorem sge_iff (a b : BitVec 32) : IntOp.cmpi .sge a b = 1#1 ↔ b.toInt ≤ a.toInt := by
  exact (ofBool_iff _).trans (by simp [BitVec.sle_iff_toInt_le])
theorem sle_iff (a b : BitVec 32) : IntOp.cmpi .sle a b = 1#1 ↔ a.toInt ≤ b.toInt := by
  exact (ofBool_iff _).trans (by simp [BitVec.sle_iff_toInt_le])
theorem slt_iff (a b : BitVec 32) : IntOp.cmpi .slt a b = 1#1 ↔ a.toInt < b.toInt := by
  exact (ofBool_iff _).trans (by simp [BitVec.slt_iff_toInt_lt])
theorem sgt_iff (a b : BitVec 32) : IntOp.cmpi .sgt a b = 1#1 ↔ b.toInt < a.toInt := by
  exact (ofBool_iff _).trans (by simp [BitVec.slt_iff_toInt_lt])
theorem eq_iff {w : ℕ} (a b : BitVec w) : IntOp.cmpi .eq a b = 1#1 ↔ a = b := by
  exact (ofBool_iff _).trans (by simp)
theorem ne_iff (a b : BitVec 32) : IntOp.cmpi .ne a b = 1#1 ↔ a ≠ b := by
  exact (ofBool_iff _).trans (by simp)
theorem and_iff (a b : BitVec 1) : IntOp.andi a b = 1#1 ↔ a = 1#1 ∧ b = 1#1 := by revert a b; decide
theorem or_iff (a b : BitVec 1) : IntOp.ori a b = 1#1 ↔ a = 1#1 ∨ b = 1#1 := by revert a b; decide
theorem bit_eq_iff (a b : BitVec 1) : a = b ↔ (a = 1#1 ↔ b = 1#1) := by revert a b; decide

theorem nat_of_range {a : BitVec 32} {n : ℕ} (h0 : 0 ≤ a.toInt) (h1 : a.toInt ≤ n) : a.toNat ≤ n ∧ a.toInt = a.toNat := by
  have h := a.toInt_eq_toNat_cond
  have := a.isLt
  constructor <;> split at h <;> omega

theorem nat_eq {a : BitVec 32} {n : ℕ} (h : a = BitVec.ofNat 32 n) (hn : n < 2 ^ 32) : a.toNat = n := by
  subst h; simp; omega
theorem nat_eq_iff (a : BitVec 32) (n : ℕ) (hn : n < 2 ^ 32) : a = BitVec.ofNat 32 n ↔ a.toNat = n :=
  ⟨fun h => nat_eq h hn, fun h => BitVec.eq_of_toNat_eq (by simp; omega)⟩
theorem select_if {α : Type} (c : BitVec 1) (a b : α) : Scalar.select c a b = if c = 1#1 then a else b := rfl

theorem blk_lem (b1 b0 k : BitVec 32) (h : b0.toNat ≤ 159)
    (e : b1 = Scalar.select (IntOp.ori (IntOp.ori (IntOp.cmpi .eq k 0#32) (IntOp.cmpi .eq k 8#32)) (IntOp.cmpi .eq k 9#32)) (IntOp.addi b0 1#32) b0) :
    b1.toNat = if k.toNat = 0 ∨ k.toNat = 8 ∨ k.toNat = 9 then b0.toNat + 1 else b0.toNat := by
  simp only [select_if, or_iff, eq_iff, or_assoc] at e
  have c : (k = 0#32 ∨ k = 8#32 ∨ k = 9#32) ↔ (k.toNat = 0 ∨ k.toNat = 8 ∨ k.toNat = 9) := by
    rw [← nat_eq_iff k 0 (by norm_num), ← nat_eq_iff k 8 (by norm_num), ← nat_eq_iff k 9 (by norm_num)]
  rw [e, if_congr c rfl rfl]
  split
  · show (_ + 1#32).toNat = _
    rw [BitVec.toNat_add]; show (_ + 1) % 2 ^ 32 = _; omega
  · rfl
theorem kind_lem (k1 k0 : BitVec 32) (h0 : k0.toNat ≤ 10 ∧ k0.toInt = k0.toNat) (h1 : k1.toNat ≤ 10 ∧ k1.toInt = k1.toNat)
    (e : Scalar.select (IntOp.cmpi .slt k0 7#32) (IntOp.cmpi .eq k1 (IntOp.addi k0 1#32)) (IntOp.ori (IntOp.cmpi .eq k1 0#32) (IntOp.cmpi .sge k1 8#32)) = 1#1) :
    if k0.toNat < 7 then k1.toNat = k0.toNat + 1 else k1.toNat = 0 ∨ 8 ≤ k1.toNat := by
  simp only [select_if] at e
  by_cases c : k0.toNat < 7
  · rw [if_pos ((slt_iff _ _).2 (by rw [h0.2]; show _ < (7 : ℤ); omega))] at e
    rw [if_pos c, (eq_iff _ _).1 e]
    show (_ + 1#32).toNat = _
    rw [BitVec.toNat_add]; show (_ + 1) % 2 ^ 32 = _; omega
  · rw [if_neg (fun hc => c (by have : _ < (7 : ℤ) := (slt_iff _ _).1 hc; rw [h0.2] at this; omega))] at e
    rw [if_neg c]
    rcases (or_iff _ _).1 e with e | e
    · exact .inl (nat_eq ((eq_iff _ _).1 e) (by norm_num))
    · have : (8 : ℤ) ≤ _ := (sge_iff _ _).1 e
      rw [h1.2] at this
      exact .inr (by exact_mod_cast this)
theorem exp_lem (k1 k0 x1 x0 : BitVec 32) (h0 : k0.toNat ≤ 10 ∧ k0.toInt = k0.toNat) (h1 : k1.toNat ≤ 10 ∧ k1.toInt = k1.toNat) (l1 : 1 ≤ k1.toNat) (l8 : k1.toNat ≤ 8)
    (e : Scalar.select (IntOp.andi (IntOp.cmpi .sge k1 1#32) (IntOp.cmpi .sle k1 8#32)) (IntOp.andi (IntOp.cmpi .eq x1 x0) (IntOp.cmpi .sle k0 8#32)) 1#1 = 1#1) :
    x1.toNat = x0.toNat ∧ k0.toNat ≤ 8 := by
  simp only [select_if] at e
  rw [if_pos ((and_iff _ _).2 ⟨(sge_iff _ _).2 (by rw [h1.2]; show (1 : ℤ) ≤ _; omega), (sle_iff _ _).2 (by rw [h1.2]; show _ ≤ (8 : ℤ); omega)⟩)] at e
  obtain ⟨e1, e2⟩ := and_one e
  have e2 : _ ≤ (8 : ℤ) := (sle_iff _ _).1 e2
  rw [h0.2] at e2
  exact ⟨by rw [(eq_iff _ _).1 e1], by exact_mod_cast e2⟩

/-- The items as a schedule, in numbers. -/
structure Sched (blk kind exp wch : IVec S384 32) (be : IVec S160 32) (nu : IVec S1 32) : Prop where
  kind_le : ∀ i : Fin 384, (kind (ix1 i)).toNat ≤ 10
  blk_lt : ∀ i : Fin 384, (blk (ix1 i)).toNat < 160
  exp_lt : ∀ i : Fin 384, (exp (ix1 i)).toNat < 32
  wch_eq : ∀ i : Fin 384, (wch (ix1 i)).toNat = min (kind (ix1 i)).toNat 7
  be_lt : ∀ b : Fin 160, (be (ix1 b)).toNat < 32 ∧ (be (ix1 b)).toInt = (be (ix1 b)).toNat
  first : (kind (ix1 0)).toNat = 0 ∧ (blk (ix1 0)).toNat = 0
  last : 7 ≤ (kind (ix1 383)).toNat ∧ (blk (ix1 383)).toNat = 159
  blk_step : ∀ (i : ℕ) (h : i < 383), (blk (ix1 ⟨1 + i, by omega⟩)).toNat = if (kind (ix1 ⟨1 + i, by omega⟩)).toNat = 0 ∨ (kind (ix1 ⟨1 + i, by omega⟩)).toNat = 8 ∨ (kind (ix1 ⟨1 + i, by omega⟩)).toNat = 9 then (blk (ix1 ⟨i, by omega⟩)).toNat + 1 else (blk (ix1 ⟨i, by omega⟩)).toNat
  kind_step : ∀ (i : ℕ) (h : i < 383), if (kind (ix1 ⟨i, by omega⟩)).toNat < 7 then (kind (ix1 ⟨1 + i, by omega⟩)).toNat = (kind (ix1 ⟨i, by omega⟩)).toNat + 1 else (kind (ix1 ⟨1 + i, by omega⟩)).toNat = 0 ∨ 8 ≤ (kind (ix1 ⟨1 + i, by omega⟩)).toNat
  exp_step : ∀ (i : ℕ) (h : i < 383), 1 ≤ (kind (ix1 ⟨1 + i, by omega⟩)).toNat → (kind (ix1 ⟨1 + i, by omega⟩)).toNat ≤ 8 → (exp (ix1 ⟨1 + i, by omega⟩)).toNat = (exp (ix1 ⟨i, by omega⟩)).toNat ∧ (kind (ix1 ⟨i, by omega⟩)).toNat ≤ 8
  live : ∀ i : Fin 384, (kind (ix1 i)).toNat = 10 ∨ ((kind (ix1 i)).toNat ≤ 8 ↔ ((blk (ix1 i)).toNat : ℤ) < (nu (ix1 0)).toInt)
  be_eq : ∀ (i : Fin 384) (b : Fin 160), (kind (ix1 i)).toNat ≤ 8 → (blk (ix1 i)).toNat = b.val → (exp (ix1 i)).toNat = (be (ix1 b)).toNat

variable {F : FTy → Type} [FloatOps F]
  (blk kind exp wch : IVec S384 32) (be : IVec S160 32) (nu : IVec S1 32)
  (X : FVec F S81920x2048 .bf16) (W1 : FVec F S32x2048x4096 .f32) (B1 : FVec F S32x1x4096 .f32) (W2 : FVec F S32x2048x2048 .f32) (B2 : FVec F S32x1x2048 .f32)

theorem facts (h : fn (F := F) blk kind exp wch be nu X W1 B1 W2 B2 = fun _ => 1#1) : Sched blk kind exp wch be nu := by
  have h0 := congrFun h (Shape.Idx.first h_S_)
  obtain ⟨h1, hbe⟩ := and_one h0
  obtain ⟨h2, hlive⟩ := and_one h1
  obtain ⟨h3, hexp⟩ := and_one h2
  obtain ⟨h4, hkind⟩ := and_one h3
  obtain ⟨h5, hblk⟩ := and_one h4
  obtain ⟨h6, hlast⟩ := and_one h5
  obtain ⟨h7, hfirst⟩ := and_one h6
  obtain ⟨h8, hbr⟩ := and_one h7
  obtain ⟨h9, hwr⟩ := and_one h8
  obtain ⟨h10, her⟩ := and_one h9
  obtain ⟨hkr, hblr⟩ := and_one h10
  have kr : ∀ i : Fin 384, (kind (ix1 i)).toNat ≤ 10 ∧ (kind (ix1 i)).toInt = (kind (ix1 i)).toNat := fun i => by
    obtain ⟨e1, e2⟩ := and_one (Host.reduce_andi_all _ _ _ _ _ hkr (ix1 i))
    exact nat_of_range ((sge_iff _ _).1 e1) ((sle_iff _ _).1 e2)
  have br : ∀ i : Fin 384, (blk (ix1 i)).toNat ≤ 159 ∧ (blk (ix1 i)).toInt = (blk (ix1 i)).toNat := fun i => by
    obtain ⟨e1, e2⟩ := and_one (Host.reduce_andi_all _ _ _ _ _ hblr (ix1 i))
    have e2 : (blk (ix1 i)).toInt < 160 := (slt_iff _ _).1 e2
    exact nat_of_range ((sge_iff _ _).1 e1) (by push_cast; omega)
  have er : ∀ i : Fin 384, (exp (ix1 i)).toNat ≤ 31 ∧ (exp (ix1 i)).toInt = (exp (ix1 i)).toNat := fun i => by
    obtain ⟨e1, e2⟩ := and_one (Host.reduce_andi_all _ _ _ _ _ her (ix1 i))
    have e2 : (exp (ix1 i)).toInt < 32 := (slt_iff _ _).1 e2
    exact nat_of_range ((sge_iff _ _).1 e1) (by push_cast; omega)
  have ber : ∀ i : Fin 160, (be (ix1 i)).toNat ≤ 31 ∧ (be (ix1 i)).toInt = (be (ix1 i)).toNat := fun i => by
    obtain ⟨e1, e2⟩ := and_one (Host.reduce_andi_all _ _ _ _ _ hbr (ix1 i))
    have e2 : (be (ix1 i)).toInt < 32 := (slt_iff _ _).1 e2
    exact nat_of_range ((sge_iff _ _).1 e1) (by push_cast; omega)
  refine ⟨fun i => (kr i).1, fun i => Nat.lt_succ_of_le (br i).1, fun i => Nat.lt_succ_of_le (er i).1, fun i => ?_, fun b => ⟨Nat.lt_succ_of_le (ber b).1, (ber b).2⟩, ?_, ?_, fun i h => ?_, fun i h => ?_, fun i h h1 h8 => ?_, fun i => ?_, fun i b hk hb => ?_⟩
  · have e := (eq_iff _ _).1 (Host.reduce_andi_all _ _ _ _ _ hwr (ix1 i))
    pointwise [] at e
    obtain ⟨k1, k2⟩ := kr i
    generalize kind (ix1 i) = k at *
    rw [e]
    have hc : k = BitVec.ofNat 32 k.toNat := by simp
    generalize k.toNat = n at *
    subst hc
    have : n = 0 ∨ n = 1 ∨ n = 2 ∨ n = 3 ∨ n = 4 ∨ n = 5 ∨ n = 6 ∨ n = 7 ∨ n = 8 ∨ n = 9 ∨ n = 10 := by omega
    rcases this with rfl | rfl | rfl | rfl | rfl | rfl | rfl | rfl | rfl | rfl | rfl <;> decide
  · obtain ⟨e1, e2⟩ := and_one (Host.reduce_andi_all _ _ _ _ _ hfirst (ix1 0))
    have e1 := (eq_iff _ _).1 e1
    have e2 := (eq_iff _ _).1 e2
    pointwise [] at e1
    pointwise [] at e2
    exact ⟨nat_eq e1 (by norm_num), nat_eq e2 (by norm_num)⟩
  · obtain ⟨e1, e2⟩ := and_one (Host.reduce_andi_all _ _ _ _ _ hlast (ix1 0))
    have e1 := (sge_iff _ _).1 e1
    have e2 := (eq_iff _ _).1 e2
    pointwise [] at e1
    pointwise [] at e2
    have e1 : (7 : ℤ) ≤ (kind (ix1 383)).toInt := e1
    rw [(kr 383).2] at e1
    exact ⟨by exact_mod_cast e1, nat_eq e2 (by norm_num)⟩
  · have e := (eq_iff _ _).1 (Host.reduce_andi_all _ _ _ _ _ hblk (ix1 ⟨i, h⟩))
    pointwise [fn_where] at e
    exact blk_lem _ _ _ (br _).1 e
  · have e := Host.reduce_andi_all _ _ _ _ _ hkind (ix1 ⟨i, h⟩)
    pointwise [fn_where_0] at e
    exact kind_lem _ _ (kr _) (kr _) e
  · have e := Host.reduce_andi_all _ _ _ _ _ hexp (ix1 ⟨i, h⟩)
    pointwise [fn_where_1] at e
    exact exp_lem _ _ _ _ (kr _) (kr _) h1 h8 e
  · have e := Host.reduce_andi_all _ _ _ _ _ hlive (ix1 i)
    pointwise [] at e
    simp only [or_iff, eq_iff] at e
    rcases e with e | e
    · exact .inl (nat_eq e (by norm_num))
    · rw [bit_eq_iff, sle_iff, slt_iff, (kr i).2, (br i).2] at e
      refine .inr (Iff.trans ?_ e)
      show _ ↔ _ ≤ (8 : ℤ)
      omega
  · have e := Host.reduce_andi_all _ _ _ _ _ hbe (ix2 i b)
    pointwise [] at e
    simp only [or_iff, eq_iff, ne_iff, sgt_iff, (kr i).2] at e
    rcases e with (e | e) | e
    · exact absurd (BitVec.eq_of_toNat_eq (by rw [hb]; simp; omega)) e
    · have : (8 : ℤ) < _ := e
      omega
    · rw [e]

end Cert.Pre_schedule.Items

end
-- ==== Proof.ExpertsKit.lean ====
/- WHAT A SCHEDULE GIVES THE EXPERTS: every block the tables name is inside its array, and every item is of a known kind. -/
module

public import proofs.«01_k».proof.Proof.ExpertsFrame
public import proofs.«01_k».proof.Proof.Schedule
public import proofs.«01_k».proof.Proof.Gen.ExpertsIdeal.Launch
public import Idealize.ShloMosaic.Lib.Exec
public import Idealize.ShloMosaic.Lib.Pipeline.Frame
public import Idealize.ShloMosaic.Lib.Pipeline.FrameBody
public import Idealize.ShloMosaic.Lib.Pipeline.TableIdle
public import Idealize.ShloMosaic.Lib.Pipeline.ValueKit.Held
public import Idealize.ShloMosaic.Lib.VecWindow
public import Idealize.ShloMosaic.Lib.Claim

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Pre_schedule.Items (Sched)

variable {F : FTy → Type} [FloatOps F]

/-- The table entry of a point. -/
theorem emb_pt (i : grid0.Coords) (h : ∀ a, (![(Scalar.indexCast (BitVec.ofNat 32 (i 0).val)).toNat] : Fin 1 → ℕ) a + S1.size a ≤ S384.size a) (x : S1.Idx) :
    (Rect.unit (s := S384) ![(Scalar.indexCast (BitVec.ofNat 32 (i 0).val)).toNat] S1.size h).emb x = ix1 (i 0) := by
  funext a
  match a with
  | ⟨0, _⟩ =>
    apply Fin.ext
    have hx : (x 0).val = 0 := Nat.lt_one_iff.1 (x 0).isLt
    have hi : (i 0).val < 384 := (i 0).isLt
    show (BitVec.ofNat 32 (i 0).val).toNat + 1 * (x 0).val = (i 0).val
    rw [hx, BitVec.toNat_ofNat]
    omega

theorem tr0 (pf : pre0.Contents (Elt F)) (i : grid0.Coords) : cc0_transform_0 k0_off1_inb numel1_S1 pf i = ![BitVec.toNat (pf 0 (ix1 (i 0))), 0] := by
  have e : pf 0 (Rect.emb _ _) = pf 0 (ix1 (i 0)) := congrArg (pf 0) (emb_pt i (k0_off1_inb i) (Shape.Idx.first (numel1_S1.symm ▸ Nat.one_pos)))
  exact congrArg (fun a : BitVec 32 => (![a.toNat, 0] : Fin 2 → ℕ)) e
theorem tr6 (pf : pre0.Contents (Elt F)) (i : grid0.Coords) : cc0_transform_6 k0_off1_inb numel1_S1 pf i = ![BitVec.toNat (pf 0 (ix1 (i 0))), 0] := by
  have e : pf 0 (Rect.emb _ _) = pf 0 (ix1 (i 0)) := congrArg (pf 0) (emb_pt i (k0_off1_inb i) (Shape.Idx.first (numel1_S1.symm ▸ Nat.one_pos)))
  exact congrArg (fun a : BitVec 32 => (![a.toNat, 0] : Fin 2 → ℕ)) e
theorem tr3 (pf : pre0.Contents (Elt F)) (i : grid0.Coords) : cc0_transform_3 k0_off1_inb numel1_S1 pf i = ![BitVec.toNat (pf 2 (ix1 (i 0))), 0, 0] := by
  have e : pf 2 (Rect.emb _ _) = pf 2 (ix1 (i 0)) := congrArg (pf 2) (emb_pt i (k0_off1_inb i) (Shape.Idx.first (numel1_S1.symm ▸ Nat.one_pos)))
  exact congrArg (fun a : BitVec 32 => (![a.toNat, 0, 0] : Fin 3 → ℕ)) e
theorem tr5 (pf : pre0.Contents (Elt F)) (i : grid0.Coords) : cc0_transform_5 k0_off1_inb numel1_S1 pf i = ![BitVec.toNat (pf 2 (ix1 (i 0))), 0, 0] := by
  have e : pf 2 (Rect.emb _ _) = pf 2 (ix1 (i 0)) := congrArg (pf 2) (emb_pt i (k0_off1_inb i) (Shape.Idx.first (numel1_S1.symm ▸ Nat.one_pos)))
  exact congrArg (fun a : BitVec 32 => (![a.toNat, 0, 0] : Fin 3 → ℕ)) e
theorem tr1 (pf : pre0.Contents (Elt F)) (i : grid0.Coords) : cc0_transform_1 k0_off1_inb numel1_S1 pf i = ![BitVec.toNat (pf 2 (ix1 (i 0))), 0, BitVec.toNat (pf 3 (ix1 (i 0)))] := by
  have e : pf 2 (Rect.emb _ _) = pf 2 (ix1 (i 0)) := congrArg (pf 2) (emb_pt i (k0_off1_inb i) (Shape.Idx.first (numel1_S1.symm ▸ Nat.one_pos)))
  have e' : pf 3 (Rect.emb _ _) = pf 3 (ix1 (i 0)) := congrArg (pf 3) (emb_pt i (k0_off1_inb i) (Shape.Idx.first (numel1_S1.symm ▸ Nat.one_pos)))
  exact congrArg₂ (fun a b : BitVec 32 => (![a.toNat, 0, b.toNat] : Fin 3 → ℕ)) e e'
theorem tr4 (pf : pre0.Contents (Elt F)) (i : grid0.Coords) : cc0_transform_4 k0_off1_inb numel1_S1 pf i = ![BitVec.toNat (pf 2 (ix1 (i 0))), BitVec.toNat (pf 3 (ix1 (i 0))), 0] := by
  have e : pf 2 (Rect.emb _ _) = pf 2 (ix1 (i 0)) := congrArg (pf 2) (emb_pt i (k0_off1_inb i) (Shape.Idx.first (numel1_S1.symm ▸ Nat.one_pos)))
  have e' : pf 3 (Rect.emb _ _) = pf 3 (ix1 (i 0)) := congrArg (pf 3) (emb_pt i (k0_off1_inb i) (Shape.Idx.first (numel1_S1.symm ▸ Nat.one_pos)))
  exact congrArg₂ (fun a b : BitVec 32 => (![a.toNat, b.toNat, 0] : Fin 3 → ℕ)) e e'
theorem add8 (b : BitVec 32) (h : b.toNat ≤ 7) : (8#32 + b).toNat = 8 + b.toNat := by
  rw [BitVec.toNat_add]; show (8 + _) % 2 ^ 32 = _; omega
theorem tr2 (pf : pre0.Contents (Elt F)) (i : grid0.Coords) (h : BitVec.toNat (pf 3 (ix1 (i 0))) ≤ 7) : cc0_transform_2 k0_off1_inb numel1_S1 pf i = ![BitVec.toNat (pf 2 (ix1 (i 0))), 0, 8 + BitVec.toNat (pf 3 (ix1 (i 0)))] := by
  have e : pf 2 (Rect.emb _ _) = pf 2 (ix1 (i 0)) := congrArg (pf 2) (emb_pt i (k0_off1_inb i) (Shape.Idx.first (numel1_S1.symm ▸ Nat.one_pos)))
  have e' : pf 3 (Rect.emb _ _) = pf 3 (ix1 (i 0)) := congrArg (pf 3) (emb_pt i (k0_off1_inb i) (Shape.Idx.first (numel1_S1.symm ▸ Nat.one_pos)))
  have e2 := add8 (pf 3 (ix1 (i 0))) h
  exact (congrArg₂ (fun a b : BitVec 32 => (![a.toNat, 0, (8#32 + b).toNat] : Fin 3 → ℕ)) e e').trans (congrArg (fun n : ℕ => (![BitVec.toNat (pf 2 (ix1 (i 0))), 0, n] : Fin 3 → ℕ)) e2)

theorem whole_words (b : ℕ) (h) : (Rect.block (s := S81920x2048) S512x2048.size ![b, 0] h).WholeWords 2 :=
  (Rect.wholeWords_iff_at _ _).2 (.inl (.inr ⟨by decide, rfl, .inl ⟨⟨b * 256, by show b * 512 = _; omega⟩, ⟨256, rfl⟩⟩⟩))

theorem inx {b : ℕ} (hb : b < 160) : ∀ a, ((![b, 0] : Fin 2 → ℕ) a + 1) * S512x2048.size a ≤ S81920x2048.size a
  | ⟨0, _⟩ => by show (b + 1) * 512 ≤ 81920; omega
  | ⟨1, _⟩ => by show (0 + 1) * 2048 ≤ 2048; omega
theorem in1 {e w : ℕ} (he : e < 32) (hw : w < 16) : ∀ a, ((![e, 0, w] : Fin 3 → ℕ) a + 1) * S1x2048x256.size a ≤ S32x2048x4096.size a
  | ⟨0, _⟩ => by show (e + 1) * 1 ≤ 32; omega
  | ⟨1, _⟩ => by show (0 + 1) * 2048 ≤ 2048; omega
  | ⟨2, _⟩ => by show (w + 1) * 256 ≤ 4096; omega
theorem in3 {e : ℕ} (he : e < 32) : ∀ a, ((![e, 0, 0] : Fin 3 → ℕ) a + 1) * S1x1x4096.size a ≤ S32x1x4096.size a
  | ⟨0, _⟩ => by show (e + 1) * 1 ≤ 32; omega
  | ⟨1, _⟩ => by show (0 + 1) * 1 ≤ 1; omega
  | ⟨2, _⟩ => by show (0 + 1) * 4096 ≤ 4096; omega
theorem in4 {e w : ℕ} (he : e < 32) (hw : w < 8) : ∀ a, ((![e, w, 0] : Fin 3 → ℕ) a + 1) * S1x256x2048.size a ≤ S32x2048x2048.size a
  | ⟨0, _⟩ => by show (e + 1) * 1 ≤ 32; omega
  | ⟨1, _⟩ => by show (w + 1) * 256 ≤ 2048; omega
  | ⟨2, _⟩ => by show (0 + 1) * 2048 ≤ 2048; omega
theorem in5 {e : ℕ} (he : e < 32) : ∀ a, ((![e, 0, 0] : Fin 3 → ℕ) a + 1) * S1x1x2048.size a ≤ S32x1x2048.size a
  | ⟨0, _⟩ => by show (e + 1) * 1 ≤ 32; omega
  | ⟨1, _⟩ => by show (0 + 1) * 1 ≤ 1; omega
  | ⟨2, _⟩ => by show (0 + 1) * 2048 ≤ 2048; omega

variable (m : (ℓ : Loc nD τ sig) → Buf (Elt F) ℓ)

/-- The launch memory's tables are a schedule. -/
abbrev IsSched : Prop := Sched (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg5))

theorem ok_of (hs : IsSched m) : Ok m := by
  have hw : ∀ i : grid0.Coords, BitVec.toNat (tbl m 3 (ix1 (i 0))) ≤ 7 := fun i => (hs.wch_eq (i 0)).trans_le (min_le_right _ _)
  have he : ∀ i : grid0.Coords, BitVec.toNat (tbl m 2 (ix1 (i 0))) < 32 := fun i => hs.exp_lt (i 0)
  have hb : ∀ i : grid0.Coords, BitVec.toNat (tbl m 0 (ix1 (i 0))) < 160 := fun i => hs.blk_lt (i 0)
  refine ⟨fun i => ?_, fun i => ?_, fun i => ?_, fun i => ?_, fun i => ?_, fun i => ?_, fun i => ?_⟩
  · rw [tr0]; exact ⟨inx (hb i), .inr (whole_words _ _)⟩
  · rw [tr1]; exact ⟨in1 (he i) (by have := hw i; omega), .inl rfl⟩
  · rw [tr2 _ _ (hw i)]; exact ⟨in1 (he i) (by have := hw i; omega), .inl rfl⟩
  · rw [tr3]; exact ⟨in3 (he i), .inl rfl⟩
  · rw [tr4]; exact ⟨in4 (he i) (by have := hw i; omega), .inl rfl⟩
  · rw [tr5]; exact ⟨in5 (he i), .inl rfl⟩
  · rw [tr6]; exact ⟨inx (hb i), .inr (whole_words _ _)⟩

/-- The kind the body reads at a point is the table's entry. -/
theorem kindAt_eq (c : Dev nD) (t : Fin grid0.N) : kindAt m c t = BitVec.toNat (tbl m 1 (ix1 (grid0.coords t 0))) := by
  have e : tbl m 1 (Rect.emb _ _) = tbl m 1 (ix1 (grid0.coords t 0)) := congrArg (tbl m 1) (emb_pt (grid0.coords t) (k0_off1_inb _) (Shape.Idx.first (numel1_S1.symm ▸ Nat.one_pos)))
  exact congrArg BitVec.toNat e

theorem kind_le (hs : IsSched m) (c : Dev nD) (t : Fin grid0.N) : kindAt m c t ≤ 10 := by
  rw [kindAt_eq]; exact hs.kind_le _

end Cert.ExpertsIdeal.Gen

end
-- ==== Proof.ExpertsRef.lean ====
/- WHAT THE EXPERTS' REFERENCE COMPUTES, element by element: a block's rows through the feed-forward of its own expert, zero for a block without rows. -/
module

public import proofs.«01_k».proof.Proof.Gen.RefExpertsIdeal.Run
public import proofs.«01_k».proof.Proof.Schedule
public import Idealize.ShloMosaic.Lib.Pipeline.ValueKit

@[expose] public section

set_option maxRecDepth 16384

noncomputable section

open Idealize.ShloMosaic Idealize.ShloMosaic.TcCoe Idealize.SL.Sem

namespace Cert.RefExpertsIdeal.Whole

open Cert.RefExpertsIdeal Cert.RefExpertsIdeal.Gen

/-- The clipped, gated product of a gate value and a linear value. -/
def sw (g u : EReal) : EReal :=
  min g (Ideal.ofBits FTy.f32 1088421888#32) * Ideal.logistic (Ideal.ofBits FTy.f32 1071242019#32 * min g (Ideal.ofBits FTy.f32 1088421888#32))
    * (min (Ideal.ofBits FTy.f32 1088421888#32) (max (Ideal.ofBits FTy.f32 3235905536#32) u) + 1)

section
variable (X : S81920x2048.Idx → EReal) (W1 : S32x2048x4096.Idx → EReal) (B1 : S32x1x4096.Idx → EReal) (W2 : S32x2048x2048.Idx → EReal) (B2 : S32x1x2048.Idx → EReal)

/-- A row through the first product of expert `e`, one column. -/
def gu (e : Fin 32) (r : Fin 81920) (j : Fin 4096) : EReal := ∑ k : Fin 2048, X (ix2 r k) * W1 (ix3 e k j) + B1 (ix3 e 0 j)

/-- A row's hidden value in one column. -/
def hid (e : Fin 32) (r : Fin 81920) (j : Fin 2048) : EReal := sw (gu X W1 B1 e r ⟨j.val, by omega⟩) (gu X W1 B1 e r ⟨2048 + j.val, by omega⟩)

/-- A row through expert `e`. -/
def row (e : Fin 32) (r : Fin 81920) (d : Fin 2048) : EReal := ∑ j : Fin 2048, hid X W1 B1 e r j * W2 (ix3 e j d) + B2 (ix3 e 0 d)

/-- The whole result, from each block's expert and whether the block holds rows. -/
def full (E : Fin 160 → Fin 32) (U : Fin 160 → Prop) [DecidablePred U] (y : S81920x2048.Idx) : EReal :=
  if U ⟨(y 0).val / 512, by have : (y 0).val < 81920 := (y 0).isLt; omega⟩ then row X W1 B1 W2 B2 (E ⟨(y 0).val / 512, by have : (y 0).val < 81920 := (y 0).isLt; omega⟩) (y 0) (y 1) else 0
end

/-- The gather of the members of a stack that a vector of indices names. -/
abbrev stackDims (N A B n : ℕ) (wf : GatherDims.WF ⟨3, ![N, A, B]⟩ ⟨2, ![n, 1]⟩ ⟨3, ![n, A, B]⟩ [1, 2] [0] [] [0] [] 1 ![1, A, B]) : GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Member `b` of the gathered stack is the member that index `b` names, where that is in range. -/
theorem gather_stack {α : Type} {N A B n w : ℕ} (wf) (x : (⟨3, ![N, A, B]⟩ : Shape).Idx → α) (idx : IVec ⟨2, ![n, 1]⟩ w) (b : Fin n) (i : Fin A) (j : Fin B) (e : Fin N)
    (h : (idx (ix2 b 0)).toInt = e.val) : Host.gather (stackDims N A B n wf) x idx (ix3 b i j) = x (ix3 e i j) := by
  unfold Host.gather
  refine congrArg x (funext fun a => Fin.ext ?_)
  show (stackDims N A B n wf).start (ix3 b i j) idx a + (stackDims N A B n wf).batchCoord (ix3 b i j) a + (stackDims N A B n wf).offCoord (ix3 b i j) a = _
  rw [GatherDims.batchCoord_eq_zero _ _ _ List.not_mem_nil, Nat.add_zero]
  match a with
  | ⟨0, _⟩ =>
    rw [GatherDims.offCoord_eq_zero _ _ _ (fun k => ((GatherDims.mem_sKept _ _).mp k).1 (List.mem_singleton.mpr rfl)), Nat.add_zero]
    unfold GatherDims.start
    refine (dif_pos (show (0 : Fin 3) ∈ (stackDims N A B n wf).startIndexMap from List.mem_singleton.mpr rfl)).trans ?_
    have hs : (stackDims N A B n wf).siIdx (ix3 b i j) ⟨List.idxOf (0 : Fin 3) (stackDims N A B n wf).startIndexMap, List.idxOf_lt_length_iff.2 (List.mem_singleton.mpr rfl)⟩ = ix2 b 0 := by
      funext q; refine Fin.ext ?_
      match q with
      | ⟨0, _⟩ => rfl
      | ⟨1, _⟩ => rfl
    refine (congrArg (fun q => min (idx q).toInt.toNat (N - 1)) hs).trans ?_
    show min (idx (ix2 b 0)).toInt.toNat (N - 1) = e.val
    rw [h]
    have := e.isLt
    omega
  | ⟨1, _⟩ =>
    unfold GatherDims.start
    rw [dif_neg (by simp), Nat.zero_add]
    rfl
  | ⟨2, _⟩ =>
    unfold GatherDims.start
    rw [dif_neg (by simp), Nat.zero_add]
    rfl

/-- The indices of the gathers, as the reference prepares them: a negative index would count from the end. -/
abbrev IDX (be : IVec S160 32) : IVec S160x1 32 :=
  broadcastInDim S160x1 ![0] bcast_S160_S160x1_0 (select (cmpi .slt be (broadcastInDim S160 ![] bcast_S_S160 (constantI S_ 32 0#32))) (addi be (broadcastInDim S160 ![] bcast_S_S160 (constantI S_ 32 32#32))) be)

theorem idx_at (be : IVec S160 32) (b : Fin 160) (h : (be (ix1 b)).toInt = (be (ix1 b)).toNat) : IDX be (ix2 b 0) = be (ix1 b) := by
  pointwise [IDX]
  show (if IntOp.cmpi .slt (be (ix1 b)) 0#32 = 1#1 then _ else _) = _
  rw [if_neg]
  rw [Cert.Pre_schedule.Items.slt_iff, h]
  show ¬ _ < (0 : ℤ)
  omega

/-- The first product of every block. -/
abbrev GU (X : FVec Ideal S81920x2048 .bf16) (P1 : FVec Ideal S160x2048x4096 .f32) (PB : FVec Ideal S160x1x4096 .f32) : FVec Ideal S160x512x4096 .f32 :=
  addf (Host.dotGeneral dot_S160x512x2048_S160x2048x4096_S160x512x4096_2_1_1_2_0_0 none (shapeCast _ (extf .f32 X bitsLt_bf16_f32) shapeCasts_S81920x2048_S160x512x2048) P1) (broadcastInDim S160x512x4096 ![0, 1, 2] bcast_S160x1x4096_S160x512x4096_0_1_2 PB)

theorem gu_at (X P1 PB) (b : Fin 160) (p : Fin 512) (j : Fin 4096) :
    GU X P1 PB (ix3 b p j) = ∑ k : Fin 2048, X (ix2 ⟨b.val * 512 + p.val, by omega⟩ k) * P1 (ix3 b k j) + PB (ix3 b 0 j) := by
  pointwise [GU]

/-- The gated hidden values of every block. -/
abbrev HID (G : FVec Ideal S160x512x4096 .f32) : FVec Ideal S160x512x2048 .f32 :=
  mulf (mulf (minimumf (extractStridedSlice S160x512x2048 ![0, 0, 0] G slices_S160x512x4096_S160x512x2048_0_0_0) (broadcastInDim S160x512x2048 ![] bcast_S_S160x512x2048 (constant S_ .f32 0x40E00000#32))) (Host.divf (broadcastInDim S160x512x2048 ![] bcast_S_S160x512x2048 (constant S_ .f32 0x3F800000#32)) (addf (broadcastInDim S160x512x2048 ![] bcast_S_S160x512x2048 (constant S_ .f32 0x3F800000#32)) (Host.exp (Host.negf (mulf (broadcastInDim S160x512x2048 ![] bcast_S_S160x512x2048 (constant S_ .f32 0x3FD9DB23#32)) (minimumf (extractStridedSlice S160x512x2048 ![0, 0, 0] G slices_S160x512x4096_S160x512x2048_0_0_0) (broadcastInDim S160x512x2048 ![] bcast_S_S160x512x2048 (constant S_ .f32 0x40E00000#32))))))))) (addf (minimumf (broadcastInDim S160x512x2048 ![] bcast_S_S160x512x2048 (id (constant S_ .f32 0x40E00000#32))) (maximumf (broadcastInDim S160x512x2048 ![] bcast_S_S160x512x2048 (id (constant S_ .f32 0xC0E00000#32))) (extractStridedSlice S160x512x2048 ![0, 0, 2048] G slices_S160x512x4096_S160x512x2048_0_0_2048))) (broadcastInDim S160x512x2048 ![] bcast_S_S160x512x2048 (constant S_ .f32 0x3F800000#32)))

theorem hid_at (G) (b : Fin 160) (p : Fin 512) (j : Fin 2048) : HID G (ix3 b p j) = sw (G (ix3 b p ⟨j.val, by omega⟩)) (G (ix3 b p ⟨2048 + j.val, by omega⟩)) := by
  pointwise [HID]
  unfold sw Ideal.logistic
  rfl

/-- The second product, masked by the blocks that hold rows. -/
abbrev OUT (H : FVec Ideal S160x512x2048 .f32) (P2 : FVec Ideal S160x2048x2048 .f32) (PB : FVec Ideal S160x1x2048 .f32) (nu : IVec S1 32) : FVec Ideal S81920x2048 .bf16 :=
  truncf .bf16 (shapeCast _ (select (broadcastInDim S160x512x2048 ![0, 1, 2] bcast_S160x1x1_S160x512x2048_0_1_2 (cmpi .slt (broadcastInDim S160x1x1 ![0] bcast_S160_S160x1x1_0 (iotaInDim S160 32 0)) (broadcastInDim S160x1x1 ![0, 1, 2] bcast_S1x1x1_S160x1x1_0_1_2 (broadcastInDim S1x1x1 ![0] bcast_S1_S1x1x1_0 nu)))) (addf (Host.dotGeneral dot_S160x512x2048_S160x2048x2048_S160x512x2048_2_1_1_2_0_0 none H P2) (broadcastInDim S160x512x2048 ![0, 1, 2] bcast_S160x1x2048_S160x512x2048_0_1_2 PB)) (broadcastInDim S160x512x2048 ![] bcast_S_S160x512x2048 (id (constant S_ .f32 0x00000000#32)))) shapeCasts_S160x512x2048_S81920x2048) bitsLt_bf16_f32

theorem out_at (H P2 PB) (nu : IVec S1 32) (y : S81920x2048.Idx) : OUT H P2 PB nu y
    = if ((((y 0).val / 512 : ℕ) : ℤ) < (nu (ix1 0)).toInt) then
        ∑ j : Fin 2048, H (ix3 ⟨(y 0).val / 512, by have : (y 0).val < 81920 := (y 0).isLt; omega⟩ ⟨(y 0).val % 512, by omega⟩ j) * P2 (ix3 ⟨(y 0).val / 512, by have : (y 0).val < 81920 := (y 0).isLt; omega⟩ j (y 1)) + PB (ix3 ⟨(y 0).val / 512, by have : (y 0).val < 81920 := (y 0).isLt; omega⟩ 0 (y 1))
      else 0 := by
  pointwise [OUT]
  have hy : (y 0).val < 81920 := (y 0).isLt
  have hn : (BitVec.ofNat 32 ((y 0).val / 512)).toInt = ((y 0).val / 512 : ℕ) := by
    have h1 : (BitVec.ofNat 32 ((y 0).val / 512)).toNat = (y 0).val / 512 := by rw [BitVec.toNat_ofNat]; omega
    rw [BitVec.toInt_eq_toNat_of_lt (by rw [h1]; omega), h1]
  show (if IntOp.cmpi .slt (BitVec.ofNat 32 ((y 0).val / 512)) (nu (ix1 0)) = 1#1 then _ else _) = _
  refine if_congr (by rw [Cert.Pre_schedule.Items.slt_iff, hn]) rfl ?_
  show Ideal.ofBits FTy.f32 0#32 = 0
  simp

variable (m : (ℓ : Loc nD τ sig) → Buf (Elt Ideal) ℓ) (c : Dev nD)

theorem res_eq : Value.res_main_v60 m c = OUT (HID (GU (m ((c.tc : Thread nD τ).loc main_arg6)) (Host.gather gather_S32x2048x4096_S160x1_S160x2048x4096_12_0_n_n_0_1_120484096 (m ((c.tc : Thread nD τ).loc main_arg7)) (IDX (m ((c.tc : Thread nD τ).loc main_arg4)))) (Host.gather gather_S32x1x4096_S160x1_S160x1x4096_12_0_n_n_0_1_114096 (m ((c.tc : Thread nD τ).loc main_arg8)) (IDX (m ((c.tc : Thread nD τ).loc main_arg4))))))
    (Host.gather gather_S32x2048x2048_S160x1_S160x2048x2048_12_0_n_n_0_1_120482048 (m ((c.tc : Thread nD τ).loc main_arg9)) (IDX (m ((c.tc : Thread nD τ).loc main_arg4)))) (Host.gather gather_S32x1x2048_S160x1_S160x1x2048_12_0_n_n_0_1_112048 (m ((c.tc : Thread nD τ).loc main_arg10)) (IDX (m ((c.tc : Thread nD τ).loc main_arg4)))) (m ((c.tc : Thread nD τ).loc main_arg5)) := rfl

/-- The reference's result, element by element, when every block's expert is in range. -/
theorem ref_at (hb : ∀ b : Fin 160, ((m ((c.tc : Thread nD τ).loc main_arg4)) (ix1 b)).toNat < 32 ∧ ((m ((c.tc : Thread nD τ).loc main_arg4)) (ix1 b)).toInt = ((m ((c.tc : Thread nD τ).loc main_arg4)) (ix1 b)).toNat) :
    Value.res_main_v60 m c = full (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (fun b => ⟨((m ((c.tc : Thread nD τ).loc main_arg4)) (ix1 b)).toNat, (hb b).1⟩) (fun b => ((b.val : ℕ) : ℤ) < ((m ((c.tc : Thread nD τ).loc main_arg5)) (ix1 0)).toInt) := by
  have hi : ∀ b : Fin 160, (IDX (m ((c.tc : Thread nD τ).loc main_arg4)) (ix2 b 0)).toInt = (⟨((m ((c.tc : Thread nD τ).loc main_arg4)) (ix1 b)).toNat, (hb b).1⟩ : Fin 32).val := fun b => by
    rw [idx_at _ b (hb b).2]; exact (hb b).2
  funext y
  rw [res_eq, out_at]
  unfold full
  refine if_congr Iff.rfl ?_ rfl
  have hy : (y 0).val < 81920 := (y 0).isLt
  have hy0 : (⟨(⟨(y 0).val / 512, by omega⟩ : Fin 160).val * 512 + (⟨(y 0).val % 512, by omega⟩ : Fin 512).val, by show _ / _ * _ + _ % _ < _; omega⟩ : Fin 81920) = y 0 := Fin.ext (by show _ / _ * _ + _ % _ = _; omega)
  unfold row
  refine congrArg₂ (· + ·) (Finset.sum_congr rfl fun j _ => congrArg₂ (· * ·) ?_ ?_) ?_
  · rw [hid_at, gu_at, gu_at]
    unfold hid
    refine congrArg₂ sw ?_ ?_
    · unfold gu
      refine congrArg₂ (· + ·) (Finset.sum_congr rfl fun k _ => congrArg₂ (· * ·) ?_ ?_) ?_
      · exact congrArg (fun r => (m ((c.tc : Thread nD τ).loc main_arg6)) (ix2 r k)) hy0
      · exact gather_stack _ _ _ _ _ _ _ (hi _)
      · exact gather_stack _ _ _ _ _ _ _ (hi _)
    · unfold gu
      refine congrArg₂ (· + ·) (Finset.sum_congr rfl fun k _ => congrArg₂ (· * ·) ?_ ?_) ?_
      · exact congrArg (fun r => (m ((c.tc : Thread nD τ).loc main_arg6)) (ix2 r k)) hy0
      · exact gather_stack _ _ _ _ _ _ _ (hi _)
      · exact gather_stack _ _ _ _ _ _ _ (hi _)
  · exact gather_stack _ _ _ _ _ _ _ (hi _)
  · exact gather_stack _ _ _ _ _ _ _ (hi _)

end Cert.RefExpertsIdeal.Whole

end
-- ==== Proof.ExpertsPay.lean ====
/- WHAT AN ITEM'S VALUES ARE, element by element: a chunk's product added to the accumulator, and the resident expert whole. -/
module

public import proofs.«01_k».proof.Proof.ExpertsKit
public import proofs.«01_k».proof.Proof.ExpertsRef
public import Idealize.ShloMosaic.Lib.Pipeline.ValueKit

@[expose] public section

set_option maxRecDepth 16384

noncomputable section

open Idealize.ShloMosaic Idealize.ShloMosaic.TcCoe Idealize.SL.Sem

namespace Cert.ExpertsIdeal.Whole

open Cert.ExpertsIdeal Cert.ExpertsIdeal.Gen
open Cert.RefExpertsIdeal.Whole (sw)

theorem sl2_at (d : Vec Ideal S8x2048x256 .bf16) (k : ℕ) (hk : k < 8) (i : Fin 2048) (j : Fin 256) : sl2 d k hk (ix3 0 i j) = d (ix3 ⟨k, hk⟩ i j) := by
  refine congrArg d (funext fun a => Fin.ext ?_)
  match a with
  | ⟨0, _⟩ => show k + 1 * 0 = k; omega
  | ⟨1, _⟩ => show 0 + 1 * i.val = i.val; omega
  | ⟨2, _⟩ => show 0 + 1 * j.val = j.val; omega

theorem bch_at (d : Vec Ideal S1x1x4096 .f32) (k : ℕ) (hk : k < 16) (j : Fin 256) : bch d k hk (ix3 0 0 j) = d (ix3 0 0 ⟨256 * k + j.val, by omega⟩) := by
  refine congrArg d (funext fun a => Fin.ext ?_)
  match a with
  | ⟨0, _⟩ => rfl
  | ⟨1, _⟩ => rfl
  | ⟨2, _⟩ => show 256 * k + 1 * j.val = 256 * k + j.val; omega

theorem up2_at (d : Vec Ideal S8x2048x256 .bf16) (k : ℕ) (w : Vec Ideal S1x2048x256 .bf16) (q : Fin 8) (i : Fin 2048) (j : Fin 256) :
    up2 d k w (ix3 q i j) = if q.val = k then w (ix3 0 i j) else d (ix3 q i j) := by
  by_cases h : q.val = k
  · rw [if_pos h]
    have hh : ∀ a : Fin 3, (![k, 0, 0] : Fin 3 → ℕ) a ≤ ((ix3 q i j : S8x2048x256.Idx) a).val ∧ ((ix3 q i j : S8x2048x256.Idx) a).val < (![k, 0, 0] : Fin 3 → ℕ) a + S1x2048x256.size a := fun a => by
      match a with
      | ⟨0, _⟩ => show k ≤ q.val ∧ q.val < k + 1; omega
      | ⟨1, _⟩ => show 0 ≤ i.val ∧ i.val < 0 + 2048; omega
      | ⟨2, _⟩ => show 0 ≤ j.val ∧ j.val < 0 + 256; omega
    refine (dif_pos hh).trans (congrArg w (funext fun a => Fin.ext ?_))
    match a with
    | ⟨0, _⟩ => show q.val - k = 0; omega
    | ⟨1, _⟩ => show i.val - 0 = i.val; omega
    | ⟨2, _⟩ => show j.val - 0 = j.val; omega
  · rw [if_neg h]
    refine dif_neg fun hh => h ?_
    have : k ≤ q.val ∧ q.val < k + 1 := hh (0 : Fin 3)
    omega

theorem up3_at (d : Vec Ideal S8x256x2048 .bf16) (k : ℕ) (w : Vec Ideal S1x256x2048 .bf16) (q : Fin 8) (i : Fin 256) (j : Fin 2048) :
    up3 d k w (ix3 q i j) = if q.val = k then w (ix3 0 i j) else d (ix3 q i j) := by
  by_cases h : q.val = k
  · rw [if_pos h]
    have hh : ∀ a : Fin 3, (![k, 0, 0] : Fin 3 → ℕ) a ≤ ((ix3 q i j : S8x256x2048.Idx) a).val ∧ ((ix3 q i j : S8x256x2048.Idx) a).val < (![k, 0, 0] : Fin 3 → ℕ) a + S1x256x2048.size a := fun a => by
      match a with
      | ⟨0, _⟩ => show k ≤ q.val ∧ q.val < k + 1; omega
      | ⟨1, _⟩ => show 0 ≤ i.val ∧ i.val < 0 + 256; omega
      | ⟨2, _⟩ => show 0 ≤ j.val ∧ j.val < 0 + 2048; omega
    refine (dif_pos hh).trans (congrArg w (funext fun a => Fin.ext ?_))
    match a with
    | ⟨0, _⟩ => show q.val - k = 0; omega
    | ⟨1, _⟩ => show i.val - 0 = i.val; omega
    | ⟨2, _⟩ => show j.val - 0 = j.val; omega
  · rw [if_neg h]
    refine dif_neg fun hh => h ?_
    have : k ≤ q.val ∧ q.val < k + 1 := hh (0 : Fin 3)
    omega

theorem pay4_at (g : Vec Ideal S1x2048x256 .f32) (i : Fin 2048) (j : Fin 256) : k0_pay4 g (ix3 0 i j) = g (ix3 0 i j) := by
  pointwise [k0_pay4]
theorem pay5_at (g : Vec Ideal S1x2048x256 .f32) (i : Fin 2048) (j : Fin 256) : k0_pay5 g (ix3 0 i j) = g (ix3 0 i j) := by
  pointwise [k0_pay5]
theorem pay6_at (g : Vec Ideal S1x256x2048 .f32) (i : Fin 256) (j : Fin 2048) : k0_pay6 g (ix3 0 i j) = g (ix3 0 i j) := by
  pointwise [k0_pay6]
theorem pay7_at (x : Vec Ideal S512x2048 .bf16) (p : Fin 512) (i : Fin 2048) : k0_pay7 x (ix2 p i) = x (ix2 p i) := by
  pointwise [k0_pay7]
theorem pay8_at (b : Vec Ideal S1x1x2048 .f32) (p : Fin 512) (d : Fin 2048) : k0_pay8 b (ix2 p d) = b (ix3 0 0 d) := by
  pointwise [k0_pay8]
theorem pay1_at (x : Vec Ideal S512x2048 .f32) (p : Fin 512) (i : Fin 2048) : k0_pay1 x (ix2 p i) = x (ix2 p i) := by
  pointwise [k0_pay1]
theorem pay3_at (p : Fin 512) (i : Fin 2048) : (k0_pay3 (F := Ideal)) (ix2 p i) = 0 := by
  pointwise [k0_pay3]

/-- A chunk's product, added to the accumulator. -/
theorem accStep_at (x : Vec Ideal S512x2048 .bf16) (acc : Vec Ideal S512x2048 .f32) (g u : Vec Ideal S1x2048x256 .f32) (b : Vec Ideal S1x1x4096 .f32) (w : Vec Ideal S1x256x2048 .f32) (k : ℕ) (hk : k < 8) (p : Fin 512) (d : Fin 2048) :
    accStep x acc g u b w k hk (ix2 p d) = acc (ix2 p d) + ∑ j : Fin 256, sw (∑ i : Fin 2048, x (ix2 p i) * g (ix3 0 i j) + b (ix3 0 0 ⟨256 * k + j.val, by omega⟩))
      (∑ i : Fin 2048, x (ix2 p i) * u (ix3 0 i j) + b (ix3 0 0 ⟨256 * (8 + k) + j.val, by omega⟩)) * w (ix3 0 j d) := by
  pointwise [accStep, k0_pay10, k0_pay9, k0_pay4, k0_pay5, k0_pay6]
  refine congrArg (acc (ix2 p d) + ·) (Finset.sum_congr rfl fun j _ => congrArg (· * w (ix3 0 j d)) ?_)
  exact congrArg₂ sw (congrArg ((∑ i : Fin 2048, x (ix2 p i) * g (ix3 0 i j)) + ·) (bch_at b k (by omega) j)) (congrArg ((∑ i : Fin 2048, x (ix2 p i) * u (ix3 0 i j)) + ·) (bch_at b (8 + k) (by omega) j))

theorem pay11_at (x : Vec Ideal S512x2048 .bf16) (g u : Vec Ideal S1x2048x256 .bf16) (b b' : Vec Ideal S1x1x256 .f32) (p : Fin 512) (j : Fin 256) :
    k0_pay11 x g b u b' (ix2 p j) = sw (∑ i : Fin 2048, x (ix2 p i) * g (ix3 0 i j) + b (ix3 0 0 j)) (∑ i : Fin 2048, x (ix2 p i) * u (ix3 0 i j) + b' (ix3 0 0 j)) := by
  pointwise [k0_pay11]
  rfl

theorem pay25_at (x : Vec Ideal S512x2048 .bf16) (g : Vec Ideal S1x2048x256 .bf16) (b : Vec Ideal S1x1x256 .f32) (p : Fin 512) (j : Fin 256) :
    k0_pay25 x g b (ix2 p j) = ∑ i : Fin 2048, x (ix2 p i) * g (ix3 0 i j) + b (ix3 0 0 j) := by
  pointwise [k0_pay25]
theorem pay26_at (x : Vec Ideal S512x2048 .bf16) (g : Vec Ideal S1x2048x256 .bf16) (b : Vec Ideal S1x1x256 .f32) (p : Fin 512) (j : Fin 256) :
    k0_pay26 x g b (ix2 p j) = ∑ i : Fin 2048, x (ix2 p i) * g (ix3 0 i j) + b (ix3 0 0 j) := by
  pointwise [k0_pay26]

theorem pay2_at (v0 v1 v2 v3 v4 v5 v6 : FVec Ideal S512x256 .bf16) (v7 v7' : FVec Ideal S512x256 .f32) (w2 : Vec Ideal S8x256x2048 .bf16) (b2 : Vec Ideal S1x1x2048 .f32)
    (H : Fin 512 → Fin 2048 → EReal)
    (h0 : ∀ p (j : Fin 256), v0 (ix2 p j) = H p ⟨256 * 0 + j.val, by omega⟩) (h1 : ∀ p (j : Fin 256), v1 (ix2 p j) = H p ⟨256 * 1 + j.val, by omega⟩)
    (h2 : ∀ p (j : Fin 256), v2 (ix2 p j) = H p ⟨256 * 2 + j.val, by omega⟩) (h3 : ∀ p (j : Fin 256), v3 (ix2 p j) = H p ⟨256 * 3 + j.val, by omega⟩)
    (h4 : ∀ p (j : Fin 256), v4 (ix2 p j) = H p ⟨256 * 4 + j.val, by omega⟩) (h5 : ∀ p (j : Fin 256), v5 (ix2 p j) = H p ⟨256 * 5 + j.val, by omega⟩)
    (h6 : ∀ p (j : Fin 256), v6 (ix2 p j) = H p ⟨256 * 6 + j.val, by omega⟩) (h7 : ∀ p (j : Fin 256), sw (v7 (ix2 p j)) (v7' (ix2 p j)) = H p ⟨256 * 7 + j.val, by omega⟩)
    (p : Fin 512) (d : Fin 2048) :
    k0_pay2 v0 v1 v2 v3 v4 v5 v6 v7 v7' w2 b2 (ix2 p d) = ∑ x : Fin 2048, H p x * w2 (ix3 ⟨x.val / 256, by omega⟩ ⟨x.val % 256, by omega⟩ d) + b2 (ix3 0 0 d) := by
  pointwise [k0_pay2]
  refine congrArg (· + b2 (ix3 0 0 d)) (Finset.sum_congr rfl fun x _ => congrArg (· * w2 (ix3 ⟨x.val / 256, by omega⟩ ⟨x.val % 256, by omega⟩ d)) ?_)
  have hx := x.isLt
  by_cases a0 : x.val < 256
  · exact (dif_pos a0).trans ((h0 p ⟨x.val, a0⟩).trans (congrArg (H p) (Fin.ext (by show 256 * 0 + (x.val) = x.val; omega))))
  refine (dif_neg a0).trans ?_
  by_cases a1 : x.val - 256 < 256
  · exact (dif_pos a1).trans ((h1 p ⟨x.val - 256, a1⟩).trans (congrArg (H p) (Fin.ext (by show 256 * 1 + (x.val - 256) = x.val; omega))))
  refine (dif_neg a1).trans ?_
  by_cases a2 : x.val - 256 - 256 < 256
  · exact (dif_pos a2).trans ((h2 p ⟨x.val - 256 - 256, a2⟩).trans (congrArg (H p) (Fin.ext (by show 256 * 2 + (x.val - 256 - 256) = x.val; omega))))
  refine (dif_neg a2).trans ?_
  by_cases a3 : x.val - 256 - 256 - 256 < 256
  · exact (dif_pos a3).trans ((h3 p ⟨x.val - 256 - 256 - 256, a3⟩).trans (congrArg (H p) (Fin.ext (by show 256 * 3 + (x.val - 256 - 256 - 256) = x.val; omega))))
  refine (dif_neg a3).trans ?_
  by_cases a4 : x.val - 256 - 256 - 256 - 256 < 256
  · exact (dif_pos a4).trans ((h4 p ⟨x.val - 256 - 256 - 256 - 256, a4⟩).trans (congrArg (H p) (Fin.ext (by show 256 * 4 + (x.val - 256 - 256 - 256 - 256) = x.val; omega))))
  refine (dif_neg a4).trans ?_
  by_cases a5 : x.val - 256 - 256 - 256 - 256 - 256 < 256
  · exact (dif_pos a5).trans ((h5 p ⟨x.val - 256 - 256 - 256 - 256 - 256, a5⟩).trans (congrArg (H p) (Fin.ext (by show 256 * 5 + (x.val - 256 - 256 - 256 - 256 - 256) = x.val; omega))))
  refine (dif_neg a5).trans ?_
  by_cases a6 : x.val - 256 - 256 - 256 - 256 - 256 - 256 < 256
  · exact (dif_pos a6).trans ((h6 p ⟨x.val - 256 - 256 - 256 - 256 - 256 - 256, a6⟩).trans (congrArg (H p) (Fin.ext (by show 256 * 6 + (x.val - 256 - 256 - 256 - 256 - 256 - 256) = x.val; omega))))
  refine (dif_neg a6).trans ?_
  exact (h7 p ⟨x.val - 256 - 256 - 256 - 256 - 256 - 256 - 256, by omega⟩).trans (congrArg (H p) (Fin.ext (by show 256 * 7 + (x.val - 256 - 256 - 256 - 256 - 256 - 256 - 256) = x.val; omega)))

/-- One hidden value of the resident expert. -/
def rhid (x : Vec Ideal S512x2048 .bf16) (b : Vec Ideal S1x1x4096 .f32) (wg wu : Vec Ideal S8x2048x256 .bf16) (p : Fin 512) (q : Fin 8) (j : Fin 256) : EReal :=
  sw (∑ i : Fin 2048, x (ix2 p i) * wg (ix3 q i j) + b (ix3 0 0 ⟨256 * q.val + j.val, by omega⟩)) (∑ i : Fin 2048, x (ix2 p i) * wu (ix3 q i j) + b (ix3 0 0 ⟨256 * (8 + q.val) + j.val, by omega⟩))

theorem rhid_cast (x : Vec Ideal S512x2048 .bf16) (b : Vec Ideal S1x1x4096 .f32) (wg wu : Vec Ideal S8x2048x256 .bf16) (p : Fin 512) (q : ℕ) (hq : q < 8) (j : Fin 256) (n : ℕ) (hn : n < 2048) (e : n = 256 * q + j.val) :
    rhid x b wg wu p ⟨q, hq⟩ j = rhid x b wg wu p ⟨n / 256, by omega⟩ ⟨n % 256, by omega⟩ := by
  subst e
  exact congrArg₂ (rhid x b wg wu p) (Fin.ext (by show q = (256 * q + j.val) / 256; omega)) (Fin.ext (by show j.val = (256 * q + j.val) % 256; omega))

theorem pay11_rhid (x : Vec Ideal S512x2048 .bf16) (b : Vec Ideal S1x1x4096 .f32) (wg wu : Vec Ideal S8x2048x256 .bf16) (p : Fin 512) (q : ℕ) (hq : q < 8) (h1 : q < 16) (h2 : 8 + q < 16) (j : Fin 256) :
    k0_pay11 x (sl2 wg q hq) (bch b q h1) (sl2 wu q hq) (bch b (8 + q) h2) (ix2 p j) = rhid x b wg wu p ⟨q, hq⟩ j := by
  rw [pay11_at]
  exact congrArg₂ sw (congrArg₂ (· + ·) (Finset.sum_congr rfl fun i _ => congrArg (x (ix2 p i) * ·) (sl2_at wg q hq i j)) (bch_at b q h1 j))
    (congrArg₂ (· + ·) (Finset.sum_congr rfl fun i _ => congrArg (x (ix2 p i) * ·) (sl2_at wu q hq i j)) (bch_at b (8 + q) h2 j))

/-- The resident expert whole. -/
theorem resident_at (x : Vec Ideal S512x2048 .bf16) (b : Vec Ideal S1x1x4096 .f32) (b2 : Vec Ideal S1x1x2048 .f32) (wg wu : Vec Ideal S8x2048x256 .bf16) (w2 : Vec Ideal S8x256x2048 .bf16) (p : Fin 512) (d : Fin 2048) :
    resident x b b2 wg wu w2 (ix2 p d) = ∑ n : Fin 2048, rhid x b wg wu p ⟨n.val / 256, by omega⟩ ⟨n.val % 256, by omega⟩ * w2 (ix3 ⟨n.val / 256, by omega⟩ ⟨n.val % 256, by omega⟩ d) + b2 (ix3 0 0 d) := by
  refine pay2_at _ _ _ _ _ _ _ _ _ w2 b2 (fun p n => rhid x b wg wu p ⟨n.val / 256, by omega⟩ ⟨n.val % 256, by omega⟩) ?_ ?_ ?_ ?_ ?_ ?_ ?_ ?_ p d
  all_goals intro p j
  · exact (pay11_rhid x b wg wu p 0 (by omega) _ _ j).trans (rhid_cast x b wg wu p 0 _ j _ (by omega) rfl)
  · exact (pay11_rhid x b wg wu p 1 (by omega) _ _ j).trans (rhid_cast x b wg wu p 1 _ j _ (by omega) rfl)
  · exact (pay11_rhid x b wg wu p 2 (by omega) _ _ j).trans (rhid_cast x b wg wu p 2 _ j _ (by omega) rfl)
  · exact (pay11_rhid x b wg wu p 3 (by omega) _ _ j).trans (rhid_cast x b wg wu p 3 _ j _ (by omega) rfl)
  · exact (pay11_rhid x b wg wu p 4 (by omega) _ _ j).trans (rhid_cast x b wg wu p 4 _ j _ (by omega) rfl)
  · exact (pay11_rhid x b wg wu p 5 (by omega) _ _ j).trans (rhid_cast x b wg wu p 5 _ j _ (by omega) rfl)
  · exact (pay11_rhid x b wg wu p 6 (by omega) _ _ j).trans (rhid_cast x b wg wu p 6 _ j _ (by omega) rfl)
  · refine Eq.trans ?_ (rhid_cast x b wg wu p 7 (by omega) j _ (by omega) rfl)
    rw [pay25_at, pay26_at]
    exact congrArg₂ sw (congrArg₂ (· + ·) (Finset.sum_congr rfl fun i _ => congrArg (x (ix2 p i) * ·) (sl2_at wg 7 (by omega) i j)) (bch_at b 7 (by omega) j))
      (congrArg₂ (· + ·) (Finset.sum_congr rfl fun i _ => congrArg (x (ix2 p i) * ·) (sl2_at wu 7 (by omega) i j)) (bch_at b 15 (by omega) j))

end Cert.ExpertsIdeal.Whole

end
-- ==== Proof.ExpertsBlk.lean ====
/- WHAT AN ITEM READS: its block of rows, its expert's chunk of the weights, and the biases, named by the tables. -/
module

public import proofs.«01_k».proof.Proof.ExpertsPay

@[expose] public section

set_option maxRecDepth 16384

noncomputable section

open Idealize.ShloMosaic Idealize.ShloMosaic.TcCoe Idealize.SL.Sem

namespace Cert.ExpertsIdeal.Whole

open Cert.ExpertsIdeal Cert.ExpertsIdeal.Gen

variable (m : (ℓ : Loc nD τ sig) → Buf (Elt Ideal) ℓ)

/-- The number of the item at a point. -/
abbrev it (t : Fin grid0.N) : Fin 384 := grid0.coords t 0

theorem it_val : ∀ t : Fin grid0.N, (it t).val = t.val := by decide +kernel

/-- The block, kind, expert and chunk of an item. -/
def bk (t : Fin grid0.N) : ℕ := BitVec.toNat (tbl m 0 (ix1 (it t)))
def kd (t : Fin grid0.N) : ℕ := BitVec.toNat (tbl m 1 (ix1 (it t)))
def ex (t : Fin grid0.N) : ℕ := BitVec.toNat (tbl m 2 (ix1 (it t)))
def wc (t : Fin grid0.N) : ℕ := BitVec.toNat (tbl m 3 (ix1 (it t)))

variable (hs : IsSched m)
include hs
theorem bk_lt (t : Fin grid0.N) : bk m t < 160 := hs.blk_lt (it t)
theorem kd_le (t : Fin grid0.N) : kd m t ≤ 10 := hs.kind_le (it t)
theorem ex_lt (t : Fin grid0.N) : ex m t < 32 := hs.exp_lt (it t)
theorem wc_eq (t : Fin grid0.N) : wc m t = min (kd m t) 7 := hs.wch_eq (it t)
omit hs

theorem ix_0 (hO : Ok m) (t : Fin grid0.N) : ((cfgM m hO).win 0).index t = ![bk m t, 0] := tr0 (tbl m) (grid0.coords t)
theorem ix_1 (hO : Ok m) (t : Fin grid0.N) : ((cfgM m hO).win 1).index t = ![ex m t, 0, wc m t] := tr1 (tbl m) (grid0.coords t)
theorem ix_2 (hO : Ok m) (t : Fin grid0.N) (h : wc m t ≤ 7) : ((cfgM m hO).win 2).index t = ![ex m t, 0, 8 + wc m t] := tr2 (tbl m) (grid0.coords t) h
theorem ix_3 (hO : Ok m) (t : Fin grid0.N) : ((cfgM m hO).win 3).index t = ![ex m t, 0, 0] := tr3 (tbl m) (grid0.coords t)
theorem ix_4 (hO : Ok m) (t : Fin grid0.N) : ((cfgM m hO).win 4).index t = ![ex m t, wc m t, 0] := tr4 (tbl m) (grid0.coords t)
theorem ix_5 (hO : Ok m) (t : Fin grid0.N) : ((cfgM m hO).win 5).index t = ![ex m t, 0, 0] := tr5 (tbl m) (grid0.coords t)
theorem ix_6 (hO : Ok m) (t : Fin grid0.N) : ((cfgM m hO).win 6).index t = ![bk m t, 0] := tr6 (tbl m) (grid0.coords t)

variable (hO : Ok m) (c : Dev nD) (t : Fin grid0.N)

theorem b0_at (h : bk m t < 160) (p : Fin 512) (i : Fin 2048) : b0 m hO c t (ix2 p i) = m ((c : Thread nD τ).loc main_arg6) (ix2 ⟨bk m t * 512 + p.val, by omega⟩ i) := by
  blk_point [b0, iblk, V, ix_0 m hO t]
theorem b1_at (h : ex m t < 32) (h' : wc m t ≤ 7) (i : Fin 2048) (j : Fin 256) : b1 m hO c t (ix3 0 i j) = m ((c : Thread nD τ).loc main_arg7) (ix3 ⟨ex m t, h⟩ i ⟨wc m t * 256 + j.val, by omega⟩) := by
  blk_point [b1, iblk, V, ix_1 m hO t]
theorem b2_at (h : ex m t < 32) (h' : wc m t ≤ 7) (i : Fin 2048) (j : Fin 256) : b2 m hO c t (ix3 0 i j) = m ((c : Thread nD τ).loc main_arg7) (ix3 ⟨ex m t, h⟩ i ⟨(8 + wc m t) * 256 + j.val, by omega⟩) := by
  blk_point [b2, iblk, V, ix_2 m hO t h']
theorem b3_at (h : ex m t < 32) (n : Fin 4096) : b3 m hO c t (ix3 0 0 n) = m ((c : Thread nD τ).loc main_arg8) (ix3 ⟨ex m t, h⟩ 0 n) := by
  blk_point [b3, iblk, V, ix_3 m hO t]
theorem b4_at (h : ex m t < 32) (h' : wc m t ≤ 7) (j : Fin 256) (d : Fin 2048) : b4 m hO c t (ix3 0 j d) = m ((c : Thread nD τ).loc main_arg9) (ix3 ⟨ex m t, h⟩ ⟨wc m t * 256 + j.val, by omega⟩ d) := by
  blk_point [b4, iblk, V, ix_4 m hO t]
theorem b5_at (h : ex m t < 32) (d : Fin 2048) : b5 m hO c t (ix3 0 0 d) = m ((c : Thread nD τ).loc main_arg10) (ix3 ⟨ex m t, h⟩ 0 d) := by
  blk_point [b5, iblk, V, ix_5 m hO t]

end Cert.ExpertsIdeal.Whole

end
-- ==== Proof.ExpertsInv.lean ====
/- WHAT THE SCRATCHES HOLD: the block's rows, the chunks' products so far, and the chunks of the expert kept. -/
module

public import proofs.«01_k».proof.Proof.ExpertsBlk

@[expose] public section

set_option maxRecDepth 16384

noncomputable section

open Idealize.ShloMosaic Idealize.ShloMosaic.TcCoe Idealize.SL.Sem

namespace Cert.ExpertsIdeal.Whole

open Cert.ExpertsIdeal Cert.ExpertsIdeal.Gen
open Cert.RefExpertsIdeal.Whole (sw gu hid row full)

section
variable (X : S81920x2048.Idx → EReal) (W1 : S32x2048x4096.Idx → EReal) (B1 : S32x1x4096.Idx → EReal) (W2 : S32x2048x2048.Idx → EReal) (B2 : S32x1x2048.Idx → EReal)

/-- One column's part of a row's result, by the column's number. -/
def tm (e : Fin 32) (r : Fin 81920) (d : Fin 2048) (n : ℕ) : EReal := if h : n < 2048 then hid X W1 B1 e r ⟨n, h⟩ * W2 (ix3 e ⟨n, h⟩ d) else 0

/-- A row's result after its first `n` columns, the bias first. -/
def part (e : Fin 32) (r : Fin 81920) (d : Fin 2048) (n : ℕ) : EReal := B2 (ix3 e 0 d) + ∑ i ∈ Finset.range n, tm X W1 B1 W2 e r d i

theorem part_whole (e : Fin 32) (r : Fin 81920) (d : Fin 2048) : part X W1 B1 W2 B2 e r d 2048 = row X W1 B1 W2 B2 e r d := by
  unfold part row
  rw [add_comm, Finset.sum_range]
  exact congrArg (· + B2 (ix3 e 0 d)) (Finset.sum_congr rfl fun i _ => dif_pos i.isLt)

theorem part_chunk (e : Fin 32) (r : Fin 81920) (d : Fin 2048) (k : ℕ) : part X W1 B1 W2 B2 e r d (256 * (k + 1)) = part X W1 B1 W2 B2 e r d (256 * k) + ∑ j : Fin 256, tm X W1 B1 W2 e r d (256 * k + j.val) := by
  unfold part
  rw [show 256 * (k + 1) = 256 * k + 256 by omega, Finset.sum_range_add, ← add_assoc, Finset.sum_range (fun x => tm X W1 B1 W2 e r d (256 * k + x))]

theorem tm_at (e : Fin 32) (r : Fin 81920) (d : Fin 2048) (k : ℕ) (hk : k < 8) (j : Fin 256) :
    tm X W1 B1 W2 e r d (256 * k + j.val) = sw (gu X W1 B1 e r ⟨256 * k + j.val, by omega⟩) (gu X W1 B1 e r ⟨256 * (8 + k) + j.val, by omega⟩) * W2 (ix3 e ⟨256 * k + j.val, by omega⟩ d) := by
  refine (dif_pos (show 256 * k + j.val < 2048 by omega)).trans ?_
  refine congrArg (· * W2 (ix3 e ⟨256 * k + j.val, by omega⟩ d)) (congrArg (sw _) (congrArg (gu X W1 B1 e r) (Fin.ext ?_)))
  show 2048 + (256 * k + j.val) = 256 * (8 + k) + j.val
  omega

/-- A chunk's item brings the accumulator one chunk further. -/
theorem acc_next (e : Fin 32) (r : Fin 512 → Fin 81920) (x : Vec Ideal S512x2048 .bf16) (acc : Vec Ideal S512x2048 .f32) (g u : Vec Ideal S1x2048x256 .f32) (b : Vec Ideal S1x1x4096 .f32) (w : Vec Ideal S1x256x2048 .f32) (k : ℕ) (hk : k < 8)
    (hx : ∀ p i, x (ix2 p i) = X (ix2 (r p) i)) (hg : ∀ i (j : Fin 256), g (ix3 0 i j) = W1 (ix3 e i ⟨256 * k + j.val, by omega⟩)) (hu : ∀ i (j : Fin 256), u (ix3 0 i j) = W1 (ix3 e i ⟨256 * (8 + k) + j.val, by omega⟩))
    (hb : ∀ n, b (ix3 0 0 n) = B1 (ix3 e 0 n)) (hw : ∀ (j : Fin 256) d, w (ix3 0 j d) = W2 (ix3 e ⟨256 * k + j.val, by omega⟩ d)) (ha : ∀ p d, acc (ix2 p d) = part X W1 B1 W2 B2 e (r p) d (256 * k)) (p : Fin 512) (d : Fin 2048) :
    accStep x acc g u b w k hk (ix2 p d) = part X W1 B1 W2 B2 e (r p) d (256 * (k + 1)) := by
  rw [accStep_at, part_chunk, ha]
  refine congrArg (part X W1 B1 W2 B2 e (r p) d (256 * k) + ·) (Finset.sum_congr rfl fun j _ => ?_)
  rw [tm_at X W1 B1 W2 e (r p) d k hk j]
  refine congrArg₂ (· * ·) (congrArg₂ sw ?_ ?_) (hw j d)
  · exact congrArg₂ (· + ·) (Finset.sum_congr rfl fun i _ => congrArg₂ (· * ·) (hx p i) (hg i j)) (hb _)
  · exact congrArg₂ (· + ·) (Finset.sum_congr rfl fun i _ => congrArg₂ (· * ·) (hx p i) (hu i j)) (hb _)

/-- What the scratches hold after an item of kind `k` at expert `e` and block `b`. -/
structure Inv (k : ℕ) (e : Fin 32) (r : Fin 512 → Fin 81920) (s : St Ideal) : Prop where
  x : k < 8 → ∀ p i, s.x (ix2 p i) = X (ix2 (r p) i)
  acc : k < 8 → ∀ p d, s.acc (ix2 p d) = part X W1 B1 W2 B2 e (r p) d (256 * (k + 1))
  wg : k ≤ 8 → ∀ q : Fin 8, q.val ≤ k → ∀ i (j : Fin 256), s.wg (ix3 q i j) = W1 (ix3 e i ⟨256 * q.val + j.val, by omega⟩)
  wu : k ≤ 8 → ∀ q : Fin 8, q.val ≤ k → ∀ i (j : Fin 256), s.wu (ix3 q i j) = W1 (ix3 e i ⟨256 * (8 + q.val) + j.val, by omega⟩)
  w2 : k ≤ 8 → ∀ q : Fin 8, q.val ≤ k → ∀ (j : Fin 256) d, s.w2 (ix3 q j d) = W2 (ix3 e ⟨256 * q.val + j.val, by omega⟩ d)

/-- The blocks an item finds, at expert `e` and the rows `r`. -/
structure Reads (k : ℕ) (e : Fin 32) (r : Fin 512 → Fin 81920) (x : Vec Ideal S512x2048 .bf16) (g u : Vec Ideal S1x2048x256 .f32) (b : Vec Ideal S1x1x4096 .f32) (w : Vec Ideal S1x256x2048 .f32) (b' : Vec Ideal S1x1x2048 .f32) : Prop where
  x : ∀ p i, x (ix2 p i) = X (ix2 (r p) i)
  g : ∀ (h : k < 8) i (j : Fin 256), g (ix3 0 i j) = W1 (ix3 e i ⟨256 * k + j.val, by omega⟩)
  u : ∀ (h : k < 8) i (j : Fin 256), u (ix3 0 i j) = W1 (ix3 e i ⟨256 * (8 + k) + j.val, by omega⟩)
  b : ∀ n, b (ix3 0 0 n) = B1 (ix3 e 0 n)
  w : ∀ (h : k < 8) (j : Fin 256) d, w (ix3 0 j d) = W2 (ix3 e ⟨256 * k + j.val, by omega⟩ d)
  b' : ∀ d, b' (ix3 0 0 d) = B2 (ix3 e 0 d)

variable {X W1 B1 W2 B2}

/-- The first chunk's item starts the block. -/
theorem inv_first {e : Fin 32} {r : Fin 512 → Fin 81920} {x g u b w b'} (h : Reads X W1 B1 W2 B2 0 e r x g u b w b') (s : St Ideal) :
    Inv X W1 B1 W2 B2 0 e r (stepS 0 x g u b w b' s) := by
  have hx : ∀ p i, k0_pay7 x (ix2 p i) = X (ix2 (r p) i) := fun p i => (pay7_at x p i).trans (h.x p i)
  have e0 : stepS 0 x g u b w b' s = ⟨k0_pay7 x, accStep (k0_pay7 x) (k0_pay8 b') g u b w 0 (by omega), up2 s.wg 0 (k0_pay4 g), up2 s.wu 0 (k0_pay5 u), up3 s.w2 0 (k0_pay6 w)⟩ := by
    unfold stepS; rw [dif_pos (by omega), if_pos rfl]
  rw [e0]
  refine ⟨fun _ => hx, fun _ => acc_next X W1 B1 W2 B2 e r _ _ g u b w 0 (by omega) hx (h.g (by omega)) (h.u (by omega)) h.b (h.w (by omega)) (fun p d => ?_), fun _ q hq i j => ?_, fun _ q hq i j => ?_, fun _ q hq j d => ?_⟩
  · rw [pay8_at, h.b']; unfold part; simp
  · obtain rfl : q = 0 := Fin.ext (by show q.val = 0; omega)
    exact (up2_at _ 0 _ 0 i j).trans ((if_pos rfl).trans ((pay4_at g i j).trans (h.g (by omega) i j)))
  · obtain rfl : q = 0 := Fin.ext (by show q.val = 0; omega)
    exact (up2_at _ 0 _ 0 i j).trans ((if_pos rfl).trans ((pay5_at u i j).trans (h.u (by omega) i j)))
  · obtain rfl : q = 0 := Fin.ext (by show q.val = 0; omega)
    exact (up3_at _ 0 _ 0 j d).trans ((if_pos rfl).trans ((pay6_at w j d).trans (h.w (by omega) j d)))

/-- A later chunk's item carries it on. -/
theorem inv_next {k : ℕ} (hk : k + 1 < 8) {e : Fin 32} {r : Fin 512 → Fin 81920} {x g u b w b'} (h : Reads X W1 B1 W2 B2 (k + 1) e r x g u b w b') (s : St Ideal) (hi : Inv X W1 B1 W2 B2 k e r s) :
    Inv X W1 B1 W2 B2 (k + 1) e r (stepS (k + 1) x g u b w b' s) := by
  have e0 : stepS (k + 1) x g u b w b' s = ⟨s.x, accStep s.x s.acc g u b w (k + 1) hk, up2 s.wg (k + 1) (k0_pay4 g), up2 s.wu (k + 1) (k0_pay5 u), up3 s.w2 (k + 1) (k0_pay6 w)⟩ := by
    unfold stepS; rw [dif_pos hk, if_neg (by omega)]
  rw [e0]
  refine ⟨fun _ => hi.x (by omega), fun _ => acc_next X W1 B1 W2 B2 e r _ _ g u b w (k + 1) hk (hi.x (by omega)) (h.g hk) (h.u hk) h.b (h.w hk) (hi.acc (by omega)), fun _ q hq i j => ?_, fun _ q hq i j => ?_, fun _ q hq j d => ?_⟩
  · refine (up2_at _ (k + 1) _ q i j).trans ?_
    by_cases hh : q.val = k + 1
    · obtain rfl : q = ⟨k + 1, hk⟩ := Fin.ext hh
      exact (if_pos rfl).trans ((pay4_at g i j).trans (h.g hk i j))
    · exact (if_neg hh).trans (hi.wg (by omega) q (by omega) i j)
  · refine (up2_at _ (k + 1) _ q i j).trans ?_
    by_cases hh : q.val = k + 1
    · obtain rfl : q = ⟨k + 1, hk⟩ := Fin.ext hh
      exact (if_pos rfl).trans ((pay5_at u i j).trans (h.u hk i j))
    · exact (if_neg hh).trans (hi.wu (by omega) q (by omega) i j)
  · refine (up3_at _ (k + 1) _ q j d).trans ?_
    by_cases hh : q.val = k + 1
    · obtain rfl : q = ⟨k + 1, hk⟩ := Fin.ext hh
      exact (if_pos rfl).trans ((pay6_at w j d).trans (h.w hk j d))
    · exact (if_neg hh).trans (hi.w2 (by omega) q (by omega) j d)

/-- An item that runs the resident expert leaves the chunks kept. -/
theorem inv_kept {k : ℕ} (hk : 7 ≤ k) (hk' : k ≤ 8) {e : Fin 32} {r r' : Fin 512 → Fin 81920} {x g u b w b'} (s : St Ideal) (hi : Inv X W1 B1 W2 B2 k e r' s) :
    Inv X W1 B1 W2 B2 8 e r (stepS 8 x g u b w b' s) := by
  have e0 : stepS 8 x g u b w b' s = s := by unfold stepS; rw [dif_neg (by omega)]
  rw [e0]
  exact ⟨fun h => absurd h (by omega), fun h => absurd h (by omega), fun _ q hq => hi.wg hk' q (by omega), fun _ q hq => hi.wu hk' q (by omega), fun _ q hq => hi.w2 hk' q (by omega)⟩

theorem inv_idle {k : ℕ} (hk : 9 ≤ k) {e : Fin 32} {r : Fin 512 → Fin 81920} (s : St Ideal) : Inv X W1 B1 W2 B2 k e r s :=
  ⟨fun h => absurd h (by omega), fun h => absurd h (by omega), fun h => absurd h (by omega), fun h => absurd h (by omega), fun h => absurd h (by omega)⟩

/-- The last chunk's item stores the block's rows through the expert. -/
theorem out_last {e : Fin 32} {r : Fin 512 → Fin 81920} {x g u b w b'} {s o} (hi : Inv X W1 B1 W2 B2 7 e r (stepS 7 x g u b w b' s)) (p : Fin 512) (d : Fin 2048) :
    stepO 7 x g u b w b' s o (ix2 p d) = row X W1 B1 W2 B2 e (r p) d := by
  have e0 : stepO 7 x g u b w b' s o = k0_pay1 (stepS 7 x g u b w b' s).acc := by unfold stepO; rw [if_pos rfl]
  rw [e0, pay1_at, hi.acc (by omega), ← part_whole]

/-- So does an item that runs the resident expert. -/
theorem out_kept {k : ℕ} (hk : 7 ≤ k) (hk' : k ≤ 8) {e : Fin 32} {r r' : Fin 512 → Fin 81920} {x g u b w b'} {s o} (h : Reads X W1 B1 W2 B2 8 e r x g u b w b') (hi : Inv X W1 B1 W2 B2 k e r' s) (p : Fin 512) (d : Fin 2048) :
    stepO 8 x g u b w b' s o (ix2 p d) = row X W1 B1 W2 B2 e (r p) d := by
  have e0 : stepO 8 x g u b w b' s o = resident x b b' s.wg s.wu s.w2 := by unfold stepO; rw [if_neg (by omega), if_pos rfl]
  rw [e0, resident_at]
  unfold row
  refine congrArg₂ (· + ·) (Finset.sum_congr rfl fun n _ => ?_) (h.b' d)
  have hn := n.isLt
  have en : (⟨256 * (n.val / 256) + n.val % 256, by omega⟩ : Fin 2048) = n := Fin.ext (by show 256 * (n.val / 256) + n.val % 256 = n.val; omega)
  have t : rhid x b s.wg s.wu p ⟨n.val / 256, by omega⟩ ⟨n.val % 256, by omega⟩ * s.w2 (ix3 ⟨n.val / 256, by omega⟩ ⟨n.val % 256, by omega⟩ d) = tm X W1 B1 W2 e (r p) d (256 * (n.val / 256) + n.val % 256) := by
    refine Eq.trans ?_ (tm_at X W1 B1 W2 e (r p) d (n.val / 256) (by omega) ⟨n.val % 256, by omega⟩).symm
    refine congrArg₂ (· * ·) (congrArg₂ sw ?_ ?_) (hi.w2 hk' _ (by show n.val / 256 ≤ k; omega) _ d)
    · exact congrArg₂ (· + ·) (Finset.sum_congr rfl fun i _ => congrArg₂ (· * ·) (h.x p i) (hi.wg hk' _ (by show n.val / 256 ≤ k; omega) i _)) (h.b _)
    · exact congrArg₂ (· + ·) (Finset.sum_congr rfl fun i _ => congrArg₂ (· * ·) (h.x p i) (hi.wu hk' _ (by show n.val / 256 ≤ k; omega) i _)) (h.b _)
  rw [t]
  refine (dif_pos (show 256 * (n.val / 256) + n.val % 256 < 2048 by omega)).trans ?_
  exact congrArg (fun q => hid X W1 B1 e (r p) q * W2 (ix3 e q d)) en

theorem out_zero {x g u b w b'} {s o} (p : Fin 512) (d : Fin 2048) : stepO (F := Ideal) 9 x g u b w b' s o (ix2 p d) = 0 := by
  have e0 : stepO (F := Ideal) 9 x g u b w b' s o = k0_pay3 (F := Ideal) := by unfold stepO; rw [if_neg (by omega), if_neg (by omega), if_pos rfl]
  rw [e0, pay3_at]

theorem out_idle {k : ℕ} (hk : 10 ≤ k) {x g u b w b'} {s o} : stepO (F := Ideal) k x g u b w b' s o = o := by
  unfold stepO; rw [if_neg (by omega), if_neg (by omega), if_neg (by omega)]
end

end Cert.ExpertsIdeal.Whole

end
-- ==== Proof.ExpertsValue.lean ====
/- WHAT THE EXPERTS LEAVE: every block's rows through its own expert, block by block as the schedule runs. -/
module

public import proofs.«01_k».proof.Proof.ExpertsInv
public import Idealize.ShloMosaic.Lib.Pipeline.ArrRel

@[expose] public section

set_option maxRecDepth 16384

noncomputable section

open Idealize.ShloMosaic Idealize.ShloMosaic.TcCoe Idealize.SL.Sem
open Idealize.ShloMosaic.Pipeline (Dat RDat)

namespace Cert.ExpertsIdeal.Whole

open Cert.ExpertsIdeal Cert.ExpertsIdeal.Gen
open Cert.RefExpertsIdeal.Whole (sw gu hid row full)

variable (m : (ℓ : Loc nD τ sig) → Buf (Elt Ideal) ℓ) (hs : IsSched m) (hO : Ok m) (c : Dev nD)

/-- The rows of an item's block. -/
def rw' (t : Fin grid0.N) (p : Fin 512) : Fin 81920 := ⟨bk m t * 512 + p.val, by have := bk_lt m hs t; omega⟩

/-- The expert of an item. -/
def exF (t : Fin grid0.N) : Fin 32 := ⟨ex m t, ex_lt m hs t⟩

/-- The scratches after an item, at the launch memory's arrays. -/
abbrev InvT (k : ℕ) (e : Fin 32) (r : Fin 512 → Fin 81920) (s : St Ideal) : Prop :=
  Inv (m ((c : Thread nD τ).loc main_arg6)) (m ((c : Thread nD τ).loc main_arg7)) (m ((c : Thread nD τ).loc main_arg8)) (m ((c : Thread nD τ).loc main_arg9)) (m ((c : Thread nD τ).loc main_arg10)) k e r s

theorem reads (t : Fin grid0.N) : Reads (m ((c : Thread nD τ).loc main_arg6)) (m ((c : Thread nD τ).loc main_arg7)) (m ((c : Thread nD τ).loc main_arg8)) (m ((c : Thread nD τ).loc main_arg9)) (m ((c : Thread nD τ).loc main_arg10))
    (kd m t) (exF m hs t) (rw' m hs t) (b0 m hO c t) (b1 m hO c t) (b2 m hO c t) (b3 m hO c t) (b4 m hO c t) (b5 m hO c t) := by
  have hw := wc_eq m hs t
  have hw7 : wc m t ≤ 7 := by omega
  refine ⟨fun p i => b0_at m hO c t (bk_lt m hs t) p i, fun h i j => ?_, fun h i j => ?_, fun n => b3_at m hO c t (ex_lt m hs t) n, fun h j d => ?_, fun d => b5_at m hO c t (ex_lt m hs t) d⟩
  · refine (b1_at m hO c t (ex_lt m hs t) hw7 i j).trans (congrArg (fun q => m ((c : Thread nD τ).loc main_arg7) (ix3 (exF m hs t) i q)) (Fin.ext ?_))
    show wc m t * 256 + j.val = 256 * kd m t + j.val
    omega
  · refine (b2_at m hO c t (ex_lt m hs t) hw7 i j).trans (congrArg (fun q => m ((c : Thread nD τ).loc main_arg7) (ix3 (exF m hs t) i q)) (Fin.ext ?_))
    show (8 + wc m t) * 256 + j.val = 256 * (8 + kd m t) + j.val
    omega
  · refine (b4_at m hO c t (ex_lt m hs t) hw7 j d).trans (congrArg (fun q => m ((c : Thread nD τ).loc main_arg9) (ix3 (exF m hs t) q d)) (Fin.ext ?_))
    show wc m t * 256 + j.val = 256 * kd m t + j.val
    omega

section
include hs
theorem it_eq (t : Fin grid0.N) (n : ℕ) (hn : n < 384) (h : t.val = n) : it t = ⟨n, hn⟩ := Fin.ext ((it_val t).trans h)

theorem first_item (t : Fin grid0.N) (h : t.val = 0) : kd m t = 0 ∧ bk m t = 0 := by
  have e : it t = 0 := it_eq m hs t 0 (by omega) h
  unfold kd bk
  rw [e]
  exact hs.first

theorem last_item (t : Fin grid0.N) (h : t.val = 383) : 7 ≤ kd m t ∧ bk m t = 159 := by
  have e : it t = 383 := it_eq m hs t 383 (by omega) h
  unfold kd bk
  rw [e]
  exact hs.last

/-- From an item to the next. -/
theorem next_item (t t₁ : Fin grid0.N) (h : t₁.val = t.val + 1) :
    (bk m t₁ = if kd m t₁ = 0 ∨ kd m t₁ = 8 ∨ kd m t₁ = 9 then bk m t + 1 else bk m t)
    ∧ (if kd m t < 7 then kd m t₁ = kd m t + 1 else kd m t₁ = 0 ∨ 8 ≤ kd m t₁)
    ∧ (1 ≤ kd m t₁ → kd m t₁ ≤ 8 → ex m t₁ = ex m t ∧ kd m t ≤ 8) := by
  have h1 : t₁.val < 384 := t₁.isLt
  have e : it t = ⟨t.val, by omega⟩ := it_eq m hs t _ _ rfl
  have e1 : it t₁ = ⟨1 + t.val, by omega⟩ := it_eq m hs t₁ _ _ (by omega)
  unfold kd bk ex
  rw [e, e1]
  exact ⟨hs.blk_step t.val (by omega), hs.kind_step t.val (by omega), hs.exp_step t.val (by omega)⟩
end

/-- An item takes what the scratches held to what they hold next. -/
theorem inv_step (t : Fin grid0.N) (s : St Ideal) (hp : ∀ t₀ : Fin grid0.N, t.val = t₀.val + 1 → InvT m c (kd m t₀) (exF m hs t₀) (rw' m hs t₀) s) :
    InvT m c (kd m t) (exF m hs t) (rw' m hs t) (stepS (kd m t) (b0 m hO c t) (b1 m hO c t) (b2 m hO c t) (b3 m hO c t) (b4 m hO c t) (b5 m hO c t) s) := by
  have hr := reads m hs hO c t
  by_cases h0 : kd m t = 0
  · rw [h0] at hr ⊢; exact inv_first hr s
  by_cases h9 : 9 ≤ kd m t
  · exact inv_idle h9 _
  have ht0 : t.val ≠ 0 := fun h => h0 (first_item m hs t h).1
  have htl := t.isLt
  have hi := hp ⟨t.val - 1, by omega⟩ (by show t.val = t.val - 1 + 1; omega)
  obtain ⟨n1, n2, n3⟩ := next_item m hs ⟨t.val - 1, by omega⟩ t (by show t.val = t.val - 1 + 1; omega)
  obtain ⟨n3, n4⟩ := n3 (by omega) (by omega)
  have he : exF m hs ⟨t.val - 1, by omega⟩ = exF m hs t := Fin.ext n3.symm
  rw [he] at hi
  by_cases h8 : kd m t = 8
  · rw [h8]
    refine inv_kept (k := kd m ⟨t.val - 1, by omega⟩) ?_ n4 s hi
    by_contra hlt
    rw [if_pos (by omega)] at n2
    omega
  · have h7 : kd m ⟨t.val - 1, by omega⟩ < 7 := by
      by_contra hlt
      rw [if_neg hlt] at n2
      omega
    rw [if_pos h7] at n2
    rw [if_neg (by omega)] at n1
    have hrr : rw' m hs ⟨t.val - 1, by omega⟩ = rw' m hs t := funext fun p => Fin.ext (by show bk m _ * 512 + p.val = bk m t * 512 + p.val; rw [n1])
    rw [hrr] at hi
    rw [n2] at hr ⊢
    exact inv_next (by omega) hr s hi

theorem kindAt_kd (t : Fin grid0.N) : kindAt m c t = kd m t := kindAt_eq m c t

/-- What the scratches hold before an item, of any run. -/
theorem reach_inv (n : ℕ) (s : St Ideal) (h : Reach m hO c n s) : ∀ t₀ : Fin grid0.N, n = t₀.val + 1 → InvT m c (kd m t₀) (exF m hs t₀) (rw' m hs t₀) s := by
  induction n generalizing s with
  | zero => intro t₀ ht; omega
  | succ n ih =>
    intro t₀ ht
    obtain ⟨s₀, h₀, hstep⟩ := h
    have hn : n < grid0.N := by have := t₀.isLt; omega
    obtain rfl : t₀ = ⟨n, hn⟩ := Fin.ext (by show t₀.val = n; omega)
    rw [hstep hn, kindAt_kd]
    exact inv_step m hs hO c ⟨n, hn⟩ s₀ (ih s₀ h₀)

/-- The whole result, at the launch memory's arrays. -/
abbrev G : S81920x2048.Idx → EReal :=
  full (m ((c : Thread nD τ).loc main_arg6)) (m ((c : Thread nD τ).loc main_arg7)) (m ((c : Thread nD τ).loc main_arg8)) (m ((c : Thread nD τ).loc main_arg9)) (m ((c : Thread nD τ).loc main_arg10))
    (fun b => ⟨BitVec.toNat (m (((0 : Dev nD) : Thread nD τ).loc main_arg4) (ix1 b)), (hs.be_lt b).1⟩) (fun b => ((b.val : ℕ) : ℤ) < BitVec.toInt (m (((0 : Dev nD) : Thread nD τ).loc main_arg5) (ix1 0)))

theorem G_at (t : Fin grid0.N) (p : Fin 512) (d : Fin 2048) : G m hs c (ix2 (rw' m hs t p) d)
    = if ((bk m t : ℕ) : ℤ) < BitVec.toInt (m (((0 : Dev nD) : Thread nD τ).loc main_arg5) (ix1 0)) then
        row (m ((c : Thread nD τ).loc main_arg6)) (m ((c : Thread nD τ).loc main_arg7)) (m ((c : Thread nD τ).loc main_arg8)) (m ((c : Thread nD τ).loc main_arg9)) (m ((c : Thread nD τ).loc main_arg10)) ⟨BitVec.toNat (m (((0 : Dev nD) : Thread nD τ).loc main_arg4) (ix1 ⟨bk m t, bk_lt m hs t⟩)), (hs.be_lt _).1⟩ (rw' m hs t p) d
      else 0 := by
  have hb : (rw' m hs t p).val / 512 = bk m t := by show (bk m t * 512 + p.val) / 512 = bk m t; omega
  have hb' : (⟨(rw' m hs t p).val / 512, by have := (rw' m hs t p).isLt; omega⟩ : Fin 160) = ⟨bk m t, bk_lt m hs t⟩ := Fin.ext hb
  unfold G full
  refine if_congr (by show (((rw' m hs t p).val / 512 : ℕ) : ℤ) < _ ↔ _; rw [hb]) ?_ rfl
  exact congrArg (fun e : Fin 160 => row (m ((c : Thread nD τ).loc main_arg6)) (m ((c : Thread nD τ).loc main_arg7)) (m ((c : Thread nD τ).loc main_arg8)) (m ((c : Thread nD τ).loc main_arg9)) (m ((c : Thread nD τ).loc main_arg10)) ⟨BitVec.toNat (m (((0 : Dev nD) : Thread nD τ).loc main_arg4) (ix1 e)), (hs.be_lt e).1⟩ (rw' m hs t p) d) hb'

/-- An item that stores stores its rows of the result. -/
theorem stores (t : Fin grid0.N) (h7 : 7 ≤ kd m t) (h9 : kd m t ≤ 9) (s : St Ideal) (hr : Reach m hO c t.val s) (o) (p : Fin 512) (d : Fin 2048) :
    stepO (kd m t) (b0 m hO c t) (b1 m hO c t) (b2 m hO c t) (b3 m hO c t) (b4 m hO c t) (b5 m hO c t) s o (ix2 p d) = G m hs c (ix2 (rw' m hs t p) d) := by
  have hlive : kd m t ≤ 8 ↔ ((bk m t : ℕ) : ℤ) < BitVec.toInt (m (((0 : Dev nD) : Thread nD τ).loc main_arg5) (ix1 0)) :=
    (hs.live (it t)).resolve_left (by show ¬ kd m t = 10; omega)
  have hi := reach_inv m hs hO c t.val s hr
  have hst := inv_step m hs hO c t s hi
  have hrd := reads m hs hO c t
  rw [G_at]
  by_cases h : kd m t = 9
  · rw [if_neg (fun hh => absurd (hlive.2 hh) (by omega)), h]
    exact out_zero p d
  · rw [if_pos (hlive.1 (by omega))]
    have he : exF m hs t = ⟨BitVec.toNat (m (((0 : Dev nD) : Thread nD τ).loc main_arg4) (ix1 ⟨bk m t, bk_lt m hs t⟩)), (hs.be_lt _).1⟩ :=
      Fin.ext (hs.be_eq (it t) ⟨bk m t, bk_lt m hs t⟩ (by show kd m t ≤ 8; omega) rfl)
    rw [← he]
    by_cases h8 : kd m t = 8
    · have ht0 : t.val ≠ 0 := fun hh => by have := (first_item m hs t hh).1; omega
      have htl := t.isLt
      have hi := hi ⟨t.val - 1, by omega⟩ (by show t.val = t.val - 1 + 1; omega)
      obtain ⟨n1, n2, n3⟩ := next_item m hs ⟨t.val - 1, by omega⟩ t (by show t.val = t.val - 1 + 1; omega)
      obtain ⟨n3, n4⟩ := n3 (by omega) (by omega)
      have he' : exF m hs ⟨t.val - 1, by omega⟩ = exF m hs t := Fin.ext n3.symm
      rw [he'] at hi
      rw [h8] at hrd ⊢
      refine out_kept (k := kd m ⟨t.val - 1, by omega⟩) ?_ n4 hrd hi p d
      by_contra hlt
      rw [if_pos (by omega)] at n2
      omega
    · have e7 : kd m t = 7 := by omega
      rw [e7] at hst ⊢
      exact out_last hst p d

theorem fetch_6 (t : Fin grid0.N) : ((cfgM m hO).win 6).fetch t = false := rfl

theorem flush_6 (t : Fin grid0.N) : ((cfgM m hO).win 6).flush t = true ↔ (t.val = 383 ∨ ∃ t₁ : Fin grid0.N, t₁.val = t.val + 1 ∧ bk m t₁ ≠ bk m t) := by
  have key : ((cfgM m hO).win 6).flush t = (true && (decide (t.val + 1 = grid0.N) || decide (∃ h : t.val + 1 < grid0.N, ((cfgM m hO).win 6).index ⟨t.val + 1, h⟩ ≠ ((cfgM m hO).win 6).index t))) := rfl
  rw [key, Bool.true_and, Bool.or_eq_true, decide_eq_true_iff, decide_eq_true_iff]
  refine or_congr ⟨fun h => ?_, fun h => ?_⟩ ⟨fun ⟨h, hne⟩ => ⟨⟨t.val + 1, h⟩, rfl, fun e => hne ?_⟩, fun ⟨t₁, h, hne⟩ => ⟨h ▸ t₁.isLt, fun e => hne ?_⟩⟩
  · have : grid0.N = 384 := rfl
    omega
  · have : grid0.N = 384 := rfl
    omega
  · rw [ix_6, ix_6, e]
  · have e1 : t₁ = ⟨t.val + 1, h ▸ t₁.isLt⟩ := Fin.ext h
    rw [ix_6, ix_6] at e
    rw [e1]
    exact congrFun e 0

/-- After an item that stores, or idles on a stored block, the staged block is the block of the result. -/
theorem leaves_at (n : ℕ) : ∀ (t : Fin grid0.N), t.val = n → 7 ≤ kd m t → ∀ X : Vec Ideal S512x2048 .bf16, (rdat m hO c).Leaves 6 t X → ∀ p d, X (ix2 p d) = G m hs c (ix2 (rw' m hs t p) d) := by
  induction n with
  | zero => intro t ht h7; have := (first_item m hs t ht).1; omega
  | succ n ih =>
    intro t ht h7 X hX p d
    obtain ⟨Y, hY, s, hr, hX⟩ := hX
    have e : X = stepO (kd m t) (b0 m hO c t) (b1 m hO c t) (b2 m hO c t) (b3 m hO c t) (b4 m hO c t) (b5 m hO c t) s Y := by rw [hX, kindAt_kd]
    by_cases h9 : kd m t ≤ 9
    · exact (congrFun e (ix2 p d)).trans (stores m hs hO c t h7 h9 s hr Y p d)
    · refine (congrFun (e.trans (out_idle (o := (Y : Vec Ideal S512x2048 .bf16)) (by omega))) (ix2 p d)).trans ?_
      have htl := t.isLt
      obtain ⟨n1, n2, -⟩ := next_item m hs ⟨t.val - 1, by omega⟩ t (by show t.val = t.val - 1 + 1; omega)
      have k10 := kd_le m hs t
      rw [if_neg (by omega)] at n1
      have hlt : 7 ≤ kd m ⟨t.val - 1, by omega⟩ := by
        by_contra hlt
        rw [if_pos (by omega)] at n2
        omega
      have hf := ((rdat m hO c).finds_of_pos (w := 6) (t := t) (fetch_6 m hO t) (by omega) Y).1 hY
      rcases hf with hf | hf
      · exfalso
        rcases (flush_6 m hO ⟨t.val - 1, by omega⟩).1 hf with h | ⟨t₁, h, hne⟩
        · have : t.val - 1 = 383 := h
          have : grid0.N = 384 := rfl
          omega
        · have h' : t₁.val = t.val - 1 + 1 := h
          obtain rfl : t₁ = t := Fin.ext (by omega)
          exact hne n1
      · have := ih ⟨t.val - 1, by omega⟩ (by show t.val - 1 = n; omega) hlt Y hf p d
        refine this.trans ?_
        exact congrArg (fun r => G m hs c (ix2 r d)) (Fin.ext (by show bk m _ * 512 + p.val = bk m t * 512 + p.val; rw [n1]))

include hs in
/-- A block is written back only by an item past its last chunk. -/
theorem flush_kind (t : Fin grid0.N) (h : ((cfgM m hO).win 6).flush t = true) : 7 ≤ kd m t := by
  rcases (flush_6 m hO t).1 h with h | ⟨t₁, h, hne⟩
  · exact (last_item m hs t h).1
  · obtain ⟨n1, n2, -⟩ := next_item m hs t t₁ h
    by_contra hlt
    rw [if_pos (by omega)] at n2
    exact hne (n1.trans (if_neg (by omega)))

include hs in
/-- Every block is written back. -/
theorem flush_block (b : ℕ) (hb : b < 160) : ∃ t : Fin grid0.N, ((cfgM m hO).win 6).flush t = true ∧ bk m t = b := by
  have climb : ∀ n (hn : n < grid0.N), b < bk m ⟨n, hn⟩ → ∃ t t₁ : Fin grid0.N, t₁.val = t.val + 1 ∧ bk m t ≤ b ∧ b < bk m t₁ := by
    intro n
    induction n with
    | zero => intro hn h; have := (first_item m hs ⟨0, hn⟩ rfl).2; omega
    | succ n ih =>
      intro hn h
      by_cases h' : b < bk m ⟨n, by omega⟩
      · exact ih (by omega) h'
      · exact ⟨⟨n, by omega⟩, ⟨n + 1, hn⟩, rfl, by omega, h⟩
  have hl := (last_item m hs ⟨383, by decide⟩ rfl).2
  by_cases hlast : b = 159
  · exact ⟨⟨383, by decide⟩, (flush_6 m hO _).2 (.inl rfl), by omega⟩
  · obtain ⟨t, t₁, h, hle, hlt⟩ := climb 383 (by decide) (by omega)
    obtain ⟨n1, -, -⟩ := next_item m hs t t₁ h
    have : bk m t₁ ≤ bk m t + 1 := by rw [n1]; split <;> omega
    exact ⟨t, (flush_6 m hO t).2 (.inr ⟨t₁, h, by omega⟩), by omega⟩

/-- Where a block's elements sit in the array. -/
theorem emb_6 (f : S81920x2048.Idx → EReal) (t : Fin grid0.N) (p : Fin 512) (d : Fin 2048) : f ((((cfgM m hO).win 6).blk t).view.emb (ix2 p d)) = f (ix2 (rw' m hs t p) d) := by
  blk_point [ix_6 m hO t, rw']

theorem emb_6' (t : Fin grid0.N) (p : Fin 512) (d : Fin 2048) : (((cfgM m hO).win 6).blk t).view.emb (ix2 p d) = (ix2 (rw' m hs t p) d : S81920x2048.Idx) := by
  classical
  by_contra h
  have e := emb_6 m hs hO (fun q => if q = (ix2 (rw' m hs t p) d : S81920x2048.Idx) then 1 else 0) t p d
  rw [if_pos rfl] at e
  exact absurd ((if_neg h).symm.trans e) (by simp)

/-- The result array after the run. -/
theorem final (after : (w : Fin (cfgM m hO).W) → Fin (cfgM m hO).N → ((cfgM m hO).win w).block.Idx → Elt Ideal ((cfgM m hO).win w).elt)
    (hA : ∀ u : Fin (cfgM m hO).N, ((cfgM m hO).win 6).flush u = true → (rdat m hO c).Leaves 6 u (after 6 u)) :
    ((rdat m hO c).withAfter after).arrAt 6 (cfgM m hO).N = G m hs c := by
  refine Dat.arrAt_eq_of_emb _ 6 _ (fun t hf y => ?_) ?_
  · blk_simp
    have key : ∀ (p : Fin 512) (d : Fin 2048), (after 6 t : Vec Ideal S512x2048 .bf16) (ix2 p d) = G m hs c ((((cfgM m hO).win 6).blk t).view.emb (ix2 p d)) := fun p d =>
      (leaves_at m hs hO c t.val t rfl (flush_kind m hs hO t hf) (after 6 t) (hA t hf) p d).trans (emb_6 m hs hO (G m hs c) t p d).symm
    have keyY : ∀ y : S512x2048.Idx, (after 6 t : Vec Ideal S512x2048 .bf16) y = G m hs c ((((cfgM m hO).win 6).blk t).view.emb y) := fun y => by
      rw [eq_ix2 y]; exact key _ _
    exact keyY y
  · show ∀ i : S81920x2048.Idx, _
    intro i
    have hi : (i 0).val < 81920 := (i 0).isLt
    obtain ⟨t, hf, hb⟩ := flush_block m hs hO ((i 0).val / 512) (by omega)
    refine ⟨t, hf, ?_⟩
    have e : (((cfgM m hO).win 6).blk t).view.emb (ix2 (⟨(i 0).val % 512, by omega⟩ : Fin 512) (i 1 : Fin 2048)) = i := by
      refine (emb_6' m hs hO t _ _).trans (Eq.trans ?_ (eq_ix2 i).symm)
      exact congrArg (fun r : Fin 81920 => (ix2 r (i 1) : S81920x2048.Idx)) (Fin.ext (by show bk m t * 512 + (i 0).val % 512 = (i 0).val; omega))
    exact e ▸ View.emb_mem_set (((cfgM m hO).win 6).blk t).view _

/-- Every run leaves the whole result in the result array, and the arguments as they were. -/
theorem run_value (ρ : Dev nD → PrngReg) : θ_run defs (onTc (τ := τ) (main (F := Ideal))) ⟨m, fun _ => 0, ρ⟩ (fun r => ∀ c : Dev nD,
      r.2.mem ((c.tc : Thread nD τ).loc main_v0) = G m hs c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    obtain ⟨after, hL, hA⟩ := Pipeline.RDat.FramePost.exists_exact h.1 c
    exact ⟨(hA 6).trans (final m hs (ok_of m hs) c after (hL 6)), (h.1 c).2 main_arg0 (by decide : main_arg0 ∈ Pipeline.restRefs sig spec0), (h.1 c).2 main_arg1 (by decide : main_arg1 ∈ Pipeline.restRefs sig spec0), (h.1 c).2 main_arg2 (by decide : main_arg2 ∈ Pipeline.restRefs sig spec0), (h.1 c).2 main_arg3 (by decide : main_arg3 ∈ Pipeline.restRefs sig spec0), (h.1 c).2 main_arg4 (by decide : main_arg4 ∈ Pipeline.restRefs sig spec0), (h.1 c).2 main_arg5 (by decide : main_arg5 ∈ Pipeline.restRefs sig spec0), Pipeline.RDat.FramePost.arr_in h.1 c 0 rfl, Pipeline.RDat.FramePost.arr_in h.1 c 1 rfl, Pipeline.RDat.FramePost.arr_in h.1 c 3 rfl, Pipeline.RDat.FramePost.arr_in h.1 c 4 rfl, Pipeline.RDat.FramePost.arr_in h.1 c 5 rfl⟩)
    (run_main m ρ (ok_of m hs) (kind_le m hs))

/-- The whole result depends on the arrays alone. -/
theorem full_congr {X X' : S81920x2048.Idx → EReal} {W1 W1' : S32x2048x4096.Idx → EReal} {B1 B1' : S32x1x4096.Idx → EReal} {W2 W2' : S32x2048x2048.Idx → EReal} {B2 B2' : S32x1x2048.Idx → EReal} {be be' : IVec S160 32} {nu nu' : IVec S1 32}
    (hX : X = X') (hW1 : W1 = W1') (hB1 : B1 = B1') (hW2 : W2 = W2') (hB2 : B2 = B2') (hbe : be = be') (hnu : nu = nu') (h : ∀ b : Fin 160, (be (ix1 b)).toNat < 32) (h' : ∀ b : Fin 160, (be' (ix1 b)).toNat < 32) :
    full X W1 B1 W2 B2 (fun b => ⟨(be (ix1 b)).toNat, h b⟩) (fun b => ((b.val : ℕ) : ℤ) < (nu (ix1 0)).toInt) = full X' W1' B1' W2' B2' (fun b => ⟨(be' (ix1 b)).toNat, h' b⟩) (fun b => ((b.val : ℕ) : ℤ) < (nu' (ix1 0)).toInt) := by
  subst hX hW1 hB1 hW2 hB2 hbe hnu
  rfl

end Cert.ExpertsIdeal.Whole

end
-- ==== Proof.RouterTop.lean ====
/- FOUR ROUNDS OF THE LOWEST LANE WITH THE GREATEST VALUE are the first four of a stable sort by descending value. -/
module

public import Idealize.ShloMosaic.Lib.SortPrefix
public import Idealize.ShloMosaic.Lib.Pipeline.ValueKit

@[expose] public section

set_option maxRecDepth 16384

noncomputable section

open Idealize.ShloMosaic

namespace Cert.RouterTop

/-- The greatest value of a row of lanes. -/
def top (f : Fin 128 → EReal) : EReal := Finset.univ.fold max ⊥ f

/-- The lowest lane with the greatest value, as the word that a minimum over the lanes leaves. -/
def low (f : Fin 128 → EReal) : BitVec 32 :=
  Finset.univ.fold IntOp.minsi 2147483647#32 fun e : Fin 128 => if f e = top f then BitVec.ofNat 32 e.val else 128#32

/-- The row without its lowest greatest lane. -/
def rest (f : Fin 128 → EReal) : Fin 128 → EReal := fun e => if BitVec.ofNat 32 e.val = low f then ⊥ else f e

/-- `p` is the lowest lane of `f` with the greatest value. -/
structure Best (f : Fin 128 → EReal) (p : Fin 128) : Prop where
  /-- no value is greater -/
  ge : ∀ e, f e ≤ f p
  /-- no lower lane has the same value -/
  first : ∀ e, f e = f p → p ≤ e

/-- Every row has one. -/
theorem exists_best (f : Fin 128 → EReal) : ∃ p, Best f p := by
  obtain ⟨a, -, ha⟩ := Finset.exists_max_image Finset.univ f ⟨0, Finset.mem_univ 0⟩
  obtain ⟨p, hp, hmin⟩ := Finset.exists_min_image (Finset.univ.filter fun e => f e = f a) (fun e => e) ⟨a, by simp⟩
  have hp' : f p = f a := by simpa using hp
  exact ⟨p, fun e => hp' ▸ ha e (Finset.mem_univ e), fun e h => hmin e (by simp [h, hp'])⟩

/-- The greatest value is the best lane's. -/
theorem top_eq {f : Fin 128 → EReal} {p : Fin 128} (h : Best f p) : top f = f p := by
  refine le_antisymm ?_ ?_
  · exact (Finset.fold_max_le _).mpr ⟨bot_le, fun e _ => h.ge e⟩
  · exact (Finset.le_fold_max _).mpr (Or.inr ⟨p, Finset.mem_univ p, le_rfl⟩)

/-- A word's signed value after a minimum. -/
theorem le_minsi (c x y : BitVec 32) : c.toInt ≤ (IntOp.minsi x y).toInt ↔ c.toInt ≤ x.toInt ∧ c.toInt ≤ y.toInt := by
  unfold IntOp.minsi
  split <;> rename_i h <;> simp [BitVec.sle_iff_toInt_le, BitVec.slt_iff_toInt_lt] at h <;> omega

/-- A lane's word, signed. -/
theorem toInt_lane (e : Fin 128) : (BitVec.ofNat 32 e.val).toInt = e.val := by
  revert e; decide

/-- The word of the lowest greatest lane is the best lane's. -/
theorem low_eq {f : Fin 128 → EReal} {p : Fin 128} (h : Best f p) : low f = BitVec.ofNat 32 p.val := by
  have key : ∀ c : BitVec 32, c.toInt ≤ (low f).toInt ↔ c.toInt ≤ (2147483647#32).toInt ∧ ∀ e ∈ (Finset.univ : Finset (Fin 128)),
      c.toInt ≤ (if f e = top f then BitVec.ofNat 32 e.val else 128#32 : BitVec 32).toInt := fun c =>
    Finset.fold_op_rel_iff_and (op := IntOp.minsi) (r := fun x y : BitVec 32 => x.toInt ≤ y.toInt) (fun {x y z} => le_minsi x y z)
  rw [← BitVec.toInt_inj]
  refine le_antisymm ?_ ?_
  · have := ((key (low f)).mp le_rfl).2 p (Finset.mem_univ p)
    rwa [if_pos (top_eq h).symm] at this
  · refine (key _).mpr ⟨?_, fun e _ => ?_⟩
    · rw [toInt_lane]; have := p.isLt; have : (2147483647#32).toInt = 2147483647 := by decide
      omega
    · split
      · rename_i he
        have := h.first e (he.trans (top_eq h))
        rw [toInt_lane, toInt_lane]; exact_mod_cast this
      · rw [toInt_lane]; have := p.isLt; have : (128#32).toInt = 128 := by decide
        omega

/-- What is left of a row once its best lane is taken. -/
theorem rest_eq {f : Fin 128 → EReal} {p : Fin 128} (h : Best f p) (e : Fin 128) : rest f e = if e = p then ⊥ else f e := by
  unfold rest
  rw [low_eq h]
  by_cases hep : e = p
  · rw [hep, if_pos rfl, if_pos rfl]
  · rw [if_neg hep, if_neg fun hh => hep ?_]
    have := congrArg BitVec.toInt hh
    rw [toInt_lane, toInt_lane] at this
    exact Fin.ext (by exact_mod_cast this)

/-- A stable sort of ascending positions asks its comparator only whether a later position is before an earlier one. -/
theorem stableSort_ascending {n : ℕ} (R R' : Fin n → Fin n → Bool) (h : ∀ a b, a < b → R b a = R' b a) (l : List (Fin n)) (hl : l.Pairwise (· < ·)) :
    stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The same of a sort's positions. -/
theorem sortedFrom_ascending {n : ℕ} (R R' : Fin n → Fin n → Bool) (h : ∀ a b, a < b → R b a = R' b a) : sortedFrom R = sortedFrom R' := by
  funext k
  have e : sortPositions n R = sortPositions n R' := stableSort_ascending R R' h _ (List.pairwise_lt_finRange n)
  unfold sortedFrom
  rw [List.get_of_eq e]
  rfl

/-- Greater values first. -/
def greater (g : Fin 32 → EReal) (k k' : Fin 32) : Bool := decide (g k' < g k)

/-- Greater values first, and of equal values the lower position. -/
def greaterLow (g : Fin 32 → EReal) (k k' : Fin 32) : Bool := decide (g k' < g k) || (decide (g k = g k') && decide (k < k'))

/-- A strict total order. -/
theorem strict (g : Fin 32 → EReal) : StrictTotalBefore (greaterLow g) :=
  StrictTotalBefore.of_key_then_position (fun a b : EReal => decide (b < a)) g (fun a => by simp)
    (fun a b c hab hbc => by simp only [decide_eq_true_eq] at *; exact lt_trans hbc hab)
    (fun a b => by simp only [decide_eq_true_eq]; rcases lt_trichotomy a b with h | h | h <;> tauto)

/-- The sort by value alone takes the positions of the sort that breaks ties. -/
theorem sorted_greater (g : Fin 32 → EReal) : sortedFrom (greater g) = sortedFrom (greaterLow g) :=
  sortedFrom_ascending _ _ fun a b hab => by
    unfold greater greaterLow
    simp [not_lt.mpr hab.le]

/-- A row of lanes whose first 32 are the values `g` and whose others are minus infinity. -/
structure Row (f : Fin 128 → EReal) (g : Fin 32 → EReal) : Prop where
  /-- the values -/
  val : ∀ k : Fin 32, f ⟨k.val, by omega⟩ = g k
  /-- above minus infinity -/
  above : ∀ k : Fin 32, ⊥ < g k
  /-- the other lanes -/
  out : ∀ e : Fin 128, 32 ≤ e.val → f e = ⊥

/-- The work after `n` rounds. -/
def work (f : Fin 128 → EReal) : ℕ → Fin 128 → EReal
  | 0 => f
  | n + 1 => rest (work f n)

/-- The lane of round `n`. -/
def lane (f : Fin 128 → EReal) (n : ℕ) : Fin 128 := (exists_best (work f n)).choose

/-- It is the best of the work before the round. -/
theorem lane_best (f : Fin 128 → EReal) (n : ℕ) : Best (work f n) (lane f n) := (exists_best (work f n)).choose_spec

/-- The work after `n` rounds: the lanes taken so far at minus infinity. -/
theorem work_eq (f : Fin 128 → EReal) (n : ℕ) (e : Fin 128) : work f n e = if ∃ i < n, lane f i = e then ⊥ else f e := by
  induction n with
  | zero => rw [if_neg (by simp)]; rfl
  | succ n ih =>
    show rest (work f n) e = _
    rw [rest_eq (lane_best f n), ih]
    by_cases h1 : e = lane f n
    · rw [if_pos h1, if_pos ⟨n, Nat.lt_succ_self n, h1.symm⟩]
    · rw [if_neg h1]
      have : (∃ i < n, lane f i = e) ↔ ∃ i < n + 1, lane f i = e :=
        ⟨fun ⟨i, hi, he⟩ => ⟨i, by omega, he⟩, fun ⟨i, hi, he⟩ => ⟨i, by
          rcases Nat.lt_succ_iff_lt_or_eq.mp hi with h | h
          · exact h
          · subst h; exact absurd he.symm h1, he⟩⟩
      simp only [this]

variable {f : Fin 128 → EReal} {g : Fin 32 → EReal}

/-- In the first four rounds some value is left. -/
theorem some_left (h : Row f g) (n : ℕ) (hn : n < 4) : ∃ k : Fin 32, ⊥ < work f n ⟨k.val, by omega⟩ := by
  by_contra hno
  push Not at hno
  have all : ∀ k : Fin 32, ∃ i : Fin n, lane f i.val = ⟨k.val, by omega⟩ := by
    intro k
    by_contra hk
    have hk' : ¬ ∃ i < n, lane f i = (⟨k.val, by omega⟩ : Fin 128) := fun ⟨i, hi, he⟩ => hk ⟨⟨i, hi⟩, he⟩
    have := hno k
    rw [work_eq, if_neg hk', h.val] at this
    exact absurd (h.above k) (not_lt.mpr this)
  choose s hs using all
  have inj : Function.Injective s := fun a b hab => by
    have := (hs a).symm.trans ((congrArg (fun i : Fin n => lane f i.val) hab).trans (hs b))
    exact Fin.ext (Fin.mk.inj_iff.mp this)
  have := Fintype.card_le_of_injective s inj
  simp at this
  omega

/-- So the round's lane is above minus infinity, not taken before, among the first 32. -/
theorem lane_above (h : Row f g) (n : ℕ) (hn : n < 4) : ⊥ < work f n (lane f n) := by
  obtain ⟨k, hk⟩ := some_left h n hn
  exact lt_of_lt_of_le hk ((lane_best f n).ge _)

theorem lane_new (h : Row f g) (n : ℕ) (hn : n < 4) (i : ℕ) (hi : i < n) : lane f i ≠ lane f n := fun e => by
  have := lane_above h n hn
  rw [work_eq, if_pos ⟨i, hi, e⟩] at this
  exact lt_irrefl _ this

theorem work_lane (h : Row f g) (n : ℕ) (hn : n < 4) : work f n (lane f n) = f (lane f n) := by
  rw [work_eq, if_neg fun ⟨i, hi, e⟩ => lane_new h n hn i hi e]

theorem lane_lt (h : Row f g) (n : ℕ) (hn : n < 4) : (lane f n).val < 32 := by
  by_contra hl
  have := lane_above h n hn
  rw [work_lane h n hn, h.out _ (by omega)] at this
  exact lt_irrefl _ this

/-- The round's position among the 32. -/
def pos (h : Row f g) (n : Fin 4) : Fin 32 := ⟨(lane f n.val).val, lane_lt h n.val n.isLt⟩

/-- A position is not before the round's one if no earlier round took it. -/
theorem not_before (h : Row f g) (n : Fin 4) (p : Fin 32) (hp : ∀ i : Fin 4, i < n → pos h i ≠ p) : greaterLow g p (pos h n) = false := by
  have hw : work f n.val ⟨p.val, by omega⟩ = g p := by
    rw [work_eq, if_neg, h.val]
    rintro ⟨i, hi, e⟩
    exact hp ⟨i, by omega⟩ hi (Fin.ext (show (lane f i).val = p.val from congrArg (fun z : Fin 128 => z.val) e))
  have hl : work f n.val (lane f n.val) = g (pos h n) := by
    rw [work_lane h n.val n.isLt]; exact h.val (pos h n)
  have hge := (lane_best f n.val).ge ⟨p.val, by omega⟩
  rw [hw, hl] at hge
  unfold greaterLow
  simp only [Bool.or_eq_false_iff, Bool.and_eq_false_iff, decide_eq_false_iff_not, not_lt]
  refine ⟨hge, ?_⟩
  by_cases he : g p = g (pos h n)
  · right
    exact (lane_best f n.val).first ⟨p.val, by omega⟩ (by rw [hw, hl, he])
  · exact Or.inl he

/-- THE FIRST FOUR OF THE SORT are the four rounds' lanes. -/
theorem sorted_eq (h : Row f g) (n : Fin 4) : sortedFrom (greater g) (n.castLE (by decide : 4 ≤ 32)) = pos h n := by
  have inj' : ∀ i j : Fin 4, i < j → pos h i ≠ pos h j := fun i j hij e =>
    lane_new h j.val j.isLt i.val hij (Fin.ext (show (lane f i.val).val = (lane f j.val).val from congrArg (fun z : Fin 32 => z.val) e))
  rw [sorted_greater]
  refine (strict g).sortedFrom_eq_of_prefix (by decide) (pos h) (fun i j e => ?_) (fun i j hij => ?_) (fun i p hp => ?_) n
  · rcases lt_trichotomy i j with hh | hh | hh
    · exact absurd e (inj' i j hh)
    · exact hh
    · exact absurd e.symm (inj' j i hh)
  · exact not_before h i (pos h j) fun l hl => inj' l j (lt_trans hl hij)
  · exact not_before h i p fun l _ => hp l

/-- What a round finds: the value and the word of the sort's position. -/
theorem top_round (h : Row f g) (n : Fin 4) : top (work f n.val) = g (sortedFrom (greater g) (n.castLE (by decide : 4 ≤ 32))) := by
  rw [sorted_eq h, top_eq (lane_best f n.val), work_lane h n.val n.isLt]
  exact h.val (pos h n)

theorem low_round (h : Row f g) (n : Fin 4) : low (work f n.val) = BitVec.ofNat 32 (sortedFrom (greater g) (n.castLE (by decide : 4 ≤ 32))).val := by
  rw [sorted_eq h, low_eq (lane_best f n.val)]
  rfl

/-- The first round's value is the greatest. -/
theorem first_ge (h : Row f g) (n : Fin 4) : g (sortedFrom (greater g) (n.castLE (by decide : 4 ≤ 32))) ≤ g (sortedFrom (greater g) ((0 : Fin 4).castLE (by decide : 4 ≤ 32))) := by
  rw [sorted_eq h, sorted_eq h, ← h.val (pos h n), ← h.val (pos h 0)]
  exact (lane_best f 0).ge _

end Cert.RouterTop

end
-- ==== Proof.RouterFinite.lean ====
/- WHAT THE PRECONDITION OF THE ROUTER SAYS: the rows, the gain, the weights and the bias are real numbers, and so are the logits. -/
module

public import proofs.«01_k».proof.Proof.Gen.Pre_finite_router
public import proofs.«01_k».proof.Proof.FoxFinite
public import proofs.«01_k».proof.Proof.FoxSum

@[expose] public section

set_option maxRecDepth 16384

noncomputable section

open Idealize.ShloMosaic Idealize.ShloMosaic.TcCoe

namespace Cert.Pre_finite_router.Top

open Cert.Pre_finite_router Cert.Pre_finite_router.Gen
open Cert.Pre_finite_scores.Fox (real_of_abs_lt and_one)

/-- The entries that the precondition is about are real numbers. -/
structure Finite (X : FVec Ideal S16384x2048 .f32) (G : FVec Ideal S1x2048 .f32) (W : FVec Ideal S2048x128 .f32) (B : FVec Ideal S1x128 .f32) : Prop where
  /-- the rows -/
  x : ∀ (R : Fin 16384) (C : Fin 2048), ∃ x : ℝ, X (ix2 R C) = (x : EReal)
  /-- the gain -/
  g : ∀ C : Fin 2048, ∃ x : ℝ, G (ix2 0 C) = (x : EReal)
  /-- the weights -/
  w : ∀ (R : Fin 2048) (C : Fin 32), ∃ x : ℝ, W (ix2 R ⟨C.val, by omega⟩) = (x : EReal)
  /-- the bias -/
  b : ∀ C : Fin 32, ∃ x : ℝ, B (ix2 0 ⟨C.val, by omega⟩) = (x : EReal)

/-- The result has one index. -/
instance : Subsingleton S_.Idx := ⟨fun a b => funext fun i => i.elim0⟩

/-- The precondition gives them. -/
theorem finite (X : FVec Ideal S16384x2048 .f32) (G : FVec Ideal S1x2048 .f32) (W : FVec Ideal S2048x128 .f32) (B : FVec Ideal S1x128 .f32)
    (h : fn (F := Ideal) X G W B = fun _ => 1#1) : Finite X G W B := by
  obtain ⟨h1, hb⟩ := and_one (congrFun h (Shape.Idx.first h_S_))
  obtain ⟨h2, hw⟩ := and_one h1
  obtain ⟨hx, hg⟩ := and_one h2
  constructor
  · intro R C; exact real_of_abs_lt _ (Host.reduce_andi_all _ _ _ _ _ hx (ix2 R C))
  · intro C; exact real_of_abs_lt _ (Host.reduce_andi_all _ _ _ _ _ hg (ix2 0 C))
  · intro R C
    obtain ⟨x, e⟩ := real_of_abs_lt _ (Host.reduce_andi_all _ _ _ _ _ hw (ix2 R C))
    refine ⟨x, Eq.trans ?_ e⟩
    pointwise []
  · intro C
    obtain ⟨x, e⟩ := real_of_abs_lt _ (Host.reduce_andi_all _ _ _ _ _ hb (ix2 0 C))
    refine ⟨x, Eq.trans ?_ e⟩
    pointwise []

/-- The word of 2048. -/
theorem w2048 : Ideal.ofBits .f32 1157627904#32 = ((2048 : ℝ) : EReal) := by
  simp [Ideal.ofBits, Ideal.ieee, -EReal.coe_mul]; norm_num

/-- The small number added to a mean of squares is positive. -/
theorem small : ∃ e : ℝ, 0 < e ∧ Ideal.ofBits .f32 925353388#32 = (e : EReal) := by
  refine ⟨(10995116 : ℝ) * 2 ^ (-40 : ℤ), by positivity, ?_⟩
  simp [Ideal.ofBits, Ideal.ieee, -EReal.coe_mul]

/-- A sum of products of real numbers. -/
theorem sum_products {ι : Type} (s : Finset ι) (a b : ι → ℝ) : ∑ x ∈ s, (a x : EReal) * (b x : EReal) = ((∑ x ∈ s, a x * b x : ℝ) : EReal) := by
  classical
  induction s using Finset.induction_on with
  | empty => simp
  | insert i s hi ih => rw [Finset.sum_insert hi, Finset.sum_insert hi, ih, EReal.coe_add, EReal.coe_mul]

/-- The reciprocal root of a mean of squares of real numbers, the small number added, is a real number. -/
theorem scale_real (a : Fin 2048 → ℝ) :
    ∃ q : ℝ, Ideal.rsqrt (Ideal.div (∑ x, (a x : EReal) * (a x : EReal)) (Ideal.ofBits .f32 1157627904#32) + Ideal.ofBits .f32 925353388#32) = (q : EReal) := by
  obtain ⟨e, he, hw⟩ := small
  have hs : 0 ≤ ∑ x, a x * a x := Finset.sum_nonneg fun x _ => mul_self_nonneg (a x)
  have hp : 0 < (∑ x, a x * a x) * (2048 : ℝ)⁻¹ + e := by positivity
  refine ⟨(Real.sqrt ((∑ x, a x * a x) * (2048 : ℝ)⁻¹ + e))⁻¹, ?_⟩
  have h1 : Ideal.div (∑ x, (a x : EReal) * (a x : EReal)) (Ideal.ofBits .f32 1157627904#32) + Ideal.ofBits .f32 925353388#32
      = (((∑ x, a x * a x) * (2048 : ℝ)⁻¹ + e : ℝ) : EReal) := by
    have hm : (∑ x, (a x : EReal) * (a x : EReal)) = ((∑ x, a x * a x : ℝ) : EReal) := sum_products Finset.univ a a
    rw [w2048, hw, Cert.FoxSum.div_of_ne (by rw [Ne, EReal.coe_eq_zero]; norm_num), ← EReal.coe_inv, hm, ← EReal.coe_mul, ← EReal.coe_add]
  rw [h1, Ideal.rsqrt_coe, if_neg (not_lt.mpr hp.le), if_neg hp.ne']

/-- A normalized element of real numbers is a real number. -/
theorem normed_real (a : Fin 2048 → ℝ) (g : ℝ) (x : Fin 2048) :
    ∃ q : ℝ, (a x : EReal) * Ideal.rsqrt (Ideal.div (∑ x, (a x : EReal) * (a x : EReal)) (Ideal.ofBits .f32 1157627904#32) + Ideal.ofBits .f32 925353388#32) * (g : EReal) = (q : EReal) := by
  obtain ⟨s, hs⟩ := scale_real a
  exact ⟨a x * s * g, by rw [hs]; push_cast; rfl⟩

/-- A product whose factors are each split in a leading part and a rest is the product itself, where the rests are the differences of real
    numbers from themselves. -/
theorem split_sum (u w : Fin 2048 → ℝ) :
    (∑ x, (u x : EReal) * (w x : EReal)) + ((∑ x, (u x : EReal) * ((w x : EReal) - (w x : EReal))) + ∑ x, ((u x : EReal) - (u x : EReal)) * (w x : EReal))
      = ∑ x, (u x : EReal) * (w x : EReal) := by
  have z : ∀ r : ℝ, (r : EReal) - (r : EReal) = 0 := fun r => by rw [← EReal.coe_sub, sub_self, EReal.coe_zero]
  simp only [z, mul_zero, zero_mul, Finset.sum_const_zero, add_zero]

end Cert.Pre_finite_router.Top

end
-- ==== Proof.RouterRef.lean ====
/- THE ROUTER'S REFERENCE, element by element: the logits, the four greatest of a row, and the softmax of the four. -/
module

public import proofs.«01_k».proof.Proof.Gen.RefRouterIdeal.Run
public import proofs.«01_k».proof.Proof.RouterTop
public import proofs.«01_k».proof.Proof.RouterFinite

@[expose] public section

set_option maxRecDepth 16384

noncomputable section

open Idealize.ShloMosaic Idealize.ShloMosaic.TcCoe Idealize.SL.Sem

namespace Cert.RefRouterIdeal.Top

open Cert.RefRouterIdeal Cert.RefRouterIdeal.Gen Cert.RouterTop
open Cert.Pre_finite_router.Top (Finite normed_real)

/-- The logits: the normalized rows times the weights, the bias added. -/
def LOGITS (X : FVec Ideal S16384x2048 .f32) (G : FVec Ideal S1x2048 .f32) (W : FVec Ideal S2048x128 .f32) (B : FVec Ideal S1x128 .f32) : FVec Ideal S16384x32 .f32 :=
  addf (Host.dotGeneral dot_S16384x2048_S2048x32_S16384x32_1_0_0_1_n_n none (mulf (mulf X (broadcastInDim S16384x2048 ![0, 1] bcast_S16384x1_S16384x2048_0_1 (Host.rsqrt (addf (Host.divf (broadcastInDim S16384x1 ![0] bcast_S16384_S16384x1_0 (Host.reduceAdd (mulf X X) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32)))))) (broadcastInDim S16384x2048 ![0, 1] bcast_S1x2048_S16384x2048_0_1 (broadcastInDim S1x2048 ![1] bcast_S2048_S1x2048_1 (shapeCast _ G shapeCasts_S1x2048_S2048)))) (extractStridedSlice S2048x32 ![0, 0] W slices_S2048x128_S2048x32_0_0)) (broadcastInDim S16384x32 ![0, 1] bcast_S1x32_S16384x32_0_1 (broadcastInDim S1x32 ![1] bcast_S32_S1x32_1 (shapeCast _ (extractStridedSlice S1x32 ![0, 0] B slices_S1x128_S1x32_0_0) shapeCasts_S1x32_S32)))

/-- The four greatest of every row, with their positions. -/
def FOUR (L : FVec Ideal S16384x32 .f32) : FVec Ideal S16384x4 .f32 × IVec S16384x4 32 :=
  Host.topK S16384x4 1 (FloatOps.cmpfTotal .gt) L sliceFits_S16384x32_S16384x4

/-- The reference's choices. -/
def CHOICES (L : FVec Ideal S16384x32 .f32) : IVec S16384x128 32 :=
  pad S16384x128 ![0, 0] ![0, 124] ![0, 0] (FOUR L).2 (id (constantI S_ 32 0#32)) pads_S16384x4_S16384x128_000_01240 h_S_

/-- The softmax of rows of four, in the first four of 128 columns. -/
def SOFT (T : FVec Ideal S16384x4 .f32) : FVec Ideal S16384x128 .f32 :=
  pad S16384x128 ![0, 0] ![0, 124] ![0, 0] (Host.divf (Host.exp (subf T (broadcastInDim S16384x4 ![0, 1] bcast_S16384x1_S16384x4_0_1 (broadcastInDim S16384x1 ![0] bcast_S16384_S16384x1_0 (maximumf (broadcastInDim S16384 ![] bcast_S_S16384 (constant S_ .f32 0xFF800000#32)) (Host.reduce FloatOps.maximumf T (constant S_ .f32 0xFF800000#32) reducesTo_S16384x4_S16384_d1 h_S_)))))) (broadcastInDim S16384x4 ![0, 1] bcast_S16384x1_S16384x4_0_1 (broadcastInDim S16384x1 ![0] bcast_S16384_S16384x1_0 (Host.reduceAdd (Host.exp (subf T (broadcastInDim S16384x4 ![0, 1] bcast_S16384x1_S16384x4_0_1 (broadcastInDim S16384x1 ![0] bcast_S16384_S16384x1_0 (maximumf (broadcastInDim S16384 ![] bcast_S_S16384 (constant S_ .f32 0xFF800000#32)) (Host.reduce FloatOps.maximumf T (constant S_ .f32 0xFF800000#32) reducesTo_S16384x4_S16384_d1 h_S_)))))) (constant S_ .f32 0x00000000#32) reducesTo_S16384x4_S16384_d1 h_S_)))) (sitofp .f32 (constantI S_ 32 0#32)) pads_S16384x4_S16384x128_000_01240 h_S_

/-- The reference's gates. -/
def GATES (L : FVec Ideal S16384x32 .f32) : FVec Ideal S16384x128 .f32 := SOFT (FOUR L).1

/-- The position of the `n`-th greatest of a row. -/
def place (L : FVec Ideal S16384x32 .f32) (r : Fin 16384) (n : Fin 4) : Fin 32 :=
  sortedFrom (greater fun k => L (ix2 r k)) (n.castLE (by decide : 4 ≤ 32))

/-- The sort's comparator along a row. -/
theorem before_eq (L : FVec Ideal S16384x32 .f32) (r : Fin 16384) (z : Fin 32) (y : IVec S16384x32 32) :
    (fun k k' : Fin 32 => (fun l r : EReal × BitVec 32 => FloatOps.cmpfTotal (F := Ideal) (φ := .f32) CmpDirection.gt l.1 r.1)
      (L ((ix2 r z : S16384x32.Idx).along 1 k), y ((ix2 r z : S16384x32.Idx).along 1 k))
      (L ((ix2 r z : S16384x32.Idx).along 1 k'), y ((ix2 r z : S16384x32.Idx).along 1 k')) == 1#1) = greater fun k => L (ix2 r k) := by
  have ha : ∀ k : Fin 32, (ix2 r z : S16384x32.Idx).along 1 k = ix2 r k := fun k => by
    funext a; fin_cases a <;> rfl
  funext k k'
  simp only [ha]
  show (Ideal.cmp .ogt (L (ix2 r k)) (L (ix2 r k')) == 1#1) = decide (L (ix2 r k') < L (ix2 r k))
  unfold Ideal.cmp
  by_cases h : L (ix2 r k') < L (ix2 r k) <;> simp [h]

/-- A row sorted by its values, with a companion carried along. -/
theorem sort_apply (L : FVec Ideal S16384x32 .f32) (y : IVec S16384x32 32) (r : Fin 16384) (z : Fin 32) :
    (Host.sort2 S16384x32 1 (fun l r : EReal × BitVec 32 => FloatOps.cmpfTotal (F := Ideal) (φ := .f32) CmpDirection.gt l.1 r.1) L y).1 (ix2 r z) = L (ix2 r (sortedFrom (greater fun k => L (ix2 r k)) z))
    ∧ (Host.sort2 S16384x32 1 (fun l r : EReal × BitVec 32 => FloatOps.cmpfTotal (F := Ideal) (φ := .f32) CmpDirection.gt l.1 r.1) L y).2 (ix2 r z) = y (ix2 r (sortedFrom (greater fun k => L (ix2 r k)) z)) := by
  have ha : ∀ z k : Fin 32, (ix2 r z : S16384x32.Idx).along 1 k = ix2 r k := fun z k => by
    funext a; fin_cases a <;> rfl
  have hs := congrFun (congrArg sortedFrom (before_eq L r z y)) z
  rw [Host.sort2, dif_pos (by decide)]
  exact ⟨congrArg L ((ha _ _).trans (congrArg (fun k : Fin 32 => (ix2 r k : S16384x32.Idx)) hs)),
    congrArg y ((ha _ _).trans (congrArg (fun k : Fin 32 => (ix2 r k : S16384x32.Idx)) hs))⟩

/-- The values and the positions of the four greatest. -/
theorem four_apply (L : FVec Ideal S16384x32 .f32) (r : Fin 16384) (n : Fin 4) :
    (FOUR L).1 (ix2 r n) = L (ix2 r (place L r n)) ∧ (FOUR L).2 (ix2 r n) = BitVec.ofNat 32 (place L r n).val := by
  constructor
  · unfold FOUR Host.topK
    pointwise []
    exact (sort_apply L _ r _).1
  · unfold FOUR Host.topK
    pointwise []
    exact (sort_apply L _ r _).2

/-- A choice of the reference. -/
theorem choices_apply (L : FVec Ideal S16384x32 .f32) (r : Fin 16384) (e : Fin 128) :
    CHOICES L (ix2 r e) = if h : e.val < 4 then BitVec.ofNat 32 (place L r ⟨e.val, h⟩).val else 0#32 := by
  unfold CHOICES
  generalize hT : (FOUR L).2 = T
  pointwise []
  split
  · rename_i h
    rw [← hT]; exact (four_apply L r ⟨e.val, h⟩).2
  · rfl

/-- The word of minus infinity. -/
theorem bot_f32 : Ideal.ofBits .f32 4286578688#32 = ⊥ := by
  simp [Ideal.ofBits, Ideal.ieee]

/-- The greatest of four values, the first of which is the greatest. -/
theorem fold_four (T : Fin 4 → EReal) (h : ∀ n, T n ≤ T 0) : Finset.fold max ⊥ T Finset.univ = T 0 :=
  le_antisymm ((Finset.fold_max_le _).mpr ⟨bot_le, fun n _ => h n⟩) ((Finset.le_fold_max _).mpr (Or.inr ⟨0, Finset.mem_univ 0, le_rfl⟩))

/-- A gate of the reference, where the first of a row's four is the greatest. -/
theorem gates_apply (L : FVec Ideal S16384x32 .f32) (r : Fin 16384) (e : Fin 128) (hge : ∀ n : Fin 4, L (ix2 r (place L r n)) ≤ L (ix2 r (place L r 0))) :
    GATES L (ix2 r e) = if h : e.val < 4 then
      Ideal.div (Ideal.exp (L (ix2 r (place L r ⟨e.val, h⟩)) - L (ix2 r (place L r 0)))) (∑ n : Fin 4, Ideal.exp (L (ix2 r (place L r n)) - L (ix2 r (place L r 0))))
      else 0 := by
  have hT : ∀ n : Fin 4, (FOUR L).1 (ix2 r n) = L (ix2 r (place L r n)) := fun n => (four_apply L r n).1
  unfold GATES SOFT
  generalize (FOUR L).1 = T at hT
  pointwise []
  simp only [bot_f32, hT]
  rw [fold_four (fun n => L (ix2 r (place L r n))) hge, max_eq_right bot_le]
  split
  · rfl
  · show (((0#32 : BitVec 32).toInt : ℝ) : EReal) = 0
    simp

/-- An element of the logits. -/
theorem logits_apply (X : FVec Ideal S16384x2048 .f32) (G : FVec Ideal S1x2048 .f32) (W : FVec Ideal S2048x128 .f32) (B : FVec Ideal S1x128 .f32) (r : Fin 16384) (e : Fin 32) :
    LOGITS X G W B (ix2 r e) = (∑ x, X (ix2 r x) * Ideal.rsqrt (Ideal.div (∑ x, X (ix2 r x) * X (ix2 r x)) (Ideal.ofBits .f32 1157627904#32) + Ideal.ofBits .f32 925353388#32)
      * G (ix2 0 x) * W (ix2 x ⟨e.val, by omega⟩)) + B (ix2 0 ⟨e.val, by omega⟩) := by
  unfold LOGITS
  pointwise []

end Cert.RefRouterIdeal.Top

end
-- ==== Proof.RouterValue.lean ====
/- THE ROUTER, block against array: every point computes its rows' logits and takes, four times, the lowest lane with the greatest one. -/
module

public import proofs.«01_k».proof.Proof.Gen.RouterIdeal.Frame
public import proofs.«01_k».proof.Proof.RouterRef

@[expose] public section

set_option maxRecDepth 16384

noncomputable section

open Idealize.ShloMosaic Idealize.ShloMosaic.TcCoe Idealize.SL.Sem
open Idealize.ShloMosaic.Pipeline (Dat)

namespace Cert.RouterIdeal.Top

open Cert.RouterIdeal Cert.RouterIdeal.Gen Cert.RouterTop
open Cert.Pre_finite_router.Top (Finite normed_real split_sum sum_products)
open Cert.RefRouterIdeal.Top (LOGITS CHOICES GATES place bot_f32 logits_apply choices_apply gates_apply)

/-- The lanes' numbers. -/
abbrev lanes : IVec S512x128 32 := iota .tc S512x128 32 [1] iota_S512x128_d1_w32

/-- A row of a block. -/
def row (f : FVec Ideal S512x128 .f32) (r : Fin 512) : Fin 128 → EReal := fun e => f (ix2 r e)

/-- A round's greatest value. -/
theorem top_apply (f : FVec Ideal S512x128 .f32) (r : Fin 512) (y : Fin 1) : k0_pay6 f (ix2 r y) = top (row f r) := by
  pointwise [k0_pay6]
  simp only [bot_f32]
  rfl

/-- A round's lane. -/
theorem low_apply (f : FVec Ideal S512x128 .f32) (r : Fin 512) (y : Fin 1) : k0_pay7 lanes f (ix2 r y) = low (row f r) := by
  pointwise [k0_pay6, k0_pay7, lanes]
  simp only [bot_f32]
  rfl

/-- A choice on two words' equality. -/
theorem select_eq {α : Type} (x y : BitVec 32) (a b : α) : Scalar.select (IntOp.cmpi .eq x y) a b = if x = y then a else b := by
  by_cases h : x = y
  · rw [if_pos h, h]; simp [Scalar.select, IntOp.cmpi]
  · have hb : (x == y) = false := beq_eq_false_iff_ne.mpr h
    rw [if_neg h]; simp [Scalar.select, IntOp.cmpi, hb]

/-- A choice on the lane's number. -/
theorem select_lane {α : Type} (e : Fin 128) (k : Fin 4) (a b : α) :
    Scalar.select (IntOp.cmpi .eq (BitVec.ofNat 32 e.val) (BitVec.ofNat 32 k.val)) a b = if e.val = k.val then a else b := by
  have h : (BitVec.ofNat 32 e.val = BitVec.ofNat 32 k.val) ↔ e.val = k.val := by revert e k; decide
  rw [select_eq]
  simp only [h]

/-- The four choices on the lane's number. -/
theorem select_four {α : Type} (e : Fin 128) (a b c d z : α) :
    Scalar.select (IntOp.cmpi .eq (BitVec.ofNat 32 e.val) 3#32) d (Scalar.select (IntOp.cmpi .eq (BitVec.ofNat 32 e.val) 2#32) c
      (Scalar.select (IntOp.cmpi .eq (BitVec.ofNat 32 e.val) 1#32) b (Scalar.select (IntOp.cmpi .eq (BitVec.ofNat 32 e.val) 0#32) a z)))
      = if e.val = 3 then d else if e.val = 2 then c else if e.val = 1 then b else if e.val = 0 then a else z := by
  refine (select_lane e 3 _ _).trans (congrArg _ ((select_lane e 2 _ _).trans (congrArg _ ((select_lane e 1 _ _).trans (congrArg _ (select_lane e 0 _ _))))))

/-- What a round leaves. -/
theorem rest_apply (f : FVec Ideal S512x128 .f32) (r : Fin 512) : row (k0_pay8 lanes f) r = rest (row f r) := by
  funext e
  have hl := low_apply f r 0
  show k0_pay8 lanes f (ix2 r e) = _
  pointwise [k0_pay8, lanes]
  rw [show k0_pay7 (iota .tc S512x128 32 [1] iota_S512x128_d1_w32) f (ix2 r 0) = low (row f r) from hl, bot_f32]
  unfold rest
  rw [select_eq]
  rfl

/-- The block after `n` rounds. -/
def left (f : FVec Ideal S512x128 .f32) : ℕ → FVec Ideal S512x128 .f32
  | 0 => f
  | n + 1 => k0_pay8 lanes (left f n)

/-- Before the first round. -/
theorem left_zero (f : FVec Ideal S512x128 .f32) : left f 0 = f := rfl

/-- Its rows. -/
theorem left_row (f : FVec Ideal S512x128 .f32) (r : Fin 512) (n : ℕ) : row (left f n) r = work (row f r) n := by
  induction n with
  | zero => rfl
  | succ n ih => show row (k0_pay8 lanes (left f n)) r = rest (work (row f r) n); rw [rest_apply, ih]

/-- The choices of a block of logits. -/
def choices (f : FVec Ideal S512x128 .f32) : IVec S512x128 32 :=
  k0_pay1 lanes (k0_pay7 lanes (left f 3)) (k0_pay24 lanes (k0_pay7 lanes (left f 0)) (k0_pay7 lanes (left f 1)) (k0_pay7 lanes (left f 2)))

/-- The gates of a block of logits. -/
def gates (f : FVec Ideal S512x128 .f32) : FVec Ideal S512x128 .f32 :=
  k0_pay2 lanes (k0_pay19 (k0_pay6 (left f 0)) (k0_pay6 (left f 2))) (k0_pay20 (k0_pay6 (left f 0)) (k0_pay6 (left f 3)))
    (k0_pay21 (k0_pay6 (left f 0)) (k0_pay6 (left f 1)) (k0_pay6 (left f 2)) (k0_pay6 (left f 3)) (k0_pay17 f))
    (k0_pay22 lanes (k0_pay6 (left f 0)) (k0_pay6 (left f 1)) (k0_pay6 (left f 2)) (k0_pay6 (left f 3)) (k0_pay17 f)) (k0_pay25 lanes)

/-- Four cases and a rest. -/
theorem four {α : Type} (u : Fin 4 → α) (z : α) (e : Fin 128) :
    (if e.val = 3 then u 3 else if e.val = 2 then u 2 else if e.val = 1 then u 1 else if e.val = 0 then u 0 else z)
      = if h : e.val < 4 then u ⟨e.val, h⟩ else z := by
  by_cases h : e.val < 4
  · obtain ⟨e, he⟩ := e
    rw [dif_pos h]
    have h' : e < 4 := h
    interval_cases e <;> rfl
  · rw [dif_neg h, if_neg (by omega), if_neg (by omega), if_neg (by omega), if_neg (by omega)]

variable {f : FVec Ideal S512x128 .f32} {r : Fin 512} {L : FVec Ideal Cert.RefRouterIdeal.S16384x32 .f32} {R : Fin 16384}

/-- The choices of a row. -/
theorem choices_eq (h : Row (row f r) fun k => L (ix2 R k)) (e : Fin 128) : choices f (ix2 r e) = CHOICES L (ix2 R e) := by
  have hl : ∀ n : Fin 4, k0_pay7 lanes (left f n.val) (ix2 r 0) = BitVec.ofNat 32 (place L R n).val := fun n => by
    rw [low_apply, left_row, low_round h n]; rfl
  have h0 : k0_pay7 lanes (left f 0) (ix2 r 0) = BitVec.ofNat 32 (place L R 0).val := hl 0
  have h1 : k0_pay7 lanes (left f 1) (ix2 r 0) = BitVec.ofNat 32 (place L R 1).val := hl 1
  have h2 : k0_pay7 lanes (left f 2) (ix2 r 0) = BitVec.ofNat 32 (place L R 2).val := hl 2
  have h3 : k0_pay7 lanes (left f 3) (ix2 r 0) = BitVec.ofNat 32 (place L R 3).val := hl 3
  rw [choices_apply, ← four (fun n => BitVec.ofNat 32 (place L R n).val) 0#32 e]
  unfold choices
  generalize k0_pay7 lanes (left f 0) = v0 at h0 ⊢
  generalize k0_pay7 lanes (left f 1) = v1 at h1 ⊢
  generalize k0_pay7 lanes (left f 2) = v2 at h2 ⊢
  generalize k0_pay7 lanes (left f 3) = v3 at h3 ⊢
  pointwise [k0_pay1, k0_pay24, lanes]
  rw [select_four, h0, h1, h2, h3]

/-- The gates of a row. -/
theorem gates_eq (h : Row (row f r) fun k => L (ix2 R k)) (e : Fin 128) : gates f (ix2 r e) = GATES L (ix2 R e) := by
  have ht : ∀ n : Fin 4, k0_pay6 (left f n.val) (ix2 r 0) = L (ix2 R (place L R n)) := fun n => by
    rw [top_apply, left_row, top_round h n]; rfl
  have h0 : k0_pay6 (left f 0) (ix2 r 0) = L (ix2 R (place L R 0)) := ht 0
  have h1 : k0_pay6 (left f 1) (ix2 r 0) = L (ix2 R (place L R 1)) := ht 1
  have h2 : k0_pay6 (left f 2) (ix2 r 0) = L (ix2 R (place L R 2)) := ht 2
  have h3 : k0_pay6 (left f 3) (ix2 r 0) = L (ix2 R (place L R 3)) := ht 3
  have hx : k0_pay17 f = exp (subf (k0_pay6 (left f 0)) (k0_pay6 (left f 0))) := by
    rw [left_zero, k0_pay17]
  have hge : ∀ n : Fin 4, L (ix2 R (place L R n)) ≤ L (ix2 R (place L R 0)) := fun n => by
    unfold place; exact first_ge h n
  rw [gates_apply L R e hge, ← four (fun n => Ideal.div (Ideal.exp (L (ix2 R (place L R n)) - L (ix2 R (place L R 0)))) (∑ n : Fin 4, Ideal.exp (L (ix2 R (place L R n)) - L (ix2 R (place L R 0))))) 0 e,
    Fin.sum_univ_four]
  unfold gates
  rw [hx]
  generalize k0_pay6 (left f 0) = v0 at h0 ⊢
  generalize k0_pay6 (left f 1) = v1 at h1 ⊢
  generalize k0_pay6 (left f 2) = v2 at h2 ⊢
  generalize k0_pay6 (left f 3) = v3 at h3 ⊢
  pointwise [k0_pay2, k0_pay18, k0_pay19, k0_pay20, k0_pay21, k0_pay22, k0_pay25, lanes]
  rw [select_four]
  simp only [h0, h1, h2, h3]

/-- A choice on the lane's being one of the first 32. -/
theorem select_below {α : Type} (e : Fin 128) (a b : α) : Scalar.select (IntOp.cmpi .slt (BitVec.ofNat 32 e.val) 32#32) a b = if e.val < 32 then a else b := by
  have h : IntOp.cmpi .slt (BitVec.ofNat 32 e.val) 32#32 = BitVec.ofBool (decide (e.val < 32)) := by revert e; decide
  rw [h]
  by_cases hk : e.val < 32 <;> simp [Scalar.select, hk]

/-- A row of a block of logits, where the block's rows are the array's and the arrays are of real numbers. -/
theorem row_block (a : FVec Ideal S512x2048 .f32) (g : FVec Ideal S1x2048 .f32) (w : FVec Ideal S2048x128 .f32) (b : FVec Ideal S1x128 .f32)
    (X : FVec Ideal S16384x2048 .f32) (G : FVec Ideal S1x2048 .f32) (W : FVec Ideal S2048x128 .f32) (B : FVec Ideal S1x128 .f32) (r : Fin 512) (R : Fin 16384)
    (e0 : ∀ x : Fin 2048, a (ix2 r x) = X (ix2 R x)) (e1 : ∀ x : Fin 2048, g (ix2 0 x) = G (ix2 0 x))
    (e2 : ∀ (x : Fin 2048) (e : Fin 128), w (ix2 x e) = W (ix2 x e)) (e3 : ∀ e : Fin 128, b (ix2 0 e) = B (ix2 0 e)) (fin : Finite X G W B) :
    Row (row (k0_pay5 (F := Ideal) a g w b) r) fun k => LOGITS X G W B (ix2 R k) := by
  choose xa ha using fin.x R
  choose xg hg using fin.g
  choose xw hw using fin.w
  choose xb hb using fin.b
  choose u hu using fun x : Fin 2048 => normed_real xa (xg x) x
  have hL : ∀ k : Fin 32, LOGITS X G W B (ix2 R k) = (∑ x, (u x : EReal) * (xw x k : EReal)) + (xb k : EReal) := fun k => by
    rw [logits_apply]
    simp only [ha, hg, hw, hb, hu]
  constructor
  · intro k
    show k0_pay5 (F := Ideal) a g w b (ix2 r ⟨k.val, _⟩) = _
    rw [hL]
    pointwise [k0_pay5]
    simp only [e0, e1, e2, e3, ha, hg, hw, hb, hu]
    rw [split_sum]
    exact (select_below ⟨k.val, by omega⟩ _ _).trans (if_pos k.isLt)
  · intro k
    rw [hL, sum_products, ← EReal.coe_add]
    exact EReal.bot_lt_coe _
  · intro e he
    show k0_pay5 (F := Ideal) a g w b (ix2 r e) = _
    pointwise [k0_pay5]
    rw [select_below, if_neg (by omega), bot_f32]

variable (m : (ℓ : Loc nD τ sig) → Buf (Elt Ideal) ℓ)

/-- Where every window's block sits. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] :=
  (by decide +kernel : ∀ t : Fin grid0.N, _)

/-- A point's logits. -/
def logits (c : Dev nD) (t : Fin cfg0.N) : FVec Ideal S512x128 .f32 := k0_pay5 (F := Ideal) (iblk m c 0 t) (iblk m c 1 t) (iblk m c 2 t) (iblk m c 3 t)

/-- What a point leaves of the choices. -/
theorem left_choices (c : Dev nD) (t : Fin cfg0.N) : (outsAt0 m c t.val t.isLt).1 = choices (logits m c t) := by
  by_cases h : t.val % 32 = 0
  · rw [outsAt0_A m c t h]; frame_out; rfl
  · rw [outsAt0_B m c t h]; frame_out; rfl

/-- What a point leaves of the gates. -/
theorem left_gates (c : Dev nD) (t : Fin cfg0.N) : (outsAt0 m c t.val t.isLt).2.1 = gates (logits m c t) := by
  by_cases h : t.val % 32 = 0
  · rw [outsAt0_A m c t h]; frame_out; rfl
  · rw [outsAt0_B m c t h]; frame_out; rfl

/-- A row of a point's block of logits, where the arrays are of real numbers. -/
theorem row_logits (c : Dev nD) (t : Fin cfg0.N) (r : Fin 512) (R : Fin 16384) (hR : R.val = t.val * 512 + r.val)
    (fin : Finite (m ((c : Thread nD τ).loc main_arg0)) (m ((c : Thread nD τ).loc main_arg1)) (m ((c : Thread nD τ).loc main_arg2)) (m ((c : Thread nD τ).loc main_arg3))) :
    Row (row (logits m c t) r) fun k => LOGITS (m ((c : Thread nD τ).loc main_arg0)) (m ((c : Thread nD τ).loc main_arg1)) (m ((c : Thread nD τ).loc main_arg2)) (m ((c : Thread nD τ).loc main_arg3)) (ix2 R k) := by
  have e0 : ∀ x : Fin 2048, iblk m c 0 t (ix2 r x) = m ((c : Thread nD τ).loc main_arg0) (ix2 R x) := fun x => by
    blk_point [iblk, V, idx t]
  have e1 : ∀ x : Fin 2048, iblk m c 1 t (ix2 0 x) = m ((c : Thread nD τ).loc main_arg1) (ix2 0 x) := fun x => by
    blk_point [iblk, V, idx t]
  have e2 : ∀ (x : Fin 2048) (e : Fin 128), iblk m c 2 t (ix2 x e) = m ((c : Thread nD τ).loc main_arg2) (ix2 x e) := fun x e => by
    blk_point [iblk, V, idx t]
  have e3 : ∀ e : Fin 128, iblk m c 3 t (ix2 0 e) = m ((c : Thread nD τ).loc main_arg3) (ix2 0 e) := fun e => by
    blk_point [iblk, V, idx t]
  exact row_block _ _ _ _ _ _ _ _ r R e0 e1 e2 e3 fin

/-- The array's row of a block's row. -/
def rowOf (t : Fin cfg0.N) (r : Fin 512) : Fin 16384 := ⟨t.val * 512 + r.val, by
  have h : t.val < 32 := lt_of_lt_of_eq t.isLt N_0
  omega⟩

/-- Where a point's block of choices sits. -/
theorem emb4 (t : Fin cfg0.N) (r : Fin 512) (e : Fin 128) : ((cfg0.win 4).blk t).view.emb (ix2 r e) = ix2 (rowOf t r) e := by
  blk_point [idx t, rowOf]

/-- Where a point's block of gates sits. -/
theorem emb5 (t : Fin cfg0.N) (r : Fin 512) (e : Fin 128) : ((cfg0.win 5).blk t).view.emb (ix2 r e) = ix2 (rowOf t r) e := by
  blk_point [idx t, rowOf]

/-- A choice of a point. -/
theorem point_choices (c : Dev nD) (t : Fin cfg0.N) (y : S512x128.Idx) (fin : Finite (m ((c : Thread nD τ).loc main_arg0)) (m ((c : Thread nD τ).loc main_arg1)) (m ((c : Thread nD τ).loc main_arg2)) (m ((c : Thread nD τ).loc main_arg3))) :
    choices (logits m c t) y = CHOICES (LOGITS (m ((c : Thread nD τ).loc main_arg0)) (m ((c : Thread nD τ).loc main_arg1)) (m ((c : Thread nD τ).loc main_arg2)) (m ((c : Thread nD τ).loc main_arg3))) (((cfg0.win 4).blk t).view.emb y) := by
  obtain ⟨r, e, rfl⟩ : ∃ (r : Fin 512) (e : Fin 128), y = ix2 r e := ⟨y 0, y 1, by funext a; fin_cases a <;> rfl⟩
  rw [emb4]
  exact choices_eq (row_logits m c t r (rowOf t r) rfl fin) e

/-- A gate of a point. -/
theorem point_gates (c : Dev nD) (t : Fin cfg0.N) (y : S512x128.Idx) (fin : Finite (m ((c : Thread nD τ).loc main_arg0)) (m ((c : Thread nD τ).loc main_arg1)) (m ((c : Thread nD τ).loc main_arg2)) (m ((c : Thread nD τ).loc main_arg3))) :
    gates (logits m c t) y = GATES (LOGITS (m ((c : Thread nD τ).loc main_arg0)) (m ((c : Thread nD τ).loc main_arg1)) (m ((c : Thread nD τ).loc main_arg2)) (m ((c : Thread nD τ).loc main_arg3))) (((cfg0.win 5).blk t).view.emb y) := by
  obtain ⟨r, e, rfl⟩ : ∃ (r : Fin 512) (e : Fin 128), y = ix2 r e := ⟨y 0, y 1, by funext a; fin_cases a <;> rfl⟩
  rw [emb5]
  exact gates_eq (row_logits m c t r (rowOf t r) rfl fin) e

/-- The choices' array after the run. -/
theorem final_choices (c : Dev nD) (fin : Finite (m ((c : Thread nD τ).loc main_arg0)) (m ((c : Thread nD τ).loc main_arg1)) (m ((c : Thread nD τ).loc main_arg2)) (m ((c : Thread nD τ).loc main_arg3))) :
    (dats m 0 c).arrAt 4 (cfgs 0).N
      = CHOICES (LOGITS (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t _ y => ?_
  blk_simp
  rw [after0_4, left_choices]
  exact point_choices m c t y fin

/-- The gates' array after the run. -/
theorem final_gates (c : Dev nD) (fin : Finite (m ((c : Thread nD τ).loc main_arg0)) (m ((c : Thread nD τ).loc main_arg1)) (m ((c : Thread nD τ).loc main_arg2)) (m ((c : Thread nD τ).loc main_arg3))) :
    (dats m 0 c).arrAt 5 (cfgs 0).N
      = GATES (LOGITS (m ((c : Thread nD τ).loc main_arg0)) (m ((c : Thread nD τ).loc main_arg1)) (m ((c : Thread nD τ).loc main_arg2)) (m ((c : Thread nD τ).loc main_arg3))) := by
  refine (dats m 0 c).arrAt_eq_of_covers 5 _ (by decide +kernel) fun t _ y => ?_
  blk_simp
  rw [after0_5, left_gates]
  exact point_gates m c t y fin

end Cert.RouterIdeal.Top

end
-- ==== Proof.RouterCounts.lean ====
/- THE ROUTER'S COUNTS: the rows' hits, summed point by point, against the sum over all rows. -/
module

public import proofs.«01_k».proof.Proof.RouterValue

@[expose] public section

set_option maxRecDepth 16384

noncomputable section

open Idealize.ShloMosaic Idealize.ShloMosaic.TcCoe Idealize.SL.Sem
open Idealize.ShloMosaic.Pipeline (Dat)

namespace Cert.RefRouterIdeal.Top

open Cert.RefRouterIdeal Cert.RefRouterIdeal.Gen Cert.RouterTop

/-- The reference's counts, of all rows' choices. -/
def COUNTS (I : IVec S16384x4 32) : FVec Ideal S8x128 .f32 :=
  broadcastInDim S8x128 ![0, 1] bcast_S1x128_S8x128_0_1 (broadcastInDim S1x128 ![1] bcast_S128_S1x128_1 (Host.reduceAdd (Host.reduceAdd
    (uitofp .f32 (cmpi .eq (broadcastInDim S16384x4x128 ![0, 1, 2] bcast_S16384x4x1_S16384x4x128_0_1_2 (broadcastInDim S16384x4x1 ![0, 1] bcast_S16384x4_S16384x4x1_0_1 I))
      (broadcastInDim S16384x4x128 ![0, 1, 2] bcast_S1x1x128_S16384x4x128_0_1_2 (broadcastInDim S1x1x128 ![2] bcast_S128_S1x1x128_2 (iotaInDim S128 32 0)))))
    (constant S_ .f32 0x00000000#32) reducesTo_S16384x4x128_S16384x128_d1 h_S_) (constant S_ .f32 0x00000000#32) reducesTo_S16384x128_S128_d0 h_S_))

/-- One where an expert is the lane's, else zero. -/
def hit (k : BitVec 32) (e : Fin 128) : EReal := if BitVec.ofNat 32 e.val = k then 1 else 0

/-- A hit as the reference writes it. -/
theorem hit_unsigned (k : BitVec 32) (e : Fin 128) : FloatOps.uitofp (F := Ideal) .f32 (IntOp.cmpi .eq k (BitVec.ofNat 32 e.val)) = hit k e := by
  unfold hit
  by_cases h : k = BitVec.ofNat 32 e.val
  · rw [if_pos h.symm, ← h]
    show (((IntOp.cmpi .eq k k).toNat : ℝ) : EReal) = 1
    simp [IntOp.cmpi]
  · rw [if_neg fun h' => h h'.symm]
    have hb : (k == BitVec.ofNat 32 e.val) = false := beq_eq_false_iff_ne.mpr h
    show (((IntOp.cmpi .eq k (BitVec.ofNat 32 e.val)).toNat : ℝ) : EReal) = 0
    simp [IntOp.cmpi, hb]

/-- A count of the reference. -/
theorem counts_apply (L : FVec Ideal S16384x32 .f32) (a : Fin 8) (e : Fin 128) :
    COUNTS (FOUR L).2 (ix2 a e) = ∑ r : Fin 16384, ∑ n : Fin 4, hit (BitVec.ofNat 32 (place L r n).val) e := by
  have hI : ∀ (r : Fin 16384) (n : Fin 4), (FOUR L).2 (ix2 r n) = BitVec.ofNat 32 (place L r n).val := fun r n => (four_apply L r n).2
  unfold COUNTS
  generalize (FOUR L).2 = I at hI
  pointwise []
  simp only [hI]
  exact Finset.sum_congr rfl fun r _ => Finset.sum_congr rfl fun n _ => hit_unsigned _ e

end Cert.RefRouterIdeal.Top

namespace Cert.RouterIdeal.Top

open Cert.RouterIdeal Cert.RouterIdeal.Gen Cert.RouterTop
open Cert.Pre_finite_router.Top (Finite)
open Cert.RefRouterIdeal.Top (LOGITS FOUR COUNTS place hit counts_apply)

/-- A hit as the kernel writes it. -/
theorem hit_signed (k : BitVec 32) (e : Fin 128) : FloatOps.sitofp (F := Ideal) .f32 ((IntOp.cmpi .eq (BitVec.ofNat 32 e.val) k).setWidth 32) = hit k e := by
  unfold hit
  by_cases h : BitVec.ofNat 32 e.val = k
  · rw [if_pos h, h]
    show ((((IntOp.cmpi .eq k k).setWidth 32).toInt : ℝ) : EReal) = 1
    simp [IntOp.cmpi]
  · have hb : (BitVec.ofNat 32 e.val == k) = false := beq_eq_false_iff_ne.mpr h
    rw [if_neg h]
    show ((((IntOp.cmpi .eq (BitVec.ofNat 32 e.val) k).setWidth 32).toInt : ℝ) : EReal) = 0
    simp [IntOp.cmpi, hb]

/-- The counts with a block's hits added. -/
def add (f : FVec Ideal S512x128 .f32) (p : FVec Ideal S8x128 .f32) : FVec Ideal S8x128 .f32 :=
  k0_pay3 lanes (k0_pay7 lanes (left f 2)) (k0_pay7 lanes (left f 3)) (k0_pay23 lanes (k0_pay7 lanes (left f 0)) (k0_pay7 lanes (left f 1))) p

/-- What a block adds, where its rows are rows of the array. -/
theorem add_eq {f : FVec Ideal S512x128 .f32} {L : FVec Ideal Cert.RefRouterIdeal.S16384x32 .f32} (R : Fin 512 → Fin 16384)
    (h : ∀ r, Row (row f r) fun k => L (ix2 (R r) k)) (p : FVec Ideal S8x128 .f32) (a : Fin 8) (e : Fin 128) :
    add f p (ix2 a e) = p (ix2 a e) + ∑ r, ∑ n : Fin 4, hit (BitVec.ofNat 32 (place L (R r) n).val) e := by
  have hl : ∀ (n : Fin 4) (r : Fin 512), k0_pay7 lanes (left f n.val) (ix2 r 0) = BitVec.ofNat 32 (place L (R r) n).val := fun n r => by
    rw [low_apply, left_row, low_round (h r) n]; rfl
  have h0 : ∀ r, k0_pay7 lanes (left f 0) (ix2 r 0) = BitVec.ofNat 32 (place L (R r) 0).val := hl 0
  have h1 : ∀ r, k0_pay7 lanes (left f 1) (ix2 r 0) = BitVec.ofNat 32 (place L (R r) 1).val := hl 1
  have h2 : ∀ r, k0_pay7 lanes (left f 2) (ix2 r 0) = BitVec.ofNat 32 (place L (R r) 2).val := hl 2
  have h3 : ∀ r, k0_pay7 lanes (left f 3) (ix2 r 0) = BitVec.ofNat 32 (place L (R r) 3).val := hl 3
  unfold add
  generalize k0_pay7 lanes (left f 0) = v0 at h0 ⊢
  generalize k0_pay7 lanes (left f 1) = v1 at h1 ⊢
  generalize k0_pay7 lanes (left f 2) = v2 at h2 ⊢
  generalize k0_pay7 lanes (left f 3) = v3 at h3 ⊢
  pointwise [k0_pay3, k0_pay23, lanes]
  simp only [h0, h1, h2, h3, Fin.sum_univ_four]
  refine congrArg _ (Finset.sum_congr rfl fun r _ => ?_)
  simp only [← hit_signed]

variable (m : (ℓ : Loc nD τ sig) → Buf (Elt Ideal) ℓ)

/-- What the first point leaves of the counts. -/
theorem left_first (c : Dev nD) (t : Fin cfg0.N) (h : t.val % 32 = 0) : (outsAt0 m c t.val t.isLt).2.2 = add (logits m c t) k0_pay4 := by
  rw [outsAt0_A m c t h]; frame_out; rfl

/-- What a later point leaves of them. -/
theorem left_later (c : Dev nD) (t : Fin cfg0.N) (h : ¬t.val % 32 = 0) :
    (outsAt0 m c t.val t.isLt).2.2 = add (logits m c t) (outsAt0 m c (t.val - 1) (Nat.lt_of_le_of_lt (Nat.sub_le _ _) t.isLt)).2.2 := by
  rw [outsAt0_B m c t h]; frame_out; rfl

/-- A row's hits on a lane, by the row's number. -/
def hitsAt (L : FVec Ideal Cert.RefRouterIdeal.S16384x32 .f32) (e : Fin 128) (R : ℕ) : EReal :=
  if h : R < 16384 then ∑ n : Fin 4, hit (BitVec.ofNat 32 (place L ⟨R, h⟩ n).val) e else 0

/-- They are those of its four choices. -/
theorem hitsAt_row (L : FVec Ideal Cert.RefRouterIdeal.S16384x32 .f32) (e : Fin 128) (R : Fin 16384) :
    hitsAt L e R.val = ∑ n : Fin 4, hit (BitVec.ofNat 32 (place L R n).val) e := by
  unfold hitsAt
  exact dif_pos R.isLt

/-- What a point adds: its 512 rows' hits. -/
theorem add_point (c : Dev nD) (t : Fin cfg0.N) (p : FVec Ideal S8x128 .f32) (a : Fin 8) (e : Fin 128)
    (fin : Finite (m ((c : Thread nD τ).loc main_arg0)) (m ((c : Thread nD τ).loc main_arg1)) (m ((c : Thread nD τ).loc main_arg2)) (m ((c : Thread nD τ).loc main_arg3))) :
    add (logits m c t) p (ix2 a e) = p (ix2 a e)
      + ∑ r ∈ Finset.range 512, hitsAt (LOGITS (m ((c : Thread nD τ).loc main_arg0)) (m ((c : Thread nD τ).loc main_arg1)) (m ((c : Thread nD τ).loc main_arg2)) (m ((c : Thread nD τ).loc main_arg3))) e (t.val * 512 + r) := by
  rw [add_eq (rowOf t) (fun r => row_logits m c t r (rowOf t r) rfl fin), Finset.sum_range]
  exact congrArg _ (Finset.sum_congr rfl fun r _ => (hitsAt_row _ e (rowOf t r)).symm)

/-- The counts after a point: the hits of all rows so far. -/
theorem counts_after (c : Dev nD) (a : Fin 8) (e : Fin 128)
    (fin : Finite (m ((c : Thread nD τ).loc main_arg0)) (m ((c : Thread nD τ).loc main_arg1)) (m ((c : Thread nD τ).loc main_arg2)) (m ((c : Thread nD τ).loc main_arg3))) :
    ∀ (n : ℕ) (hn : n < cfg0.N), (outsAt0 m c n hn).2.2 (ix2 a e)
      = ∑ R ∈ Finset.range (n * 512 + 512), hitsAt (LOGITS (m ((c : Thread nD τ).loc main_arg0)) (m ((c : Thread nD τ).loc main_arg1)) (m ((c : Thread nD τ).loc main_arg2)) (m ((c : Thread nD τ).loc main_arg3))) e R
  | 0, hn => by
    rw [Finset.sum_range_add]
    refine (congrFun (left_first m c ⟨0, hn⟩ rfl) (ix2 a e)).trans ((add_point m c ⟨0, hn⟩ _ a e fin).trans (congrArg (· + _) ?_))
    pointwise [k0_pay4]
    simp
  | n + 1, hn => by
    have h : ¬(n + 1) % 32 = 0 := by
      have h' : n + 1 < 32 := lt_of_lt_of_eq hn N_0
      omega
    rw [Finset.sum_range_add]
    refine (congrFun (left_later m c ⟨n + 1, hn⟩ h) (ix2 a e)).trans ((add_point m c ⟨n + 1, hn⟩ _ a e fin).trans (congrArg (· + _) ?_))
    refine (counts_after c a e fin n (Nat.lt_of_succ_lt hn)).trans ?_
    rw [Nat.succ_mul]

/-- Where the block of counts sits. -/
theorem emb6 : ∀ t : Fin cfg0.N, win0_6.index t = ![0, 0] :=
  (by decide +kernel : ∀ t : Fin grid0.N, _)

/-- The counts' array after the run. -/
theorem final_counts (c : Dev nD) (fin : Finite (m ((c : Thread nD τ).loc main_arg0)) (m ((c : Thread nD τ).loc main_arg1)) (m ((c : Thread nD τ).loc main_arg2)) (m ((c : Thread nD τ).loc main_arg3))) :
    (dats m 0 c).arrAt 6 (cfgs 0).N
      = COUNTS (FOUR (LOGITS (m ((c : Thread nD τ).loc main_arg0)) (m ((c : Thread nD τ).loc main_arg1)) (m ((c : Thread nD τ).loc main_arg2)) (m ((c : Thread nD τ).loc main_arg3)))).2 := by
  refine (dats m 0 c).arrAt_eq_of_covers 6 _ (by decide +kernel) fun t hf y => ?_
  blk_simp
  rw [after0_6]
  have hf' := (flush0_6 t).mp hf
  obtain ⟨a, e, rfl⟩ : ∃ (a : Fin 8) (e : Fin 128), y = ix2 a e := ⟨y 0, y 1, by funext b; fin_cases b <;> rfl⟩
  have hy : ((cfg0.win 6).blk t).view.emb (ix2 a e) = ix2 a e := by
    blk_point [emb6 t]
  have ht : t.val * 512 + 512 = 16384 := by
    have h' : t.val < 32 := lt_of_lt_of_eq t.isLt N_0
    omega
  rw [hy, counts_apply]
  refine (counts_after m c a e fin t.val t.isLt).trans ?_
  rw [ht, Finset.sum_range]
  exact Finset.sum_congr rfl fun r _ => hitsAt_row _ e r

end Cert.RouterIdeal.Top

end
-- ==== Proof.lean ====
/- THE CERTIFICATE: every program runs and leaves its arguments, every idealization is the sanctioned one, and each kernel
   computes what its reference computes. -/
module

public import proofs.«01_k».proof.Defs
public import proofs.«01_k».proof.Proof.FoxValue
public import proofs.«01_k».proof.Proof.XattnValue
public import proofs.«01_k».proof.Proof.InProjBits
public import proofs.«01_k».proof.Proof.InProjValue
public import proofs.«01_k».proof.Proof.XaOValue
public import proofs.«01_k».proof.Proof.OutProjValue
public import proofs.«01_k».proof.Proof.XaQValue
public import proofs.«01_k».proof.Proof.XaKvValue
public import proofs.«01_k».proof.Proof.ExpertsValue
public import Idealize.ShloMosaic.Lib.Claim
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.RefInProjIdeal
public import proofs.«01_k».proof.Proof.Gen.RefInProjIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.RefOutProjIdeal
public import proofs.«01_k».proof.Proof.Gen.RefOutProjIdeal.Run
public import proofs.«01_k».proof.Proof.Gen.XaQ
public import proofs.«01_k».proof.Proof.Gen.XaQ.Skeleton
public import proofs.«01_k».proof.Proof.Gen.XaQ.Launch
public import proofs.«01_k».proof.Proof.Gen.XaQ.Points
public import proofs.«01_k».proof.Proof.Gen.XaQ.Frame
public import proofs.«01_k».proof.Proof.Gen.XaQIdeal
public import proofs.«01_k».proof.Proof.Gen.XaQIdeal.Skeleton
public import proofs.«01_k».proof.Proof.Gen.XaQIdeal.Launch
public import proofs.«01_k».proof.Proof.Gen.XaQIdeal.Points
public import proofs.«01_k».proof.Proof.Gen.XaQIdeal.Frame
public import proofs.«01_k».proof.Proof.Gen.RefXaQIdeal
public import proofs.«01_k».proof.Proof.Gen.RefXaQIdeal.Run
public import proofs.«01_k».proof.Proof.Gen.XaKv
public import proofs.«01_k».proof.Proof.Gen.XaKv.Skeleton
public import proofs.«01_k».proof.Proof.Gen.XaKv.Launch
public import proofs.«01_k».proof.Proof.Gen.XaKv.Points
public import proofs.«01_k».proof.Proof.Gen.XaKv.Frame
public import proofs.«01_k».proof.Proof.Gen.XaKvIdeal
public import proofs.«01_k».proof.Proof.Gen.XaKvIdeal.Skeleton
public import proofs.«01_k».proof.Proof.Gen.XaKvIdeal.Launch
public import proofs.«01_k».proof.Proof.Gen.XaKvIdeal.Points
public import proofs.«01_k».proof.Proof.Gen.XaKvIdeal.Frame
public import proofs.«01_k».proof.Proof.Gen.RefXaKvIdeal
public import proofs.«01_k».proof.Proof.Gen.RefXaKvIdeal.Run
public import proofs.«01_k».proof.Proof.Gen.Xattn
public import proofs.«01_k».proof.Proof.Gen.Xattn.Skeleton
public import proofs.«01_k».proof.Proof.Gen.Xattn.Launch
public import proofs.«01_k».proof.Proof.Gen.Xattn.Points
public import proofs.«01_k».proof.Proof.Gen.Xattn.Frame
public import proofs.«01_k».proof.Proof.Gen.XattnIdeal
public import proofs.«01_k».proof.Proof.Gen.XattnIdeal.Skeleton
public import proofs.«01_k».proof.Proof.Gen.XattnIdeal.Launch
public import proofs.«01_k».proof.Proof.Gen.XattnIdeal.Points
public import proofs.«01_k».proof.Proof.Gen.XattnIdeal.Frame
public import proofs.«01_k».proof.Proof.Gen.XattnIdeal.Value
public import proofs.«01_k».proof.Proof.Gen.RefXattnIdeal
public import proofs.«01_k».proof.Proof.Gen.RefXattnIdeal.Run
public import proofs.«01_k».proof.Proof.Gen.Router
public import proofs.«01_k».proof.Proof.Gen.Router.Frame
public import proofs.«01_k».proof.Proof.Gen.RouterIdeal
public import proofs.«01_k».proof.Proof.Gen.RouterIdeal.Frame
public import proofs.«01_k».proof.Proof.Gen.RouterIdeal.Value
public import proofs.«01_k».proof.Proof.Gen.RefRouterIdeal
public import proofs.«01_k».proof.Proof.Gen.RefRouterIdeal.Run
public import proofs.«01_k».proof.Proof.Gen.Pre_finite_router
public import proofs.«01_k».proof.Proof.RouterCounts
public import proofs.«01_k».proof.Proof.Gen.XaO
public import proofs.«01_k».proof.Proof.Gen.XaO.Skeleton
public import proofs.«01_k».proof.Proof.Gen.XaO.Launch
public import proofs.«01_k».proof.Proof.Gen.XaO.Points
public import proofs.«01_k».proof.Proof.Gen.XaO.Frame
public import proofs.«01_k».proof.Proof.Gen.XaOIdeal
public import proofs.«01_k».proof.Proof.Gen.XaOIdeal.Skeleton
public import proofs.«01_k».proof.Proof.Gen.XaOIdeal.Launch
public import proofs.«01_k».proof.Proof.Gen.XaOIdeal.Points
public import proofs.«01_k».proof.Proof.Gen.XaOIdeal.Frame
public import proofs.«01_k».proof.Proof.Gen.XaOIdeal.Value
public import proofs.«01_k».proof.Proof.Gen.RefXaOIdeal
public import proofs.«01_k».proof.Proof.Gen.RefXaOIdeal.Run
public import proofs.«01_k».proof.Proof.Gen.Pre_finite_scores
public import proofs.«01_k».proof.Proof.Gen.Pre_finite_qk
public import Idealize.ShloMosaic.Adequacy
public import Idealize.ShloMosaic.Init
public import proofs.«01_k».proof.Proof.ExpertsKit
public import proofs.«01_k».proof.Proof.ExpertsKitBits
public import proofs.«01_k».proof.Proof.Gen.RefExpertsIdeal.Run
public import proofs.«01_k».proof.Proof.Gen.ExpertsIdeal.Skeleton
public import proofs.«01_k».proof.Proof.Gen.ExpertsIdeal.Launch
public import proofs.«01_k».proof.Proof.Gen.Experts.Skeleton
public import proofs.«01_k».proof.Proof.Gen.Experts.Launch
public import proofs.«01_k».proof.Proof.Gen.Pre_schedule

@[expose] public section

noncomputable section

namespace Cert.Proof

open Idealize.ShloMosaic Idealize.SL.Sem Cert.Kernel

/-- What the forgetting attention computes from finite queries, keys and gates is its reference. -/
theorem algebraicKernel : Cert.algebraic_KernelIdeal_ReferenceIdeal_pre_finite_scores := by
  pair_intro
  · run_from Cert.KernelIdeal.Gen.run_main m g
  · hlo_run
    exact (Cert.KernelIdeal.Fox.final m c (Cert.Pre_finite_scores.Fox.finite _ _ _ (hpre c))).symm

/-- What the cross attention computes from finite queries and memory keys is its reference. -/
theorem algebraicXattn : Cert.algebraic_XattnIdeal_RefXattnIdeal_pre_finite_qk := by
  pair_intro
  · run_from Cert.XattnIdeal.Gen.run_main m g
  · hlo_run
    exact (Cert.XattnIdeal.Cross.final m c (Cert.Pre_finite_qk.Cross.finite _ _ (hpre c))).symm

/-- What InProj computes is its reference. -/
theorem algebraicInProj : Cert.algebraic_InProjIdeal_RefInProjIdeal := by
  pair_intro
  · run_from Cert.InProjIdeal.Gen.run_main m g
  · hlo_run
    · exact (Cert.InProjIdeal.Whole.final m c).symm
    · exact (Cert.InProjIdeal.Whole.small_final m c).symm

/-- What OutProj computes is its reference. -/
theorem algebraicOutProj : Cert.algebraic_OutProjIdeal_RefOutProjIdeal := by
  pair_intro
  · run_from Cert.OutProjIdeal.Gen.run_main m g
  · hlo_run
    exact (Cert.OutProjIdeal.Whole.final m c).symm

/-- What XaQ computes is its reference. -/
theorem algebraicXaQ : Cert.algebraic_XaQIdeal_RefXaQIdeal := by
  pair_intro
  · run_from Cert.XaQIdeal.Gen.run_main m g
  · hlo_run
    exact (Cert.XaQIdeal.Whole.final m c).symm

/-- What XaKv computes is its reference. -/
theorem algebraicXaKv : Cert.algebraic_XaKvIdeal_RefXaKvIdeal := by
  pair_intro
  · run_from Cert.XaKvIdeal.Gen.run_main m g
  · hlo_run
    exact (Cert.XaKvIdeal.Whole.final m c).symm

/-- What XaO computes is its reference. -/
theorem algebraicXaO : Cert.algebraic_XaOIdeal_RefXaOIdeal := by
  pair_intro
  · run_from Cert.XaOIdeal.Gen.run_main m g
  · hlo_run
    exact (Cert.XaOIdeal.Whole.final m c).symm

/-- Experts: every argument ends unchanged and every counter at zero, when the tables are a schedule. -/
theorem frameExperts : Cert.quiescent_Experts := fun m ρ h =>
  have hs : Cert.Experts.Gen.IsSched m := Cert.Pre_schedule.Items.facts _ _ _ _ _ _ _ _ _ _ _ (h 0)
  Cert.Experts.Gen.frame m ρ (Cert.Experts.Gen.ok_of m hs) (Cert.Experts.Gen.kind_le m hs)

/-- The same of ExpertsIdeal. -/
theorem frameExpertsIdeal : Cert.quiescent_ExpertsIdeal := fun m ρ h =>
  have hs : Cert.ExpertsIdeal.Gen.IsSched m := Cert.Pre_schedule.Items.facts _ _ _ _ _ _ _ _ _ _ _ (h 0)
  Cert.ExpertsIdeal.Gen.frame m ρ (Cert.ExpertsIdeal.Gen.ok_of m hs) (Cert.ExpertsIdeal.Gen.kind_le m hs)

/-- What Experts computes is its reference, when the tables are a schedule. -/
theorem algebraicExperts : Cert.algebraic_ExpertsIdeal_RefExpertsIdeal := by
  intro m g m' g' hpre hagree
  have hs : Cert.ExpertsIdeal.Gen.IsSched m := Cert.Pre_schedule.Items.facts _ _ _ _ _ _ _ _ _ _ _ (hpre 0)
  refine ⟨fun c => Cert.ExpertsIdeal.Whole.G m hs c, Cert.ExpertsIdeal.Whole.run_value m hs g, ?_⟩
  refine (θ_run Cert.RefExpertsIdeal.defs _ _).mono (fun r h c => ⟨(h c).1.trans ?_, (h c).2⟩) (Cert.RefExpertsIdeal.Value.run (F := Ideal) m' g')
  obtain rfl : c = 0 := Subsingleton.elim _ _
  obtain ⟨-, -, -, -, a4, a5, a6, a7, a8, a9, a10⟩ := hagree 0
  have hb : ∀ b : Fin 160, BitVec.toNat (m' (((0 : Dev Cert.RefExpertsIdeal.nD).tc : Thread Cert.RefExpertsIdeal.nD Cert.RefExpertsIdeal.τ).loc Cert.RefExpertsIdeal.main_arg4) (ix1 b)) < 32
      ∧ BitVec.toInt (m' (((0 : Dev Cert.RefExpertsIdeal.nD).tc : Thread Cert.RefExpertsIdeal.nD Cert.RefExpertsIdeal.τ).loc Cert.RefExpertsIdeal.main_arg4) (ix1 b)) = BitVec.toNat (m' (((0 : Dev Cert.RefExpertsIdeal.nD).tc : Thread Cert.RefExpertsIdeal.nD Cert.RefExpertsIdeal.τ).loc Cert.RefExpertsIdeal.main_arg4) (ix1 b)) := fun b => by
    rw [a4]; exact hs.be_lt b
  exact (Cert.RefExpertsIdeal.Whole.ref_at m' 0 hb).trans (Cert.ExpertsIdeal.Whole.full_congr a6 a7 a8 a9 a10 a4 a5 (fun b => (hb b).1) (fun b => (hs.be_lt b).1))

/-- What the router chooses from finite rows and weights, the gates of its choices, and how often it chooses each expert, are its reference's. -/
theorem algebraicRouter : Cert.algebraic_RouterIdeal_RefRouterIdeal_pre_finite_router := by
  pair_intro
  · run_from Cert.RouterIdeal.Gen.run_main m g
  · hlo_run
    · exact (Cert.RouterIdeal.Top.final_choices m c (Cert.Pre_finite_router.Top.finite _ _ _ _ (hpre c))).symm
    · refine Eq.trans ?_ (Cert.RouterIdeal.Top.final_gates m c (Cert.Pre_finite_router.Top.finite _ _ _ _ (hpre c))).symm
      unfold Cert.RefRouterIdeal.Top.GATES Cert.RefRouterIdeal.Top.SOFT Cert.RefRouterIdeal.Top.FOUR Cert.RefRouterIdeal.Top.LOGITS
      rfl
    · refine Eq.trans ?_ (Cert.RouterIdeal.Top.final_counts m c (Cert.Pre_finite_router.Top.finite _ _ _ _ (hpre c))).symm
      unfold Cert.RefRouterIdeal.Top.COUNTS Cert.RefRouterIdeal.Top.FOUR Cert.RefRouterIdeal.Top.LOGITS
      rfl

theorem claim : Cert.Claim :=
  ⟨Cert.Kernel.Gen.facts, Cert.KernelIdeal.Gen.facts, Cert.ReferenceIdeal.Gen.facts, Cert.InProj.Gen.facts, Cert.InProjIdeal.Gen.facts, Cert.RefInProjIdeal.Gen.facts, Cert.OutProj.Gen.facts, Cert.OutProjIdeal.Gen.facts, Cert.RefOutProjIdeal.Gen.facts, Cert.XaQ.Gen.facts, Cert.XaQIdeal.Gen.facts, Cert.RefXaQIdeal.Gen.facts, Cert.XaKv.Gen.facts, Cert.XaKvIdeal.Gen.facts, Cert.RefXaKvIdeal.Gen.facts, Cert.Xattn.Gen.facts, Cert.XattnIdeal.Gen.facts, Cert.RefXattnIdeal.Gen.facts, Cert.XaO.Gen.facts, Cert.XaOIdeal.Gen.facts, Cert.RefXaOIdeal.Gen.facts, Cert.Experts.Gen.facts, Cert.ExpertsIdeal.Gen.facts, Cert.RefExpertsIdeal.Gen.facts, Cert.Router.Gen.facts, Cert.RouterIdeal.Gen.facts, Cert.RefRouterIdeal.Gen.facts, Cert.Pre_finite_scores.Gen.facts, Cert.Pre_finite_qk.Gen.facts, Cert.Pre_schedule.Gen.facts, Cert.Pre_finite_router.Gen.facts,
  fun m ρ _ => Cert.Kernel.Gen.frame m ρ,
  fun m ρ _ => Cert.KernelIdeal.Gen.frame m ρ,
  fun m ρ _ => Cert.KernelIdeal.Gen.frame m ρ,
  (fun m ρ _ => (θ_run Cert.ReferenceIdeal.defs _ _).mono (fun r h => ⟨fun c => (h c).2, sem_eq_zero_of_no_sems (by decide) r.2⟩) (Cert.ReferenceIdeal.Value.run (F := Ideal) m ρ)),
  (fun m ρ _ => (θ_run Cert.ReferenceIdeal.defs _ _).mono (fun r h => ⟨fun c => (h c).2, sem_eq_zero_of_no_sems (by decide) r.2⟩) (Cert.ReferenceIdeal.Value.run (F := Ideal) m ρ)),
  fun m ρ _ => Cert.InProj.Gen.frame m ρ,
  fun m ρ _ => Cert.InProjIdeal.Gen.frame m ρ,
  (fun m ρ _ => (θ_run Cert.RefInProjIdeal.defs _ _).mono (fun r h => ⟨fun c => (h c).2.2, sem_eq_zero_of_no_sems (by decide) r.2⟩) (Cert.RefInProjIdeal.Value.run (F := Ideal) m ρ)),
  fun m ρ _ => Cert.OutProj.Gen.frame m ρ,
  fun m ρ _ => Cert.OutProjIdeal.Gen.frame m ρ,
  (fun m ρ _ => (θ_run Cert.RefOutProjIdeal.defs _ _).mono (fun r h => ⟨fun c => (h c).2, sem_eq_zero_of_no_sems (by decide) r.2⟩) (Cert.RefOutProjIdeal.Value.run (F := Ideal) m ρ)),
  fun m ρ _ => Cert.XaQ.Gen.frame m ρ,
  fun m ρ _ => Cert.XaQIdeal.Gen.frame m ρ,
  (fun m ρ _ => (θ_run Cert.RefXaQIdeal.defs _ _).mono (fun r h => ⟨fun c => (h c).2, sem_eq_zero_of_no_sems (by decide) r.2⟩) (Cert.RefXaQIdeal.Value.run (F := Ideal) m ρ)),
  fun m ρ _ => Cert.XaKv.Gen.frame m ρ,
  fun m ρ _ => Cert.XaKvIdeal.Gen.frame m ρ,
  (fun m ρ _ => (θ_run Cert.RefXaKvIdeal.defs _ _).mono (fun r h => ⟨fun c => (h c).2, sem_eq_zero_of_no_sems (by decide) r.2⟩) (Cert.RefXaKvIdeal.Value.run (F := Ideal) m ρ)),
  fun m ρ _ => Cert.Xattn.Gen.frame m ρ,
  fun m ρ _ => Cert.XattnIdeal.Gen.frame m ρ,
  fun m ρ _ => Cert.XattnIdeal.Gen.frame m ρ,
  (fun m ρ _ => (θ_run Cert.RefXattnIdeal.defs _ _).mono (fun r h => ⟨fun c => (h c).2, sem_eq_zero_of_no_sems (by decide) r.2⟩) (Cert.RefXattnIdeal.Value.run (F := Ideal) m ρ)),
  (fun m ρ _ => (θ_run Cert.RefXattnIdeal.defs _ _).mono (fun r h => ⟨fun c => (h c).2, sem_eq_zero_of_no_sems (by decide) r.2⟩) (Cert.RefXattnIdeal.Value.run (F := Ideal) m ρ)),
  fun m ρ _ => Cert.XaO.Gen.frame m ρ,
  fun m ρ _ => Cert.XaOIdeal.Gen.frame m ρ,
  (fun m ρ _ => (θ_run Cert.RefXaOIdeal.defs _ _).mono (fun r h => ⟨fun c => (h c).2, sem_eq_zero_of_no_sems (by decide) r.2⟩) (Cert.RefXaOIdeal.Value.run (F := Ideal) m ρ)),
  frameExperts,
  frameExpertsIdeal,
  (fun m ρ _ => (θ_run Cert.RefExpertsIdeal.defs _ _).mono (fun r h => ⟨fun c => (h c).2, sem_eq_zero_of_no_sems (by decide) r.2⟩) (Cert.RefExpertsIdeal.Value.run (F := Ideal) m ρ)),
  (fun m ρ _ => (θ_run Cert.RefExpertsIdeal.defs _ _).mono (fun r h => ⟨fun c => (h c).2, sem_eq_zero_of_no_sems (by decide) r.2⟩) (Cert.RefExpertsIdeal.Value.run (F := Ideal) m ρ)),
  fun m ρ _ => Cert.Router.Gen.frame m ρ,
  fun m ρ _ => Cert.RouterIdeal.Gen.frame m ρ,
  fun m ρ _ => Cert.RouterIdeal.Gen.frame m ρ,
  (fun m ρ _ => (θ_run Cert.RefRouterIdeal.defs _ _).mono (fun r h => ⟨fun c => (h c).2.2.2, sem_eq_zero_of_no_sems (by decide) r.2⟩) (Cert.RefRouterIdeal.Value.run (F := Ideal) m ρ)),
  (fun m ρ _ => (θ_run Cert.RefRouterIdeal.defs _ _).mono (fun r h => ⟨fun c => (h c).2.2.2, sem_eq_zero_of_no_sems (by decide) r.2⟩) (Cert.RefRouterIdeal.Value.run (F := Ideal) m ρ)),
  ⟨IdealRules.named_const.statement Cert.KernelIdeal.κ "s" .f32 0x3DB504F3#32 (((Real.sqrt 128)⁻¹ : ℝ) : EReal) rfl, IdealRules.named_const.statement Cert.KernelIdeal.κ "mask" .f32 0xF149F2CA#32 ⊥ rfl⟩,
  algebraicKernel,
  trivial,
  algebraicInProj,
  trivial,
  algebraicOutProj,
  trivial,
  algebraicXaQ,
  trivial,
  algebraicXaKv,
  IdealRules.named_const.statement Cert.XattnIdeal.κ "xs" _ _ _ rfl,
  algebraicXattn,
  trivial,
  algebraicXaO,
  trivial,
  algebraicExperts,
  trivial,
  algebraicRouter⟩

end Cert.Proof

end
